-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_FinalContext (m : (ℓ : Loc Cert.FinalContext.nD Cert.FinalContext.τ Cert.FinalContext.sig) → Buf (Elt Bits) ℓ) : Prop :=
  True

def Pre_FinalContextIdeal (m : (ℓ : Loc Cert.FinalContextIdeal.nD Cert.FinalContextIdeal.τ Cert.FinalContextIdeal.sig) → Buf (Elt Ideal) ℓ) : Prop :=
  True

def Pre_FinalContextRefIdeal (m : (ℓ : Loc Cert.FinalContextRefIdeal.nD Cert.FinalContextRefIdeal.τ Cert.FinalContextRefIdeal.sig) → Buf (Elt Ideal) ℓ) : Prop :=
  True

def Pre_FinalLatent (m : (ℓ : Loc Cert.FinalLatent.nD Cert.FinalLatent.τ Cert.FinalLatent.sig) → Buf (Elt Bits) ℓ) : Prop :=
  True

def Pre_FinalLatentIdeal (m : (ℓ : Loc Cert.FinalLatentIdeal.nD Cert.FinalLatentIdeal.τ Cert.FinalLatentIdeal.sig) → Buf (Elt Ideal) ℓ) : Prop :=
  True

def Pre_FinalLatentRefIdeal (m : (ℓ : Loc Cert.FinalLatentRefIdeal.nD Cert.FinalLatentRefIdeal.τ Cert.FinalLatentRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvLatent (m : (ℓ : Loc Cert.ConvLatent.nD Cert.ConvLatent.τ Cert.ConvLatent.sig) → Buf (Elt Bits) ℓ) : Prop :=
  True

def Pre_ConvLatentIdeal (m : (ℓ : Loc Cert.ConvLatentIdeal.nD Cert.ConvLatentIdeal.τ Cert.ConvLatentIdeal.sig) → Buf (Elt Ideal) ℓ) : Prop :=
  True

def Pre_ConvLatentRefIdeal (m : (ℓ : Loc Cert.ConvLatentRefIdeal.nD Cert.ConvLatentRefIdeal.τ Cert.ConvLatentRefIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierRefIdeal (m : (ℓ : Loc Cert.FourierRefIdeal.nD Cert.FourierRefIdeal.τ Cert.FourierRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_finite_modulation [hPre_finite_modulation : Cert.Pre_finite_modulation.Facts] (m : (ℓ : Loc Cert.ModIdeal.nD Cert.ModIdeal.τ Cert.ModIdeal.sig) → Buf (Elt Ideal) ℓ) : Prop :=
  ∀ c : Dev Cert.ModIdeal.nD,
    (Cert.Pre_finite_modulation.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2))) = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_finite_modulation [hPre_finite_modulation : Cert.Pre_finite_modulation.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_finite_modulation.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2))) = (fun _ => 1#1)

def Pre_FourierLatent (m : (ℓ : Loc Cert.FourierLatent.nD Cert.FourierLatent.τ Cert.FourierLatent.sig) → Buf (Elt Bits) ℓ) : Prop :=
  True

def Pre_FourierLatentIdeal (m : (ℓ : Loc Cert.FourierLatentIdeal.nD Cert.FourierLatentIdeal.τ Cert.FourierLatentIdeal.sig) → Buf (Elt Ideal) ℓ) : Prop :=
  True

def Pre_FourierLatentRefIdeal (m : (ℓ : Loc Cert.FourierLatentRefIdeal.nD Cert.FourierLatentRefIdeal.τ Cert.FourierLatentRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6))
      ∧ r.2.sem = fun _ => 0)

def quiescent_FinalContext [hFinalContext : Cert.FinalContext.Facts] : Prop :=
  ∀ (m : (ℓ : Loc Cert.FinalContext.nD Cert.FinalContext.τ Cert.FinalContext.sig) → Buf (Elt Bits) ℓ) (g : Dev Cert.FinalContext.nD → PrngReg), Pre_FinalContext m →
    θ_run (Cert.FinalContext.defs (F := Bits)) (onTc (τ := Cert.FinalContext.τ) (Cert.FinalContext.main (F := Bits))) ⟨m, fun _ => 0, g⟩ (fun r => (∀ c : Dev Cert.FinalContext.nD,
      r.2.mem ((c.tc : Thread Cert.FinalContext.nD Cert.FinalContext.τ).loc Cert.FinalContext.main_arg0) = m ((c.tc : Thread Cert.FinalContext.nD Cert.FinalContext.τ).loc Cert.FinalContext.main_arg0)
      ∧ r.2.mem ((c.tc : Thread Cert.FinalContext.nD Cert.FinalContext.τ).loc Cert.FinalContext.main_arg1) = m ((c.tc : Thread Cert.FinalContext.nD Cert.FinalContext.τ).loc Cert.FinalContext.main_arg1))
      ∧ r.2.sem = fun _ => 0)

def quiescent_FinalContextIdeal [hFinalContextIdeal : Cert.FinalContextIdeal.Facts] : Prop :=
  ∀ (m : (ℓ : Loc Cert.FinalContextIdeal.nD Cert.FinalContextIdeal.τ Cert.FinalContextIdeal.sig) → Buf (Elt Ideal) ℓ) (g : Dev Cert.FinalContextIdeal.nD → PrngReg), Pre_FinalContextIdeal m →
    θ_run (Cert.FinalContextIdeal.defs (F := Ideal)) (onTc (τ := Cert.FinalContextIdeal.τ) (Cert.FinalContextIdeal.main (F := Ideal))) ⟨m, fun _ => 0, g⟩ (fun r => (∀ c : Dev Cert.FinalContextIdeal.nD,
      r.2.mem ((c.tc : Thread Cert.FinalContextIdeal.nD Cert.FinalContextIdeal.τ).loc Cert.FinalContextIdeal.main_arg0) = m ((c.tc : Thread Cert.FinalContextIdeal.nD Cert.FinalContextIdeal.τ).loc Cert.FinalContextIdeal.main_arg0)
      ∧ r.2.mem ((c.tc : Thread Cert.FinalContextIdeal.nD Cert.FinalContextIdeal.τ).loc Cert.FinalContextIdeal.main_arg1) = m ((c.tc : Thread Cert.FinalContextIdeal.nD Cert.FinalContextIdeal.τ).loc Cert.FinalContextIdeal.main_arg1))
      ∧ r.2.sem = fun _ => 0)

def quiescent_FinalContextRefIdeal [hFinalContextRefIdeal : Cert.FinalContextRefIdeal.Facts] : Prop :=
  ∀ (m : (ℓ : Loc Cert.FinalContextRefIdeal.nD Cert.FinalContextRefIdeal.τ Cert.FinalContextRefIdeal.sig) → Buf (Elt Ideal) ℓ) (g : Dev Cert.FinalContextRefIdeal.nD → PrngReg), Pre_FinalContextRefIdeal m →
    θ_run (Cert.FinalContextRefIdeal.defs (F := Ideal)) (onTc (τ := Cert.FinalContextRefIdeal.τ) (Cert.FinalContextRefIdeal.main (F := Ideal))) ⟨m, fun _ => 0, g⟩ (fun r => (∀ c : Dev Cert.FinalContextRefIdeal.nD,
      r.2.mem ((c.tc : Thread Cert.FinalContextRefIdeal.nD Cert.FinalContextRefIdeal.τ).loc Cert.FinalContextRefIdeal.main_arg0) = m ((c.tc : Thread Cert.FinalContextRefIdeal.nD Cert.FinalContextRefIdeal.τ).loc Cert.FinalContextRefIdeal.main_arg0)
      ∧ r.2.mem ((c.tc : Thread Cert.FinalContextRefIdeal.nD Cert.FinalContextRefIdeal.τ).loc Cert.FinalContextRefIdeal.main_arg1) = m ((c.tc : Thread Cert.FinalContextRefIdeal.nD Cert.FinalContextRefIdeal.τ).loc Cert.FinalContextRefIdeal.main_arg1))
      ∧ r.2.sem = fun _ => 0)

def quiescent_FinalLatent [hFinalLatent : Cert.FinalLatent.Facts] : Prop :=
  ∀ (m : (ℓ : Loc Cert.FinalLatent.nD Cert.FinalLatent.τ Cert.FinalLatent.sig) → Buf (Elt Bits) ℓ) (g : Dev Cert.FinalLatent.nD → PrngReg), Pre_FinalLatent m →
    θ_run (Cert.FinalLatent.defs (F := Bits)) (onTc (τ := Cert.FinalLatent.τ) (Cert.FinalLatent.main (F := Bits))) ⟨m, fun _ => 0, g⟩ (fun r => (∀ c : Dev Cert.FinalLatent.nD,
      r.2.mem ((c.tc : Thread Cert.FinalLatent.nD Cert.FinalLatent.τ).loc Cert.FinalLatent.main_arg0) = m ((c.tc : Thread Cert.FinalLatent.nD Cert.FinalLatent.τ).loc Cert.FinalLatent.main_arg0)
      ∧ r.2.mem ((c.tc : Thread Cert.FinalLatent.nD Cert.FinalLatent.τ).loc Cert.FinalLatent.main_arg1) = m ((c.tc : Thread Cert.FinalLatent.nD Cert.FinalLatent.τ).loc Cert.FinalLatent.main_arg1))
      ∧ r.2.sem = fun _ => 0)

def quiescent_FinalLatentIdeal [hFinalLatentIdeal : Cert.FinalLatentIdeal.Facts] : Prop :=
  ∀ (m : (ℓ : Loc Cert.FinalLatentIdeal.nD Cert.FinalLatentIdeal.τ Cert.FinalLatentIdeal.sig) → Buf (Elt Ideal) ℓ) (g : Dev Cert.FinalLatentIdeal.nD → PrngReg), Pre_FinalLatentIdeal m →
    θ_run (Cert.FinalLatentIdeal.defs (F := Ideal)) (onTc (τ := Cert.FinalLatentIdeal.τ) (Cert.FinalLatentIdeal.main (F := Ideal))) ⟨m, fun _ => 0, g⟩ (fun r => (∀ c : Dev Cert.FinalLatentIdeal.nD,
      r.2.mem ((c.tc : Thread Cert.FinalLatentIdeal.nD Cert.FinalLatentIdeal.τ).loc Cert.FinalLatentIdeal.main_arg0) = m ((c.tc : Thread Cert.FinalLatentIdeal.nD Cert.FinalLatentIdeal.τ).loc Cert.FinalLatentIdeal.main_arg0)
      ∧ r.2.mem ((c.tc : Thread Cert.FinalLatentIdeal.nD Cert.FinalLatentIdeal.τ).loc Cert.FinalLatentIdeal.main_arg1) = m ((c.tc : Thread Cert.FinalLatentIdeal.nD Cert.FinalLatentIdeal.τ).loc Cert.FinalLatentIdeal.main_arg1))
      ∧ r.2.sem = fun _ => 0)

def quiescent_FinalLatentRefIdeal [hFinalLatentRefIdeal : Cert.FinalLatentRefIdeal.Facts] : Prop :=
  ∀ (m : (ℓ : Loc Cert.FinalLatentRefIdeal.nD Cert.FinalLatentRefIdeal.τ Cert.FinalLatentRefIdeal.sig) → Buf (Elt Ideal) ℓ) (g : Dev Cert.FinalLatentRefIdeal.nD → PrngReg), Pre_FinalLatentRefIdeal m →
    θ_run (Cert.FinalLatentRefIdeal.defs (F := Ideal)) (onTc (τ := Cert.FinalLatentRefIdeal.τ) (Cert.FinalLatentRefIdeal.main (F := Ideal))) ⟨m, fun _ => 0, g⟩ (fun r => (∀ c : Dev Cert.FinalLatentRefIdeal.nD,
      r.2.mem ((c.tc : Thread Cert.FinalLatentRefIdeal.nD Cert.FinalLatentRefIdeal.τ).loc Cert.FinalLatentRefIdeal.main_arg0) = m ((c.tc : Thread Cert.FinalLatentRefIdeal.nD Cert.FinalLatentRefIdeal.τ).loc Cert.FinalLatentRefIdeal.main_arg0)
      ∧ r.2.mem ((c.tc : Thread Cert.FinalLatentRefIdeal.nD Cert.FinalLatentRefIdeal.τ).loc Cert.FinalLatentRefIdeal.main_arg1) = m ((c.tc : Thread Cert.FinalLatentRefIdeal.nD Cert.FinalLatentRefIdeal.τ).loc Cert.FinalLatentRefIdeal.main_arg1))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_ConvLatent [hConvLatent : Cert.ConvLatent.Facts] : Prop :=
  ∀ (m : (ℓ : Loc Cert.ConvLatent.nD Cert.ConvLatent.τ Cert.ConvLatent.sig) → Buf (Elt Bits) ℓ) (g : Dev Cert.ConvLatent.nD → PrngReg), Pre_ConvLatent m →
    θ_run (Cert.ConvLatent.defs (F := Bits)) (onTc (τ := Cert.ConvLatent.τ) (Cert.ConvLatent.main (F := Bits))) ⟨m, fun _ => 0, g⟩ (fun r => (∀ c : Dev Cert.ConvLatent.nD,
      r.2.mem ((c.tc : Thread Cert.ConvLatent.nD Cert.ConvLatent.τ).loc Cert.ConvLatent.main_arg0) = m ((c.tc : Thread Cert.ConvLatent.nD Cert.ConvLatent.τ).loc Cert.ConvLatent.main_arg0)
      ∧ r.2.mem ((c.tc : Thread Cert.ConvLatent.nD Cert.ConvLatent.τ).loc Cert.ConvLatent.main_arg1) = m ((c.tc : Thread Cert.ConvLatent.nD Cert.ConvLatent.τ).loc Cert.ConvLatent.main_arg1))
      ∧ r.2.sem = fun _ => 0)

def quiescent_ConvLatentIdeal [hConvLatentIdeal : Cert.ConvLatentIdeal.Facts] : Prop :=
  ∀ (m : (ℓ : Loc Cert.ConvLatentIdeal.nD Cert.ConvLatentIdeal.τ Cert.ConvLatentIdeal.sig) → Buf (Elt Ideal) ℓ) (g : Dev Cert.ConvLatentIdeal.nD → PrngReg), Pre_ConvLatentIdeal m →
    θ_run (Cert.ConvLatentIdeal.defs (F := Ideal)) (onTc (τ := Cert.ConvLatentIdeal.τ) (Cert.ConvLatentIdeal.main (F := Ideal))) ⟨m, fun _ => 0, g⟩ (fun r => (∀ c : Dev Cert.ConvLatentIdeal.nD,
      r.2.mem ((c.tc : Thread Cert.ConvLatentIdeal.nD Cert.ConvLatentIdeal.τ).loc Cert.ConvLatentIdeal.main_arg0) = m ((c.tc : Thread Cert.ConvLatentIdeal.nD Cert.ConvLatentIdeal.τ).loc Cert.ConvLatentIdeal.main_arg0)
      ∧ r.2.mem ((c.tc : Thread Cert.ConvLatentIdeal.nD Cert.ConvLatentIdeal.τ).loc Cert.ConvLatentIdeal.main_arg1) = m ((c.tc : Thread Cert.ConvLatentIdeal.nD Cert.ConvLatentIdeal.τ).loc Cert.ConvLatentIdeal.main_arg1))
      ∧ r.2.sem = fun _ => 0)

def quiescent_ConvLatentRefIdeal [hConvLatentRefIdeal : Cert.ConvLatentRefIdeal.Facts] : Prop :=
  ∀ (m : (ℓ : Loc Cert.ConvLatentRefIdeal.nD Cert.ConvLatentRefIdeal.τ Cert.ConvLatentRefIdeal.sig) → Buf (Elt Ideal) ℓ) (g : Dev Cert.ConvLatentRefIdeal.nD → PrngReg), Pre_ConvLatentRefIdeal m →
    θ_run (Cert.ConvLatentRefIdeal.defs (F := Ideal)) (onTc (τ := Cert.ConvLatentRefIdeal.τ) (Cert.ConvLatentRefIdeal.main (F := Ideal))) ⟨m, fun _ => 0, g⟩ (fun r => (∀ c : Dev Cert.ConvLatentRefIdeal.nD,
      r.2.mem ((c.tc : Thread Cert.ConvLatentRefIdeal.nD Cert.ConvLatentRefIdeal.τ).loc Cert.ConvLatentRefIdeal.main_arg0) = m ((c.tc : Thread Cert.ConvLatentRefIdeal.nD Cert.ConvLatentRefIdeal.τ).loc Cert.ConvLatentRefIdeal.main_arg0)
      ∧ r.2.mem ((c.tc : Thread Cert.ConvLatentRefIdeal.nD Cert.ConvLatentRefIdeal.τ).loc Cert.ConvLatentRefIdeal.main_arg1) = m ((c.tc : Thread Cert.ConvLatentRefIdeal.nD Cert.ConvLatentRefIdeal.τ).loc Cert.ConvLatentRefIdeal.main_arg1))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0))
      ∧ r.2.sem = fun _ => 0)

def quiescent_FourierRefIdeal [hFourierRefIdeal : Cert.FourierRefIdeal.Facts] : Prop :=
  ∀ (m : (ℓ : Loc Cert.FourierRefIdeal.nD Cert.FourierRefIdeal.τ Cert.FourierRefIdeal.sig) → Buf (Elt Ideal) ℓ) (g : Dev Cert.FourierRefIdeal.nD → PrngReg), Pre_FourierRefIdeal m →
    θ_run (Cert.FourierRefIdeal.defs (F := Ideal)) (onTc (τ := Cert.FourierRefIdeal.τ) (Cert.FourierRefIdeal.main (F := Ideal))) ⟨m, fun _ => 0, g⟩ (fun r => (∀ c : Dev Cert.FourierRefIdeal.nD,
      r.2.mem ((c.tc : Thread Cert.FourierRefIdeal.nD Cert.FourierRefIdeal.τ).loc Cert.FourierRefIdeal.main_arg0) = m ((c.tc : Thread Cert.FourierRefIdeal.nD Cert.FourierRefIdeal.τ).loc Cert.FourierRefIdeal.main_arg0))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModIdeal_pre_finite_modulation [hModIdeal : Cert.ModIdeal.Facts] [hPre_finite_modulation : Cert.Pre_finite_modulation.Facts] : Prop :=
  ∀ (m : (ℓ : Loc Cert.ModIdeal.nD Cert.ModIdeal.τ Cert.ModIdeal.sig) → Buf (Elt Ideal) ℓ) (g : Dev Cert.ModIdeal.nD → PrngReg), Pre_ModIdeal_finite_modulation m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_ModRefIdeal_pre_finite_modulation [hModRefIdeal : Cert.ModRefIdeal.Facts] [hPre_finite_modulation : Cert.Pre_finite_modulation.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_finite_modulation m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_FourierLatent [hFourierLatent : Cert.FourierLatent.Facts] : Prop :=
  ∀ (m : (ℓ : Loc Cert.FourierLatent.nD Cert.FourierLatent.τ Cert.FourierLatent.sig) → Buf (Elt Bits) ℓ) (g : Dev Cert.FourierLatent.nD → PrngReg), Pre_FourierLatent m →
    θ_run (Cert.FourierLatent.defs (F := Bits)) (onTc (τ := Cert.FourierLatent.τ) (Cert.FourierLatent.main (F := Bits))) ⟨m, fun _ => 0, g⟩ (fun r => (∀ c : Dev Cert.FourierLatent.nD,
      r.2.mem ((c.tc : Thread Cert.FourierLatent.nD Cert.FourierLatent.τ).loc Cert.FourierLatent.main_arg0) = m ((c.tc : Thread Cert.FourierLatent.nD Cert.FourierLatent.τ).loc Cert.FourierLatent.main_arg0))
      ∧ r.2.sem = fun _ => 0)

def quiescent_FourierLatentIdeal [hFourierLatentIdeal : Cert.FourierLatentIdeal.Facts] : Prop :=
  ∀ (m : (ℓ : Loc Cert.FourierLatentIdeal.nD Cert.FourierLatentIdeal.τ Cert.FourierLatentIdeal.sig) → Buf (Elt Ideal) ℓ) (g : Dev Cert.FourierLatentIdeal.nD → PrngReg), Pre_FourierLatentIdeal m →
    θ_run (Cert.FourierLatentIdeal.defs (F := Ideal)) (onTc (τ := Cert.FourierLatentIdeal.τ) (Cert.FourierLatentIdeal.main (F := Ideal))) ⟨m, fun _ => 0, g⟩ (fun r => (∀ c : Dev Cert.FourierLatentIdeal.nD,
      r.2.mem ((c.tc : Thread Cert.FourierLatentIdeal.nD Cert.FourierLatentIdeal.τ).loc Cert.FourierLatentIdeal.main_arg0) = m ((c.tc : Thread Cert.FourierLatentIdeal.nD Cert.FourierLatentIdeal.τ).loc Cert.FourierLatentIdeal.main_arg0))
      ∧ r.2.sem = fun _ => 0)

def quiescent_FourierLatentRefIdeal [hFourierLatentRefIdeal : Cert.FourierLatentRefIdeal.Facts] : Prop :=
  ∀ (m : (ℓ : Loc Cert.FourierLatentRefIdeal.nD Cert.FourierLatentRefIdeal.τ Cert.FourierLatentRefIdeal.sig) → Buf (Elt Ideal) ℓ) (g : Dev Cert.FourierLatentRefIdeal.nD → PrngReg), Pre_FourierLatentRefIdeal m →
    θ_run (Cert.FourierLatentRefIdeal.defs (F := Ideal)) (onTc (τ := Cert.FourierLatentRefIdeal.τ) (Cert.FourierLatentRefIdeal.main (F := Ideal))) ⟨m, fun _ => 0, g⟩ (fun r => (∀ c : Dev Cert.FourierLatentRefIdeal.nD,
      r.2.mem ((c.tc : Thread Cert.FourierLatentRefIdeal.nD Cert.FourierLatentRefIdeal.τ).loc Cert.FourierLatentRefIdeal.main_arg0) = m ((c.tc : Thread Cert.FourierLatentRefIdeal.nD Cert.FourierLatentRefIdeal.τ).loc Cert.FourierLatentRefIdeal.main_arg0))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)) →
    ∃ (v0 : (c : Dev Cert.EvenInIdeal.nD) → Buf (Elt Ideal) ((c.tc : Thread Cert.EvenInIdeal.nD Cert.EvenInIdeal.τ).loc Cert.EvenInIdeal.main_v7)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v7) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v68) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)) →
    ∃ (v0 : (c : Dev Cert.OddInIdeal.nD) → Buf (Elt Ideal) ((c.tc : Thread Cert.OddInIdeal.nD Cert.OddInIdeal.τ).loc Cert.OddInIdeal.main_v2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v63) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)) →
    ∃ (v0 : (c : Dev Cert.EvenOutIdeal.nD) → Buf (Elt Ideal) ((c.tc : Thread Cert.EvenOutIdeal.nD Cert.EvenOutIdeal.τ).loc Cert.EvenOutIdeal.main_v1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v1) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v39) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)
      ∧ m' ((c.tc : Thread Cert.OddOutRefIdeal.nD Cert.OddOutRefIdeal.τ).loc Cert.OddOutRefIdeal.main_arg6) = m ((c.tc : Thread Cert.OddOutIdeal.nD Cert.OddOutIdeal.τ).loc Cert.OddOutIdeal.main_arg6)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v37) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5)
          ∧ r.2.mem ((c.tc : Thread Cert.OddOutRefIdeal.nD Cert.OddOutRefIdeal.τ).loc Cert.OddOutRefIdeal.main_arg6) = m' ((c.tc : Thread Cert.OddOutRefIdeal.nD Cert.OddOutRefIdeal.τ).loc Cert.OddOutRefIdeal.main_arg6))

def preserves_FinalContext_FinalContextIdeal : Prop :=
  True

def algebraic_FinalContextIdeal_FinalContextRefIdeal [hFinalContextIdeal : Cert.FinalContextIdeal.Facts] [hFinalContextRefIdeal : Cert.FinalContextRefIdeal.Facts] : Prop :=
  ∀ (m : (ℓ : Loc Cert.FinalContextIdeal.nD Cert.FinalContextIdeal.τ Cert.FinalContextIdeal.sig) → Buf (Elt Ideal) ℓ) (g : Dev Cert.FinalContextIdeal.nD → PrngReg)
    (m' : (ℓ : Loc Cert.FinalContextRefIdeal.nD Cert.FinalContextRefIdeal.τ Cert.FinalContextRefIdeal.sig) → Buf (Elt Ideal) ℓ) (g' : Dev Cert.FinalContextRefIdeal.nD → PrngReg), Pre_FinalContextIdeal m →
    (∀ c : Dev Cert.FinalContextIdeal.nD,
      m' ((c.tc : Thread Cert.FinalContextRefIdeal.nD Cert.FinalContextRefIdeal.τ).loc Cert.FinalContextRefIdeal.main_arg0) = m ((c.tc : Thread Cert.FinalContextIdeal.nD Cert.FinalContextIdeal.τ).loc Cert.FinalContextIdeal.main_arg0)
      ∧ m' ((c.tc : Thread Cert.FinalContextRefIdeal.nD Cert.FinalContextRefIdeal.τ).loc Cert.FinalContextRefIdeal.main_arg1) = m ((c.tc : Thread Cert.FinalContextIdeal.nD Cert.FinalContextIdeal.τ).loc Cert.FinalContextIdeal.main_arg1)) →
    ∃ (v0 : (c : Dev Cert.FinalContextIdeal.nD) → Buf (Elt Ideal) ((c.tc : Thread Cert.FinalContextIdeal.nD Cert.FinalContextIdeal.τ).loc Cert.FinalContextIdeal.main_v1)),
      θ_run (Cert.FinalContextIdeal.defs (F := Ideal)) (onTc (τ := Cert.FinalContextIdeal.τ) (Cert.FinalContextIdeal.main (F := Ideal))) ⟨m, fun _ => 0, g⟩ (fun r => ∀ c : Dev Cert.FinalContextIdeal.nD,
          r.2.mem ((c.tc : Thread Cert.FinalContextIdeal.nD Cert.FinalContextIdeal.τ).loc Cert.FinalContextIdeal.main_v1) = v0 c
          ∧ r.2.mem ((c.tc : Thread Cert.FinalContextIdeal.nD Cert.FinalContextIdeal.τ).loc Cert.FinalContextIdeal.main_arg0) = m ((c.tc : Thread Cert.FinalContextIdeal.nD Cert.FinalContextIdeal.τ).loc Cert.FinalContextIdeal.main_arg0)
          ∧ r.2.mem ((c.tc : Thread Cert.FinalContextIdeal.nD Cert.FinalContextIdeal.τ).loc Cert.FinalContextIdeal.main_arg1) = m ((c.tc : Thread Cert.FinalContextIdeal.nD Cert.FinalContextIdeal.τ).loc Cert.FinalContextIdeal.main_arg1))
      ∧ θ_run (Cert.FinalContextRefIdeal.defs (F := Ideal)) (onTc (τ := Cert.FinalContextRefIdeal.τ) (Cert.FinalContextRefIdeal.main (F := Ideal))) ⟨m', fun _ => 0, g'⟩ (fun r => ∀ c : Dev Cert.FinalContextRefIdeal.nD,
          r.2.mem ((c.tc : Thread Cert.FinalContextRefIdeal.nD Cert.FinalContextRefIdeal.τ).loc Cert.FinalContextRefIdeal.main_v13) = v0 c
          ∧ r.2.mem ((c.tc : Thread Cert.FinalContextRefIdeal.nD Cert.FinalContextRefIdeal.τ).loc Cert.FinalContextRefIdeal.main_arg0) = m' ((c.tc : Thread Cert.FinalContextRefIdeal.nD Cert.FinalContextRefIdeal.τ).loc Cert.FinalContextRefIdeal.main_arg0)
          ∧ r.2.mem ((c.tc : Thread Cert.FinalContextRefIdeal.nD Cert.FinalContextRefIdeal.τ).loc Cert.FinalContextRefIdeal.main_arg1) = m' ((c.tc : Thread Cert.FinalContextRefIdeal.nD Cert.FinalContextRefIdeal.τ).loc Cert.FinalContextRefIdeal.main_arg1))

def preserves_FinalLatent_FinalLatentIdeal : Prop :=
  True

def algebraic_FinalLatentIdeal_FinalLatentRefIdeal [hFinalLatentIdeal : Cert.FinalLatentIdeal.Facts] [hFinalLatentRefIdeal : Cert.FinalLatentRefIdeal.Facts] : Prop :=
  ∀ (m : (ℓ : Loc Cert.FinalLatentIdeal.nD Cert.FinalLatentIdeal.τ Cert.FinalLatentIdeal.sig) → Buf (Elt Ideal) ℓ) (g : Dev Cert.FinalLatentIdeal.nD → PrngReg)
    (m' : (ℓ : Loc Cert.FinalLatentRefIdeal.nD Cert.FinalLatentRefIdeal.τ Cert.FinalLatentRefIdeal.sig) → Buf (Elt Ideal) ℓ) (g' : Dev Cert.FinalLatentRefIdeal.nD → PrngReg), Pre_FinalLatentIdeal m →
    (∀ c : Dev Cert.FinalLatentIdeal.nD,
      m' ((c.tc : Thread Cert.FinalLatentRefIdeal.nD Cert.FinalLatentRefIdeal.τ).loc Cert.FinalLatentRefIdeal.main_arg0) = m ((c.tc : Thread Cert.FinalLatentIdeal.nD Cert.FinalLatentIdeal.τ).loc Cert.FinalLatentIdeal.main_arg0)
      ∧ m' ((c.tc : Thread Cert.FinalLatentRefIdeal.nD Cert.FinalLatentRefIdeal.τ).loc Cert.FinalLatentRefIdeal.main_arg1) = m ((c.tc : Thread Cert.FinalLatentIdeal.nD Cert.FinalLatentIdeal.τ).loc Cert.FinalLatentIdeal.main_arg1)) →
    ∃ (v0 : (c : Dev Cert.FinalLatentIdeal.nD) → Buf (Elt Ideal) ((c.tc : Thread Cert.FinalLatentIdeal.nD Cert.FinalLatentIdeal.τ).loc Cert.FinalLatentIdeal.main_v1)),
      θ_run (Cert.FinalLatentIdeal.defs (F := Ideal)) (onTc (τ := Cert.FinalLatentIdeal.τ) (Cert.FinalLatentIdeal.main (F := Ideal))) ⟨m, fun _ => 0, g⟩ (fun r => ∀ c : Dev Cert.FinalLatentIdeal.nD,
          r.2.mem ((c.tc : Thread Cert.FinalLatentIdeal.nD Cert.FinalLatentIdeal.τ).loc Cert.FinalLatentIdeal.main_v1) = v0 c
          ∧ r.2.mem ((c.tc : Thread Cert.FinalLatentIdeal.nD Cert.FinalLatentIdeal.τ).loc Cert.FinalLatentIdeal.main_arg0) = m ((c.tc : Thread Cert.FinalLatentIdeal.nD Cert.FinalLatentIdeal.τ).loc Cert.FinalLatentIdeal.main_arg0)
          ∧ r.2.mem ((c.tc : Thread Cert.FinalLatentIdeal.nD Cert.FinalLatentIdeal.τ).loc Cert.FinalLatentIdeal.main_arg1) = m ((c.tc : Thread Cert.FinalLatentIdeal.nD Cert.FinalLatentIdeal.τ).loc Cert.FinalLatentIdeal.main_arg1))
      ∧ θ_run (Cert.FinalLatentRefIdeal.defs (F := Ideal)) (onTc (τ := Cert.FinalLatentRefIdeal.τ) (Cert.FinalLatentRefIdeal.main (F := Ideal))) ⟨m', fun _ => 0, g'⟩ (fun r => ∀ c : Dev Cert.FinalLatentRefIdeal.nD,
          r.2.mem ((c.tc : Thread Cert.FinalLatentRefIdeal.nD Cert.FinalLatentRefIdeal.τ).loc Cert.FinalLatentRefIdeal.main_v13) = v0 c
          ∧ r.2.mem ((c.tc : Thread Cert.FinalLatentRefIdeal.nD Cert.FinalLatentRefIdeal.τ).loc Cert.FinalLatentRefIdeal.main_arg0) = m' ((c.tc : Thread Cert.FinalLatentRefIdeal.nD Cert.FinalLatentRefIdeal.τ).loc Cert.FinalLatentRefIdeal.main_arg0)
          ∧ r.2.mem ((c.tc : Thread Cert.FinalLatentRefIdeal.nD Cert.FinalLatentRefIdeal.τ).loc Cert.FinalLatentRefIdeal.main_arg1) = m' ((c.tc : Thread Cert.FinalLatentRefIdeal.nD Cert.FinalLatentRefIdeal.τ).loc Cert.FinalLatentRefIdeal.main_arg1))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)) →
    ∃ (v0 : (c : Dev Cert.SguIdeal.nD) → Buf (Elt Ideal) ((c.tc : Thread Cert.SguIdeal.nD Cert.SguIdeal.τ).loc Cert.SguIdeal.main_v4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v4) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v115) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v30) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_ConvLatent_ConvLatentIdeal : Prop :=
  True

def algebraic_ConvLatentIdeal_ConvLatentRefIdeal [hConvLatentIdeal : Cert.ConvLatentIdeal.Facts] [hConvLatentRefIdeal : Cert.ConvLatentRefIdeal.Facts] : Prop :=
  ∀ (m : (ℓ : Loc Cert.ConvLatentIdeal.nD Cert.ConvLatentIdeal.τ Cert.ConvLatentIdeal.sig) → Buf (Elt Ideal) ℓ) (g : Dev Cert.ConvLatentIdeal.nD → PrngReg)
    (m' : (ℓ : Loc Cert.ConvLatentRefIdeal.nD Cert.ConvLatentRefIdeal.τ Cert.ConvLatentRefIdeal.sig) → Buf (Elt Ideal) ℓ) (g' : Dev Cert.ConvLatentRefIdeal.nD → PrngReg), Pre_ConvLatentIdeal m →
    (∀ c : Dev Cert.ConvLatentIdeal.nD,
      m' ((c.tc : Thread Cert.ConvLatentRefIdeal.nD Cert.ConvLatentRefIdeal.τ).loc Cert.ConvLatentRefIdeal.main_arg0) = m ((c.tc : Thread Cert.ConvLatentIdeal.nD Cert.ConvLatentIdeal.τ).loc Cert.ConvLatentIdeal.main_arg0)
      ∧ m' ((c.tc : Thread Cert.ConvLatentRefIdeal.nD Cert.ConvLatentRefIdeal.τ).loc Cert.ConvLatentRefIdeal.main_arg1) = m ((c.tc : Thread Cert.ConvLatentIdeal.nD Cert.ConvLatentIdeal.τ).loc Cert.ConvLatentIdeal.main_arg1)) →
    ∃ (v0 : (c : Dev Cert.ConvLatentIdeal.nD) → Buf (Elt Ideal) ((c.tc : Thread Cert.ConvLatentIdeal.nD Cert.ConvLatentIdeal.τ).loc Cert.ConvLatentIdeal.main_v0)),
      θ_run (Cert.ConvLatentIdeal.defs (F := Ideal)) (onTc (τ := Cert.ConvLatentIdeal.τ) (Cert.ConvLatentIdeal.main (F := Ideal))) ⟨m, fun _ => 0, g⟩ (fun r => ∀ c : Dev Cert.ConvLatentIdeal.nD,
          r.2.mem ((c.tc : Thread Cert.ConvLatentIdeal.nD Cert.ConvLatentIdeal.τ).loc Cert.ConvLatentIdeal.main_v0) = v0 c
          ∧ r.2.mem ((c.tc : Thread Cert.ConvLatentIdeal.nD Cert.ConvLatentIdeal.τ).loc Cert.ConvLatentIdeal.main_arg0) = m ((c.tc : Thread Cert.ConvLatentIdeal.nD Cert.ConvLatentIdeal.τ).loc Cert.ConvLatentIdeal.main_arg0)
          ∧ r.2.mem ((c.tc : Thread Cert.ConvLatentIdeal.nD Cert.ConvLatentIdeal.τ).loc Cert.ConvLatentIdeal.main_arg1) = m ((c.tc : Thread Cert.ConvLatentIdeal.nD Cert.ConvLatentIdeal.τ).loc Cert.ConvLatentIdeal.main_arg1))
      ∧ θ_run (Cert.ConvLatentRefIdeal.defs (F := Ideal)) (onTc (τ := Cert.ConvLatentRefIdeal.τ) (Cert.ConvLatentRefIdeal.main (F := Ideal))) ⟨m', fun _ => 0, g'⟩ (fun r => ∀ c : Dev Cert.ConvLatentRefIdeal.nD,
          r.2.mem ((c.tc : Thread Cert.ConvLatentRefIdeal.nD Cert.ConvLatentRefIdeal.τ).loc Cert.ConvLatentRefIdeal.main_v30) = v0 c
          ∧ r.2.mem ((c.tc : Thread Cert.ConvLatentRefIdeal.nD Cert.ConvLatentRefIdeal.τ).loc Cert.ConvLatentRefIdeal.main_arg0) = m' ((c.tc : Thread Cert.ConvLatentRefIdeal.nD Cert.ConvLatentRefIdeal.τ).loc Cert.ConvLatentRefIdeal.main_arg0)
          ∧ r.2.mem ((c.tc : Thread Cert.ConvLatentRefIdeal.nD Cert.ConvLatentRefIdeal.τ).loc Cert.ConvLatentRefIdeal.main_arg1) = m' ((c.tc : Thread Cert.ConvLatentRefIdeal.nD Cert.ConvLatentRefIdeal.τ).loc Cert.ConvLatentRefIdeal.main_arg1))

def preserves_Fourier_FourierIdeal : Prop :=
  True

def algebraic_FourierIdeal_FourierRefIdeal [hFourierIdeal : Cert.FourierIdeal.Facts] [hFourierRefIdeal : Cert.FourierRefIdeal.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierRefIdeal.nD Cert.FourierRefIdeal.τ Cert.FourierRefIdeal.sig) → Buf (Elt Ideal) ℓ) (g' : Dev Cert.FourierRefIdeal.nD → PrngReg), Pre_FourierIdeal m →
    (∀ c : Dev Cert.FourierIdeal.nD,
      m' ((c.tc : Thread Cert.FourierRefIdeal.nD Cert.FourierRefIdeal.τ).loc Cert.FourierRefIdeal.main_arg0) = m ((c.tc : Thread Cert.FourierIdeal.nD Cert.FourierIdeal.τ).loc Cert.FourierIdeal.main_arg0)) →
    ∃ (v0 : (c : Dev Cert.FourierIdeal.nD) → Buf (Elt Ideal) ((c.tc : Thread Cert.FourierIdeal.nD Cert.FourierIdeal.τ).loc Cert.FourierIdeal.main_v28)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v28) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0))
      ∧ θ_run (Cert.FourierRefIdeal.defs (F := Ideal)) (onTc (τ := Cert.FourierRefIdeal.τ) (Cert.FourierRefIdeal.main (F := Ideal))) ⟨m', fun _ => 0, g'⟩ (fun r => ∀ c : Dev Cert.FourierRefIdeal.nD,
          r.2.mem ((c.tc : Thread Cert.FourierRefIdeal.nD Cert.FourierRefIdeal.τ).loc Cert.FourierRefIdeal.main_v41) = v0 c
          ∧ r.2.mem ((c.tc : Thread Cert.FourierRefIdeal.nD Cert.FourierRefIdeal.τ).loc Cert.FourierRefIdeal.main_arg0) = m' ((c.tc : Thread Cert.FourierRefIdeal.nD Cert.FourierRefIdeal.τ).loc Cert.FourierRefIdeal.main_arg0))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)) →
    ∃ (v0 : (c : Dev Cert.EmbedIdeal.nD) → Buf (Elt Ideal) ((c.tc : Thread Cert.EmbedIdeal.nD Cert.EmbedIdeal.τ).loc Cert.EmbedIdeal.main_v2)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v2) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v5) = v0 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2))

def preserves_Mod_ModIdeal : Prop :=
  True

def algebraic_ModIdeal_ModRefIdeal_pre_finite_modulation [hModIdeal : Cert.ModIdeal.Facts] [hModRefIdeal : Cert.ModRefIdeal.Facts] [hPre_finite_modulation : Cert.Pre_finite_modulation.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_finite_modulation m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v40) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_FourierLatent_FourierLatentIdeal : Prop :=
  True

def algebraic_FourierLatentIdeal_FourierLatentRefIdeal [hFourierLatentIdeal : Cert.FourierLatentIdeal.Facts] [hFourierLatentRefIdeal : Cert.FourierLatentRefIdeal.Facts] : Prop :=
  ∀ (m : (ℓ : Loc Cert.FourierLatentIdeal.nD Cert.FourierLatentIdeal.τ Cert.FourierLatentIdeal.sig) → Buf (Elt Ideal) ℓ) (g : Dev Cert.FourierLatentIdeal.nD → PrngReg)
    (m' : (ℓ : Loc Cert.FourierLatentRefIdeal.nD Cert.FourierLatentRefIdeal.τ Cert.FourierLatentRefIdeal.sig) → Buf (Elt Ideal) ℓ) (g' : Dev Cert.FourierLatentRefIdeal.nD → PrngReg), Pre_FourierLatentIdeal m →
    (∀ c : Dev Cert.FourierLatentIdeal.nD,
      m' ((c.tc : Thread Cert.FourierLatentRefIdeal.nD Cert.FourierLatentRefIdeal.τ).loc Cert.FourierLatentRefIdeal.main_arg0) = m ((c.tc : Thread Cert.FourierLatentIdeal.nD Cert.FourierLatentIdeal.τ).loc Cert.FourierLatentIdeal.main_arg0)) →
    ∃ (v0 : (c : Dev Cert.FourierLatentIdeal.nD) → Buf (Elt Ideal) ((c.tc : Thread Cert.FourierLatentIdeal.nD Cert.FourierLatentIdeal.τ).loc Cert.FourierLatentIdeal.main_v28)),
      θ_run (Cert.FourierLatentIdeal.defs (F := Ideal)) (onTc (τ := Cert.FourierLatentIdeal.τ) (Cert.FourierLatentIdeal.main (F := Ideal))) ⟨m, fun _ => 0, g⟩ (fun r => ∀ c : Dev Cert.FourierLatentIdeal.nD,
          r.2.mem ((c.tc : Thread Cert.FourierLatentIdeal.nD Cert.FourierLatentIdeal.τ).loc Cert.FourierLatentIdeal.main_v28) = v0 c
          ∧ r.2.mem ((c.tc : Thread Cert.FourierLatentIdeal.nD Cert.FourierLatentIdeal.τ).loc Cert.FourierLatentIdeal.main_arg0) = m ((c.tc : Thread Cert.FourierLatentIdeal.nD Cert.FourierLatentIdeal.τ).loc Cert.FourierLatentIdeal.main_arg0))
      ∧ θ_run (Cert.FourierLatentRefIdeal.defs (F := Ideal)) (onTc (τ := Cert.FourierLatentRefIdeal.τ) (Cert.FourierLatentRefIdeal.main (F := Ideal))) ⟨m', fun _ => 0, g'⟩ (fun r => ∀ c : Dev Cert.FourierLatentRefIdeal.nD,
          r.2.mem ((c.tc : Thread Cert.FourierLatentRefIdeal.nD Cert.FourierLatentRefIdeal.τ).loc Cert.FourierLatentRefIdeal.main_v41) = v0 c
          ∧ r.2.mem ((c.tc : Thread Cert.FourierLatentRefIdeal.nD Cert.FourierLatentRefIdeal.τ).loc Cert.FourierLatentRefIdeal.main_arg0) = m' ((c.tc : Thread Cert.FourierLatentRefIdeal.nD Cert.FourierLatentRefIdeal.τ).loc Cert.FourierLatentRefIdeal.main_arg0))

def Claim : Prop :=
  ∃ (hKernel : Cert.Kernel.Facts) (hKernelIdeal : Cert.KernelIdeal.Facts) (hReferenceIdeal : Cert.ReferenceIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hFinalContext : Cert.FinalContext.Facts) (hFinalContextIdeal : Cert.FinalContextIdeal.Facts) (hFinalContextRefIdeal : Cert.FinalContextRefIdeal.Facts) (hFinalLatent : Cert.FinalLatent.Facts) (hFinalLatentIdeal : Cert.FinalLatentIdeal.Facts) (hFinalLatentRefIdeal : Cert.FinalLatentRefIdeal.Facts) (hSgu : Cert.Sgu.Facts) (hSguIdeal : Cert.SguIdeal.Facts) (hSguRefIdeal : Cert.SguRefIdeal.Facts) (hConv : Cert.Conv.Facts) (hConvIdeal : Cert.ConvIdeal.Facts) (hConvRefIdeal : Cert.ConvRefIdeal.Facts) (hConvLatent : Cert.ConvLatent.Facts) (hConvLatentIdeal : Cert.ConvLatentIdeal.Facts) (hConvLatentRefIdeal : Cert.ConvLatentRefIdeal.Facts) (hFourier : Cert.Fourier.Facts) (hFourierIdeal : Cert.FourierIdeal.Facts) (hFourierRefIdeal : Cert.FourierRefIdeal.Facts) (hEmbed : Cert.Embed.Facts) (hEmbedIdeal : Cert.EmbedIdeal.Facts) (hEmbedRefIdeal : Cert.EmbedRefIdeal.Facts) (hMod : Cert.Mod.Facts) (hModIdeal : Cert.ModIdeal.Facts) (hModRefIdeal : Cert.ModRefIdeal.Facts) (hFourierLatent : Cert.FourierLatent.Facts) (hFourierLatentIdeal : Cert.FourierLatentIdeal.Facts) (hFourierLatentRefIdeal : Cert.FourierLatentRefIdeal.Facts) (hPre_finite_gates : Cert.Pre_finite_gates.Facts) (hPre_finite_modulation : Cert.Pre_finite_modulation.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_FinalContext (hFinalContext := hFinalContext)
    ∧ quiescent_FinalContextIdeal (hFinalContextIdeal := hFinalContextIdeal)
    ∧ quiescent_FinalContextRefIdeal (hFinalContextRefIdeal := hFinalContextRefIdeal)
    ∧ quiescent_FinalLatent (hFinalLatent := hFinalLatent)
    ∧ quiescent_FinalLatentIdeal (hFinalLatentIdeal := hFinalLatentIdeal)
    ∧ quiescent_FinalLatentRefIdeal (hFinalLatentRefIdeal := hFinalLatentRefIdeal)
    ∧ quiescent_Sgu (hSgu := hSgu)
    ∧ quiescent_SguIdeal (hSguIdeal := hSguIdeal)
    ∧ quiescent_SguRefIdeal (hSguRefIdeal := hSguRefIdeal)
    ∧ quiescent_Conv (hConv := hConv)
    ∧ quiescent_ConvIdeal (hConvIdeal := hConvIdeal)
    ∧ quiescent_ConvRefIdeal (hConvRefIdeal := hConvRefIdeal)
    ∧ quiescent_ConvLatent (hConvLatent := hConvLatent)
    ∧ quiescent_ConvLatentIdeal (hConvLatentIdeal := hConvLatentIdeal)
    ∧ quiescent_ConvLatentRefIdeal (hConvLatentRefIdeal := hConvLatentRefIdeal)
    ∧ quiescent_Fourier (hFourier := hFourier)
    ∧ quiescent_FourierIdeal (hFourierIdeal := hFourierIdeal)
    ∧ quiescent_FourierRefIdeal (hFourierRefIdeal := hFourierRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_Mod (hMod := hMod)
    ∧ quiescent_ModIdeal (hModIdeal := hModIdeal)
    ∧ quiescent_ModIdeal_pre_finite_modulation (hModIdeal := hModIdeal) (hPre_finite_modulation := hPre_finite_modulation)
    ∧ quiescent_ModRefIdeal (hModRefIdeal := hModRefIdeal)
    ∧ quiescent_ModRefIdeal_pre_finite_modulation (hModRefIdeal := hModRefIdeal) (hPre_finite_modulation := hPre_finite_modulation)
    ∧ quiescent_FourierLatent (hFourierLatent := hFourierLatent)
    ∧ quiescent_FourierLatentIdeal (hFourierLatentIdeal := hFourierLatentIdeal)
    ∧ quiescent_FourierLatentRefIdeal (hFourierLatentRefIdeal := hFourierLatentRefIdeal)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_FinalContext_FinalContextIdeal
    ∧ algebraic_FinalContextIdeal_FinalContextRefIdeal (hFinalContextIdeal := hFinalContextIdeal) (hFinalContextRefIdeal := hFinalContextRefIdeal)
    ∧ preserves_FinalLatent_FinalLatentIdeal
    ∧ algebraic_FinalLatentIdeal_FinalLatentRefIdeal (hFinalLatentIdeal := hFinalLatentIdeal) (hFinalLatentRefIdeal := hFinalLatentRefIdeal)
    ∧ preserves_Sgu_SguIdeal
    ∧ algebraic_SguIdeal_SguRefIdeal (hSguIdeal := hSguIdeal) (hSguRefIdeal := hSguRefIdeal)
    ∧ preserves_Conv_ConvIdeal
    ∧ algebraic_ConvIdeal_ConvRefIdeal (hConvIdeal := hConvIdeal) (hConvRefIdeal := hConvRefIdeal)
    ∧ preserves_ConvLatent_ConvLatentIdeal
    ∧ algebraic_ConvLatentIdeal_ConvLatentRefIdeal (hConvLatentIdeal := hConvLatentIdeal) (hConvLatentRefIdeal := hConvLatentRefIdeal)
    ∧ preserves_Fourier_FourierIdeal
    ∧ algebraic_FourierIdeal_FourierRefIdeal (hFourierIdeal := hFourierIdeal) (hFourierRefIdeal := hFourierRefIdeal)
    ∧ preserves_Embed_EmbedIdeal
    ∧ algebraic_EmbedIdeal_EmbedRefIdeal (hEmbedIdeal := hEmbedIdeal) (hEmbedRefIdeal := hEmbedRefIdeal)
    ∧ preserves_Mod_ModIdeal
    ∧ algebraic_ModIdeal_ModRefIdeal_pre_finite_modulation (hModIdeal := hModIdeal) (hModRefIdeal := hModRefIdeal) (hPre_finite_modulation := hPre_finite_modulation)
    ∧ preserves_FourierLatent_FourierLatentIdeal
    ∧ algebraic_FourierLatentIdeal_FourierLatentRefIdeal (hFourierLatentIdeal := hFourierLatentIdeal) (hFourierLatentRefIdeal := hFourierLatentRefIdeal)
-- ==== Pre_finite_gates.lean ====
abbrev S16384x3200 : Shape := ⟨2, ![16384, 3200]⟩
abbrev S16x512 : Shape := ⟨2, ![16, 512]⟩
abbrev S512 : Shape := ⟨1, ![512]⟩
abbrev S128 : Shape := ⟨1, ![128]⟩
abbrev S8192x16 : Shape := ⟨2, ![8192, 16]⟩
abbrev S_ : Shape := ⟨0, ![]⟩

class Facts : Prop where
  slices_S16384x3200_S8192x16_0_3072 : S16384x3200.Slices ![0, 3072] S8192x16
  bcast_S_S8192x16 : S_.BroadcastsInDim S8192x16 (![] : Fin 0 → Fin S8192x16.rank)
  reducesTo_S8192x16_S_d0_1 : S8192x16.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v14 : IVec S_ 1) (main_v15 : FVec F S16x512 .f32) (main_v16 : FVec F S16x512 .f32) : IVec S_ 1 :=
  let main_v17 : IVec S16x512 1 := cmpf .olt main_v15 main_v16
  let main_c_5 : IVec S_ 1 := constantI S_ 1 1#1
  let main_v18 : IVec S_ 1 := (fun x v => Host.reduce IntOp.andi x v reducesTo_S16x512_S_d0_1 h_S_) main_v17 main_c_5
  let main_v19 : IVec S_ 1 := andi main_v14 main_v18
  let main_v20 : FVec F S512 .f32 := Host.absf main_arg4
  let main_cst_6 : FVec F S_ .f32 := constant S_ .f32 0x7F800000#32
  let main_v21 : FVec F S512 .f32 := broadcastInDim S512 ![] bcast_S_S512 main_cst_6
  let main_v22 : IVec S512 1 := cmpf .olt main_v20 main_v21
  let main_c_7 : IVec S_ 1 := constantI S_ 1 1#1
  let main_v23 : IVec S_ 1 := (fun x v => Host.reduce IntOp.andi x v reducesTo_S512_S_d0 h_S_) main_v22 main_c_7
  let main_v24 : IVec S_ 1 := andi main_v19 main_v23
  main_v24

def fn {F : FTy → Type} [FloatOps F] (main_arg0 : FVec F S16384x3200 .f32) (main_arg1 : FVec F S16x512 .f32) (main_arg2 : FVec F S512 .f32) (main_arg3 : FVec F S16x512 .f32) (main_arg4 : FVec F S512 .f32) (main_arg5 : FVec F S128 .f32) : IVec S_ 1 :=
  let main_v0 : FVec F S8192x16 .f32 := (extractStridedSlice S8192x16 ![0, 3072] · slices_S16384x3200_S8192x16_0_3072) main_arg0
  let main_v1 : FVec F S8192x16 .f32 := Host.absf main_v0
  let main_cst : FVec F S_ .f32 := constant S_ .f32 0x7F800000#32
  let main_v2 : FVec F S8192x16 .f32 := broadcastInDim S8192x16 ![] bcast_S_S8192x16 main_cst
  let main_v3 : IVec S8192x16 1 := cmpf .olt main_v1 main_v2
  let main_c : IVec S_ 1 := constantI S_ 1 1#1
  let main_v4 : IVec S_ 1 := (fun x v => Host.reduce IntOp.andi x v reducesTo_S8192x16_S_d0_1 h_S_) main_v3 main_c
  let main_v5 : FVec F S16x512 .f32 := Host.absf main_arg1
  let main_cst_0 : FVec F S_ .f32 := constant S_ .f32 0x7F800000#32
  let main_v6 : FVec F S16x512 .f32 := broadcastInDim S16x512 ![] bcast_S_S16x512 main_cst_0
  let main_v7 : IVec S16x512 1 := cmpf .olt main_v5 main_v6
  let main_c_1 : IVec S_ 1 := constantI S_ 1 1#1
  let main_v8 : IVec S_ 1 := (fun x v => Host.reduce IntOp.andi x v reducesTo_S16x512_S_d0_1 h_S_) main_v7 main_c_1
  let main_v9 : IVec S_ 1 := andi main_v4 main_v8
  let main_v10 : FVec F S512 .f32 := Host.absf main_arg2
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_c_3 : IVec S_ 1 := constantI S_ 1 1#1
  let main_v13 : IVec S_ 1 := (fun x v => Host.reduce IntOp.andi x v reducesTo_S512_S_d0 h_S_) main_v12 main_c_3
  let main_v14 : IVec S_ 1 := andi main_v9 main_v13
  let main_v15 : FVec F S16x512 .f32 := Host.absf main_arg3
  let main_cst_4 : FVec F S_ .f32 := constant S_ .f32 0x7F800000#32
  let main_v16 : FVec F S16x512 .f32 := broadcastInDim S16x512 ![] bcast_S_S16x512 main_cst_4
  fn_part1 (F := F) main_arg4 main_v14 main_v15 main_v16
-- ==== Pre_finite_modulation.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S8x1024 .f32) (main_arg1 : FVec F S4x1024x6144 .f32) (main_arg2 : FVec F S4x6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S4x1024x6144 .f32 := Host.absf main_arg1
  let main_cst_0 : FVec F S_ .f32 := constant S_ .f32 0x7F800000#32
  let main_v5 : FVec F S4x1024x6144 .f32 := broadcastInDim S4x1024x6144 ![] bcast_S_S4x1024x6144 main_cst_0
  let main_v6 : IVec S4x1024x6144 1 := cmpf .olt main_v4 main_v5
  let main_c_1 : IVec S_ 1 := constantI S_ 1 1#1
  let main_v7 : IVec S_ 1 := (fun x v => Host.reduce IntOp.andi x v reducesTo_S4x1024x6144_S_d0_1_2 h_S_) main_v6 main_c_1
  let main_v8 : IVec S_ 1 := andi main_v3 main_v7
  main_v8
-- ==== Kernel.lean ====
abbrev S16384x3200 : Shape := ⟨2, ![16384, 3200]⟩
abbrev S16x512 : Shape := ⟨2, ![16, 512]⟩
abbrev S512 : Shape := ⟨1, ![512]⟩
abbrev S128 : Shape := ⟨1, ![128]⟩
abbrev S_ : Shape := ⟨0, ![]⟩
abbrev S112x512 : Shape := ⟨2, ![112, 512]⟩
abbrev S128x512 : Shape := ⟨2, ![128, 512]⟩
abbrev S1x512 : Shape := ⟨2, ![1, 512]⟩
abbrev S1x128 : Shape := ⟨2, ![1, 128]⟩
abbrev S8192x512 : Shape := ⟨2, ![8192, 512]⟩
abbrev S128x128x128 : Shape := ⟨3, ![128, 128, 128]⟩
abbrev S256x128 : Shape := ⟨2, ![256, 128]⟩
abbrev S128x128 : Shape := ⟨2, ![128, 128]⟩
abbrev S1x128x128 : Shape := ⟨3, ![1, 128, 128]⟩
abbrev S2x128x128 : Shape := ⟨3, ![2, 128, 128]⟩
abbrev S256x256 : Shape := ⟨2, ![256, 256]⟩
abbrev S64x128 : Shape := ⟨2, ![64, 128]⟩
abbrev S256 : Shape := ⟨1, ![256]⟩
abbrev S256x1 : Shape := ⟨2, ![256, 1]⟩

abbrev nBuf : Space → Nat
  | .hbm => 18
  | .vmem => 30
  | .smem => 0
  | _ => 0

abbrev bufTy : (tb : Table) → Fin (tcTables nBuf tb) → BufTy
  | .hbm, ⟨0, _⟩ => ⟨S16384x3200, .f32⟩
  | .hbm, ⟨1, _⟩ => ⟨S16x512, .f32⟩
  | .hbm, ⟨2, _⟩ => ⟨S512, .f32⟩
  | .hbm, ⟨3, _⟩ => ⟨S16x512, .f32⟩
  | .hbm, ⟨4, _⟩ => ⟨S512, .f32⟩
  | .hbm, ⟨5, _⟩ => ⟨S128, .f32⟩
  | .hbm, ⟨6, _⟩ => ⟨S_, .f32⟩
  | .hbm, ⟨7, _⟩ => ⟨S112x512, .f32⟩
  | .hbm, ⟨8, _⟩ => ⟨S128x512, .f32⟩
  | .hbm, ⟨9, _⟩ => ⟨S1x512, .f32⟩
  | .hbm, ⟨10, _⟩ => ⟨S_, .f32⟩
  | .hbm, ⟨11, _⟩ => ⟨S112x512, .f32⟩
  | .hbm, ⟨12, _⟩ => ⟨S128x512, .f32⟩
  | .hbm, ⟨13, _⟩ => ⟨S1x512, .f32⟩
  | .hbm, ⟨14, _⟩ => ⟨S1x128, .f32⟩
  | .hbm, ⟨15, _⟩ => ⟨S8192x512, .bf16⟩
  | .hbm, ⟨16, _⟩ => ⟨S128x128x128, .f32⟩
  | .hbm, ⟨17, _⟩ => ⟨S128x128x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S256x128, .bf16⟩
  | .local _ .vmem, ⟨20, _⟩ => ⟨S256x128, .bf16⟩
  | .local _ .vmem, ⟨21, _⟩ => ⟨S1x128x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S2x128x128, .f32⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![32, 4], ![false, false]⟩

def k0_mult1 : BitVec 32 :=
  let c0_i32_47 : BitVec 32 := 0#32
  let c256_i32 : BitVec 32 := 256#32
  let v140 : BitVec 32 := Scalar.muli c0_i32_47 c256_i32
  v140
def k0_mult2 : BitVec 32 :=
  let c0_i32_48 : BitVec 32 := 0#32
  let c0_i32_47 : BitVec 32 := 0#32
  let v142 : BitVec 32 := Scalar.subi c0_i32_48 c0_i32_47
  let c256_i32_49 : BitVec 32 := 256#32
  let v143 : BitVec 32 := Scalar.muli v142 c256_i32_49
  v143
def k0_off1 : Fin 2 → Nat :=
  let c0_i32_47 : BitVec 32 := 0#32
  let c256_i32 : BitVec 32 := 256#32
  let v140 : BitVec 32 := Scalar.muli c0_i32_47 c256_i32
  let v141 : BitVec 32 := v140
  let v145 : Index := Scalar.indexCast v141
  let c0_50 : Index := 0#32
  ![v145.toNat, 0]
def k0_off2 : Fin 2 → Nat :=
  let c0_i32_48 : BitVec 32 := 0#32
  let c0_i32_47 : BitVec 32 := 0#32
  let v142 : BitVec 32 := Scalar.subi c0_i32_48 c0_i32_47
  let c256_i32_49 : BitVec 32 := 256#32
  let v143 : BitVec 32 := Scalar.muli v142 c256_i32_49
  let v144 : BitVec 32 := v143
  let v154 : Index := Scalar.indexCast v144
  let c0_51 : Index := 0#32
  ![v154.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c12_i32 : BitVec 32 := 12#32
  let v1 : BitVec 32 := Scalar.addi c12_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c24_i32 : BitVec 32 := 24#32
  let c0_i32_0 : BitVec 32 := 0#32
  ![v0.toNat, c24_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16384x3200 : Shape := ⟨2, ![16384, 3200]⟩
abbrev S16x512 : Shape := ⟨2, ![16, 512]⟩
abbrev S512 : Shape := ⟨1, ![512]⟩
abbrev S128 : Shape := ⟨1, ![128]⟩
abbrev S8192x3200 : Shape := ⟨2, ![8192, 3200]⟩
abbrev S32x256x3200 : Shape := ⟨3, ![32, 256, 3200]⟩
abbrev S32x256x512 : Shape := ⟨3, ![32, 256, 512]⟩
abbrev S32x256x16 : Shape := ⟨3, ![32, 256, 16]⟩
abbrev S32x256x4x128 : Shape := ⟨4, ![32, 256, 4, 128]⟩
abbrev S_ : Shape := ⟨0, ![]⟩
abbrev S1x1x512 : Shape := ⟨3, ![1, 1, 512]⟩
abbrev S64x256x4x128 : Shape := ⟨4, ![64, 256, 4, 128]⟩
abbrev S64x4x128x128 : Shape := ⟨4, ![64, 4, 128, 128]⟩
abbrev S64x4x64x4x128 : Shape := ⟨5, ![64, 4, 64, 4, 128]⟩
abbrev S64x4x1x4x128 : Shape := ⟨5, ![64, 4, 1, 4, 128]⟩
abbrev S64x64 : Shape := ⟨2, ![64, 64]⟩
abbrev S64x4x4x64x64 : Shape := ⟨5, ![64, 4, 4, 64, 64]⟩
abbrev S64x4x4x128x64 : Shape := ⟨5, ![64, 4, 4, 128, 64]⟩
abbrev S64x4x4x128x128 : Shape := ⟨5, ![64, 4, 4, 128, 128]⟩
abbrev S64x4x4x128 : Shape := ⟨4, ![64, 4, 4, 128]⟩
abbrev S64x1x64x4x128 : Shape := ⟨5, ![64, 1, 64, 4, 128]⟩
abbrev S64x64x4x128 : Shape := ⟨4, ![64, 64, 4, 128]⟩
abbrev S64x4x128x64 : Shape := ⟨4, ![64, 4, 128, 64]⟩
abbrev S64x1x4x128 : Shape := ⟨4, ![64, 1, 4, 128]⟩
abbrev S64x4x128 : Shape := ⟨3, ![64, 4, 128]⟩
abbrev S64x4x128x1 : Shape := ⟨4, ![64, 4, 128, 1]⟩
abbrev S64x1x4x128x128 : Shape := ⟨5, ![64, 1, 4, 128, 128]⟩
abbrev S32x256x4 : Shape := ⟨3, ![32, 256, 4]⟩
abbrev S32x256x4x1 : Shape := ⟨4, ![32, 256, 4, 1]⟩
abbrev S1x1x1x128 : Shape := ⟨4, ![1, 1, 1, 128]⟩
abbrev S8192x512 : Shape := ⟨2, ![8192, 512]⟩
abbrev S32x4x128x128 : Shape := ⟨4, ![32, 4, 128, 128]⟩
abbrev S128x128x128 : Shape := ⟨3, ![128, 128, 128]⟩

abbrev nBuf : Space → Nat
  | .hbm => 208
  | .vmem => 0
  | .smem => 0
  | _ => 0

abbrev hbmTy0_0 (i : Nat) : BufTy := match i % 128 with
  | 0 => ⟨S16384x3200, .f32⟩
  | 1 => ⟨S16x512, .f32⟩
  | 2 => ⟨S512, .f32⟩
  | 3 => ⟨S16x512, .f32⟩
  | 4 => ⟨S512, .f32⟩
  | 5 => ⟨S128, .f32⟩
  | 6 => ⟨S8192x3200, .f32⟩
  | 7 => ⟨S32x256x3200, .f32⟩
  | 8 => ⟨S32x256x512, .f32⟩
  | 9 => ⟨S32x256x512, .f32⟩
  | 10 => ⟨S32x256x512, .f32⟩
  | 11 => ⟨S32x256x512, .f32⟩
  | 12 => ⟨S32x256x16, .f32⟩
  | 13 => ⟨S32x256x4x128, .f32⟩
  | 14 => ⟨S_, .f32⟩
  | 15 => ⟨S32x256x4x128, .f32⟩
  | 16 => ⟨S32x256x4x128, .f32⟩
  | 17 => ⟨S32x256x4x128, .f32⟩
  | 18 => ⟨S32x256x4x128, .f32⟩
  | 19 => ⟨S32x256x512, .f32⟩
  | 20 => ⟨S1x1x512, .f32⟩
  | 21 => ⟨S32x256x512, .f32⟩
  | 22 => ⟨S32x256x512, .f32⟩
  | 23 => ⟨S32x256x512, .f32⟩
  | 24 => ⟨S_, .f32⟩
  | 25 => ⟨S32x256x512, .f32⟩
  | 26 => ⟨S32x256x512, .f32⟩
  | 27 => ⟨S32x256x512, .f32⟩
  | 28 => ⟨S32x256x512, .f32⟩
  | 29 => ⟨S32x256x512, .i1⟩
  | 30 => ⟨S32x256x512, .f32⟩
  | 31 => ⟨S32x256x512, .f32⟩
  | 32 => ⟨S32x256x512, .f32⟩
  | 33 => ⟨S32x256x512, .f32⟩
  | 34 => ⟨S32x256x512, .f32⟩
  | 35 => ⟨S32x256x512, .f32⟩
  | 36 => ⟨S32x256x512, .f32⟩
  | 37 => ⟨S32x256x512, .f32⟩
  | 38 => ⟨S32x256x512, .f32⟩
  | 39 => ⟨S_, .f32⟩
  | 40 => ⟨S32x256x512, .f32⟩
  | 41 => ⟨S32x256x512, .f32⟩
  | 42 => ⟨S32x256x4x128, .f32⟩
  | 43 => ⟨S32x256x512, .f32⟩
  | 44 => ⟨S1x1x512, .f32⟩
  | 45 => ⟨S32x256x512, .f32⟩
  | 46 => ⟨S32x256x512, .f32⟩
  | 47 => ⟨S32x256x512, .f32⟩
  | 48 => ⟨S_, .f32⟩
  | 49 => ⟨S32x256x512, .f32⟩
  | 50 => ⟨S32x256x512, .f32⟩
  | 51 => ⟨S32x256x512, .f32⟩
  | 52 => ⟨S32x256x512, .f32⟩
  | 53 => ⟨S32x256x512, .i1⟩
  | 54 => ⟨S32x256x512, .f32⟩
  | 55 => ⟨S32x256x512, .f32⟩
  | 56 => ⟨S32x256x512, .f32⟩
  | 57 => ⟨S32x256x512, .f32⟩
  | 58 => ⟨S32x256x512, .f32⟩
  | 59 => ⟨S32x256x512, .f32⟩
  | 60 => ⟨S32x256x512, .f32⟩
  | 61 => ⟨S32x256x512, .f32⟩
  | 62 => ⟨S32x256x512, .f32⟩
  | 63 => ⟨S_, .f32⟩
  | 64 => ⟨S32x256x512, .f32⟩
  | 65 => ⟨S32x256x512, .f32⟩
  | 66 => ⟨S32x256x4x128, .f32⟩
  | 67 => ⟨S32x256x4x128, .f32⟩
  | 68 => ⟨S64x256x4x128, .f32⟩
  | 69 => ⟨S_, .f32⟩
  | 70 => ⟨S64x4x128x128, .f32⟩
  | 71 => ⟨S32x256x4x128, .f32⟩
  | 72 => ⟨S64x256x4x128, .f32⟩
  | 73 => ⟨S32x256x4x128, .f32⟩
  | 74 => ⟨S64x256x4x128, .f32⟩
  | 75 => ⟨S32x256x4x128, .f32⟩
  | 76 => ⟨S64x256x4x128, .f32⟩
  | 77 => ⟨S64x4x64x4x128, .f32⟩
  | 78 => ⟨S64x4x64x4x128, .f32⟩
  | 79 => ⟨S64x4x64x4x128, .f32⟩
  | 80 => ⟨S64x4x64x4x128, .f32⟩
  | 81 => ⟨S_, .f32⟩
  | 82 => ⟨S_, .f32⟩
  | 83 => ⟨S64x4x64x4x128, .f32⟩
  | 84 => ⟨S64x4x1x4x128, .f32⟩
  | 85 => ⟨S64x4x64x4x128, .f32⟩
  | 86 => ⟨S64x4x64x4x128, .f32⟩
  | 87 => ⟨S64x4x64x4x128, .f32⟩
  | 88 => ⟨S64x4x64x4x128, .f32⟩
  | 89 => ⟨S64x4x64x4x128, .f32⟩
  | 90 => ⟨S64x4x64x4x128, .f32⟩
  | 91 => ⟨S64x4x64x4x128, .f32⟩
  | 92 => ⟨S64x4x64x4x128, .f32⟩
  | 93 => ⟨S64x4x64x4x128, .f32⟩
  | 94 => ⟨S_, .i1⟩
  | 95 => ⟨S64x64, .i1⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i1⟩
  | 102 => ⟨S_, .i1⟩
  | 103 => ⟨S64x64, .i1⟩
  | 104 => ⟨S64x64, .i1⟩
  | 105 => ⟨S64x4x4x64x64, .f32⟩
  | 106 => ⟨S_, .f32⟩
  | 107 => ⟨S_, .f32⟩
  | 108 => ⟨S64x4x4x64x64, .i1⟩
  | 109 => ⟨S64x4x4x64x64, .f32⟩
  | 110 => ⟨S64x4x4x64x64, .f32⟩
  | 111 => ⟨S64x4x4x128x64, .f32⟩
  | 112 => ⟨S64x4x64x4x128, .f32⟩
  | 113 => ⟨S64x4x4x128x128, .f32⟩
  | 114 => ⟨S64x4x4x128, .f32⟩
  | 115 => ⟨S64x4x4x128, .f32⟩
  | 116 => ⟨S64x1x64x4x128, .f32⟩
  | 117 => ⟨S64x64x4x128, .f32⟩
  | 118 => ⟨S64x4x128x64, .f32⟩
  | 119 => ⟨S64x64x4x128, .f32⟩
  | 120 => ⟨S64x1x4x128, .f32⟩
  | 121 => ⟨S64x4x128, .f32⟩
  | 122 => ⟨S64x4x128x1, .f32⟩
  | 123 => ⟨S64x4x128x128, .f32⟩
  | 124 => ⟨S64x4x128x128, .f32⟩
  | 125 => ⟨S64x1x4x128x128, .f32⟩
  | 126 => ⟨S64x4x128x128, .f32⟩
  | 127 => ⟨S64x4x128x128, .f32⟩
  | _ => ⟨S16384x3200, .f32⟩

abbrev hbmTy0_1 (i : Nat) : BufTy := match i % 128 with
  | 0 => ⟨S64x1x64x4x128, .f32⟩
  | 1 => ⟨S64x64x4x128, .f32⟩
  | 2 => ⟨S64x4x128x64, .f32⟩
  | 3 => ⟨S64x64x4x128, .f32⟩
  | 4 => ⟨S64x1x4x128, .f32⟩
  | 5 => ⟨S64x4x128, .f32⟩
  | 6 => ⟨S64x4x128x1, .f32⟩
  | 7 => ⟨S64x4x128x128, .f32⟩
  | 8 => ⟨S64x4x128x128, .f32⟩
  | 9 => ⟨S64x1x4x128x128, .f32⟩
  | 10 => ⟨S64x4x128x128, .f32⟩
  | 11 => ⟨S64x4x128x128, .f32⟩
  | 12 => ⟨S64x1x64x4x128, .f32⟩
  | 13 => ⟨S64x64x4x128, .f32⟩
  | 14 => ⟨S64x4x128x64, .f32⟩
  | 15 => ⟨S64x64x4x128, .f32⟩
  | 16 => ⟨S64x1x4x128, .f32⟩
  | 17 => ⟨S64x4x128, .f32⟩
  | 18 => ⟨S64x4x128x1, .f32⟩
  | 19 => ⟨S64x4x128x128, .f32⟩
  | 20 => ⟨S64x4x128x128, .f32⟩
  | 21 => ⟨S64x1x4x128x128, .f32⟩
  | 22 => ⟨S64x4x128x128, .f32⟩
  | 23 => ⟨S64x4x128x128, .f32⟩
  | 24 => ⟨S64x1x64x4x128, .f32⟩
  | 25 => ⟨S64x64x4x128, .f32⟩
  | 26 => ⟨S64x4x128x64, .f32⟩
  | 27 => ⟨S64x64x4x128, .f32⟩
  | 28 => ⟨S64x1x4x128, .f32⟩
  | 29 => ⟨S64x4x128, .f32⟩
  | 30 => ⟨S64x4x128x1, .f32⟩
  | 31 => ⟨S64x4x128x128, .f32⟩
  | 32 => ⟨S64x4x128x128, .f32⟩
  | 33 => ⟨S64x1x4x128x128, .f32⟩
  | 34 => ⟨S64x4x128x128, .f32⟩
  | 35 => ⟨S64x4x128x128, .f32⟩
  | 36 => ⟨S64x1x64x4x128, .f32⟩
  | 37 => ⟨S64x1x64x4x128, .f32⟩
  | 38 => ⟨S64x1x64x4x128, .f32⟩
  | 39 => ⟨S64x1x64x4x128, .f32⟩
  | 40 => ⟨S64x4x64x4x128, .f32⟩
  | 41 => ⟨S64x4x64x4x128, .f32⟩
  | 42 => ⟨S64x256x4x128, .f32⟩
  | 43 => ⟨S32x256x4x128, .f32⟩
  | 44 => ⟨S32x256x4x128, .f32⟩
  | 45 => ⟨S32x256x4x128, .f32⟩
  | 46 => ⟨S32x256x4x128, .f32⟩
  | 47 => ⟨S32x256x4x128, .f32⟩
  | 48 => ⟨S_, .f32⟩
  | 49 => ⟨S32x256x4, .f32⟩
  | 50 => ⟨S32x256x4x1, .f32⟩
  | 51 => ⟨S_, .f32⟩
  | 52 => ⟨S32x256x4x1, .f32⟩
  | 53 => ⟨S32x256x4x1, .f32⟩
  | 54 => ⟨S_, .f32⟩
  | 55 => ⟨S32x256x4x1, .f32⟩
  | 56 => ⟨S32x256x4x1, .f32⟩
  | 57 => ⟨S32x256x4x1, .f32⟩
  | 58 => ⟨S32x256x4x128, .f32⟩
  | 59 => ⟨S32x256x4x128, .f32⟩
  | 60 => ⟨S1x1x1x128, .f32⟩
  | 61 => ⟨S32x256x4x128, .f32⟩
  | 62 => ⟨S32x256x4x128, .f32⟩
  | 63 => ⟨S32x256x4x128, .f32⟩
  | 64 => ⟨S32x256x4x128, .f32⟩
  | 65 => ⟨S32x256x4x128, .f32⟩
  | 66 => ⟨S_, .f32⟩
  | 67 => ⟨S32x256x4x128, .f32⟩
  | 68 => ⟨S32x256x4x128, .f32⟩
  | 69 => ⟨S_, .f32⟩
  | 70 => ⟨S32x256x4x128, .f32⟩
  | 71 => ⟨S32x256x4x128, .f32⟩
  | 72 => ⟨S32x256x4x128, .f32⟩
  | 73 => ⟨S32x256x4x128, .f32⟩
  | 74 => ⟨S8192x512, .f32⟩
  | 75 => ⟨S8192x512, .bf16⟩
  | 76 => ⟨S32x4x128x128, .f32⟩
  | 77 => ⟨S128x128x128, .f32⟩
  | 78 => ⟨S32x4x128x128, .f32⟩
  | 79 => ⟨S128x128x128, .f32⟩
  | _ => ⟨S16384x3200, .f32⟩

abbrev hbmTy (i : Nat) : BufTy := match i / 128 with
  | 0 => hbmTy0_0 i
  | 1 => hbmTy0_1 i
  | _ => ⟨S16384x3200, .f32⟩

abbrev bufTy : (tb : Table) → Fin (tcTables nBuf tb) → BufTy
  | .hbm, ⟨i, _⟩ => hbmTy i
  | _, _ => ⟨S16384x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_v0 : Ref sig .tc := ⟨.hbm, 47, rfl⟩
abbrev main_call1_call0_cst : Ref sig .tc := ⟨.hbm, 48, rfl⟩
abbrev main_call1_call0_v0 : Ref sig .tc := ⟨.hbm, 49, rfl⟩
abbrev main_call1_call0_v1 : Ref sig .tc := ⟨.hbm, 50, rfl⟩
abbrev main_call1_call0_v2 : Ref sig .tc := ⟨.hbm, 51, rfl⟩
abbrev main_call1_call0_v3 : Ref sig .tc := ⟨.hbm, 52, rfl⟩
abbrev main_call1_call0_v4 : Ref sig .tc := ⟨.hbm, 53, rfl⟩
abbrev main_call1_call0_v5 : Ref sig .tc := ⟨.hbm, 54, rfl⟩
abbrev main_call1_call0_v6 : Ref sig .tc := ⟨.hbm, 55, rfl⟩
abbrev main_call1_call0_v7 : Ref sig .tc := ⟨.hbm, 56, rfl⟩
abbrev main_call1_call0_v8 : Ref sig .tc := ⟨.hbm, 57, rfl⟩
abbrev main_call1_call0_v9 : Ref sig .tc := ⟨.hbm, 58, rfl⟩
abbrev main_call1_call0_v10 : Ref sig .tc := ⟨.hbm, 59, rfl⟩
abbrev main_call1_call0_v11 : Ref sig .tc := ⟨.hbm, 60, rfl⟩
abbrev main_call1_v1 : Ref sig .tc := ⟨.hbm, 61, rfl⟩
abbrev main_v24 : Ref sig .tc := ⟨.hbm, 62, rfl⟩
abbrev main_cst_1 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_2 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call6_call0_cst : Ref sig .tc := ⟨.hbm, 81, rfl⟩
abbrev main_call6_call0_v0 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_c : Ref sig .tc := ⟨.hbm, 94, rfl⟩
abbrev main_v52 : Ref sig .tc := ⟨.hbm, 95, rfl⟩
abbrev main_call7_v0 : Ref sig .tc := ⟨.hbm, 96, rfl⟩
abbrev main_call7_c : Ref sig .tc := ⟨.hbm, 97, rfl⟩
abbrev main_call7_v1 : Ref sig .tc := ⟨.hbm, 98, rfl⟩
abbrev main_call7_v2 : Ref sig .tc := ⟨.hbm, 99, rfl⟩
abbrev main_call7_v3 : Ref sig .tc := ⟨.hbm, 100, rfl⟩
abbrev main_call7_v4 : Ref sig .tc := ⟨.hbm, 101, rfl⟩
abbrev main_call7_c_0 : Ref sig .tc := ⟨.hbm, 102, rfl⟩
abbrev main_call7_v5 : Ref sig .tc := ⟨.hbm, 103, rfl⟩
abbrev main_v53 : Ref sig .tc := ⟨.hbm, 104, rfl⟩
abbrev main_v54 : Ref sig .tc := ⟨.hbm, 105, rfl⟩
abbrev main_cst_3 : Ref sig .tc := ⟨.hbm, 106, rfl⟩
abbrev main_call8_v0 : Ref sig .tc := ⟨.hbm, 107, rfl⟩
abbrev main_call8_v1 : Ref sig .tc := ⟨.hbm, 108, rfl⟩
abbrev main_call8_v2 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_4 : Ref sig .tc := ⟨.hbm, 176, rfl⟩
abbrev main_v121 : Ref sig .tc := ⟨.hbm, 177, rfl⟩
abbrev main_v122 : Ref sig .tc := ⟨.hbm, 178, rfl⟩
abbrev main_cst_5 : Ref sig .tc := ⟨.hbm, 179, rfl⟩
abbrev main_v123 : Ref sig .tc := ⟨.hbm, 180, rfl⟩
abbrev main_v124 : Ref sig .tc := ⟨.hbm, 181, rfl⟩
abbrev main_cst_6 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_call10_v0 : Ref sig .tc := ⟨.hbm, 192, rfl⟩
abbrev main_call10_v1 : Ref sig .tc := ⟨.hbm, 193, rfl⟩
abbrev main_call10_cst : Ref sig .tc := ⟨.hbm, 194, rfl⟩
abbrev main_call10_v2 : Ref sig .tc := ⟨.hbm, 195, rfl⟩
abbrev main_call10_v3 : Ref sig .tc := ⟨.hbm, 196, rfl⟩
abbrev main_call10_cst_0 : Ref sig .tc := ⟨.hbm, 197, rfl⟩
abbrev main_call10_v4 : Ref sig .tc := ⟨.hbm, 198, rfl⟩
abbrev main_call10_v5 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩

abbrev nD : Nat := 1
abbrev τ : Topo := Topo.v7x

variable {F : FTy → Type} [FloatOps F]
-- ==== EvenIn.lean ====
abbrev S16384x1024 : Shape := ⟨2, ![16384, 1024]⟩
abbrev S1024 : Shape := ⟨1, ![1024]⟩
abbrev S4x8x1x6144 : Shape := ⟨4, ![4, 8, 1, 6144]⟩
abbrev S1024x3088 : Shape := ⟨2, ![1024, 3088]⟩
abbrev S1024x16 : Shape := ⟨2, ![1024, 16]⟩
abbrev S1024x1024 : Shape := ⟨2, ![1024, 1024]⟩
abbrev S_ : Shape := ⟨0, ![]⟩
abbrev S1024x112 : Shape := ⟨2, ![1024, 112]⟩
abbrev S1024x2048 : Shape := ⟨2, ![1024, 2048]⟩
abbrev S1024x3200 : Shape := ⟨2, ![1024, 3200]⟩
abbrev S1x1024 : Shape := ⟨2, ![1, 1024]⟩
abbrev S16384x3200 : Shape := ⟨2, ![16384, 3200]⟩
abbrev S256x1024 : Shape := ⟨2, ![256, 1024]⟩
abbrev S1x1x1x1024 : Shape := ⟨4, ![1, 1, 1, 1024]⟩
abbrev S256x3200 : Shape := ⟨2, ![256, 3200]⟩
abbrev S256 : Shape := ⟨1, ![256]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x8x1x6144, .f32⟩
  | .hbm, ⟨3, _⟩ => ⟨S1024x3088, .f32⟩
  | .hbm, ⟨4, _⟩ => ⟨S1024x16, .f32⟩
  | .hbm, ⟨5, _⟩ => ⟨S1024x1024, .f32⟩
  | .hbm, ⟨6, _⟩ => ⟨S_, .f32⟩
  | .hbm, ⟨7, _⟩ => ⟨S1024x112, .f32⟩
  | .hbm, ⟨8, _⟩ => ⟨S1024x2048, .f32⟩
  | .hbm, ⟨9, _⟩ => ⟨S1024x3200, .f32⟩
  | .hbm, ⟨10, _⟩ => ⟨S1024x3200, .bf16⟩
  | .hbm, ⟨11, _⟩ => ⟨S1x1024, .f32⟩
  | .hbm, ⟨12, _⟩ => ⟨S16384x3200, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x3200, .bf16⟩
  | .local _ .vmem, ⟨8, _⟩ => ⟨S256x3200, .f32⟩
  | .local _ .vmem, ⟨9, _⟩ => ⟨S256x3200, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![c0_i32_7.toNat, v20.toNat, c0_i32_8.toNat, c0_i32_9.toNat]

def cc0_transform_3 (i : grid0.Coords) : Fin 4 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c1_i32_9 : BitVec 32 := 1#32
  let c0_i32_10 : BitVec 32 := 0#32
  ![c0_i32_7.toNat, v20.toNat, c0_i32_8.toNat, c1_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenInRefIdeal.lean ====
abbrev S16384x1024 : Shape := ⟨2, ![16384, 1024]⟩
abbrev S1024 : Shape := ⟨1, ![1024]⟩
abbrev S4x8x1x6144 : Shape := ⟨4, ![4, 8, 1, 6144]⟩
abbrev S1024x3088 : Shape := ⟨2, ![1024, 3088]⟩
abbrev S1x1x1x6144 : Shape := ⟨4, ![1, 1, 1, 6144]⟩
abbrev S1x6144 : Shape := ⟨2, ![1, 6144]⟩
abbrev S1x1x6144 : Shape := ⟨3, ![1, 1, 6144]⟩
abbrev S1x4x1x6144 : Shape := ⟨4, ![1, 4, 1, 6144]⟩
abbrev S4x1x6144 : Shape := ⟨3, ![4, 1, 6144]⟩
abbrev S1x1x1024 : Shape := ⟨3, ![1, 1, 1024]⟩
abbrev S4x1x1024 : Shape := ⟨3, ![4, 1, 1024]⟩
abbrev S8192x1024 : Shape := ⟨2, ![8192, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S4x2048x1024 : Shape := ⟨3, ![4, 2048, 1024]⟩
abbrev S4x2048 : Shape := ⟨2, ![4, 2048]⟩
abbrev S4x2048x1 : Shape := ⟨3, ![4, 2048, 1]⟩
abbrev S32x256x3088 : Shape := ⟨3, ![32, 256, 3088]⟩
abbrev S4x2048x3088 : Shape := ⟨3, ![4, 2048, 3088]⟩
abbrev S8192x3088 : Shape := ⟨2, ![8192, 3088]⟩
abbrev S16384x3088 : Shape := ⟨2, ![16384, 3088]⟩
abbrev S16384x2048 : Shape := ⟨2, ![16384, 2048]⟩
abbrev S16384x16 : Shape := ⟨2, ![16384, 16]⟩
abbrev S16384x112 : Shape := ⟨2, ![16384, 112]⟩
abbrev S16384x3200 : Shape := ⟨2, ![16384, 3200]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x8x1x6144, .f32⟩
  | .hbm, ⟨3, _⟩ => ⟨S1024x3088, .f32⟩
  | .hbm, ⟨4, _⟩ => ⟨S1x1x1x6144, .f32⟩
  | .hbm, ⟨5, _⟩ => ⟨S1x6144, .f32⟩
  | .hbm, ⟨6, _⟩ => ⟨S1x1x6144, .f32⟩
  | .hbm, ⟨7, _⟩ => ⟨S1x4x1x6144, .f32⟩
  | .hbm, ⟨8, _⟩ => ⟨S4x1x6144, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S8192x1024, .f32⟩
  | .hbm, ⟨22, _⟩ => ⟨S32x256x1024, .f32⟩
  | .hbm, ⟨23, _⟩ => ⟨S32x256x1024, .f32⟩
  | .hbm, ⟨24, _⟩ => ⟨S_, .f32⟩
  | .hbm, ⟨25, _⟩ => ⟨S32x256, .f32⟩
  | .hbm, ⟨26, _⟩ => ⟨S32x256x1, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S_, .f32⟩
  | .hbm, ⟨31, _⟩ => ⟨S32x256x1, .f32⟩
  | .hbm, ⟨32, _⟩ => ⟨S32x256x1, .f32⟩
  | .hbm, ⟨33, _⟩ => ⟨S32x256x1, .f32⟩
  | .hbm, ⟨34, _⟩ => ⟨S32x256x1024, .f32⟩
  | .hbm, ⟨35, _⟩ => ⟨S32x256x1024, .f32⟩
  | .hbm, ⟨36, _⟩ => ⟨S1x1x1024, .f32⟩
  | .hbm, ⟨37, _⟩ => ⟨S32x256x1024, .f32⟩
  | .hbm, ⟨38, _⟩ => ⟨S32x256x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S32x256x1024, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S8192x1024, .f32⟩
  | .hbm, ⟨47, _⟩ => ⟨S4x2048x1024, .f32⟩
  | .hbm, ⟨48, _⟩ => ⟨S4x2048x1024, .f32⟩
  | .hbm, ⟨49, _⟩ => ⟨S_, .f32⟩
  | .hbm, ⟨50, _⟩ => ⟨S4x2048, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S4x2048x1, .f32⟩
  | .hbm, ⟨59, _⟩ => ⟨S4x2048x1024, .f32⟩
  | .hbm, ⟨60, _⟩ => ⟨S4x2048x1024, .f32⟩
  | .hbm, ⟨61, _⟩ => ⟨S1x1x1024, .f32⟩
  | .hbm, ⟨62, _⟩ => ⟨S4x2048x1024, .f32⟩
  | .hbm, ⟨63, _⟩ => ⟨S4x2048x1024, .f32⟩
  | .hbm, ⟨64, _⟩ => ⟨S_, .f32⟩
  | .hbm, ⟨65, _⟩ => ⟨S4x1x1024, .f32⟩
  | .hbm, ⟨66, _⟩ => ⟨S4x1x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S32x256x3088, .f32⟩
  | .hbm, ⟨72, _⟩ => ⟨S4x2048x3088, .f32⟩
  | .hbm, ⟨73, _⟩ => ⟨S8192x3088, .f32⟩
  | .hbm, ⟨74, _⟩ => ⟨S8192x3088, .f32⟩
  | .hbm, ⟨75, _⟩ => ⟨S16384x3088, .f32⟩
  | .hbm, ⟨76, _⟩ => ⟨S16384x2048, .f32⟩
  | .hbm, ⟨77, _⟩ => ⟨S16384x16, .f32⟩
  | .hbm, ⟨78, _⟩ => ⟨S16384x1024, .f32⟩
  | .hbm, ⟨79, _⟩ => ⟨S_, .f32⟩
  | .hbm, ⟨80, _⟩ => ⟨S16384x112, .f32⟩
  | .hbm, ⟨81, _⟩ => ⟨S16384x3200, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_7 : Ref sig .tc := ⟨.hbm, 79, rfl⟩
abbrev main_v67 : Ref sig .tc := ⟨.hbm, 80, rfl⟩
abbrev main_v68 : Ref sig .tc := ⟨.hbm, 81, rfl⟩

abbrev nD : Nat := 1
abbrev τ : Topo := Topo.v7x

variable {F : FTy → Type} [FloatOps F]
-- ==== OddIn.lean ====
abbrev S16384x1024 : Shape := ⟨2, ![16384, 1024]⟩
abbrev S1024 : Shape := ⟨1, ![1024]⟩
abbrev S4x8x1x6144 : Shape := ⟨4, ![4, 8, 1, 6144]⟩
abbrev S1024x2048 : Shape := ⟨2, ![1024, 2048]⟩
abbrev S1x1024 : Shape := ⟨2, ![1, 1024]⟩
abbrev S16384x2048 : Shape := ⟨2, ![16384, 2048]⟩
abbrev S256x1024 : Shape := ⟨2, ![256, 1024]⟩
abbrev S1x1x1x1024 : Shape := ⟨4, ![1, 1, 1, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x8x1x6144, .f32⟩
  | .hbm, ⟨3, _⟩ => ⟨S1024x2048, .f32⟩
  | .hbm, ⟨4, _⟩ => ⟨S1024x2048, .bf16⟩
  | .hbm, ⟨5, _⟩ => ⟨S1x1024, .f32⟩
  | .hbm, ⟨6, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x2048, .bf16⟩
  | .local _ .vmem, ⟨8, _⟩ => ⟨S256x2048, .f32⟩
  | .local _ .vmem, ⟨9, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c0_i32_8 : BitVec 32 := 0#32
  let c0_i32_9 : BitVec 32 := 0#32
  let c0_i32_10 : BitVec 32 := 0#32
  ![c1_i32_7.toNat, v20.toNat, c0_i32_8.toNat, c0_i32_9.toNat]

def cc0_transform_3 (i : grid0.Coords) : Fin 4 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c0_i32_8 : BitVec 32 := 0#32
  let c1_i32_9 : BitVec 32 := 1#32
  let c0_i32_10 : BitVec 32 := 0#32
  ![c1_i32_7.toNat, v20.toNat, c0_i32_8.toNat, c1_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddInRefIdeal.lean ====
abbrev S16384x1024 : Shape := ⟨2, ![16384, 1024]⟩
abbrev S1024 : Shape := ⟨1, ![1024]⟩
abbrev S4x8x1x6144 : Shape := ⟨4, ![4, 8, 1, 6144]⟩
abbrev S1024x2048 : Shape := ⟨2, ![1024, 2048]⟩
abbrev S1x1x1x6144 : Shape := ⟨4, ![1, 1, 1, 6144]⟩
abbrev S1x6144 : Shape := ⟨2, ![1, 6144]⟩
abbrev S1x1x6144 : Shape := ⟨3, ![1, 1, 6144]⟩
abbrev S1x4x1x6144 : Shape := ⟨4, ![1, 4, 1, 6144]⟩
abbrev S4x1x6144 : Shape := ⟨3, ![4, 1, 6144]⟩
abbrev S1x1x1024 : Shape := ⟨3, ![1, 1, 1024]⟩
abbrev S4x1x1024 : Shape := ⟨3, ![4, 1, 1024]⟩
abbrev S8192x1024 : Shape := ⟨2, ![8192, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S4x2048x1024 : Shape := ⟨3, ![4, 2048, 1024]⟩
abbrev S4x2048 : Shape := ⟨2, ![4, 2048]⟩
abbrev S4x2048x1 : Shape := ⟨3, ![4, 2048, 1]⟩
abbrev S32x256x2048 : Shape := ⟨3, ![32, 256, 2048]⟩
abbrev S4x2048x2048 : Shape := ⟨3, ![4, 2048, 2048]⟩
abbrev S8192x2048 : Shape := ⟨2, ![8192, 2048]⟩
abbrev S16384x2048 : Shape := ⟨2, ![16384, 2048]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x8x1x6144, .f32⟩
  | .hbm, ⟨3, _⟩ => ⟨S1024x2048, .f32⟩
  | .hbm, ⟨4, _⟩ => ⟨S1x1x1x6144, .f32⟩
  | .hbm, ⟨5, _⟩ => ⟨S1x6144, .f32⟩
  | .hbm, ⟨6, _⟩ => ⟨S1x1x6144, .f32⟩
  | .hbm, ⟨7, _⟩ => ⟨S1x4x1x6144, .f32⟩
  | .hbm, ⟨8, _⟩ => ⟨S4x1x6144, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S8192x1024, .f32⟩
  | .hbm, ⟨22, _⟩ => ⟨S32x256x1024, .f32⟩
  | .hbm, ⟨23, _⟩ => ⟨S32x256x1024, .f32⟩
  | .hbm, ⟨24, _⟩ => ⟨S_, .f32⟩
  | .hbm, ⟨25, _⟩ => ⟨S32x256, .f32⟩
  | .hbm, ⟨26, _⟩ => ⟨S32x256x1, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S_, .f32⟩
  | .hbm, ⟨31, _⟩ => ⟨S32x256x1, .f32⟩
  | .hbm, ⟨32, _⟩ => ⟨S32x256x1, .f32⟩
  | .hbm, ⟨33, _⟩ => ⟨S32x256x1, .f32⟩
  | .hbm, ⟨34, _⟩ => ⟨S32x256x1024, .f32⟩
  | .hbm, ⟨35, _⟩ => ⟨S32x256x1024, .f32⟩
  | .hbm, ⟨36, _⟩ => ⟨S1x1x1024, .f32⟩
  | .hbm, ⟨37, _⟩ => ⟨S32x256x1024, .f32⟩
  | .hbm, ⟨38, _⟩ => ⟨S32x256x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S32x256x1024, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S8192x1024, .f32⟩
  | .hbm, ⟨47, _⟩ => ⟨S4x2048x1024, .f32⟩
  | .hbm, ⟨48, _⟩ => ⟨S4x2048x1024, .f32⟩
  | .hbm, ⟨49, _⟩ => ⟨S_, .f32⟩
  | .hbm, ⟨50, _⟩ => ⟨S4x2048, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S4x2048x1, .f32⟩
  | .hbm, ⟨59, _⟩ => ⟨S4x2048x1024, .f32⟩
  | .hbm, ⟨60, _⟩ => ⟨S4x2048x1024, .f32⟩
  | .hbm, ⟨61, _⟩ => ⟨S1x1x1024, .f32⟩
  | .hbm, ⟨62, _⟩ => ⟨S4x2048x1024, .f32⟩
  | .hbm, ⟨63, _⟩ => ⟨S4x2048x1024, .f32⟩
  | .hbm, ⟨64, _⟩ => ⟨S_, .f32⟩
  | .hbm, ⟨65, _⟩ => ⟨S4x1x1024, .f32⟩
  | .hbm, ⟨66, _⟩ => ⟨S4x1x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S32x256x2048, .f32⟩
  | .hbm, ⟨72, _⟩ => ⟨S4x2048x2048, .f32⟩
  | .hbm, ⟨73, _⟩ => ⟨S8192x2048, .f32⟩
  | .hbm, ⟨74, _⟩ => ⟨S8192x2048, .f32⟩
  | .hbm, ⟨75, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== EvenOut.lean ====
abbrev S8192x512 : Shape := ⟨2, ![8192, 512]⟩
abbrev S16384x512 : Shape := ⟨2, ![16384, 512]⟩
abbrev S1024x1024 : Shape := ⟨2, ![1024, 1024]⟩
abbrev S16384x1024 : Shape := ⟨2, ![16384, 1024]⟩
abbrev S4x8x1x6144 : Shape := ⟨4, ![4, 8, 1, 6144]⟩
abbrev S512x512 : Shape := ⟨2, ![512, 512]⟩
abbrev S512x1024 : Shape := ⟨2, ![512, 1024]⟩
abbrev S1x1x1x1024 : Shape := ⟨4, ![1, 1, 1, 1024]⟩
abbrev S1x1024 : Shape := ⟨2, ![1, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S16384x512, .bf16⟩
  | .hbm, ⟨3, _⟩ => ⟨S1024x1024, .f32⟩
  | .hbm, ⟨4, _⟩ => ⟨S16384x1024, .f32⟩
  | .hbm, ⟨5, _⟩ => ⟨S4x8x1x6144, .f32⟩
  | .hbm, ⟨6, _⟩ => ⟨S1024x1024, .bf16⟩
  | .hbm, ⟨7, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S512x1024, .f32⟩
  | .local _ .vmem, ⟨14, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c2_i32 : BitVec 32 := 2#32
  let c0_i32_9 : BitVec 32 := 0#32
  ![c0_i32_7.toNat, v20.toNat, c0_i32_8.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenOutRefIdeal.lean ====
abbrev S8192x512 : Shape := ⟨2, ![8192, 512]⟩
abbrev S16384x512 : Shape := ⟨2, ![16384, 512]⟩
abbrev S1024x1024 : Shape := ⟨2, ![1024, 1024]⟩
abbrev S16384x1024 : Shape := ⟨2, ![16384, 1024]⟩
abbrev S4x8x1x6144 : Shape := ⟨4, ![4, 8, 1, 6144]⟩
abbrev S1x1x1x6144 : Shape := ⟨4, ![1, 1, 1, 6144]⟩
abbrev S1x6144 : Shape := ⟨2, ![1, 6144]⟩
abbrev S1x1x6144 : Shape := ⟨3, ![1, 1, 6144]⟩
abbrev S1x4x1x6144 : Shape := ⟨4, ![1, 4, 1, 6144]⟩
abbrev S4x1x6144 : Shape := ⟨3, ![4, 1, 6144]⟩
abbrev S1x1x1024 : Shape := ⟨3, ![1, 1, 1024]⟩
abbrev S4x1x1024 : Shape := ⟨3, ![4, 1, 1024]⟩
abbrev S8192x1024 : Shape := ⟨2, ![8192, 1024]⟩
abbrev S32x256x1024 : Shape := ⟨3, ![32, 256, 1024]⟩
abbrev S4x2048x1024 : Shape := ⟨3, ![4, 2048, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S16384x512, .bf16⟩
  | .hbm, ⟨3, _⟩ => ⟨S1024x1024, .f32⟩
  | .hbm, ⟨4, _⟩ => ⟨S16384x1024, .f32⟩
  | .hbm, ⟨5, _⟩ => ⟨S4x8x1x6144, .f32⟩
  | .hbm, ⟨6, _⟩ => ⟨S8192x512, .bf16⟩
  | .hbm, ⟨7, _⟩ => ⟨S8192x512, .bf16⟩
  | .hbm, ⟨8, _⟩ => ⟨S1x1x1x6144, .f32⟩
  | .hbm, ⟨9, _⟩ => ⟨S1x6144, .f32⟩
  | .hbm, ⟨10, _⟩ => ⟨S1x1x6144, .f32⟩
  | .hbm, ⟨11, _⟩ => ⟨S1x4x1x6144, .f32⟩
  | .hbm, ⟨12, _⟩ => ⟨S4x1x6144, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S4x1x1024, .f32⟩
  | .hbm, ⟨25, _⟩ => ⟨S8192x1024, .f32⟩
  | .hbm, ⟨26, _⟩ => ⟨S32x256x1024, .f32⟩
  | .hbm, ⟨27, _⟩ => ⟨S8192x1024, .bf16⟩
  | .hbm, ⟨28, _⟩ => ⟨S8192x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S8192x1024, .f32⟩
  | .hbm, ⟨35, _⟩ => ⟨S4x2048x1024, .f32⟩
  | .hbm, ⟨36, _⟩ => ⟨S8192x1024, .bf16⟩
  | .hbm, ⟨37, _⟩ => ⟨S8192x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S8192x1024, .f32⟩
  | .hbm, ⟨44, _⟩ => ⟨S8192x1024, .f32⟩
  | .hbm, ⟨45, _⟩ => ⟨S16384x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== OddOut.lean ====
abbrev S8192x512 : Shape := ⟨2, ![8192, 512]⟩
abbrev S1024x1024 : Shape := ⟨2, ![1024, 1024]⟩
abbrev S16384x1024 : Shape := ⟨2, ![16384, 1024]⟩
abbrev S4x8x1x6144 : Shape := ⟨4, ![4, 8, 1, 6144]⟩
abbrev S512x512 : Shape := ⟨2, ![512, 512]⟩
abbrev S512x1024 : Shape := ⟨2, ![512, 1024]⟩
abbrev S1x1x1x1024 : Shape := ⟨4, ![1, 1, 1, 1024]⟩
abbrev S1x1024 : Shape := ⟨2, ![1, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S1024x1024, .f32⟩
  | .hbm, ⟨5, _⟩ => ⟨S16384x1024, .f32⟩
  | .hbm, ⟨6, _⟩ => ⟨S4x8x1x6144, .f32⟩
  | .hbm, ⟨7, _⟩ => ⟨S1024x1024, .bf16⟩
  | .hbm, ⟨8, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S512x1024, .f32⟩
  | .local _ .vmem, ⟨14, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c0_i32_8 : BitVec 32 := 0#32
  let c2_i32 : BitVec 32 := 2#32
  let c0_i32_9 : BitVec 32 := 0#32
  ![c1_i32_7.toNat, v20.toNat, c0_i32_8.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OddOutRefIdeal.lean ====
abbrev S8192x512 : Shape := ⟨2, ![8192, 512]⟩
abbrev S1024x1024 : Shape := ⟨2, ![1024, 1024]⟩
abbrev S16384x1024 : Shape := ⟨2, ![16384, 1024]⟩
abbrev S4x8x1x6144 : Shape := ⟨4, ![4, 8, 1, 6144]⟩
abbrev S1x1x1x6144 : Shape := ⟨4, ![1, 1, 1, 6144]⟩
abbrev S1x6144 : Shape := ⟨2, ![1, 6144]⟩
abbrev S1x1x6144 : Shape := ⟨3, ![1, 1, 6144]⟩
abbrev S1x4x1x6144 : Shape := ⟨4, ![1, 4, 1, 6144]⟩
abbrev S4x1x6144 : Shape := ⟨3, ![4, 1, 6144]⟩
abbrev S1x1x1024 : Shape := ⟨3, ![1, 1, 1024]⟩
abbrev S4x1x1024 : Shape := ⟨3, ![4, 1, 1024]⟩
abbrev S8192x1024 : Shape := ⟨2, ![8192, 1024]⟩
abbrev S32x256x1024 : Shape := ⟨3, ![32, 256, 1024]⟩
abbrev S4x2048x1024 : Shape := ⟨3, ![4, 2048, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S1024x1024, .f32⟩
  | .hbm, ⟨5, _⟩ => ⟨S16384x1024, .f32⟩
  | .hbm, ⟨6, _⟩ => ⟨S4x8x1x6144, .f32⟩
  | .hbm, ⟨7, _⟩ => ⟨S1x1x1x6144, .f32⟩
  | .hbm, ⟨8, _⟩ => ⟨S1x6144, .f32⟩
  | .hbm, ⟨9, _⟩ => ⟨S1x1x6144, .f32⟩
  | .hbm, ⟨10, _⟩ => ⟨S1x4x1x6144, .f32⟩
  | .hbm, ⟨11, _⟩ => ⟨S4x1x6144, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S8192x1024, .f32⟩
  | .hbm, ⟨25, _⟩ => ⟨S32x256x1024, .f32⟩
  | .hbm, ⟨26, _⟩ => ⟨S8192x1024, .bf16⟩
  | .hbm, ⟨27, _⟩ => ⟨S8192x1024, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S8192x1024, .f32⟩
  | .hbm, ⟨34, _⟩ => ⟨S4x2048x1024, .f32⟩
  | .hbm, ⟨35, _⟩ => ⟨S8192x1024, .bf16⟩
  | .hbm, ⟨36, _⟩ => ⟨S8192x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S8192x1024, .f32⟩
  | .hbm, ⟨43, _⟩ => ⟨S8192x1024, .f32⟩
  | .hbm, ⟨44, _⟩ => ⟨S16384x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== FinalContext.lean ====
abbrev S16384x1024 : Shape := ⟨2, ![16384, 1024]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalContextRefIdeal.lean ====
abbrev S16384x1024 : Shape := ⟨2, ![16384, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinalLatent.lean ====
abbrev S16384x1024 : Shape := ⟨2, ![16384, 1024]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalLatentRefIdeal.lean ====
abbrev S16384x1024 : Shape := ⟨2, ![16384, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Sgu.lean ====
abbrev S16384x3200 : Shape := ⟨2, ![16384, 3200]⟩
abbrev S128 : Shape := ⟨1, ![128]⟩
abbrev S4x128x128 : Shape := ⟨3, ![4, 128, 128]⟩
abbrev S4x128 : Shape := ⟨2, ![4, 128]⟩
abbrev S4x128x1 : Shape := ⟨3, ![4, 128, 1]⟩
abbrev S1x128 : Shape := ⟨2, ![1, 128]⟩
abbrev S16384x512 : Shape := ⟨2, ![16384, 512]⟩
abbrev S512x128 : Shape := ⟨2, ![512, 128]⟩
abbrev S1x128x128 : Shape := ⟨3, ![1, 128, 128]⟩
abbrev S512 : Shape := ⟨1, ![512]⟩
abbrev S512x1 : Shape := ⟨2, ![512, 1]⟩
abbrev S128x128 : Shape := ⟨2, ![128, 128]⟩

abbrev nBuf : Space → Nat
  | .hbm => 9
  | .vmem => 11
  | .smem => 0
  | _ => 0

abbrev bufTy : (tb : Table) → Fin (tcTables nBuf tb) → BufTy
  | .hbm, ⟨0, _⟩ => ⟨S16384x3200, .f32⟩
  | .hbm, ⟨1, _⟩ => ⟨S128, .f32⟩
  | .hbm, ⟨2, _⟩ => ⟨S4x128x128, .f32⟩
  | .hbm, ⟨3, _⟩ => ⟨S4x128, .f32⟩
  | .hbm, ⟨4, _⟩ => ⟨S4x128x1, .f32⟩
  | .hbm, ⟨5, _⟩ => ⟨S4x128x128, .f32⟩
  | .hbm, ⟨6, _⟩ => ⟨S1x128, .f32⟩
  | .hbm, ⟨7, _⟩ => ⟨S4x128x128, .bf16⟩
  | .hbm, ⟨8, _⟩ => ⟨S16384x512, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128x128, .bf16⟩
  | .local _ .vmem, ⟨6, _⟩ => ⟨S1x128x128, .bf16⟩
  | .local _ .vmem, ⟨7, _⟩ => ⟨S1x128x128, .f32⟩
  | .local _ .vmem, ⟨8, _⟩ => ⟨S1x128x128, .f32⟩
  | .local _ .vmem, ⟨9, _⟩ => ⟨S512x128, .bf16⟩
  | .local _ .vmem, ⟨10, _⟩ => ⟨S512x128, .bf16⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SguRefIdeal.lean ====
abbrev S16384x3200 : Shape := ⟨2, ![16384, 3200]⟩
abbrev S128 : Shape := ⟨1, ![128]⟩
abbrev S4x128x128 : Shape := ⟨3, ![4, 128, 128]⟩
abbrev S4x128 : Shape := ⟨2, ![4, 128]⟩
abbrev S16384x512 : Shape := ⟨2, ![16384, 512]⟩
abbrev S8192x512 : Shape := ⟨2, ![8192, 512]⟩
abbrev S32x256x512 : Shape := ⟨3, ![32, 256, 512]⟩
abbrev S_ : Shape := ⟨0, ![]⟩
abbrev S32x256x4x128 : Shape := ⟨4, ![32, 256, 4, 128]⟩
abbrev S32x256x4 : Shape := ⟨3, ![32, 256, 4]⟩
abbrev S32x256x4x1 : Shape := ⟨4, ![32, 256, 4, 1]⟩
abbrev S1x1x1x128 : Shape := ⟨4, ![1, 1, 1, 128]⟩
abbrev S32x2x128x4x128 : Shape := ⟨5, ![32, 2, 128, 4, 128]⟩
abbrev S4x32x2x128x128 : Shape := ⟨5, ![4, 32, 2, 128, 128]⟩
abbrev S128x4 : Shape := ⟨2, ![128, 4]⟩
abbrev S1x1x128x4x1 : Shape := ⟨5, ![1, 1, 128, 4, 1]⟩
abbrev S4x2048x512 : Shape := ⟨3, ![4, 2048, 512]⟩
abbrev S4x2048x4x128 : Shape := ⟨4, ![4, 2048, 4, 128]⟩
abbrev S4x2048x4 : Shape := ⟨3, ![4, 2048, 4]⟩
abbrev S4x2048x4x1 : Shape := ⟨4, ![4, 2048, 4, 1]⟩
abbrev S4x16x128x4x128 : Shape := ⟨5, ![4, 16, 128, 4, 128]⟩
abbrev S4x4x16x128x128 : Shape := ⟨5, ![4, 4, 16, 128, 128]⟩

abbrev nBuf : Space → Nat
  | .hbm => 142
  | .vmem => 0
  | .smem => 0
  | _ => 0

abbrev hbmTy0_0 (i : Nat) : BufTy := match i % 128 with
  | 0 => ⟨S16384x3200, .f32⟩
  | 1 => ⟨S128, .f32⟩
  | 2 => ⟨S4x128x128, .f32⟩
  | 3 => ⟨S4x128, .f32⟩
  | 4 => ⟨S16384x512, .f32⟩
  | 5 => ⟨S16384x512, .f32⟩
  | 6 => ⟨S8192x512, .f32⟩
  | 7 => ⟨S32x256x512, .f32⟩
  | 8 => ⟨S8192x512, .f32⟩
  | 9 => ⟨S32x256x512, .f32⟩
  | 10 => ⟨S32x256x512, .f32⟩
  | 11 => ⟨S32x256x512, .f32⟩
  | 12 => ⟨S_, .f32⟩
  | 13 => ⟨S32x256x512, .f32⟩
  | 14 => ⟨S32x256x512, .f32⟩
  | 15 => ⟨S32x256x512, .f32⟩
  | 16 => ⟨S_, .f32⟩
  | 17 => ⟨S32x256x512, .f32⟩
  | 18 => ⟨S32x256x512, .f32⟩
  | 19 => ⟨S32x256x512, .f32⟩
  | 20 => ⟨S_, .f32⟩
  | 21 => ⟨S32x256x512, .f32⟩
  | 22 => ⟨S32x256x512, .f32⟩
  | 23 => ⟨S_, .f32⟩
  | 24 => ⟨S32x256x512, .f32⟩
  | 25 => ⟨S32x256x512, .f32⟩
  | 26 => ⟨S32x256x512, .f32⟩
  | 27 => ⟨S32x256x4x128, .f32⟩
  | 28 => ⟨S32x256x512, .f32⟩
  | 29 => ⟨S32x256x512, .f32⟩
  | 30 => ⟨S_, .f32⟩
  | 31 => ⟨S32x256x512, .f32⟩
  | 32 => ⟨S32x256x512, .f32⟩
  | 33 => ⟨S32x256x512, .f32⟩
  | 34 => ⟨S_, .f32⟩
  | 35 => ⟨S32x256x512, .f32⟩
  | 36 => ⟨S32x256x512, .f32⟩
  | 37 => ⟨S32x256x512, .f32⟩
  | 38 => ⟨S_, .f32⟩
  | 39 => ⟨S32x256x512, .f32⟩
  | 40 => ⟨S32x256x512, .f32⟩
  | 41 => ⟨S_, .f32⟩
  | 42 => ⟨S32x256x512, .f32⟩
  | 43 => ⟨S32x256x512, .f32⟩
  | 44 => ⟨S32x256x512, .f32⟩
  | 45 => ⟨S32x256x4x128, .f32⟩
  | 46 => ⟨S32x256x4x128, .f32⟩
  | 47 => ⟨S_, .f32⟩
  | 48 => ⟨S32x256x4, .f32⟩
  | 49 => ⟨S32x256x4x1, .f32⟩
  | 50 => ⟨S_, .f32⟩
  | 51 => ⟨S32x256x4x1, .f32⟩
  | 52 => ⟨S32x256x4x1, .f32⟩
  | 53 => ⟨S_, .f32⟩
  | 54 => ⟨S32x256x4x1, .f32⟩
  | 55 => ⟨S32x256x4x1, .f32⟩
  | 56 => ⟨S32x256x4x1, .f32⟩
  | 57 => ⟨S32x256x4x128, .f32⟩
  | 58 => ⟨S32x256x4x128, .f32⟩
  | 59 => ⟨S1x1x1x128, .f32⟩
  | 60 => ⟨S32x256x4x128, .f32⟩
  | 61 => ⟨S32x256x4x128, .f32⟩
  | 62 => ⟨S32x2x128x4x128, .f32⟩
  | 63 => ⟨S4x32x2x128x128, .f32⟩
  | 64 => ⟨S32x2x128x4x128, .f32⟩
  | 65 => ⟨S128x4, .f32⟩
  | 66 => ⟨S1x1x128x4x1, .f32⟩
  | 67 => ⟨S32x2x128x4x128, .f32⟩
  | 68 => ⟨S32x2x128x4x128, .f32⟩
  | 69 => ⟨S32x256x4x128, .f32⟩
  | 70 => ⟨S32x256x4x128, .f32⟩
  | 71 => ⟨S32x256x512, .f32⟩
  | 72 => ⟨S8192x512, .f32⟩
  | 73 => ⟨S4x2048x512, .f32⟩
  | 74 => ⟨S8192x512, .f32⟩
  | 75 => ⟨S4x2048x512, .f32⟩
  | 76 => ⟨S4x2048x512, .f32⟩
  | 77 => ⟨S4x2048x512, .f32⟩
  | 78 => ⟨S_, .f32⟩
  | 79 => ⟨S4x2048x512, .f32⟩
  | 80 => ⟨S4x2048x512, .f32⟩
  | 81 => ⟨S4x2048x512, .f32⟩
  | 82 => ⟨S_, .f32⟩
  | 83 => ⟨S4x2048x512, .f32⟩
  | 84 => ⟨S4x2048x512, .f32⟩
  | 85 => ⟨S4x2048x512, .f32⟩
  | 86 => ⟨S_, .f32⟩
  | 87 => ⟨S4x2048x512, .f32⟩
  | 88 => ⟨S4x2048x512, .f32⟩
  | 89 => ⟨S_, .f32⟩
  | 90 => ⟨S4x2048x512, .f32⟩
  | 91 => ⟨S4x2048x512, .f32⟩
  | 92 => ⟨S4x2048x512, .f32⟩
  | 93 => ⟨S4x2048x4x128, .f32⟩
  | 94 => ⟨S4x2048x512, .f32⟩
  | 95 => ⟨S4x2048x512, .f32⟩
  | 96 => ⟨S_, .f32⟩
  | 97 => ⟨S4x2048x512, .f32⟩
  | 98 => ⟨S4x2048x512, .f32⟩
  | 99 => ⟨S4x2048x512, .f32⟩
  | 100 => ⟨S_, .f32⟩
  | 101 => ⟨S4x2048x512, .f32⟩
  | 102 => ⟨S4x2048x512, .f32⟩
  | 103 => ⟨S4x2048x512, .f32⟩
  | 104 => ⟨S_, .f32⟩
  | 105 => ⟨S4x2048x512, .f32⟩
  | 106 => ⟨S4x2048x512, .f32⟩
  | 107 => ⟨S_, .f32⟩
  | 108 => ⟨S4x2048x512, .f32⟩
  | 109 => ⟨S4x2048x512, .f32⟩
  | 110 => ⟨S4x2048x512, .f32⟩
  | 111 => ⟨S4x2048x4x128, .f32⟩
  | 112 => ⟨S4x2048x4x128, .f32⟩
  | 113 => ⟨S_, .f32⟩
  | 114 => ⟨S4x2048x4, .f32⟩
  | 115 => ⟨S4x2048x4x1, .f32⟩
  | 116 => ⟨S_, .f32⟩
  | 117 => ⟨S4x2048x4x1, .f32⟩
  | 118 => ⟨S4x2048x4x1, .f32⟩
  | 119 => ⟨S_, .f32⟩
  | 120 => ⟨S4x2048x4x1, .f32⟩
  | 121 => ⟨S4x2048x4x1, .f32⟩
  | 122 => ⟨S4x2048x4x1, .f32⟩
  | 123 => ⟨S4x2048x4x128, .f32⟩
  | 124 => ⟨S4x2048x4x128, .f32⟩
  | 125 => ⟨S1x1x1x128, .f32⟩
  | 126 => ⟨S4x2048x4x128, .f32⟩
  | 127 => ⟨S4x2048x4x128, .f32⟩
  | _ => ⟨S16384x3200, .f32⟩

abbrev hbmTy0_1 (i : Nat) : BufTy := match i % 128 with
  | 0 => ⟨S4x16x128x4x128, .f32⟩
  | 1 => ⟨S4x4x16x128x128, .f32⟩
  | 2 => ⟨S4x16x128x4x128, .f32⟩
  | 3 => ⟨S128x4, .f32⟩
  | 4 => ⟨S1x1x128x4x1, .f32⟩
  | 5 => ⟨S4x16x128x4x128, .f32⟩
  | 6 => ⟨S4x16x128x4x128, .f32⟩
  | 7 => ⟨S4x2048x4x128, .f32⟩
  | 8 => ⟨S4x2048x4x128, .f32⟩
  | 9 => ⟨S4x2048x512, .f32⟩
  | 10 => ⟨S8192x512, .f32⟩
  | 11 => ⟨S8192x512, .f32⟩
  | 12 => ⟨S16384x512, .f32⟩
  | 13 => ⟨S16384x512, .bf16⟩
  | _ => ⟨S16384x3200, .f32⟩

abbrev hbmTy (i : Nat) : BufTy := match i / 128 with
  | 0 => hbmTy0_0 i
  | 1 => hbmTy0_1 i
  | _ => ⟨S16384x3200, .f32⟩

abbrev bufTy : (tb : Table) → Fin (tcTables nBuf tb) → BufTy
  | .hbm, ⟨i, _⟩ => hbmTy i
  | _, _ => ⟨S16384x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_12 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_14 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_15 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_16 : Ref sig .tc := ⟨.hbm, 104, rfl⟩
abbrev main_v83 : Ref sig .tc := ⟨.hbm, 105, rfl⟩
abbrev main_v84 : Ref sig .tc := ⟨.hbm, 106, rfl⟩
abbrev main_cst_17 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_18 : Ref sig .tc := ⟨.hbm, 113, rfl⟩
abbrev main_v90 : Ref sig .tc := ⟨.hbm, 114, rfl⟩
abbrev main_v91 : Ref sig .tc := ⟨.hbm, 115, rfl⟩
abbrev main_cst_19 : Ref sig .tc := ⟨.hbm, 116, rfl⟩
abbrev main_v92 : Ref sig .tc := ⟨.hbm, 117, rfl⟩
abbrev main_v93 : Ref sig .tc := ⟨.hbm, 118, rfl⟩
abbrev main_cst_20 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩

abbrev nD : Nat := 1
abbrev τ : Topo := Topo.v7x

variable {F : FTy → Type} [FloatOps F]
-- ==== Conv.lean ====
abbrev S16384x2048 : Shape := ⟨2, ![16384, 2048]⟩
abbrev S3x512 : Shape := ⟨2, ![3, 512]⟩
abbrev S8192x512 : Shape := ⟨2, ![8192, 512]⟩
abbrev S2048x128 : Shape := ⟨2, ![2048, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S3x512, .f32⟩
  | .hbm, ⟨2, _⟩ => ⟨S8192x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S16384x2048 : Shape := ⟨2, ![16384, 2048]⟩
abbrev S3x512 : Shape := ⟨2, ![3, 512]⟩
abbrev S8192x2048 : Shape := ⟨2, ![8192, 2048]⟩
abbrev S32x256x2048 : Shape := ⟨3, ![32, 256, 2048]⟩
abbrev S32x256x512 : Shape := ⟨3, ![32, 256, 512]⟩
abbrev S_ : Shape := ⟨0, ![]⟩
abbrev S32x258x512 : Shape := ⟨3, ![32, 258, 512]⟩
abbrev S1x512 : Shape := ⟨2, ![1, 512]⟩
abbrev S512 : Shape := ⟨1, ![512]⟩
abbrev S1x1x512 : Shape := ⟨3, ![1, 1, 512]⟩
abbrev S8192x512 : Shape := ⟨2, ![8192, 512]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S3x512, .f32⟩
  | .hbm, ⟨2, _⟩ => ⟨S8192x2048, .f32⟩
  | .hbm, ⟨3, _⟩ => ⟨S32x256x2048, .f32⟩
  | .hbm, ⟨4, _⟩ => ⟨S32x256x512, .f32⟩
  | .hbm, ⟨5, _⟩ => ⟨S32x256x512, .f32⟩
  | .hbm, ⟨6, _⟩ => ⟨S32x256x512, .f32⟩
  | .hbm, ⟨7, _⟩ => ⟨S32x256x512, .f32⟩
  | .hbm, ⟨8, _⟩ => ⟨S32x256x512, .f32⟩
  | .hbm, ⟨9, _⟩ => ⟨S_, .i32⟩
  | .hbm, ⟨10, _⟩ => ⟨S_, .f32⟩
  | .hbm, ⟨11, _⟩ => ⟨S32x258x512, .f32⟩
  | .hbm, ⟨12, _⟩ => ⟨S32x256x512, .f32⟩
  | .hbm, ⟨13, _⟩ => ⟨S1x512, .f32⟩
  | .hbm, ⟨14, _⟩ => ⟨S512, .f32⟩
  | .hbm, ⟨15, _⟩ => ⟨S1x1x512, .f32⟩
  | .hbm, ⟨16, _⟩ => ⟨S32x256x512, .f32⟩
  | .hbm, ⟨17, _⟩ => ⟨S32x256x512, .f32⟩
  | .hbm, ⟨18, _⟩ => ⟨S32x256x512, .f32⟩
  | .hbm, ⟨19, _⟩ => ⟨S1x512, .f32⟩
  | .hbm, ⟨20, _⟩ => ⟨S512, .f32⟩
  | .hbm, ⟨21, _⟩ => ⟨S1x1x512, .f32⟩
  | .hbm, ⟨22, _⟩ => ⟨S32x256x512, .f32⟩
  | .hbm, ⟨23, _⟩ => ⟨S32x256x512, .f32⟩
  | .hbm, ⟨24, _⟩ => ⟨S32x256x512, .f32⟩
  | .hbm, ⟨25, _⟩ => ⟨S32x256x512, .f32⟩
  | .hbm, ⟨26, _⟩ => ⟨S1x512, .f32⟩
  | .hbm, ⟨27, _⟩ => ⟨S512, .f32⟩
  | .hbm, ⟨28, _⟩ => ⟨S1x1x512, .f32⟩
  | .hbm, ⟨29, _⟩ => ⟨S32x256x512, .f32⟩
  | .hbm, ⟨30, _⟩ => ⟨S32x256x512, .f32⟩
  | .hbm, ⟨31, _⟩ => ⟨S32x256x512, .f32⟩
  | .hbm, ⟨32, _⟩ => ⟨S32x256x512, .f32⟩
  | .hbm, ⟨33, _⟩ => ⟨S8192x512, .f32⟩
  | .hbm, ⟨34, _⟩ => ⟨S8192x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== ConvLatent.lean ====
abbrev S16384x2048 : Shape := ⟨2, ![16384, 2048]⟩
abbrev S3x512 : Shape := ⟨2, ![3, 512]⟩
abbrev S8192x512 : Shape := ⟨2, ![8192, 512]⟩
abbrev S2048x128 : Shape := ⟨2, ![2048, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S3x512, .f32⟩
  | .hbm, ⟨2, _⟩ => ⟨S8192x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let v1 : BitVec 32 := Scalar.addi c0_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c4_i32_0 : BitVec 32 := 4#32
  let v1 : BitVec 32 := Scalar.addi c4_i32_0 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c8_i32 : BitVec 32 := 8#32
  let v1 : BitVec 32 := Scalar.addi c8_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvLatentRefIdeal.lean ====
abbrev S16384x2048 : Shape := ⟨2, ![16384, 2048]⟩
abbrev S3x512 : Shape := ⟨2, ![3, 512]⟩
abbrev S8192x2048 : Shape := ⟨2, ![8192, 2048]⟩
abbrev S4x2048x2048 : Shape := ⟨3, ![4, 2048, 2048]⟩
abbrev S4x2048x512 : Shape := ⟨3, ![4, 2048, 512]⟩
abbrev S_ : Shape := ⟨0, ![]⟩
abbrev S4x2050x512 : Shape := ⟨3, ![4, 2050, 512]⟩
abbrev S1x512 : Shape := ⟨2, ![1, 512]⟩
abbrev S512 : Shape := ⟨1, ![512]⟩
abbrev S1x1x512 : Shape := ⟨3, ![1, 1, 512]⟩
abbrev S8192x512 : Shape := ⟨2, ![8192, 512]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S3x512, .f32⟩
  | .hbm, ⟨2, _⟩ => ⟨S8192x2048, .f32⟩
  | .hbm, ⟨3, _⟩ => ⟨S4x2048x2048, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x512, .f32⟩
  | .hbm, ⟨8, _⟩ => ⟨S4x2048x512, .f32⟩
  | .hbm, ⟨9, _⟩ => ⟨S_, .i32⟩
  | .hbm, ⟨10, _⟩ => ⟨S_, .f32⟩
  | .hbm, ⟨11, _⟩ => ⟨S4x2050x512, .f32⟩
  | .hbm, ⟨12, _⟩ => ⟨S4x2048x512, .f32⟩
  | .hbm, ⟨13, _⟩ => ⟨S1x512, .f32⟩
  | .hbm, ⟨14, _⟩ => ⟨S512, .f32⟩
  | .hbm, ⟨15, _⟩ => ⟨S1x1x512, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S1x512, .f32⟩
  | .hbm, ⟨20, _⟩ => ⟨S512, .f32⟩
  | .hbm, ⟨21, _⟩ => ⟨S1x1x512, .f32⟩
  | .hbm, ⟨22, _⟩ => ⟨S4x2048x512, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S1x512, .f32⟩
  | .hbm, ⟨27, _⟩ => ⟨S512, .f32⟩
  | .hbm, ⟨28, _⟩ => ⟨S1x1x512, .f32⟩
  | .hbm, ⟨29, _⟩ => ⟨S4x2048x512, .f32⟩
  | .hbm, ⟨30, _⟩ => ⟨S4x2048x512, .f32⟩
  | .hbm, ⟨31, _⟩ => ⟨S4x2048x512, .f32⟩
  | .hbm, ⟨32, _⟩ => ⟨S4x2048x512, .f32⟩
  | .hbm, ⟨33, _⟩ => ⟨S8192x512, .f32⟩
  | .hbm, ⟨34, _⟩ => ⟨S8192x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Fourier.lean ====
abbrev S16384x2048 : Shape := ⟨2, ![16384, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8192x512 : Shape := ⟨2, ![8192, 512]⟩
abbrev S256x512 : Shape := ⟨2, ![256, 512]⟩
abbrev S256x128 : Shape := ⟨2, ![256, 128]⟩

abbrev nBuf : Space → Nat
  | .hbm => 74
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S128x128, .i32⟩
  | .hbm, ⟨20, _⟩ => ⟨S128x128, .i1⟩
  | .hbm, ⟨21, _⟩ => ⟨S_, .i32⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S128x128, .i1⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .bf16⟩
  | .hbm, ⟨37, _⟩ => ⟨S256, .i32⟩
  | .hbm, ⟨38, _⟩ => ⟨S256x1, .i32⟩
  | .hbm, ⟨39, _⟩ => ⟨S1x256, .i32⟩
  | .hbm, ⟨40, _⟩ => ⟨S256x256, .i32⟩
  | .hbm, ⟨41, _⟩ => ⟨S256x256, .i32⟩
  | .hbm, ⟨42, _⟩ => ⟨S256x256, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S256x256, .i32⟩
  | .hbm, ⟨50, _⟩ => ⟨S256x256, .i32⟩
  | .hbm, ⟨51, _⟩ => ⟨S_, .i32⟩
  | .hbm, ⟨52, _⟩ => ⟨S256x256, .i32⟩
  | .hbm, ⟨53, _⟩ => ⟨S256x256, .i1⟩
  | .hbm, ⟨54, _⟩ => ⟨S_, .i32⟩
  | .hbm, ⟨55, _⟩ => ⟨S256x256, .i32⟩
  | .hbm, ⟨56, _⟩ => ⟨S256x256, .i1⟩
  | .hbm, ⟨57, _⟩ => ⟨S_, .i32⟩
  | .hbm, ⟨58, _⟩ => ⟨S_, .i1⟩
  | .hbm, ⟨59, _⟩ => ⟨S256x256, .i1⟩
  | .hbm, ⟨60, _⟩ => ⟨S256x256, .i1⟩
  | .hbm, ⟨61, _⟩ => ⟨S256x256, .i1⟩
  | .hbm, ⟨62, _⟩ => ⟨S256x256, .i32⟩
  | .hbm, ⟨63, _⟩ => ⟨S256x256, .i32⟩
  | .hbm, ⟨64, _⟩ => ⟨S256x256, .i32⟩
  | .hbm, ⟨65, _⟩ => ⟨S256x256, .f32⟩
  | .hbm, ⟨66, _⟩ => ⟨S_, .f32⟩
  | .hbm, ⟨67, _⟩ => ⟨S256x256, .f32⟩
  | .hbm, ⟨68, _⟩ => ⟨S256x256, .f32⟩
  | .hbm, ⟨69, _⟩ => ⟨S256x256, .f32⟩
  | .hbm, ⟨70, _⟩ => ⟨S256x256, .bf16⟩
  | .hbm, ⟨71, _⟩ => ⟨S256x256, .f32⟩
  | .hbm, ⟨72, _⟩ => ⟨S256x256, .bf16⟩
  | .hbm, ⟨73, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S128x128, .bf16⟩
  | .local _ .vmem, ⟨3, _⟩ => ⟨S128x128, .bf16⟩
  | .local _ .vmem, ⟨4, _⟩ => ⟨S256x256, .bf16⟩
  | .local _ .vmem, ⟨5, _⟩ => ⟨S256x256, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_0 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v20 : Ref sig .tc := ⟨.hbm, 64, rfl⟩
abbrev main_v21 : Ref sig .tc := ⟨.hbm, 65, rfl⟩
abbrev main_cst_1 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  ![v0.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FourierRefIdeal.lean ====
abbrev S16384x2048 : Shape := ⟨2, ![16384, 2048]⟩
abbrev S8192x2048 : Shape := ⟨2, ![8192, 2048]⟩
abbrev S32x256x2048 : Shape := ⟨3, ![32, 256, 2048]⟩
abbrev S32x256x512 : Shape := ⟨3, ![32, 256, 512]⟩
abbrev S32x256x4x128 : Shape := ⟨4, ![32, 256, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32x4x128x256 : Shape := ⟨4, ![32, 4, 128, 256]⟩
abbrev S8192x512 : Shape := ⟨2, ![8192, 512]⟩

abbrev nBuf : Space → Nat
  | .hbm => 88
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S32x256x2048, .f32⟩
  | .hbm, ⟨3, _⟩ => ⟨S32x256x512, .f32⟩
  | .hbm, ⟨4, _⟩ => ⟨S32x256x512, .f32⟩
  | .hbm, ⟨5, _⟩ => ⟨S32x256x512, .f32⟩
  | .hbm, ⟨6, _⟩ => ⟨S32x256x512, .f32⟩
  | .hbm, ⟨7, _⟩ => ⟨S32x256x4x128, .f32⟩
  | .hbm, ⟨8, _⟩ => ⟨S128, .i32⟩
  | .hbm, ⟨9, _⟩ => ⟨S128x1, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i1⟩
  | .hbm, ⟨25, _⟩ => ⟨S_, .i32⟩
  | .hbm, ⟨26, _⟩ => ⟨S128x128, .i32⟩
  | .hbm, ⟨27, _⟩ => ⟨S128x128, .i1⟩
  | .hbm, ⟨28, _⟩ => ⟨S_, .i32⟩
  | .hbm, ⟨29, _⟩ => ⟨S_, .i1⟩
  | .hbm, ⟨30, _⟩ => ⟨S128x128, .i1⟩
  | .hbm, ⟨31, _⟩ => ⟨S128x128, .i1⟩
  | .hbm, ⟨32, _⟩ => ⟨S128x128, .i1⟩
  | .hbm, ⟨33, _⟩ => ⟨S128x128, .i32⟩
  | .hbm, ⟨34, _⟩ => ⟨S128x128, .i32⟩
  | .hbm, ⟨35, _⟩ => ⟨S128x128, .i32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S256, .i32⟩
  | .hbm, ⟨43, _⟩ => ⟨S256x1, .i32⟩
  | .hbm, ⟨44, _⟩ => ⟨S1x256, .i32⟩
  | .hbm, ⟨45, _⟩ => ⟨S256x256, .i32⟩
  | .hbm, ⟨46, _⟩ => ⟨S256x256, .i32⟩
  | .hbm, ⟨47, _⟩ => ⟨S256x256, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S256x256, .i32⟩
  | .hbm, ⟨55, _⟩ => ⟨S256x256, .i32⟩
  | .hbm, ⟨56, _⟩ => ⟨S_, .i32⟩
  | .hbm, ⟨57, _⟩ => ⟨S256x256, .i32⟩
  | .hbm, ⟨58, _⟩ => ⟨S256x256, .i1⟩
  | .hbm, ⟨59, _⟩ => ⟨S_, .i32⟩
  | .hbm, ⟨60, _⟩ => ⟨S256x256, .i32⟩
  | .hbm, ⟨61, _⟩ => ⟨S256x256, .i1⟩
  | .hbm, ⟨62, _⟩ => ⟨S_, .i32⟩
  | .hbm, ⟨63, _⟩ => ⟨S_, .i1⟩
  | .hbm, ⟨64, _⟩ => ⟨S256x256, .i1⟩
  | .hbm, ⟨65, _⟩ => ⟨S256x256, .i1⟩
  | .hbm, ⟨66, _⟩ => ⟨S256x256, .i1⟩
  | .hbm, ⟨67, _⟩ => ⟨S256x256, .i32⟩
  | .hbm, ⟨68, _⟩ => ⟨S256x256, .i32⟩
  | .hbm, ⟨69, _⟩ => ⟨S256x256, .i32⟩
  | .hbm, ⟨70, _⟩ => ⟨S256x256, .f32⟩
  | .hbm, ⟨71, _⟩ => ⟨S_, .f32⟩
  | .hbm, ⟨72, _⟩ => ⟨S256x256, .f32⟩
  | .hbm, ⟨73, _⟩ => ⟨S256x256, .f32⟩
  | .hbm, ⟨74, _⟩ => ⟨S256x256, .f32⟩
  | .hbm, ⟨75, _⟩ => ⟨S256x256, .f32⟩
  | .hbm, ⟨76, _⟩ => ⟨S32x256x4x128, .f32⟩
  | .hbm, ⟨77, _⟩ => ⟨S32x256x4x128, .f32⟩
  | .hbm, ⟨78, _⟩ => ⟨S32x4x128x256, .f32⟩
  | .hbm, ⟨79, _⟩ => ⟨S32x256x4x128, .f32⟩
  | .hbm, ⟨80, _⟩ => ⟨S32x4x128x256, .f32⟩
  | .hbm, ⟨81, _⟩ => ⟨S32x256x4x128, .f32⟩
  | .hbm, ⟨82, _⟩ => ⟨S32x256x4x128, .f32⟩
  | .hbm, ⟨83, _⟩ => ⟨S_, .f32⟩
  | .hbm, ⟨84, _⟩ => ⟨S32x256x4x128, .f32⟩
  | .hbm, ⟨85, _⟩ => ⟨S32x256x4x128, .f32⟩
  | .hbm, ⟨86, _⟩ => ⟨S8192x512, .f32⟩
  | .hbm, ⟨87, _⟩ => ⟨S8192x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_0 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v25 : Ref sig .tc := ⟨.hbm, 69, rfl⟩
abbrev main_v26 : Ref sig .tc := ⟨.hbm, 70, rfl⟩
abbrev main_cst_1 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_2 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩

abbrev nD : Nat := 1
abbrev τ : Topo := Topo.v7x

variable {F : FTy → Type} [FloatOps F]
-- ==== Embed.lean ====
abbrev S32x256x1024 : Shape := ⟨3, ![32, 256, 1024]⟩
abbrev S4x2048x1024 : Shape := ⟨3, ![4, 2048, 1024]⟩
abbrev S2048x1024 : Shape := ⟨2, ![2048, 1024]⟩
abbrev S8192x1024 : Shape := ⟨2, ![8192, 1024]⟩
abbrev S16384x1024 : Shape := ⟨2, ![16384, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S32x256x1024, .f32⟩
  | .hbm, ⟨1, _⟩ => ⟨S4x2048x1024, .f32⟩
  | .hbm, ⟨2, _⟩ => ⟨S2048x1024, .f32⟩
  | .hbm, ⟨3, _⟩ => ⟨S8192x1024, .f32⟩
  | .hbm, ⟨4, _⟩ => ⟨S8192x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EmbedRefIdeal.lean ====
abbrev S32x256x1024 : Shape := ⟨3, ![32, 256, 1024]⟩
abbrev S4x2048x1024 : Shape := ⟨3, ![4, 2048, 1024]⟩
abbrev S2048x1024 : Shape := ⟨2, ![2048, 1024]⟩
abbrev S1x2048x1024 : Shape := ⟨3, ![1, 2048, 1024]⟩
abbrev S8192x1024 : Shape := ⟨2, ![8192, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S4x2048x1024, .f32⟩
  | .hbm, ⟨2, _⟩ => ⟨S2048x1024, .f32⟩
  | .hbm, ⟨3, _⟩ => ⟨S1x2048x1024, .f32⟩
  | .hbm, ⟨4, _⟩ => ⟨S4x2048x1024, .f32⟩
  | .hbm, ⟨5, _⟩ => ⟨S4x2048x1024, .f32⟩
  | .hbm, ⟨6, _⟩ => ⟨S8192x1024, .f32⟩
  | .hbm, ⟨7, _⟩ => ⟨S8192x1024, .f32⟩
  | .hbm, ⟨8, _⟩ => ⟨S16384x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mod.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 76
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S8x1024, .f32⟩
  | .hbm, ⟨38, _⟩ => ⟨S8x1024, .f32⟩
  | .hbm, ⟨39, _⟩ => ⟨S_, .f32⟩
  | .hbm, ⟨40, _⟩ => ⟨S8x1024, .f32⟩
  | .hbm, ⟨41, _⟩ => ⟨S8x1024, .f32⟩
  | .hbm, ⟨42, _⟩ => ⟨S_, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S1x1024x6144, .f32⟩
  | .hbm, ⟨47, _⟩ => ⟨S1024x6144, .f32⟩
  | .hbm, ⟨48, _⟩ => ⟨S8x6144, .f32⟩
  | .hbm, ⟨49, _⟩ => ⟨S1x6144, .f32⟩
  | .hbm, ⟨50, _⟩ => ⟨S6144, .f32⟩
  | .hbm, ⟨51, _⟩ => ⟨S1x6144, .f32⟩
  | .hbm, ⟨52, _⟩ => ⟨S8x6144, .f32⟩
  | .hbm, ⟨53, _⟩ => ⟨S8x6144, .f32⟩
  | .hbm, ⟨54, _⟩ => ⟨S8x1024, .f32⟩
  | .hbm, ⟨55, _⟩ => ⟨S8x1024, .f32⟩
  | .hbm, ⟨56, _⟩ => ⟨S_, .f32⟩
  | .hbm, ⟨57, _⟩ => ⟨S8x1024, .f32⟩
  | .hbm, ⟨58, _⟩ => ⟨S8x1024, .f32⟩
  | .hbm, ⟨59, _⟩ => ⟨S_, .f32⟩
  | .hbm, ⟨60, _⟩ => ⟨S8x1024, .f32⟩
  | .hbm, ⟨61, _⟩ => ⟨S8x1024, .f32⟩
  | .hbm, ⟨62, _⟩ => ⟨S8x1024, .f32⟩
  | .hbm, ⟨63, _⟩ => ⟨S1x1024x6144, .f32⟩
  | .hbm, ⟨64, _⟩ => ⟨S1024x6144, .f32⟩
  | .hbm, ⟨65, _⟩ => ⟨S8x6144, .f32⟩
  | .hbm, ⟨66, _⟩ => ⟨S1x6144, .f32⟩
  | .hbm, ⟨67, _⟩ => ⟨S6144, .f32⟩
  | .hbm, ⟨68, _⟩ => ⟨S1x6144, .f32⟩
  | .hbm, ⟨69, _⟩ => ⟨S8x6144, .f32⟩
  | .hbm, ⟨70, _⟩ => ⟨S8x6144, .f32⟩
  | .hbm, ⟨71, _⟩ => ⟨S1x8x6144, .f32⟩
  | .hbm, ⟨72, _⟩ => ⟨S1x8x6144, .f32⟩
  | .hbm, ⟨73, _⟩ => ⟨S1x8x6144, .f32⟩
  | .hbm, ⟨74, _⟩ => ⟨S1x8x6144, .f32⟩
  | .hbm, ⟨75, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== FourierLatent.lean ====
abbrev S16384x2048 : Shape := ⟨2, ![16384, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8192x512 : Shape := ⟨2, ![8192, 512]⟩
abbrev S2048x512 : Shape := ⟨2, ![2048, 512]⟩
abbrev S512x2048 : Shape := ⟨2, ![512, 2048]⟩
abbrev S512x512 : Shape := ⟨2, ![512, 512]⟩
abbrev S2048x128 : Shape := ⟨2, ![2048, 128]⟩

abbrev nBuf : Space → Nat
  | .hbm => 74
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S128x128, .i32⟩
  | .hbm, ⟨20, _⟩ => ⟨S128x128, .i1⟩
  | .hbm, ⟨21, _⟩ => ⟨S_, .i32⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S128x128, .i1⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .bf16⟩
  | .hbm, ⟨37, _⟩ => ⟨S2048, .i32⟩
  | .hbm, ⟨38, _⟩ => ⟨S2048x1, .i32⟩
  | .hbm, ⟨39, _⟩ => ⟨S1x2048, .i32⟩
  | .hbm, ⟨40, _⟩ => ⟨S2048x2048, .i32⟩
  | .hbm, ⟨41, _⟩ => ⟨S2048x2048, .i32⟩
  | .hbm, ⟨42, _⟩ => ⟨S2048x2048, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S2048x2048, .i32⟩
  | .hbm, ⟨50, _⟩ => ⟨S2048x2048, .i32⟩
  | .hbm, ⟨51, _⟩ => ⟨S_, .i32⟩
  | .hbm, ⟨52, _⟩ => ⟨S2048x2048, .i32⟩
  | .hbm, ⟨53, _⟩ => ⟨S2048x2048, .i1⟩
  | .hbm, ⟨54, _⟩ => ⟨S_, .i32⟩
  | .hbm, ⟨55, _⟩ => ⟨S2048x2048, .i32⟩
  | .hbm, ⟨56, _⟩ => ⟨S2048x2048, .i1⟩
  | .hbm, ⟨57, _⟩ => ⟨S_, .i32⟩
  | .hbm, ⟨58, _⟩ => ⟨S_, .i1⟩
  | .hbm, ⟨59, _⟩ => ⟨S2048x2048, .i1⟩
  | .hbm, ⟨60, _⟩ => ⟨S2048x2048, .i1⟩
  | .hbm, ⟨61, _⟩ => ⟨S2048x2048, .i1⟩
  | .hbm, ⟨62, _⟩ => ⟨S2048x2048, .i32⟩
  | .hbm, ⟨63, _⟩ => ⟨S2048x2048, .i32⟩
  | .hbm, ⟨64, _⟩ => ⟨S2048x2048, .i32⟩
  | .hbm, ⟨65, _⟩ => ⟨S2048x2048, .f32⟩
  | .hbm, ⟨66, _⟩ => ⟨S_, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .bf16⟩
  | .hbm, ⟨71, _⟩ => ⟨S2048x2048, .f32⟩
  | .hbm, ⟨72, _⟩ => ⟨S2048x2048, .bf16⟩
  | .hbm, ⟨73, _⟩ => ⟨S8192x512, .bf16⟩
  | .local _ .vmem, ⟨0, _⟩ => ⟨S2048x512, .f32⟩
  | .local _ .vmem, ⟨1, _⟩ => ⟨S2048x512, .f32⟩
  | .local _ .vmem, ⟨2, _⟩ => ⟨S128x128, .bf16⟩
  | .local _ .vmem, ⟨3, _⟩ => ⟨S128x128, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x512, .bf16⟩
  | .local _ .vmem, ⟨9, _⟩ => ⟨S512x512, .bf16⟩
  | .local _ .vmem, ⟨10, _⟩ => ⟨S2048x512, .bf16⟩
  | .local _ .vmem, ⟨11, _⟩ => ⟨S2048x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_0 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v20 : Ref sig .tc := ⟨.hbm, 64, rfl⟩
abbrev main_v21 : Ref sig .tc := ⟨.hbm, 65, rfl⟩
abbrev main_cst_1 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FourierLatentRefIdeal.lean ====
abbrev S16384x2048 : Shape := ⟨2, ![16384, 2048]⟩
abbrev S8192x2048 : Shape := ⟨2, ![8192, 2048]⟩
abbrev S4x2048x2048 : Shape := ⟨3, ![4, 2048, 2048]⟩
abbrev S4x2048x512 : Shape := ⟨3, ![4, 2048, 512]⟩
abbrev S4x2048x4x128 : Shape := ⟨4, ![4, 2048, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x128x2048 : Shape := ⟨4, ![4, 4, 128, 2048]⟩
abbrev S8192x512 : Shape := ⟨2, ![8192, 512]⟩

abbrev nBuf : Space → Nat
  | .hbm => 88
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S4x2048x2048, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x4x128, .f32⟩
  | .hbm, ⟨8, _⟩ => ⟨S128, .i32⟩
  | .hbm, ⟨9, _⟩ => ⟨S128x1, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i1⟩
  | .hbm, ⟨25, _⟩ => ⟨S_, .i32⟩
  | .hbm, ⟨26, _⟩ => ⟨S128x128, .i32⟩
  | .hbm, ⟨27, _⟩ => ⟨S128x128, .i1⟩
  | .hbm, ⟨28, _⟩ => ⟨S_, .i32⟩
  | .hbm, ⟨29, _⟩ => ⟨S_, .i1⟩
  | .hbm, ⟨30, _⟩ => ⟨S128x128, .i1⟩
  | .hbm, ⟨31, _⟩ => ⟨S128x128, .i1⟩
  | .hbm, ⟨32, _⟩ => ⟨S128x128, .i1⟩
  | .hbm, ⟨33, _⟩ => ⟨S128x128, .i32⟩
  | .hbm, ⟨34, _⟩ => ⟨S128x128, .i32⟩
  | .hbm, ⟨35, _⟩ => ⟨S128x128, .i32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S2048, .i32⟩
  | .hbm, ⟨43, _⟩ => ⟨S2048x1, .i32⟩
  | .hbm, ⟨44, _⟩ => ⟨S1x2048, .i32⟩
  | .hbm, ⟨45, _⟩ => ⟨S2048x2048, .i32⟩
  | .hbm, ⟨46, _⟩ => ⟨S2048x2048, .i32⟩
  | .hbm, ⟨47, _⟩ => ⟨S2048x2048, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S2048x2048, .i32⟩
  | .hbm, ⟨55, _⟩ => ⟨S2048x2048, .i32⟩
  | .hbm, ⟨56, _⟩ => ⟨S_, .i32⟩
  | .hbm, ⟨57, _⟩ => ⟨S2048x2048, .i32⟩
  | .hbm, ⟨58, _⟩ => ⟨S2048x2048, .i1⟩
  | .hbm, ⟨59, _⟩ => ⟨S_, .i32⟩
  | .hbm, ⟨60, _⟩ => ⟨S2048x2048, .i32⟩
  | .hbm, ⟨61, _⟩ => ⟨S2048x2048, .i1⟩
  | .hbm, ⟨62, _⟩ => ⟨S_, .i32⟩
  | .hbm, ⟨63, _⟩ => ⟨S_, .i1⟩
  | .hbm, ⟨64, _⟩ => ⟨S2048x2048, .i1⟩
  | .hbm, ⟨65, _⟩ => ⟨S2048x2048, .i1⟩
  | .hbm, ⟨66, _⟩ => ⟨S2048x2048, .i1⟩
  | .hbm, ⟨67, _⟩ => ⟨S2048x2048, .i32⟩
  | .hbm, ⟨68, _⟩ => ⟨S2048x2048, .i32⟩
  | .hbm, ⟨69, _⟩ => ⟨S2048x2048, .i32⟩
  | .hbm, ⟨70, _⟩ => ⟨S2048x2048, .f32⟩
  | .hbm, ⟨71, _⟩ => ⟨S_, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S4x2048x4x128, .f32⟩
  | .hbm, ⟨77, _⟩ => ⟨S4x2048x4x128, .f32⟩
  | .hbm, ⟨78, _⟩ => ⟨S4x4x128x2048, .f32⟩
  | .hbm, ⟨79, _⟩ => ⟨S4x2048x4x128, .f32⟩
  | .hbm, ⟨80, _⟩ => ⟨S4x4x128x2048, .f32⟩
  | .hbm, ⟨81, _⟩ => ⟨S4x2048x4x128, .f32⟩
  | .hbm, ⟨82, _⟩ => ⟨S4x2048x4x128, .f32⟩
  | .hbm, ⟨83, _⟩ => ⟨S_, .f32⟩
  | .hbm, ⟨84, _⟩ => ⟨S4x2048x4x128, .f32⟩
  | .hbm, ⟨85, _⟩ => ⟨S4x2048x4x128, .f32⟩
  | .hbm, ⟨86, _⟩ => ⟨S8192x512, .f32⟩
  | .hbm, ⟨87, _⟩ => ⟨S8192x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_0 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v25 : Ref sig .tc := ⟨.hbm, 69, rfl⟩
abbrev main_v26 : Ref sig .tc := ⟨.hbm, 70, rfl⟩
abbrev main_cst_1 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_2 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩

abbrev nD : Nat := 1
abbrev τ : Topo := Topo.v7x

variable {F : FTy → Type} [FloatOps F]
-- ==== Proof.Spec.lean ====
/- The gated linear attention of one head on one sequence, over the extended reals, free of any program: four chunks of 64
   rows, each row a key/query vector of 128 entries. `Scan` is one direction of the recurrence; `gate` is the decay's
   logarithm of a row from its pre-activation; `normed` is the norm over a head's entries with the output gate. Here too:
   the gate is a real number where its pre-activation is, and a sum over the 256 rows is the sum over chunks and rows of
   a chunk, in either row order. -/
module

public import Idealize.ShloMosaic.Lib.Pointwise
public import Mathlib.Analysis.SpecialFunctions.Log.Basic

@[expose] public section

noncomputable section

namespace Cert.Proof.Spec

open Idealize.ShloMosaic

/-- The logarithm of a decay from its pre-activation: the log-sigmoid over sixteen. -/
def gate (y : EReal) : EReal :=
  (min y 0 - Ideal.log (1 + Ideal.exp (0 - max y (-y)))) * Ideal.ofBits .f32 0x3D800000#32

/-- The product of the low-rank row `l` and column `d` of the weights, plus the bias: the gate's pre-activation. -/
def preact (l : Fin 16 → EReal) (w : Fin 16 → Fin 128 → EReal) (b : Fin 128 → EReal) (d : Fin 128) : EReal :=
  (∑ c : Fin 16, l c * w c d) + b d

/-- A chunked array: four chunks of 64 rows of 128 entries. -/
abbrev Chunked := Fin 4 → Fin 64 → Fin 128 → EReal

section Scan
variable (q k v la : Chunked)

/-- The running sum of the log decays inside a chunk, up to and including row `i`. -/
def cum (n : Fin 4) (i : Fin 64) (d : Fin 128) : EReal := ∑ j : Fin 64, if j ≤ i then la n j d else 0

/-- The sum of a chunk's log decays. -/
def tot (n : Fin 4) (d : Fin 128) : EReal := ∑ j : Fin 64, la n j d

/-- The queries decayed from the chunk's start. -/
def qdec (n : Fin 4) (i : Fin 64) (d : Fin 128) : EReal := q n i d * Ideal.exp (cum la n i d)

/-- The keys with the decay from the chunk's start undone. -/
def kinv (n : Fin 4) (j : Fin 64) (d : Fin 128) : EReal := k n j d * Ideal.exp (-(cum la n j d))

/-- The keys decayed to the chunk's end. -/
def kend (n : Fin 4) (j : Fin 64) (d : Fin 128) : EReal := k n j d * Ideal.exp (tot la n d - cum la n j d)

/-- The weights of row `i` on the rows `j` of its chunk up to itself. -/
def att (n : Fin 4) (i j : Fin 64) : EReal := if j ≤ i then ∑ d : Fin 128, qdec q la n i d * kinv k la n j d else 0

/-- A row's part from its own chunk. -/
def intra (n : Fin 4) (i : Fin 64) (e : Fin 128) : EReal := ∑ j : Fin 64, att q k la n i j * v n j e

/-- The state after chunk `n` from the state `s` before it. -/
def step (n : Fin 4) (s : Fin 128 → Fin 128 → EReal) (d e : Fin 128) : EReal :=
  Ideal.exp (tot la n d) * s d e + ∑ j : Fin 64, kend k la n j d * v n j e

/-- The states before chunks 0, 1, 2 and 3, and after the last. -/
def st0 (_ _ : Fin 128) : EReal := 0
def st1 : Fin 128 → Fin 128 → EReal := step k v la 0 st0
def st2 : Fin 128 → Fin 128 → EReal := step k v la 1 (st1 k v la)
def st3 : Fin 128 → Fin 128 → EReal := step k v la 2 (st2 k v la)
def st4 : Fin 128 → Fin 128 → EReal := step k v la 3 (st3 k v la)

/-- The state before chunk `n`. -/
def before (n : Fin 4) : Fin 128 → Fin 128 → EReal :=
  match n with
  | 0 => st0
  | 1 => st1 k v la
  | 2 => st2 k v la
  | 3 => st3 k v la

/-- A row's part from the chunks before its own. -/
def inter (n : Fin 4) (i : Fin 64) (e : Fin 128) : EReal := ∑ d : Fin 128, qdec q la n i d * before k v la n d e

/-- The recurrence's output at row `i` of chunk `n`. -/
def out (n : Fin 4) (i : Fin 64) (e : Fin 128) : EReal := intra q k v la n i e + inter q k v la n i e

end Scan

/-- The root-mean-square norm of `y` with weights `w`, times the gate `g` under `x / (1 + exp (-x))`. -/
def normed (y w g : Fin 128 → EReal) (e : Fin 128) : EReal :=
  (y e * Ideal.rsqrt (Ideal.div (∑ c : Fin 128, y c * y c) (Ideal.ofBits .f32 0x43000000#32) + Ideal.ofBits .f32 0x358637BD#32) * w e)
    * (g e * Ideal.div 1 (1 + Ideal.exp (-(g e))))

/-! ## The gate is real where its pre-activation is -/

theorem ofBits_one_f32 : Ideal.ofBits .f32 0x3F800000#32 = ((1 : ℝ) : EReal) := by
  simp [Ideal.ofBits, Ideal.ieee, ← EReal.coe_mul]
  norm_cast; norm_num

theorem ofBits_sixteenth : Ideal.ofBits .f32 0x3D800000#32 = ((1 / 16 : ℝ) : EReal) := by
  simp [Ideal.ofBits, Ideal.ieee, ← EReal.coe_mul]; norm_num

theorem ofBits_sixteen : Ideal.ofBits .f32 0x41800000#32 = ((16 : ℝ) : EReal) := by
  simp [Ideal.ofBits, Ideal.ieee, ← EReal.coe_mul]; norm_num

theorem log_coe_pos {r : ℝ} (h : 0 < r) : Ideal.log (r : EReal) = (Real.log r : EReal) := by
  show (if r ≤ 0 then ⊥ else (Real.log r : EReal)) = _
  rw [if_neg (not_le.mpr h)]

theorem max_coe (a b : ℝ) : max (a : EReal) (b : EReal) = ((max a b : ℝ) : EReal) :=
  (EReal.coe_strictMono.monotone.map_max).symm

theorem min_coe (a b : ℝ) : min (a : EReal) (b : EReal) = ((min a b : ℝ) : EReal) :=
  (EReal.coe_strictMono.monotone.map_min).symm

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (r : ℝ) : Ideal.exp (r : EReal) = (Real.exp r : EReal) := rfl

/-- The gate of a real pre-activation, as a real number. -/
theorem gate_coe (r : ℝ) : gate (r : EReal) = (((min r 0 - Real.log (1 + Real.exp (-|r|))) * (1 / 16) : ℝ) : EReal) := by
  have h1 : (0 : ℝ) < 1 + Real.exp (-|r|) := by positivity
  unfold gate
  rw [ofBits_sixteenth, show max (r : EReal) (-(r : EReal)) = ((|r| : ℝ) : EReal) from by
      rw [← EReal.coe_neg, max_coe]; rfl,
    show (0 : EReal) - ((|r| : ℝ) : EReal) = ((-|r| : ℝ) : EReal) from by
      rw [← EReal.coe_zero, ← EReal.coe_sub, zero_sub],
    exp_coe, show (1 : EReal) = ((1 : ℝ) : EReal) from rfl, ← EReal.coe_add, log_coe_pos h1,
    show (min (r : EReal) 0) = ((min r 0 : ℝ) : EReal) from by rw [← EReal.coe_zero, min_coe],
    ← EReal.coe_sub, ← EReal.coe_mul]

/-- The reference's form of the gate: minus the softplus of minus the pre-activation, over sixteen. -/
theorem gate_softplus (r : ℝ) :
    Ideal.div (-(max (-(r : EReal)) 0 + Ideal.log1p (Ideal.exp (-(max (-(r : EReal) - 0) (-(-(r : EReal) - 0)))))))
      (Ideal.ofBits .f32 0x41800000#32) = gate (r : EReal) := by
  have h1 : (0 : ℝ) < 1 + Real.exp (-|r|) := by positivity
  rw [gate_coe, ofBits_sixteen]
  have hm : max (-(r : EReal) - 0) (-(-(r : EReal) - 0)) = ((|r| : ℝ) : EReal) := by
    rw [sub_zero, neg_neg, max_comm, ← EReal.coe_neg, max_coe]; rfl
  rw [hm, ← EReal.coe_neg |r|, exp_coe, Ideal.log1p, show (1 : EReal) = ((1 : ℝ) : EReal) from rfl, ← EReal.coe_add,
    log_coe_pos h1, ← EReal.coe_neg, show (max ((-r : ℝ) : EReal) 0) = ((max (-r) 0 : ℝ) : EReal) from by
      rw [← EReal.coe_zero, max_coe], ← EReal.coe_add, ← EReal.coe_neg]
  unfold Ideal.div
  rw [if_neg (by rw [← EReal.coe_zero]; exact fun h => by have := EReal.coe_eq_coe_iff.mp h; norm_num at this),
    ← EReal.coe_inv, ← EReal.coe_mul]
  congr 1
  rw [show max (-r) 0 = -(min r 0) from by rw [← neg_zero (G := ℝ), max_neg_neg, neg_zero]]
  ring

/-! ## The rows of a sequence in its chunks -/

/-- Row `i` of chunk `n`, counted from the sequence's start. -/
def rowF (n : Fin 4) (i : Fin 64) : Fin 256 := ⟨64 * n.val + i.val, by have := n.isLt; have := i.isLt; omega⟩

/-- Row `i` of chunk `n`, counted from the sequence's end. -/
def rowB (n : Fin 4) (i : Fin 64) : Fin 256 := ⟨255 - (64 * n.val + i.val), by omega⟩

/-- A row's chunk and its row there, from the start. -/
def chunkOf (r : Fin 256) : Fin 4 := ⟨r.val / 64, by have := r.isLt; omega⟩
def inChunk (r : Fin 256) : Fin 64 := ⟨r.val % 64, by omega⟩

theorem rowF_chunk (r : Fin 256) : rowF (chunkOf r) (inChunk r) = r := Fin.ext (by
  show 64 * (r.val / 64) + r.val % 64 = r.val; omega)

theorem rowB_chunk (r : Fin 256) : rowB (chunkOf (Fin.rev r)) (inChunk (Fin.rev r)) = r := Fin.ext (by
  show 255 - (64 * ((Fin.rev r).val / 64) + (Fin.rev r).val % 64) = r.val
  have := r.isLt; rw [Fin.val_rev]; omega)

/-- The pairs of a chunk and a row of it are the rows. -/
def rowsF : Fin 4 × Fin 64 ≃ Fin 256 where
  toFun p := rowF p.1 p.2
  invFun r := (chunkOf r, inChunk r)
  left_inv p := by
    have := p.1.isLt; have := p.2.isLt
    refine Prod.ext (Fin.ext ?_) (Fin.ext ?_)
    · show (64 * p.1.val + p.2.val) / 64 = p.1.val; omega
    · show (64 * p.1.val + p.2.val) % 64 = p.2.val; omega
  right_inv := rowF_chunk

/-- The same from the end. -/
def rowsB : Fin 4 × Fin 64 ≃ Fin 256 := rowsF.trans Fin.revPerm

theorem rowsB_apply (n : Fin 4) (i : Fin 64) : rowsB (n, i) = rowB n i := Fin.ext (by
  show (Fin.rev (rowF n i)).val = 255 - (64 * n.val + i.val)
  rw [Fin.val_rev]; show 256 - (64 * n.val + i.val + 1) = _; omega)

/-- A sum over the rows that vanishes outside one chunk is the sum over that chunk's rows. -/
theorem sum_rows (σ : Fin 4 × Fin 64 ≃ Fin 256) (f : Fin 256 → EReal) (n : Fin 4) (g : Fin 64 → EReal)
    (h : ∀ m j, f (σ (m, j)) = if m = n then g j else 0) : ∑ c : Fin 256, f c = ∑ j : Fin 64, g j := by
  rw [← Equiv.sum_comp σ, Fintype.sum_prod_type, Finset.sum_eq_single n]
  · exact Finset.sum_congr rfl fun j _ => by rw [h, if_pos rfl]
  · intro m _ hm; exact Finset.sum_eq_zero fun j _ => by rw [h, if_neg hm]
  · exact fun hn => absurd (Finset.mem_univ _) hn

end Cert.Proof.Spec

end
-- ==== Proof.Problem.lean ====
/- The three results as functions of the arguments, read at a sequence, a head and a row: what both programs are shown to hold. -/
module

public import proofs.«01_k».proof.Proof.Spec

@[expose] public section

noncomputable section

namespace Cert.Proof.Problem

open Idealize.ShloMosaic Cert.Proof.Spec

/-- Column `d` of head `h` in the `k`-th group of columns (queries, keys, values, output gates). -/
def col (k : Fin 4) (h : Fin 4) (d : Fin 128) : Fin 3200 := ⟨512 * k.val + 128 * h.val + d.val, by omega⟩
/-- The `c`-th low-rank gate column. -/
def lowCol (c : Fin 16) : Fin 3200 := ⟨3072 + c.val, by omega⟩

/-- A direction's order of the rows, in chunks. -/
abbrev chunks (σ : Fin 4 × Fin 64 ≃ Fin 256) (f : Fin 256 → Fin 128 → EReal) : Chunked := fun n i d => f (σ (n, i)) d

section
variable (z : Fin 32 → Fin 256 → Fin 3200 → EReal) (w wF wB : Fin 16 → Fin 4 → Fin 128 → EReal) (b bF bB : Fin 4 → Fin 128 → EReal)
  (nw : Fin 128 → EReal) (s : Fin 32) (h : Fin 4)

/-- A sequence's queries (scaled), keys, values and output gates at a head. -/
def queries (r : Fin 256) (d : Fin 128) : EReal := z s r (col 0 h d) * Ideal.ofBits .f32 0x3DB504F3#32
def keys (r : Fin 256) (d : Fin 128) : EReal := z s r (col 1 h d)
def values (r : Fin 256) (d : Fin 128) : EReal := z s r (col 2 h d)
def gates (r : Fin 256) (d : Fin 128) : EReal := z s r (col 3 h d)
/-- The log decays of a direction with weights `w` and bias `b`. -/
def decay (r : Fin 256) (d : Fin 128) : EReal :=
  gate (preact (fun c => z s r (lowCol c)) (fun c d => w c h d) (fun d => b h d) d)

/-- A direction's recurrence at a chunk's row, -/
def sweep (σ : Fin 4 × Fin 64 ≃ Fin 256) (n : Fin 4) (i : Fin 64) (e : Fin 128) : EReal :=
  out (chunks σ (queries z s h)) (chunks σ (keys z s h)) (chunks σ (values z s h)) (chunks σ (decay z w b s h)) n i e
/-- and its closing state. -/
def closing (σ : Fin 4 × Fin 64 ≃ Fin 256) (d e : Fin 128) : EReal :=
  st4 (chunks σ (keys z s h)) (chunks σ (values z s h)) (chunks σ (decay z w b s h)) d e

/-- The result row: both directions' sum at the row, normalised and gated. -/
def row (r : Fin 256) (e : Fin 128) : EReal :=
  normed (fun c => sweep z wF bF s h rowsF (chunkOf r) (inChunk r) c + sweep z wB bB s h rowsB (chunkOf (Fin.rev r)) (inChunk (Fin.rev r)) c)
    nw (gates z s h r) e
end

/-! ## Positions in the flat arrays -/

/-- Row `r` of sequence `s` among the arguments' rows, and among the result's. -/
def inRow (s : Fin 32) (r : Fin 256) : Fin 16384 := ⟨256 * s.val + r.val, by omega⟩
def outRow (s : Fin 32) (r : Fin 256) : Fin 8192 := ⟨256 * s.val + r.val, by omega⟩
/-- Column `d` of head `h` among a direction's weights' columns. -/
def headCol (h : Fin 4) (d : Fin 128) : Fin 512 := ⟨128 * h.val + d.val, by omega⟩
/-- Head `h` of sequence `s` among the states. -/
def pair (s : Fin 32) (h : Fin 4) : Fin 128 := ⟨4 * s.val + h.val, by omega⟩

theorem outRow_surj (i : Fin 8192) : ∃ s r, i = outRow s r :=
  ⟨⟨i.val / 256, by omega⟩, ⟨i.val % 256, by omega⟩, Fin.ext (by show i.val = 256 * (i.val / 256) + i.val % 256; omega)⟩
theorem headCol_surj (i : Fin 512) : ∃ h d, i = headCol h d :=
  ⟨⟨i.val / 128, by omega⟩, ⟨i.val % 128, by omega⟩, Fin.ext (by show i.val = 128 * (i.val / 128) + i.val % 128; omega)⟩
theorem pair_surj (i : Fin 128) : ∃ s h, i = pair s h :=
  ⟨⟨i.val / 4, by omega⟩, ⟨i.val % 4, by omega⟩, Fin.ext (by show i.val = 4 * (i.val / 4) + i.val % 4; omega)⟩

/-! ## The arguments -/

section
variable (Z : FVec Ideal ⟨2, ![16384, 3200]⟩ .f32) (W : FVec Ideal ⟨2, ![16, 512]⟩ .f32) (B : FVec Ideal ⟨1, ![512]⟩ .f32)
  (N : FVec Ideal ⟨1, ![128]⟩ .f32)

def zOf (s : Fin 32) (r : Fin 256) (c : Fin 3200) : EReal := Z (ix2 (inRow s r) c)
def wOf (c : Fin 16) (h : Fin 4) (d : Fin 128) : EReal := W (ix2 c (headCol h d))
def bOf (h : Fin 4) (d : Fin 128) : EReal := B (ix1 (headCol h d))
def nOf (d : Fin 128) : EReal := N (ix1 d)
end

end Cert.Proof.Problem

end
-- ==== Proof.RefGates.lean ====
/- The reference's arrays that the scan reads, at an index: the first half of the batch holds the sequences as they are, the
   second half the sequences from their last row to their first. -/
module

public import proofs.«01_k».proof.Proof.Problem
public import proofs.«01_k».proof.Proof.Gen.ReferenceIdeal.Read
public import Idealize.ShloMosaic.Lib.Pointwise

@[expose] public section

set_option maxRecDepth 16384

noncomputable section

namespace Cert.Proof.RefGates

open Cert.ReferenceIdeal Cert.ReferenceIdeal.Gen Cert.ReferenceIdeal.Read Idealize.ShloMosaic Cert.Proof.Spec Cert.Proof.Problem

variable (x0 : FVec Ideal S16384x3200 .f32) (x1 x3 : FVec Ideal S16x512 .f32) (x2 x4 : FVec Ideal S512 .f32)

/-- A sequence's two places in the batch. -/
def fwd (s : Fin 32) : Fin 64 := ⟨s.val, by omega⟩
def bwd (s : Fin 32) : Fin 64 := ⟨32 + s.val, by omega⟩

theorem v1_at (s : Fin 32) (r : Fin 256) (c : Fin 3200) : val_main_v1 (F := Ideal) x0 (ix3 s r c) = zOf x0 s r c := by
  have e : (⟨s.val * 256 + r.val, by omega⟩ : Fin 16384) = inRow s r := Fin.ext (by show s.val * 256 + r.val = 256 * s.val + r.val; omega)
  unfold zOf
  rw [← e]
  pointwise [val_main_v1, val_main_v0]

theorem q_at (s : Fin 32) (r : Fin 256) (h : Fin 4) (d : Fin 128) :
    val_main_v9 (F := Ideal) x0 (ix4 s r h d) = queries (zOf x0) s h r d := by
  have e : (⟨h.val * 128 + d.val, by omega⟩ : Fin 3200) = col 0 h d := Fin.ext (by show h.val * 128 + d.val = 512 * 0 + 128 * h.val + d.val; omega)
  unfold queries
  rw [← e, ← v1_at]
  pointwise [val_main_v9, val_main_v8, val_main_cst, val_main_v7, val_main_v2]

theorem k_at (s : Fin 32) (r : Fin 256) (h : Fin 4) (d : Fin 128) :
    val_main_v10 (F := Ideal) x0 (ix4 s r h d) = keys (zOf x0) s h r d := by
  have e : (⟨512 + (h.val * 128 + d.val), by omega⟩ : Fin 3200) = col 1 h d := Fin.ext (by show 512 + (h.val * 128 + d.val) = 512 * 1 + 128 * h.val + d.val; omega)
  unfold keys
  rw [← e, ← v1_at]
  pointwise [val_main_v10, val_main_v3]

theorem v_at (s : Fin 32) (r : Fin 256) (h : Fin 4) (d : Fin 128) :
    val_main_v11 (F := Ideal) x0 (ix4 s r h d) = values (zOf x0) s h r d := by
  have e : (⟨1024 + (h.val * 128 + d.val), by omega⟩ : Fin 3200) = col 2 h d := Fin.ext (by show 1024 + (h.val * 128 + d.val) = 512 * 2 + 128 * h.val + d.val; omega)
  unfold values
  rw [← e, ← v1_at]
  pointwise [val_main_v11, val_main_v4]

theorem g_at (s : Fin 32) (r : Fin 256) (h : Fin 4) (d : Fin 128) :
    val_main_v133 (F := Ideal) x0 (ix4 s r h d) = gates (zOf x0) s h r d := by
  have e : (⟨1536 + (h.val * 128 + d.val), by omega⟩ : Fin 3200) = col 3 h d := Fin.ext (by show 1536 + (h.val * 128 + d.val) = 512 * 3 + 128 * h.val + d.val; omega)
  unfold gates
  rw [← e, ← v1_at]
  pointwise [val_main_v133, val_main_v5]

theorem low_at (s : Fin 32) (r : Fin 256) (c : Fin 16) :
    val_main_v6 (F := Ideal) x0 (ix3 s r c) = zOf x0 s r (lowCol c) := by
  rw [← v1_at]
  unfold lowCol
  pointwise [val_main_v6]

/-- The pre-activation. -/
theorem pre_at (s : Fin 32) (r : Fin 256) (h : Fin 4) (d : Fin 128) :
    val_main_v15 (F := Ideal) x0 x1 x2 (ix3 s r (headCol h d))
      = preact (fun c => zOf x0 s r (lowCol c)) (fun c d => wOf x1 c h d) (fun d => bOf x2 h d) d := by
  unfold preact wOf bOf
  simp only [← low_at]
  pointwise [val_main_v15, val_main_v12, val_main_v14, val_main_v13]

theorem preB_at (s : Fin 32) (r : Fin 256) (h : Fin 4) (d : Fin 128) :
    val_main_v23 (F := Ideal) x0 x3 x4 (ix3 s r (headCol h d))
      = preact (fun c => zOf x0 s r (lowCol c)) (fun c d => wOf x3 c h d) (fun d => bOf x4 h d) d := by
  unfold preact wOf bOf
  simp only [← low_at]
  pointwise [val_main_v23, val_main_v20, val_main_v22, val_main_v21]

theorem laF_at (s : Fin 32) (r : Fin 256) (h : Fin 4) (d : Fin 128) (hr : ∃ u : ℝ, val_main_v15 (F := Ideal) x0 x1 x2 (ix3 s r (headCol h d)) = (u : EReal)) :
    val_main_v19 (F := Ideal) x0 x1 x2 (ix4 s r h d) = decay (zOf x0) (wOf x1) (bOf x2) s h r d := by
  have e : (⟨h.val * 128 + d.val, by omega⟩ : Fin 512) = headCol h d := Fin.ext (by show h.val * 128 + d.val = 128 * h.val + d.val; omega)
  unfold decay
  rw [← pre_at]
  obtain ⟨u, hu⟩ := hr
  rw [hu, ← gate_softplus, ← hu, ← e]
  pointwise [val_main_v19, val_main_v18, val_main_v17, val_main_cst_0, val_main_v16, val_main_call0_v0, val_main_call0_call0_cst, val_main_call0_call0_v0,
    val_main_call0_call0_v1, val_main_call0_call0_v2, val_main_call0_call0_v3, val_main_call0_call0_v4, val_main_call0_call0_v5, val_main_call0_call0_v6,
    val_main_call0_call0_v7, val_main_call0_call0_v8, val_main_call0_call0_v9, val_main_call0_call0_v10, val_main_call0_call0_v11, val_main_call0_v1]
  rw [if_neg (by simp)]
  rfl

theorem laB_at (s : Fin 32) (r : Fin 256) (h : Fin 4) (d : Fin 128) (hr : ∃ u : ℝ, val_main_v23 (F := Ideal) x0 x3 x4 (ix3 s r (headCol h d)) = (u : EReal)) :
    val_main_v27 (F := Ideal) x0 x3 x4 (ix4 s r h d) = decay (zOf x0) (wOf x3) (bOf x4) s h r d := by
  have e : (⟨h.val * 128 + d.val, by omega⟩ : Fin 512) = headCol h d := Fin.ext (by show h.val * 128 + d.val = 128 * h.val + d.val; omega)
  unfold decay
  rw [← preB_at]
  obtain ⟨u, hu⟩ := hr
  rw [hu, ← gate_softplus, ← hu, ← e]
  pointwise [val_main_v27, val_main_v26, val_main_v25, val_main_cst_1, val_main_v24, val_main_call1_v0, val_main_call1_call0_cst, val_main_call1_call0_v0,
    val_main_call1_call0_v1, val_main_call1_call0_v2, val_main_call1_call0_v3, val_main_call1_call0_v4, val_main_call1_call0_v5, val_main_call1_call0_v6,
    val_main_call1_call0_v7, val_main_call1_call0_v8, val_main_call1_call0_v9, val_main_call1_call0_v10, val_main_call1_call0_v11, val_main_call1_v1]
  rw [if_neg (by simp)]
  rfl

variable (s : Fin 32) (n : Fin 4) (i : Fin 64) (h : Fin 4) (d : Fin 128)

theorem rowF_eq : (⟨n.val * 64 + i.val, by omega⟩ : Fin 256) = rowsF (n, i) := Fin.ext (by show n.val * 64 + i.val = 64 * n.val + i.val; omega)
theorem rowB_eq : (Fin.rev ⟨n.val * 64 + i.val, by omega⟩ : Fin 256) = rowsB (n, i) := by rw [rowF_eq]; rfl

/-- The queries at the two places. -/
theorem qF : val_main_v37 (F := Ideal) x0 (ix5 (fwd s) n i h d) = queries (zOf x0) s h (rowsF (n, i)) d := by
  rw [← q_at, ← rowF_eq]
  unfold fwd
  pointwise [val_main_v37, val_main_v32]
theorem qB : val_main_v37 (F := Ideal) x0 (ix5 (bwd s) n i h d) = queries (zOf x0) s h (rowsB (n, i)) d := by
  rw [← q_at, ← rowB_eq]
  unfold bwd
  pointwise [val_main_v37, val_main_v32, val_main_v31]
  rfl

/-- The keys at the two places. -/
theorem kF : val_main_v38 (F := Ideal) x0 (ix5 (fwd s) n i h d) = keys (zOf x0) s h (rowsF (n, i)) d := by
  rw [← k_at, ← rowF_eq]
  unfold fwd
  pointwise [val_main_v38, val_main_v34]
theorem kB : val_main_v38 (F := Ideal) x0 (ix5 (bwd s) n i h d) = keys (zOf x0) s h (rowsB (n, i)) d := by
  rw [← k_at, ← rowB_eq]
  unfold bwd
  pointwise [val_main_v38, val_main_v34, val_main_v33]
  rfl

/-- The values at the two places. -/
theorem vF : val_main_v39 (F := Ideal) x0 (ix5 (fwd s) n i h d) = values (zOf x0) s h (rowsF (n, i)) d := by
  rw [← v_at, ← rowF_eq]
  unfold fwd
  pointwise [val_main_v39, val_main_v36]
theorem vB : val_main_v39 (F := Ideal) x0 (ix5 (bwd s) n i h d) = values (zOf x0) s h (rowsB (n, i)) d := by
  rw [← v_at, ← rowB_eq]
  unfold bwd
  pointwise [val_main_v39, val_main_v36, val_main_v35]
  rfl

/-- The decay logarithms at the two places. -/
theorem lF (hr : ∀ r d, ∃ u : ℝ, val_main_v15 (F := Ideal) x0 x1 x2 (ix3 s r (headCol h d)) = (u : EReal)) :
    val_main_v40 (F := Ideal) x0 x1 x2 x3 x4 (ix5 (fwd s) n i h d) = decay (zOf x0) (wOf x1) (bOf x2) s h (rowsF (n, i)) d := by
  rw [← laF_at x0 x1 x2 s _ h d (hr _ d), ← rowF_eq]
  unfold fwd
  pointwise [val_main_v40, val_main_v29]
theorem lB (hr : ∀ r d, ∃ u : ℝ, val_main_v23 (F := Ideal) x0 x3 x4 (ix3 s r (headCol h d)) = (u : EReal)) :
    val_main_v40 (F := Ideal) x0 x1 x2 x3 x4 (ix5 (bwd s) n i h d) = decay (zOf x0) (wOf x3) (bOf x4) s h (rowsB (n, i)) d := by
  rw [← laB_at x0 x3 x4 s _ h d (hr _ d), ← rowB_eq]
  unfold bwd
  pointwise [val_main_v40, val_main_v29, val_main_v28]
  rfl

end Cert.Proof.RefGates

end
-- ==== Proof.RunningSum.lean ====
/- The reference's running sum down a chunk, a sum over windows that end at the row: at a row it is the sum of the rows up to it. -/
module

public import proofs.«01_k».proof.Proof.Problem
public import proofs.«01_k».proof.Proof.Gen.ReferenceIdeal.Read
public import Idealize.ShloMosaic.Lib.Pointwise

@[expose] public section

set_option maxRecDepth 16384

noncomputable section

namespace Cert.Proof.RunningSum

open Cert.ReferenceIdeal Cert.ReferenceIdeal.Gen Idealize.ShloMosaic

/-- A left fold of additions is the sum. -/
theorem foldl_add_eq (N : Nat) (g : Fin N → EReal) (v : EReal) :
    (List.finRange N).foldl (fun r n => r + g n) v = v + ∑ n : Fin N, g n := by
  have h : ∀ (l : List (Fin N)) (v : EReal), l.foldl (fun r n => r + g n) v = v + (l.map g).sum := by
    intro l
    induction l with
    | nil => intro v; simp
    | cons a l ih => intro v; simp only [List.foldl_cons, List.map_cons, List.sum_cons, ih, add_assoc]
  rw [h, Fin.sum_univ_def]

/-- The window's positions are its rows. -/
abbrev W : Shape := ⟨5, ![1, 1, 64, 1, 1]⟩

def windowRows : W.Idx ≃ Fin 64 where
  toFun w := w 2
  invFun w := ix5 0 0 w 0 0
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv w := rfl

/-- The window's row `w` of a column `f`, the window ending at row `i`: zero where it lies before the column. -/
def term (f : Fin 64 → EReal) (i w : Fin 64) : EReal := if h : 63 ≤ i.val + w.val then f ⟨i.val + w.val - 63, by omega⟩ else 0

/-- The windows that end at row `i`, slid to start at row 0: the rows up to `i`. -/
theorem sum_window (f : Fin 64 → EReal) (i : Fin 64) :
    (∑ w : Fin 64, term f i w) = ∑ j : Fin 64, if j ≤ i then f j else 0 := by
  rw [← Equiv.sum_comp (Equiv.addRight (i + 1)) (fun j : Fin 64 => if j ≤ i then f j else 0)]
  refine Finset.sum_congr rfl fun w _ => ?_
  have hv : (w + (i + 1)).val = (w.val + i.val + 1) % 64 := by
    rw [Fin.val_add, Fin.val_add]; show (w.val + (i.val + 1) % 64) % 64 = _; omega
  have hw := w.isLt
  have hi := i.isLt
  show term f i w = if w + (i + 1) ≤ i then f (w + (i + 1)) else 0
  unfold term
  by_cases h : 63 ≤ i.val + w.val
  · have e : w + (i + 1) = ⟨i.val + w.val - 63, by omega⟩ := Fin.ext (by rw [hv]; show _ = i.val + w.val - 63; omega)
    rw [dif_pos h, if_pos (by rw [Fin.le_def, hv]; omega), e]
  · rw [dif_neg h, if_neg (by rw [Fin.le_def, hv]; omega)]

/-- The running sum at an index. -/
theorem apply (x : FVec Ideal S64x4x64x4x128 .f32) (init : FVec Ideal S_ .f32) (hinit : ∀ i, @Eq EReal (init i) 0)
    (h : S64x4x64x4x128.ReduceWindows ![1, 1, 64, 1, 1] ![1, 1, 1, 1, 1] ![0, 0, 63, 0, 0] ![0, 0, 0, 0, 0] S64x4x64x4x128) (hu : 0 < S_.numel)
    (b : Fin 64) (n : Fin 4) (i : Fin 64) (k : Fin 4) (d : Fin 128) :
    @Eq EReal (Host.reduceWindowAdd ![1, 1, 64, 1, 1] ![1, 1, 1, 1, 1] ![0, 0, 63, 0, 0] ![0, 0, 0, 0, 0] x init h hu (ix5 b n i k d))
      (∑ j : Fin 64, if j ≤ i then x (ix5 b n j k d) else 0) := by
  rw [← sum_window (fun j => x (ix5 b n j k d)) i]
  have key : @Eq EReal (Host.reduceWindowAdd ![1, 1, 64, 1, 1] ![1, 1, 1, 1, 1] ![0, 0, 63, 0, 0] ![0, 0, 0, 0, 0] x init h hu (ix5 b n i k d))
      (init (Shape.Idx.first hu) + ∑ m : Fin W.numel, term (fun j => x (ix5 b n j k d)) i (windowRows (W.rowMajor.symm m))) := by
    rw [← foldl_add_eq]
    unfold Host.reduceWindowAdd
    rw [Ideal.hostReduceWindowAdd_def]
    unfold Ideal.hostReduceWindowAdd Host.reduceWindow
    dsimp only
    refine congrArg (fun F => List.foldl F (init (Shape.Idx.first hu)) (List.finRange W.numel)) (funext fun r => funext fun m => congrArg (r + ·) ?_)
    show _ = term (fun j => x (ix5 b n j k d)) i (W.rowMajor.symm m 2)
    unfold term
    have h0 : (W.rowMajor.symm m 0).val < 1 := (W.rowMajor.symm m 0).isLt
    have h1 : (W.rowMajor.symm m 1).val < 1 := (W.rowMajor.symm m 1).isLt
    have h3 : (W.rowMajor.symm m 3).val < 1 := (W.rowMajor.symm m 3).isLt
    have h4 : (W.rowMajor.symm m 4).val < 1 := (W.rowMajor.symm m 4).isLt
    split
    · next hin =>
      have h2 := (hin 2).1
      change 63 ≤ i.val * 1 + (W.rowMajor.symm m 2).val at h2
      rw [dif_pos (by omega)]
      congr 1
      funext a
      apply Fin.ext
      match a with
      | ⟨0, _⟩ => show b.val * 1 + (W.rowMajor.symm m 0).val - 0 = b.val; omega
      | ⟨1, _⟩ => show n.val * 1 + (W.rowMajor.symm m 1).val - 0 = n.val; omega
      | ⟨2, _⟩ => show i.val * 1 + (W.rowMajor.symm m 2).val - 63 = i.val + (W.rowMajor.symm m 2).val - 63; omega
      | ⟨3, _⟩ => show k.val * 1 + (W.rowMajor.symm m 3).val - 0 = k.val; omega
      | ⟨4, _⟩ => show d.val * 1 + (W.rowMajor.symm m 4).val - 0 = d.val; omega
    · next hin =>
      rw [dif_neg fun hle => hin fun a => by
        have h2 : (W.rowMajor.symm m 2).val < 64 := (W.rowMajor.symm m 2).isLt
        match a with
        | ⟨0, _⟩ => show 0 ≤ b.val * 1 + (W.rowMajor.symm m 0).val ∧ b.val * 1 + (W.rowMajor.symm m 0).val - 0 < 64; omega
        | ⟨1, _⟩ => show 0 ≤ n.val * 1 + (W.rowMajor.symm m 1).val ∧ n.val * 1 + (W.rowMajor.symm m 1).val - 0 < 4; omega
        | ⟨2, _⟩ => show 63 ≤ i.val * 1 + (W.rowMajor.symm m 2).val ∧ i.val * 1 + (W.rowMajor.symm m 2).val - 63 < 64; omega
        | ⟨3, _⟩ => show 0 ≤ k.val * 1 + (W.rowMajor.symm m 3).val ∧ k.val * 1 + (W.rowMajor.symm m 3).val - 0 < 4; omega
        | ⟨4, _⟩ => show 0 ≤ d.val * 1 + (W.rowMajor.symm m 4).val ∧ d.val * 1 + (W.rowMajor.symm m 4).val - 0 < 128; omega]
      exact hinit _
  rw [key, hinit, zero_add, Equiv.sum_comp W.rowMajor.symm (fun w => term (fun j => x (ix5 b n j k d)) i (windowRows w)),
    Equiv.sum_comp windowRows (fun w => term (fun j => x (ix5 b n j k d)) i w)]

end Cert.Proof.RunningSum

end
-- ==== Proof.RefScan.lean ====
/- The reference's scan at an index, for a place `b` of the batch and a head `h`: the chunked recurrence over the arrays it reads. -/
module

public import proofs.«01_k».proof.Proof.RefGates
public import proofs.«01_k».proof.Proof.RunningSum

@[expose] public section

set_option maxRecDepth 16384

noncomputable section

namespace Cert.Proof.RefScan

open Cert.ReferenceIdeal Cert.ReferenceIdeal.Gen Cert.ReferenceIdeal.Read Idealize.ShloMosaic Cert.Proof.Spec

variable (x0 : FVec Ideal S16384x3200 .f32) (x1 x3 : FVec Ideal S16x512 .f32) (x2 x4 : FVec Ideal S512 .f32) (b : Fin 64) (h : Fin 4)

/-- The queries, keys, values and decay logarithms of a place and a head, in chunks. -/
def qs : Chunked := fun n i d => val_main_v37 (F := Ideal) x0 (ix5 b n i h d)
def ks : Chunked := fun n i d => val_main_v38 (F := Ideal) x0 (ix5 b n i h d)
def vs : Chunked := fun n i d => val_main_v39 (F := Ideal) x0 (ix5 b n i h d)
def las : Chunked := fun n i d => val_main_v40 (F := Ideal) x0 x1 x2 x3 x4 (ix5 b n i h d)

theorem zero_at (i : S_.Idx) : @Eq EReal (val_main_call6_call0_v0 (F := Ideal) i) 0 := Ideal.ofBits_zero_f32

theorem cum_at (n : Fin 4) (i : Fin 64) (d : Fin 128) : val_main_v41 (F := Ideal) x0 x1 x2 x3 x4 (ix5 b n i h d) = cum (las x0 x1 x3 x2 x4 b h) n i d :=
  RunningSum.apply _ _ zero_at _ _ b n i h d

theorem tot_at (n : Fin 4) (z : Fin 1) (d : Fin 128) : val_main_v42 (F := Ideal) x0 x1 x2 x3 x4 (ix5 b n z h d) = tot (las x0 x1 x3 x2 x4 b h) n d := by
  have e : val_main_v42 (F := Ideal) x0 x1 x2 x3 x4 (ix5 b n z h d) = val_main_v41 (F := Ideal) x0 x1 x2 x3 x4 (ix5 b n 63 h d) := by
    have : z = 0 := Subsingleton.elim _ _
    subst this
    pointwise [val_main_v42]
  rw [e, cum_at]
  unfold cum tot
  exact Finset.sum_congr rfl fun j _ => if_pos (show j.val ≤ 63 by omega)

theorem qdec_at (n : Fin 4) (i : Fin 64) (d : Fin 128) : val_main_v44 (F := Ideal) x0 x1 x2 x3 x4 (ix5 b n i h d) = qdec (qs x0 b h) (las x0 x1 x3 x2 x4 b h) n i d := by
  unfold qdec qs
  rw [← cum_at]
  pointwise [val_main_v44, val_main_v43]

theorem kinv_at (n : Fin 4) (i : Fin 64) (d : Fin 128) : val_main_v47 (F := Ideal) x0 x1 x2 x3 x4 (ix5 b n i h d) = kinv (ks x0 b h) (las x0 x1 x3 x2 x4 b h) n i d := by
  unfold kinv ks
  rw [← cum_at]
  pointwise [val_main_v47, val_main_v46, val_main_v45]

theorem kend_at (n : Fin 4) (i : Fin 64) (d : Fin 128) : val_main_v51 (F := Ideal) x0 x1 x2 x3 x4 (ix5 b n i h d) = kend (ks x0 b h) (las x0 x1 x3 x2 x4 b h) n i d := by
  unfold kend ks
  rw [← cum_at, ← tot_at x0 x1 x3 x2 x4 b h n 0]
  pointwise [val_main_v51, val_main_v50, val_main_v49, val_main_v48]

theorem prod_at (n : Fin 4) (i j : Fin 64) : val_main_v54 (F := Ideal) x0 x1 x2 x3 x4 (ix5 b n h i j)
    = ∑ d : Fin 128, val_main_v44 (F := Ideal) x0 x1 x2 x3 x4 (ix5 b n i h d) * val_main_v47 (F := Ideal) x0 x1 x2 x3 x4 (ix5 b n j h d) := by
  pointwise [val_main_v54]

/-- The mask is true at the rows up to the row. -/
theorem mask_at (i j : Fin 64) : val_main_v53 (F := Ideal) (ix2 i j) = if j ≤ i then 1#1 else 0#1 := by
  have key : ∀ i j : Fin 64, (if IntOp.cmpi .sge (BitVec.ofNat 32 i.val + 0#32) (BitVec.ofNat 32 j.val) = 1#1 then 1#1 else 0#1) = if j ≤ i then 1#1 else 0#1 := by
    decide +kernel
  rw [← key]
  rfl

theorem att_at (n : Fin 4) (i j : Fin 64) : val_main_v55 (F := Ideal) x0 x1 x2 x3 x4 (ix5 b n h i j) = att (qs x0 b h) (ks x0 b h) (las x0 x1 x3 x2 x4 b h) n i j := by
  have e : val_main_v55 (F := Ideal) x0 x1 x2 x3 x4 (ix5 b n h i j)
      = if val_main_v53 (F := Ideal) (ix2 i j) = 1#1 then val_main_v54 (F := Ideal) x0 x1 x2 x3 x4 (ix5 b n h i j) else Ideal.ofBits .f32 0x00000000#32 := by
    pointwise [val_main_v55, val_main_call8_v2, val_main_call8_v1, val_main_call8_v0, val_main_cst_3]
    show (if _ then _ else Ideal.ofBits .f32 0x00000000#32) = _
    rw [Ideal.ofBits_zero_f32]
    rfl
  rw [e, mask_at, prod_at, Ideal.ofBits_zero_f32]
  unfold att
  by_cases hji : j ≤ i
  · rw [if_pos hji, if_pos rfl, if_pos hji]
    exact Finset.sum_congr rfl fun d _ => by rw [qdec_at, kinv_at]
  · rw [if_neg hji, if_neg (by decide), if_neg hji]

theorem intra_at (n : Fin 4) (i : Fin 64) (e : Fin 128) : val_main_v57 (F := Ideal) x0 x1 x2 x3 x4 (ix5 b n i h e) = intra (qs x0 b h) (ks x0 b h) (vs x0 b h) (las x0 x1 x3 x2 x4 b h) n i e := by
  have e1 : val_main_v57 (F := Ideal) x0 x1 x2 x3 x4 (ix5 b n i h e)
      = ∑ j : Fin 64, val_main_v39 (F := Ideal) x0 (ix5 b n j h e) * val_main_v55 (F := Ideal) x0 x1 x2 x3 x4 (ix5 b n h i j) := by
    pointwise [val_main_v57, val_main_v56]
  rw [e1]
  unfold intra vs
  exact Finset.sum_congr rfl fun j _ => by rw [att_at, mul_comm]

/-- What a chunk adds to the state. -/
theorem kv_at (n : Fin 4) (d e : Fin 128) : val_main_v58 (F := Ideal) x0 x1 x2 x3 x4 (ix5 b n h d e) = ∑ j : Fin 64, kend (ks x0 b h) (las x0 x1 x3 x2 x4 b h) n j d * (vs x0 b h) n j e := by
  have e1 : val_main_v58 (F := Ideal) x0 x1 x2 x3 x4 (ix5 b n h d e)
      = ∑ j : Fin 64, val_main_v51 (F := Ideal) x0 x1 x2 x3 x4 (ix5 b n j h d) * val_main_v39 (F := Ideal) x0 (ix5 b n j h e) := by
    pointwise [val_main_v58]
  rw [e1]
  unfold vs
  exact Finset.sum_congr rfl fun j _ => by rw [kend_at]

theorem decay_at (n : Fin 4) (d : Fin 128) : val_main_v60 (F := Ideal) x0 x1 x2 x3 x4 (ix4 b n h d) = Ideal.exp (tot (las x0 x1 x3 x2 x4 b h) n d) := by
  rw [← tot_at x0 x1 x3 x2 x4 b h n 0]
  pointwise [val_main_v60, val_main_v59]

/-! ## The states -/

theorem st0_at (d e : Fin 128) : @Eq EReal (val_main_v30 (F := Ideal) (ix4 b h d e)) 0 := Ideal.ofBits_zero_f32

theorem st1_at (d e : Fin 128) : val_main_v72 (F := Ideal) x0 x1 x2 x3 x4 (ix4 b h d e) = st1 (ks x0 b h) (vs x0 b h) (las x0 x1 x3 x2 x4 b h) d e := by
  unfold st1 step
  rw [← decay_at, ← kv_at]
  rw [show st0 d e = val_main_v30 (F := Ideal) (ix4 b h d e) from (st0_at b h d e).symm]
  pointwise [val_main_v72, val_main_v71, val_main_v70, val_main_v69, val_main_v68, val_main_v67, val_main_v66, val_main_v65]

theorem st2_at (d e : Fin 128) : val_main_v84 (F := Ideal) x0 x1 x2 x3 x4 (ix4 b h d e) = st2 (ks x0 b h) (vs x0 b h) (las x0 x1 x3 x2 x4 b h) d e := by
  unfold st2 step
  rw [← decay_at, ← kv_at, ← st1_at]
  pointwise [val_main_v84, val_main_v83, val_main_v82, val_main_v81, val_main_v80, val_main_v79, val_main_v78, val_main_v77]

theorem st3_at (d e : Fin 128) : val_main_v96 (F := Ideal) x0 x1 x2 x3 x4 (ix4 b h d e) = st3 (ks x0 b h) (vs x0 b h) (las x0 x1 x3 x2 x4 b h) d e := by
  unfold st3 step
  rw [← decay_at, ← kv_at, ← st2_at]
  pointwise [val_main_v96, val_main_v95, val_main_v94, val_main_v93, val_main_v92, val_main_v91, val_main_v90, val_main_v89]

/-- The state after the last chunk. -/
theorem st4_at (d e : Fin 128) : val_main_v108 (F := Ideal) x0 x1 x2 x3 x4 (ix4 b h d e) = st4 (ks x0 b h) (vs x0 b h) (las x0 x1 x3 x2 x4 b h) d e := by
  unfold st4 step
  rw [← decay_at, ← kv_at, ← st3_at]
  pointwise [val_main_v108, val_main_v107, val_main_v106, val_main_v105, val_main_v104, val_main_v103, val_main_v102, val_main_v101]

/-! ## The rows -/

theorem inter0 (i : Fin 64) (e : Fin 128) : val_main_v64 (F := Ideal) x0 x1 x2 x3 x4 (ix4 b i h e) = inter (qs x0 b h) (ks x0 b h) (vs x0 b h) (las x0 x1 x3 x2 x4 b h) 0 i e := by
  have e1 : val_main_v64 (F := Ideal) x0 x1 x2 x3 x4 (ix4 b i h e)
      = ∑ d : Fin 128, val_main_v30 (F := Ideal) (ix4 b h d e) * val_main_v44 (F := Ideal) x0 x1 x2 x3 x4 (ix5 b 0 i h d) := by
    pointwise [val_main_v64, val_main_v63, val_main_v62, val_main_v61]
  rw [e1]
  exact Finset.sum_congr rfl fun d _ => by rw [st0_at, qdec_at, mul_comm]; rfl

theorem inter1 (i : Fin 64) (e : Fin 128) : val_main_v76 (F := Ideal) x0 x1 x2 x3 x4 (ix4 b i h e) = inter (qs x0 b h) (ks x0 b h) (vs x0 b h) (las x0 x1 x3 x2 x4 b h) 1 i e := by
  have e1 : val_main_v76 (F := Ideal) x0 x1 x2 x3 x4 (ix4 b i h e)
      = ∑ d : Fin 128, val_main_v72 (F := Ideal) x0 x1 x2 x3 x4 (ix4 b h d e) * val_main_v44 (F := Ideal) x0 x1 x2 x3 x4 (ix5 b 1 i h d) := by
    pointwise [val_main_v76, val_main_v75, val_main_v74, val_main_v73]
  rw [e1]
  exact Finset.sum_congr rfl fun d _ => by rw [st1_at, qdec_at, mul_comm]; rfl

theorem inter2 (i : Fin 64) (e : Fin 128) : val_main_v88 (F := Ideal) x0 x1 x2 x3 x4 (ix4 b i h e) = inter (qs x0 b h) (ks x0 b h) (vs x0 b h) (las x0 x1 x3 x2 x4 b h) 2 i e := by
  have e1 : val_main_v88 (F := Ideal) x0 x1 x2 x3 x4 (ix4 b i h e)
      = ∑ d : Fin 128, val_main_v84 (F := Ideal) x0 x1 x2 x3 x4 (ix4 b h d e) * val_main_v44 (F := Ideal) x0 x1 x2 x3 x4 (ix5 b 2 i h d) := by
    pointwise [val_main_v88, val_main_v87, val_main_v86, val_main_v85]
  rw [e1]
  exact Finset.sum_congr rfl fun d _ => by rw [st2_at, qdec_at, mul_comm]; rfl

theorem inter3 (i : Fin 64) (e : Fin 128) : val_main_v100 (F := Ideal) x0 x1 x2 x3 x4 (ix4 b i h e) = inter (qs x0 b h) (ks x0 b h) (vs x0 b h) (las x0 x1 x3 x2 x4 b h) 3 i e := by
  have e1 : val_main_v100 (F := Ideal) x0 x1 x2 x3 x4 (ix4 b i h e)
      = ∑ d : Fin 128, val_main_v96 (F := Ideal) x0 x1 x2 x3 x4 (ix4 b h d e) * val_main_v44 (F := Ideal) x0 x1 x2 x3 x4 (ix5 b 3 i h d) := by
    pointwise [val_main_v100, val_main_v99, val_main_v98, val_main_v97]
  rw [e1]
  exact Finset.sum_congr rfl fun d _ => by rw [st3_at, qdec_at, mul_comm]; rfl

theorem inter_at (n : Fin 4) (i : Fin 64) (e : Fin 128) : val_main_v113 (F := Ideal) x0 x1 x2 x3 x4 (ix5 b n i h e) = inter (qs x0 b h) (ks x0 b h) (vs x0 b h) (las x0 x1 x3 x2 x4 b h) n i e := by
  match n with
  | 0 => rw [← inter0]; pointwise [val_main_v113, val_main_v109, val_main_v110, val_main_v111, val_main_v112]
  | 1 => rw [← inter1]; pointwise [val_main_v113, val_main_v109, val_main_v110, val_main_v111, val_main_v112]
  | 2 => rw [← inter2]; pointwise [val_main_v113, val_main_v109, val_main_v110, val_main_v111, val_main_v112]
  | 3 => rw [← inter3]; pointwise [val_main_v113, val_main_v109, val_main_v110, val_main_v111, val_main_v112]

/-- The scan's output. -/
theorem out_at (n : Fin 4) (i : Fin 64) (e : Fin 128) : val_main_v114 (F := Ideal) x0 x1 x2 x3 x4 (ix5 b n i h e) = out (qs x0 b h) (ks x0 b h) (vs x0 b h) (las x0 x1 x3 x2 x4 b h) n i e := by
  unfold out
  rw [← intra_at, ← inter_at]
  pointwise [val_main_v114]

end Cert.Proof.RefScan

end
-- ==== Proof.RefRows.lean ====
/- The reference's three results at an index: the rows that both directions' recurrences give, and their closing states. -/
module

public import proofs.«01_k».proof.Proof.RefScan

@[expose] public section

set_option maxRecDepth 16384

noncomputable section

namespace Cert.Proof.RefRows

open Cert.ReferenceIdeal Cert.ReferenceIdeal.Gen Cert.ReferenceIdeal.Read Idealize.ShloMosaic Cert.Proof.Spec Cert.Proof.Problem
open Cert.Proof.RefGates Cert.Proof.RefScan

/-- The pre-activation of real rows, weights and biases is real. -/
theorem preact_real {l : Fin 16 → EReal} {w : Fin 16 → Fin 128 → EReal} {b : Fin 128 → EReal} (hl : ∀ c, ∃ u : ℝ, l c = (u : EReal))
    (hw : ∀ c d, ∃ u : ℝ, w c d = (u : EReal)) (hb : ∀ d, ∃ u : ℝ, b d = (u : EReal)) (d : Fin 128) : ∃ u : ℝ, preact l w b d = (u : EReal) := by
  choose fl hfl using hl
  choose fw hfw using hw
  choose fb hfb using hb
  refine ⟨(∑ c : Fin 16, fl c * fw c d) + fb d, ?_⟩
  unfold preact
  rw [EReal.coe_add, coe_sum, hfb]
  simp only [hfl, hfw, EReal.coe_mul]

variable {x0 : FVec Ideal S16384x3200 .f32} {x1 x3 : FVec Ideal S16x512 .f32} {x2 x4 : FVec Ideal S512 .f32} (x5 : FVec Ideal S128 .f32)

/-- The gates' columns, weights and biases are real numbers. -/
structure GatesReal (x0 : FVec Ideal S16384x3200 .f32) (x1 x3 : FVec Ideal S16x512 .f32) (x2 x4 : FVec Ideal S512 .f32) : Prop where
  low : ∀ s r k, ∃ u : ℝ, zOf x0 s r (lowCol k) = (u : EReal)
  weightF : ∀ k h d, ∃ u : ℝ, wOf x1 k h d = (u : EReal)
  biasF : ∀ h d, ∃ u : ℝ, bOf x2 h d = (u : EReal)
  weightB : ∀ k h d, ∃ u : ℝ, wOf x3 k h d = (u : EReal)
  biasB : ∀ h d, ∃ u : ℝ, bOf x4 h d = (u : EReal)

variable (hg : GatesReal x0 x1 x3 x2 x4) (s : Fin 32) (h : Fin 4)
include hg

theorem realF (r : Fin 256) (d : Fin 128) : ∃ u : ℝ, val_main_v15 (F := Ideal) x0 x1 x2 (ix3 s r (headCol h d)) = (u : EReal) := by
  rw [pre_at]; exact preact_real (fun c => hg.low s r c) (fun c d => hg.weightF c h d) (fun d => hg.biasF h d) d

theorem realB (r : Fin 256) (d : Fin 128) : ∃ u : ℝ, val_main_v23 (F := Ideal) x0 x3 x4 (ix3 s r (headCol h d)) = (u : EReal) := by
  rw [preB_at]; exact preact_real (fun c => hg.low s r c) (fun c d => hg.weightB c h d) (fun d => hg.biasB h d) d

/-! ## What the scan reads at a sequence's two places: the sequence's arrays in each direction's order -/

omit hg in
theorem qsF : qs x0 (fwd s) h = chunks rowsF (queries (zOf x0) s h) := by
  funext n i d; exact qF x0 s n i h d
omit hg in
theorem ksF : ks x0 (fwd s) h = chunks rowsF (keys (zOf x0) s h) := by
  funext n i d; exact kF x0 s n i h d
omit hg in
theorem vsF : vs x0 (fwd s) h = chunks rowsF (values (zOf x0) s h) := by
  funext n i d; exact vF x0 s n i h d
omit hg in
theorem qsB : qs x0 (bwd s) h = chunks rowsB (queries (zOf x0) s h) := by
  funext n i d; exact qB x0 s n i h d
omit hg in
theorem ksB : ks x0 (bwd s) h = chunks rowsB (keys (zOf x0) s h) := by
  funext n i d; exact kB x0 s n i h d
omit hg in
theorem vsB : vs x0 (bwd s) h = chunks rowsB (values (zOf x0) s h) := by
  funext n i d; exact vB x0 s n i h d
theorem lasF : las x0 x1 x3 x2 x4 (fwd s) h = chunks rowsF (decay (zOf x0) (wOf x1) (bOf x2) s h) := by
  funext n i d; exact lF x0 x1 x3 x2 x4 s n i h d (realF hg s h)
theorem lasB : las x0 x1 x3 x2 x4 (bwd s) h = chunks rowsB (decay (zOf x0) (wOf x3) (bOf x4) s h) := by
  funext n i d; exact lB x0 x1 x3 x2 x4 s n i h d (realB hg s h)

/-! ## The states -/

theorem stateF_at (d e : Fin 128) : val_main_v139 (F := Ideal) x0 x1 x2 x3 x4 (ix3 (pair s h) d e)
    = closing (zOf x0) (wOf x1) (bOf x2) s h rowsF d e := by
  have e1 : val_main_v139 (F := Ideal) x0 x1 x2 x3 x4 (ix3 (pair s h) d e) = val_main_v108 (F := Ideal) x0 x1 x2 x3 x4 (ix4 (fwd s) h d e) := by
    have ep : (⟨s.val * 4 + h.val, by omega⟩ : Fin 128) = pair s h := Fin.ext (by show s.val * 4 + h.val = 4 * s.val + h.val; omega)
    rw [← ep]
    unfold fwd
    pointwise [val_main_v139, val_main_v138]
  rw [e1, st4_at, ksF, vsF, lasF hg]
  rfl

theorem stateB_at (d e : Fin 128) : val_main_v141 (F := Ideal) x0 x1 x2 x3 x4 (ix3 (pair s h) d e)
    = closing (zOf x0) (wOf x3) (bOf x4) s h rowsB d e := by
  have e1 : val_main_v141 (F := Ideal) x0 x1 x2 x3 x4 (ix3 (pair s h) d e) = val_main_v108 (F := Ideal) x0 x1 x2 x3 x4 (ix4 (bwd s) h d e) := by
    have ep : (⟨s.val * 4 + h.val, by omega⟩ : Fin 128) = pair s h := Fin.ext (by show s.val * 4 + h.val = 4 * s.val + h.val; omega)
    rw [← ep]
    unfold bwd
    pointwise [val_main_v141, val_main_v140]
  rw [e1, st4_at, ksB, vsB, lasB hg]
  rfl

/-! ## The rows -/

/-- Both directions' sum at a row. -/
theorem sum_at (r : Fin 256) (e : Fin 128) : val_main_v119 (F := Ideal) x0 x1 x2 x3 x4 (ix4 s r h e)
    = sweep (zOf x0) (wOf x1) (bOf x2) s h rowsF (chunkOf r) (inChunk r) e
      + sweep (zOf x0) (wOf x3) (bOf x4) s h rowsB (chunkOf (Fin.rev r)) (inChunk (Fin.rev r)) e := by
  have e1 : val_main_v119 (F := Ideal) x0 x1 x2 x3 x4 (ix4 s r h e)
      = val_main_v114 (F := Ideal) x0 x1 x2 x3 x4 (ix5 (fwd s) (chunkOf r) (inChunk r) h e)
        + val_main_v114 (F := Ideal) x0 x1 x2 x3 x4 (ix5 (bwd s) (chunkOf (Fin.rev r)) (inChunk (Fin.rev r)) h e) := by
    unfold fwd bwd chunkOf inChunk
    pointwise [val_main_v119, val_main_v118, val_main_v117, val_main_v116, val_main_v115]
    rfl
  rw [e1, out_at, out_at, qsF, ksF, vsF, lasF hg, qsB, ksB, vsB, lasB hg]
  rfl

omit hg in
/-- The norm and the gate of a row of any sums. -/
theorem normed_at (r : Fin 256) (e : Fin 128) : val_main_v137 (F := Ideal) x0 x1 x2 x3 x4 x5 (ix2 (outRow s r) (headCol h e))
    = normed (fun c => val_main_v119 (F := Ideal) x0 x1 x2 x3 x4 (ix4 s r h c)) (nOf x5) (gates (zOf x0) s h r) e := by
  have e1 : (⟨s.val * 256 + r.val, by omega⟩ : Fin 8192) = outRow s r := Fin.ext (by show s.val * 256 + r.val = 256 * s.val + r.val; omega)
  have e2 : (⟨h.val * 128 + e.val, by omega⟩ : Fin 512) = headCol h e := Fin.ext (by show h.val * 128 + e.val = 128 * h.val + e.val; omega)
  unfold normed nOf
  rw [← g_at, ← e1, ← e2]
  pointwise [val_main_v137, val_main_v136, val_main_v135, val_main_v134, val_main_call10_v5, val_main_call10_v4, val_main_call10_v3, val_main_call10_v2,
    val_main_call10_v1, val_main_call10_v0, val_main_call10_cst, val_main_call10_cst_0, val_main_v132, val_main_v131, val_main_v130, val_main_v129,
    val_main_v128, val_main_v127, val_main_v126, val_main_v125, val_main_v124, val_main_v123, val_main_v122, val_main_v121, val_main_v120,
    val_main_cst_4, val_main_cst_5, val_main_cst_6]

theorem rows_at (r : Fin 256) (e : Fin 128) : val_main_v137 (F := Ideal) x0 x1 x2 x3 x4 x5 (ix2 (outRow s r) (headCol h e))
    = row (zOf x0) (wOf x1) (wOf x3) (bOf x2) (bOf x4) (nOf x5) s h r e := by
  rw [normed_at]
  unfold row
  simp only [sum_at hg]

end Cert.Proof.RefRows

end
-- ==== Proof.Finite.lean ====
/- What the precondition says: the gates' columns, weights and biases are real numbers. -/
module

public import proofs.«01_k».proof.Defs
public import proofs.«01_k».proof.Proof.RefRows
public import Idealize.ShloMosaic.Lib.ReduceAll

@[expose] public section

set_option maxRecDepth 16384

noncomputable section

namespace Cert.Proof.Finite

open Idealize.ShloMosaic Cert.Proof.Problem Cert.Proof.RefRows

/-- The precondition's shapes fit. -/
instance facts : Cert.Pre_finite_gates.Facts where
  slices_S16384x3200_S8192x16_0_3072 := by decide
  bcast_S_S8192x16 := by decide
  reducesTo_S8192x16_S_d0_1 := by decide
  h_S_ := by decide
  bcast_S_S16x512 := by decide
  reducesTo_S16x512_S_d0_1 := by decide
  bcast_S_S512 := by decide
  reducesTo_S512_S_d0 := by decide

/-- A value whose magnitude is below infinity is a real number. -/
theorem real_of_lt (x : EReal) (e : FloatOps.cmpf (F := Ideal) (φ := .f32) .olt (max x (-x)) (Ideal.ofBits .f32 0x7F800000#32) = 1#1) :
    ∃ u : ℝ, x = (u : EReal) := by
  have hinf : Ideal.ofBits .f32 0x7F800000#32 = ⊤ := by simp [Ideal.ofBits, Ideal.ieee]
  rw [hinf] at e
  have hd : decide (max x (-x) < ⊤) = true := by
    have e' : BitVec.ofBool (decide (max x (-x) < ⊤)) = 1#1 := e
    cases hb : decide (max x (-x) < ⊤)
    · rw [hb] at e'; exact absurd e' (by decide)
    · rfl
  have hlt := of_decide_eq_true hd
  induction x with
  | bot => simp at hlt
  | top => simp at hlt
  | coe u => exact ⟨u, rfl⟩

instance : Subsingleton Cert.Pre_finite_gates.S_.Idx := ⟨fun a b => funext fun i => i.elim0⟩

/-- One conjunct of the precondition, read at an index. -/
theorem real_at {s : Shape} {axes : List (Fin s.rank)} (x : FVec Ideal s .f32) (y : FVec Ideal s .f32) (hy : ∀ i, y i = Ideal.ofBits .f32 0x7F800000#32)
    (init : IVec Cert.Pre_finite_gates.S_ 1) (h : s.ReducesTo axes Cert.Pre_finite_gates.S_) (hu : 0 < Cert.Pre_finite_gates.S_.numel)
    (e : Host.reduce IntOp.andi (cmpf .olt (Host.absf x) y) init h hu ix0 = 1#1) (i : s.Idx) : ∃ u : ℝ, x i = (u : EReal) := by
  have ei := Host.reduce_andi_all _ _ _ _ _ e i
  refine real_of_lt (x i) ?_
  rw [← hy i]
  exact ei

theorem gatesReal (x0 : FVec Ideal Cert.Pre_finite_gates.S16384x3200 .f32) (x1 : FVec Ideal Cert.Pre_finite_gates.S16x512 .f32)
    (x2 : FVec Ideal Cert.Pre_finite_gates.S512 .f32) (x3 : FVec Ideal Cert.Pre_finite_gates.S16x512 .f32) (x4 : FVec Ideal Cert.Pre_finite_gates.S512 .f32)
    (x5 : FVec Ideal Cert.Pre_finite_gates.S128 .f32) (e : Cert.Pre_finite_gates.fn (F := Ideal) x0 x1 x2 x3 x4 x5 = fun _ => 1#1) :
    GatesReal x0 x1 x3 x2 x4 := by
  have e0 := congrFun e ix0
  dsimp only [Cert.Pre_finite_gates.fn, Cert.Pre_finite_gates.fn_part1] at e0
  obtain ⟨e1, h4⟩ := IntOp.andi_eq_one.1 e0
  obtain ⟨e2, h3⟩ := IntOp.andi_eq_one.1 e1
  obtain ⟨e3, h2⟩ := IntOp.andi_eq_one.1 e2
  obtain ⟨h0, h1⟩ := IntOp.andi_eq_one.1 e3
  refine ⟨fun s r k => ?_, fun k h d => real_at _ _ (fun _ => rfl) _ _ _ h1 _, fun h d => real_at _ _ (fun _ => rfl) _ _ _ h2 _,
    fun k h d => real_at _ _ (fun _ => rfl) _ _ _ h3 _, fun h d => real_at _ _ (fun _ => rfl) _ _ _ h4 _⟩
  obtain ⟨u, hu⟩ := real_at _ _ (fun _ => rfl) _ _ _ h0 (ix2 (outRow s r) k)
  have ex : extractStridedSlice Cert.Pre_finite_gates.S8192x16 ![0, 3072] x0 facts.slices_S16384x3200_S8192x16_0_3072 (ix2 (outRow s r) k)
      = x0 (ix2 (inRow s r) (lowCol k)) := by
    unfold inRow outRow lowCol
    pointwise
  exact ⟨u, ex.symm.trans hu⟩

end Cert.Proof.Finite

end
-- ==== Proof.Masks.lean ====
/- The kernel's three masks over a sequence's 256 rows, at an entry: `same` (both rows in one chunk), `lower` (in one chunk
   and the column no later than the row) and `upper` (in one chunk and the column no earlier). Read in chunks, from the
   start for `lower` and from the end for `upper`, each says that the chunks agree and the column's row is at or before. -/
module

public import proofs.«01_k».proof.Proof.Gen.KernelIdeal.Value
public import proofs.«01_k».proof.Proof.Spec
public import Idealize.ShloMosaic.Lib.Pointwise

@[expose] public section

set_option maxRecDepth 16384

noncomputable section

namespace Cert.Proof.Masks

open Cert.KernelIdeal Cert.KernelIdeal.Gen Idealize.ShloMosaic Cert.Proof.Spec

/-- The row numbers and the column numbers. -/
abbrev iotaR : IVec S256x256 32 := iota .tc S256x256 32 [0] iota_S256x256_d0_w32
abbrev iotaC : IVec S256x256 32 := iota .tc S256x256 32 [1] iota_S256x256_d1_w32

/-- Both rows in one chunk. -/
abbrev same : IVec S256x256 1 := k0_pay10 iotaR iotaC 64#32 k0_pay8 k0_pay9 0#32
/-- In one chunk, the column no later than the row. -/
abbrev lower : IVec S256x256 1 := k0_pay11 iotaR iotaC 64#32 k0_pay8 k0_pay9 0#32
/-- In one chunk, the column no earlier than the row. -/
abbrev upper : IVec S256x256 1 := k0_pay12 iotaR iotaC 64#32 k0_pay8 k0_pay9 0#32

/-- A row number's chunk, in the kernel's words: the quotient rounded down. -/
theorem chunk_word (r : Fin 256) :
    Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 r.val) 64#32) 0#32))
        (IntOp.subi (IntOp.divsi ArithUnit.vector (BitVec.ofNat 32 r.val) 64#32) 1#32)
        (IntOp.divsi ArithUnit.vector (BitVec.ofNat 32 r.val) 64#32) = BitVec.ofNat 32 (r.val / 64) := by
  revert r; decide +kernel

theorem same_apply (r c : Fin 256) : same (ix2 r c) = BitVec.ofBool (decide (r.val / 64 = c.val / 64)) := by
  unfold same
  pointwise [k0_pay10, k0_pay8, k0_pay9]
  rw [chunk_word, chunk_word]
  show BitVec.ofBool (BitVec.ofNat 32 (r.val / 64) == BitVec.ofNat 32 (c.val / 64)) = _
  congr 1
  rw [Bool.eq_iff_iff, beq_iff_eq, decide_eq_true_iff]
  exact ⟨fun h => by have := congrArg BitVec.toNat h; simp only [BitVec.toNat_ofNat] at this; omega, fun h => by rw [h]⟩

theorem sle_word (r c : Fin 256) : IntOp.cmpi .sle (BitVec.ofNat 32 c.val) (BitVec.ofNat 32 r.val) = BitVec.ofBool (decide (c ≤ r)) := by
  have := r.isLt; have := c.isLt
  show BitVec.ofBool ((BitVec.ofNat 32 c.val).sle (BitVec.ofNat 32 r.val)) = _
  congr 1
  rw [Bool.eq_iff_iff, decide_eq_true_iff, BitVec.sle_iff_toInt_le, Fin.le_def,
    BitVec.toInt_eq_toNat_of_lt (by rw [BitVec.toNat_ofNat]; omega), BitVec.toInt_eq_toNat_of_lt (by rw [BitVec.toNat_ofNat]; omega),
    BitVec.toNat_ofNat, BitVec.toNat_ofNat]
  omega

theorem sge_word (r c : Fin 256) : IntOp.cmpi .sge (BitVec.ofNat 32 c.val) (BitVec.ofNat 32 r.val) = BitVec.ofBool (decide (r ≤ c)) :=
  sle_word c r

theorem and_word (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem lower_apply (r c : Fin 256) : lower (ix2 r c) = BitVec.ofBool (decide (r.val / 64 = c.val / 64 ∧ c ≤ r)) := by
  have h : lower (ix2 r c) = IntOp.andi (same (ix2 r c)) (IntOp.cmpi .sle (BitVec.ofNat 32 c.val) (BitVec.ofNat 32 r.val)) := by
    unfold lower; pointwise [k0_pay11]
  rw [h, same_apply, sle_word, and_word]

theorem upper_apply (r c : Fin 256) : upper (ix2 r c) = BitVec.ofBool (decide (r.val / 64 = c.val / 64 ∧ r ≤ c)) := by
  have h : upper (ix2 r c) = IntOp.andi (same (ix2 r c)) (IntOp.cmpi .sge (BitVec.ofNat 32 c.val) (BitVec.ofNat 32 r.val)) := by
    unfold upper; pointwise [k0_pay12]
  rw [h, same_apply, sge_word, and_word]

/-- A choice by a mask that is a proposition's truth value. -/
theorem select_ofBool {α : Type} (p : Prop) [Decidable p] (a b : α) :
    Scalar.select (BitVec.ofBool (decide p)) a b = if p then a else b := by
  by_cases hp : p <;> simp [hp, Scalar.select]

/-- The masks in a direction's order of rows: `same` is equality of chunks, and the triangular mask of that direction
    is equality of chunks with the column's row at or before. -/
structure Ordered (σ : Fin 4 × Fin 64 ≃ Fin 256) (tri : IVec S256x256 1) : Prop where
  same : ∀ n i m j, Masks.same (ix2 (σ (n, i)) (σ (m, j))) = BitVec.ofBool (decide (m = n))
  tri : ∀ n i m j, tri (ix2 (σ (n, i)) (σ (m, j))) = BitVec.ofBool (decide (m = n ∧ j ≤ i))

theorem ordered_F : Ordered rowsF lower where
  same n i m j := by
    rw [same_apply]; congr 2
    have := n.isLt; have := i.isLt; have := m.isLt; have := j.isLt
    show ((64 * n.val + i.val) / 64 = (64 * m.val + j.val) / 64) = _
    rw [Fin.ext_iff, eq_iff_iff]; omega
  tri n i m j := by
    rw [lower_apply]; congr 2
    have := n.isLt; have := i.isLt; have := m.isLt; have := j.isLt
    show ((64 * n.val + i.val) / 64 = (64 * m.val + j.val) / 64 ∧ (64 * m.val + j.val) ≤ 64 * n.val + i.val) = _
    rw [Fin.ext_iff, Fin.le_def, eq_iff_iff]; omega

theorem ordered_B : Ordered rowsB upper where
  same n i m j := by
    rw [same_apply, rowsB_apply, rowsB_apply]; congr 2
    have := n.isLt; have := i.isLt; have := m.isLt; have := j.isLt
    show ((255 - (64 * n.val + i.val)) / 64 = (255 - (64 * m.val + j.val)) / 64) = _
    rw [Fin.ext_iff, eq_iff_iff]; omega
  tri n i m j := by
    rw [upper_apply, rowsB_apply, rowsB_apply]; congr 2
    have := n.isLt; have := i.isLt; have := m.isLt; have := j.isLt
    show ((255 - (64 * n.val + i.val)) / 64 = (255 - (64 * m.val + j.val)) / 64 ∧ 255 - (64 * n.val + i.val) ≤ 255 - (64 * m.val + j.val)) = _
    rw [Fin.ext_iff, Fin.le_def, eq_iff_iff]; omega

end Cert.Proof.Masks

end
-- ==== Proof.Block.lean ====
/- One grid point's results as the kernel's own payloads over its input blocks: the two directions' states and the normed
   output rows. Nothing is computed here; the loads and stores between the kernel's scratch buffers are read away. -/
module

public import proofs.«01_k».proof.Proof.Masks
public import Idealize.ShloMosaic.Lib.Pipeline.ReadBack
public import Idealize.ShloMosaic.Lib.VecWindow

@[expose] public section

set_option maxRecDepth 16384

noncomputable section

namespace Cert.Proof.Block

open Cert.KernelIdeal Cert.KernelIdeal.Gen Idealize.ShloMosaic Idealize.ShloMosaic.TcCoe Idealize.SL.Sem Cert.Proof.Masks

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl
/-- The state both directions begin with, as loaded: zeros. -/
def zeroF : Vec F S1x128x128 .f32 :=
  View.ld (S := S2x128x128) k0_pay7 (Rect.unit ![0, 0, 0] ![1, 128, 128] inb_S2x128x128_S1x128x128_0_0_0)
def zeroB : Vec F S1x128x128 .f32 :=
  View.ld (S := S2x128x128) k0_pay7 (Rect.unit ![1, 0, 0] ![1, 128, 128] inb_S2x128x128_S1x128x128_1_0_0)

theorem hoff1 : k0_off1 = fun _ => 0 := funext fun a => by fin_cases a <;> rfl
theorem hoff2 : k0_off2 = fun _ => 0 := funext fun a => by fin_cases a <;> rfl

/-- A part of the zeroed states reads that part of the zeros. -/
theorem fill {κ : Kind} {sp : Space} (v : View sig κ sp S2x128x128 .f32) (k : Nat) (Z : Vec F S2x128x128 .f32) (inb) (inb') :
    v.readCov (Val := Elt F) [⟨Rect.unit ![0, 0, 0] ![2, 128, 128] inb, Z⟩] (Rect.unit ![k, 0, 0] ![1, 128, 128] inb').toLoadRect
      = View.ld Z (Rect.unit (s := S2x128x128) ![k, 0, 0] ![1, 128, 128] inb') := by
  rw [View.readCov_eq_canon']
  have h : View.canon (Val := Elt F) [(⟨Rect.unit ![0, 0, 0] ![2, 128, 128] inb, Z⟩ : View.Piece (Elt F) S2x128x128 .f32)] = Z :=
    View.canon_unit_zero (S := S2x128x128) hz3 inb Z
  rw [h]

/-- The two halves of the states' buffer. -/
abbrev half0 : Rect S2x128x128 := Rect.unit ![0, 0, 0] ![1, 128, 128] inb_S2x128x128_S1x128x128_0_0_0
abbrev half1 : Rect S2x128x128 := Rect.unit ![1, 0, 0] ![1, 128, 128] inb_S2x128x128_S1x128x128_1_0_0

/-- After both directions' last states are stored, the forward one is read back from under the backward one. -/
theorem last0 {κ : Kind} {sp : Space} (v : View sig κ sp S2x128x128 .f32) (w1 : half1.shape.Idx → Elt F .f32)
    (w0 : half0.shape.Idx → Elt F .f32) (L : List (View.Piece (Elt F) S2x128x128 .f32)) :
    v.readCov (Val := Elt F) (⟨half1, w1⟩ :: ⟨half0, w0⟩ :: L) half0.toLoadRect = w0 := by
  rw [View.readCov_skip v half1 w1 _ _ (by decide)]
  exact View.readCov_cons_toLoadRect v half0 w0 L

section Composites
variable (x0 x1 x2 x3 : Vec F S256x128 .f32) (L M : FVec F S256x128 .f32) (x9 : Vec F S1x128 .f32)

/-- Forward: the running sums, the chunk sums, the decayed queries, the keys in their two decays. -/
def cumF : FVec F S256x128 .f32 := k0_pay23 lower (Scalar.ofBits .f32 0x3F800000#32) L
def totF : FVec F S256x128 .f32 := k0_pay26 (k0_pay14 same) (k0_pay15 L) (k0_pay17 L) (k0_pay18 L)
def qdF : FVec F S256x128 .bf16 := k0_pay30 (cumF L) x0
def kiF : FVec F S256x128 .bf16 := k0_pay32 (cumF L) x1
def ksF : FVec F S256x128 .bf16 := k0_pay34 (cumF L) (totF L) x1
def st1F : FVec F S128x128 .f32 := k0_pay43 (cumF L) (totF L) (k0_pay28 x2) x1 zeroF
def st2F : FVec F S128x128 .f32 := k0_pay47 (k0_pay28 x2) (ksF x1 L) (k0_pay38 (totF L)) (st1F x1 x2 L)
def st3F : FVec F S128x128 .f32 := k0_pay51 (k0_pay28 x2) (ksF x1 L) (k0_pay38 (totF L)) (st1F x1 x2 L)
def st4F : FVec F S1x128x128 .f32 := k0_pay55 (k0_pay28 x2) (ksF x1 L) (k0_pay38 (totF L)) (st3F x1 x2 L)
def outF : FVec F S256x128 .f32 :=
  k0_pay56 (k0_pay36 lower (k0_pay28 x2) (qdF x0 L) (kiF x1 L)) (k0_pay42 (qdF x0 L) zeroF) (k0_pay46 (qdF x0 L) (st1F x1 x2 L))
    (k0_pay50 (k0_pay28 x2) (qdF x0 L) (ksF x1 L) (k0_pay38 (totF L)) (st1F x1 x2 L))
    (k0_pay54 (k0_pay28 x2) (qdF x0 L) (ksF x1 L) (k0_pay38 (totF L)) (st1F x1 x2 L))

/-- Backward: the same from the sequence's end. -/
def cumB : FVec F S256x128 .f32 :=
  k0_pay25 (k0_pay13 upper) (k0_pay22 M) (k0_pay24 upper M) (constant S256x128 .f32 0x00000000#32)
def totB : FVec F S256x128 .f32 := k0_pay27 (k0_pay14 same) (k0_pay19 M) (k0_pay21 M) (k0_pay22 M)
def qdB : FVec F S256x128 .bf16 :=
  k0_pay31 (k0_pay13 upper) (k0_pay22 M) (k0_pay24 upper M) (constant S256x128 .f32 0x00000000#32) x0
def kiB : FVec F S256x128 .f32 :=
  k0_pay33 (k0_pay13 upper) (k0_pay22 M) (k0_pay24 upper M) (constant S256x128 .f32 0x00000000#32)
def ksB : FVec F S256x128 .bf16 := k0_pay35 (cumB M) (totB M) x1
def st3B : FVec F S128x128 .f32 := k0_pay53 (k0_pay29 x2) (ksB x1 M) (k0_pay39 (totB M)) (k0_pay41 zeroB)
def st4B : FVec F S1x128x128 .f32 := k0_pay57 (k0_pay29 x2) (ksB x1 M) (k0_pay39 (totB M)) (st3B x1 x2 M)
def outB : FVec F S256x128 .f32 :=
  k0_pay58 (qdB x0 M) (k0_pay37 upper (k0_pay29 x2) (qdB x0 M) x1 (kiB M)) (k0_pay44 (qdB x0 M) zeroB)
    (k0_pay48 (k0_pay29 x2) (qdB x0 M) (ksB x1 M) (k0_pay39 (totB M)) (k0_pay41 zeroB))
    (k0_pay52 (k0_pay29 x2) (qdB x0 M) (ksB x1 M) (k0_pay39 (totB M)) (k0_pay41 zeroB)) (st3B x1 x2 M)

/-- The block's rows: both directions summed, normed and gated. -/
def rows : FVec F S256x128 .bf16 :=
  k0_pay61 (k0_pay59 (outF x0 x1 x2 L) (outB x0 x1 x2 M)) (k0_pay60 (outF x0 x1 x2 L) (outB x0 x1 x2 M)) x9 x3

end Composites

/-- The two directions' log decays of a block. -/
def laF (x4 : Vec F S256x128 .f32) (x5 : Vec F S128x128 .f32) (x6 : Vec F S1x128 .f32) : FVec F S256x128 .f32 := k0_pay2 x4 x5 x6
def laB (x4 : Vec F S256x128 .f32) (x7 : Vec F S128x128 .f32) (x8 : Vec F S1x128 .f32) : FVec F S256x128 .f32 :=
  k0_pay6 (k0_pay3 x7) (k0_pay4 x4) (k0_pay5 x4) x8

/-- The forward state of the block. -/
theorem out11_eq (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S256x128 .bf16) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S2x128x128 .f32) (harg19 : arg19.IsWhole)
    (x0 : Vec F S256x128 .f32) (x1 : Vec F S256x128 .f32) (x2 : Vec F S256x128 .f32) (x3 : Vec F S256x128 .f32) (x4 : Vec F S256x128 .f32) (x5 : Vec F S128x128 .f32) (x6 : Vec F S1x128 .f32) (x7 : Vec F S128x128 .f32) (x8 : Vec F S1x128 .f32) (x9 : Vec F S1x128 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 = k0_pay62 (st4F x1 x2 (laF x4 x5 x6)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9)]
  unfold kernelRun0_A
  dsimp only
  sl_unfold_run_names
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread,
    View.ld_unit_zero (S := S256x128) hz, View.ld_unit_zero (S := S256x128) hoff1, View.ld_unit_zero (S := S256x128) hoff2,
    View.ld_unit_zero (S := S128x128) hz, View.ld_unit_zero (S := S1x128) hz, View.readCov_full (s := S256x128), fill, last0, View.readCov_cons_toLoadRect]
  rfl

/-- The backward state of the block. -/
theorem out12_eq (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S256x128 .bf16) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S2x128x128 .f32) (harg19 : arg19.IsWhole)
    (x0 : Vec F S256x128 .f32) (x1 : Vec F S256x128 .f32) (x2 : Vec F S256x128 .f32) (x3 : Vec F S256x128 .f32) (x4 : Vec F S256x128 .f32) (x5 : Vec F S128x128 .f32) (x6 : Vec F S1x128 .f32) (x7 : Vec F S128x128 .f32) (x8 : Vec F S1x128 .f32) (x9 : Vec F S1x128 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 = k0_pay1 (k0_pay63 (st4B x1 x2 (laB x4 x7 x8))) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9)]
  unfold kernelRun0_A
  dsimp only
  sl_unfold_run_names
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread,
    View.ld_unit_zero (S := S256x128) hz, View.ld_unit_zero (S := S256x128) hoff1, View.ld_unit_zero (S := S256x128) hoff2,
    View.ld_unit_zero (S := S128x128) hz, View.ld_unit_zero (S := S1x128) hz, View.readCov_full (s := S256x128), fill, last0, View.readCov_cons_toLoadRect]
  rfl

/-- The output rows of the block. -/
theorem out10_eq (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S256x128 .bf16) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S2x128x128 .f32) (harg19 : arg19.IsWhole)
    (x0 : Vec F S256x128 .f32) (x1 : Vec F S256x128 .f32) (x2 : Vec F S256x128 .f32) (x3 : Vec F S256x128 .f32) (x4 : Vec F S256x128 .f32) (x5 : Vec F S128x128 .f32) (x6 : Vec F S1x128 .f32) (x7 : Vec F S128x128 .f32) (x8 : Vec F S1x128 .f32) (x9 : Vec F S1x128 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 = rows x0 x1 x2 x3 (laF x4 x5 x6) (laB x4 x7 x8) x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9)]
  unfold kernelRun0_A
  dsimp only
  sl_unfold_run_names
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread,
    View.ld_unit_zero (S := S256x128) hz, View.ld_unit_zero (S := S256x128) hoff1, View.ld_unit_zero (S := S256x128) hoff2,
    View.ld_unit_zero (S := S128x128) hz, View.ld_unit_zero (S := S1x128) hz, View.readCov_full (s := S256x128), fill, last0, View.readCov_cons_toLoadRect]
  rfl

end Cert.Proof.Block

end
-- ==== Proof.Gates.lean ====
/- The block's log decays and their sums: the kernel's products in three parts, where a value is split into itself and the
   remainders of its roundings, are the plain products once every remainder is zero, which needs the split value real. -/
module

public import proofs.«01_k».proof.Proof.Block

@[expose] public section

set_option maxRecDepth 16384

noncomputable section

namespace Cert.Proof.Gates

open Cert.KernelIdeal Cert.KernelIdeal.Gen Idealize.ShloMosaic Cert.Proof.Masks Cert.Proof.Spec Cert.Proof.Block

/-- A real number less itself is zero. -/
theorem sub_self_of_real {x : EReal} (h : ∃ r : ℝ, x = (r : EReal)) : x - x = 0 := by
  obtain ⟨r, rfl⟩ := h
  rw [← EReal.coe_sub, sub_self, EReal.coe_zero]

/-- What the gate's products need of a block's low-rank rows, weights and bias: the first sixteen columns real, the
    weights' other rows zero. -/
structure GateOk (x : Vec Ideal S256x128 .f32) (w : Vec Ideal S128x128 .f32) (b : Vec Ideal S1x128 .f32) : Prop where
  low : ∀ r (c : Fin 16), ∃ u : ℝ, x (ix2 r (Fin.castLE (by decide) c)) = (u : EReal)
  weight : ∀ (c : Fin 16) d, ∃ u : ℝ, w (ix2 (Fin.castLE (by decide) c) d) = (u : EReal)
  pad : ∀ (c : Fin 128) d, 16 ≤ c.val → w (ix2 c d) = 0
  bias : ∀ d, ∃ u : ℝ, b (ix2 0 d) = (u : EReal)

/-- A block's pre-activation at a row and a column. -/
def pre (x : Vec Ideal S256x128 .f32) (w : Vec Ideal S128x128 .f32) (b : Vec Ideal S1x128 .f32) (r : Fin 256) (d : Fin 128) : EReal :=
  preact (fun c => x (ix2 r (Fin.castLE (by decide) c))) (fun c d => w (ix2 (Fin.castLE (by decide) c) d)) (fun d => b (ix2 0 d)) d

section
variable {x : Vec Ideal S256x128 .f32} {w : Vec Ideal S128x128 .f32} {b : Vec Ideal S1x128 .f32}

/-- A sum over 128 terms of which those from the sixteenth on are zero. -/
theorem sum_low (f : Fin 128 → EReal) (h : ∀ c : Fin 128, 16 ≤ c.val → f c = 0) :
    ∑ c : Fin 128, f c = ∑ c : Fin 16, f (Fin.castLE (by decide) c) := by
  rw [show (∑ c : Fin 128, f c) = ∑ c : Fin (16 + 112), f c from rfl, Fin.sum_univ_add]
  have hz : ∑ c : Fin 112, f (Fin.natAdd 16 c) = 0 :=
    Finset.sum_eq_zero fun c _ => h _ (by show 16 ≤ 16 + c.val; omega)
  rw [hz, add_zero]
  rfl

/-- The product in three parts is the product over the sixteen columns. -/
theorem threeparts (h : GateOk x w b) (r : Fin 256) (d : Fin 128) :
    (∑ c : Fin 128, x (ix2 r c) * w (ix2 c d)) + (∑ c : Fin 128, (x (ix2 r c) - x (ix2 r c)) * w (ix2 c d))
        + (∑ c : Fin 128, x (ix2 r c) * (w (ix2 c d) - w (ix2 c d)))
      = ∑ c : Fin 16, x (ix2 r (Fin.castLE (by decide) c)) * w (ix2 (Fin.castLE (by decide) c) d) := by
  have hw : ∀ c : Fin 128, w (ix2 c d) - w (ix2 c d) = 0 := fun c => by
    by_cases hc : 16 ≤ c.val
    · rw [h.pad c d hc, sub_zero]
    · exact sub_self_of_real (h.weight ⟨c.val, by omega⟩ d)
  have hx : ∀ c : Fin 128, (x (ix2 r c) - x (ix2 r c)) * w (ix2 c d) = 0 := fun c => by
    by_cases hc : 16 ≤ c.val
    · rw [h.pad c d hc, mul_zero]
    · have h0 : x (ix2 r c) - x (ix2 r c) = 0 := sub_self_of_real (h.low r ⟨c.val, by omega⟩)
      rw [h0, zero_mul]
  simp only [hw, hx, mul_zero, Finset.sum_const_zero, add_zero]
  exact sum_low _ fun c hc => by rw [h.pad c d hc, mul_zero]

/-- The pre-activation is real. -/
theorem pre_real (h : GateOk x w b) (r : Fin 256) (d : Fin 128) : ∃ u : ℝ, pre x w b r d = (u : EReal) := by
  unfold pre preact
  choose f hf using fun c => h.low r c
  choose g hg using fun c => h.weight c d
  obtain ⟨v, hv⟩ := h.bias d
  refine ⟨(∑ c : Fin 16, f c * g c) + v, ?_⟩
  simp only [hf, hg, hv, EReal.coe_add, coe_sum, EReal.coe_mul]

theorem laF_apply (h : GateOk x w b) (r : Fin 256) (d : Fin 128) : laF x w b (ix2 r d) = gate (pre x w b r d) := by
  have hp : (∑ c : Fin 16, x (ix2 r (Fin.castLE (by decide) c)) * w (ix2 (Fin.castLE (by decide) c) d)) + b (ix2 0 d) = pre x w b r d := rfl
  rw [← hp, ← threeparts h]
  unfold laF gate
  pointwise [k0_pay2]
  rfl

theorem laB_apply (h : GateOk x w b) (r : Fin 256) (d : Fin 128) : laB x w b (ix2 r d) = gate (pre x w b r d) := by
  have hp : (∑ c : Fin 16, x (ix2 r (Fin.castLE (by decide) c)) * w (ix2 (Fin.castLE (by decide) c) d)) + b (ix2 0 d) = pre x w b r d := rfl
  rw [← hp, ← threeparts h]
  unfold laB gate
  pointwise [k0_pay6, k0_pay3, k0_pay4, k0_pay5]
  rfl

end

/-! ## The sums over a chunk -/

/-- A block's array in chunks, in a direction's order of rows. -/
abbrev ch (σ : Fin 4 × Fin 64 ≃ Fin 256) (V : FVec Ideal S256x128 .f32) : Chunked := fun n i d => V (ix2 (σ (n, i)) d)

/-- The queries in chunks, scaled. -/
abbrev chq (σ : Fin 4 × Fin 64 ≃ Fin 256) (V : FVec Ideal S256x128 .f32) : Chunked :=
  fun n i d => V (ix2 (σ (n, i)) d) * Ideal.ofBits .f32 0x3DB504F3#32

section
variable {L : FVec Ideal S256x128 .f32} (hL : ∀ r d, ∃ u : ℝ, L (ix2 r d) = (u : EReal))
include hL

/-- A sum of choices times the log decays, in three parts of which two are zero. -/
theorem sum_choice (tri : IVec S256x256 1) (r : Fin 256) (d : Fin 128) :
    (∑ c : Fin 256, Scalar.select (tri (ix2 r c)) (1 : EReal) 0 * L (ix2 c d))
        + (∑ c : Fin 256, Scalar.select (tri (ix2 r c)) (1 : EReal) 0 * (L (ix2 c d) - L (ix2 c d)))
        + (∑ c : Fin 256, Scalar.select (tri (ix2 r c)) (1 : EReal) 0 * (L (ix2 c d) - L (ix2 c d) - (L (ix2 c d) - L (ix2 c d))))
      = ∑ c : Fin 256, Scalar.select (tri (ix2 r c)) (1 : EReal) 0 * L (ix2 c d) := by
  simp only [fun c : Fin 256 => sub_self_of_real (hL c d), sub_zero, mul_zero, Finset.sum_const_zero, add_zero]

omit hL in
/-- Over a triangular mask it is the running sum, -/
theorem sum_tri {σ : Fin 4 × Fin 64 ≃ Fin 256} {tri : IVec S256x256 1} (o : Ordered σ tri) (n : Fin 4) (i : Fin 64) (d : Fin 128) :
    ∑ c : Fin 256, Scalar.select (tri (ix2 (σ (n, i)) c)) (1 : EReal) 0 * L (ix2 c d) = cum (ch σ L) n i d :=
  sum_rows σ _ n (fun j => if j ≤ i then L (ix2 (σ (n, j)) d) else 0) fun m j => by
    rw [o.tri, select_ofBool]
    by_cases hm : m = n
    · subst hm; by_cases hj : j ≤ i <;> simp [hj]
    · simp [hm]

omit hL in
/-- and over the mask of equal chunks the chunk's sum. -/
theorem sum_same {σ : Fin 4 × Fin 64 ≃ Fin 256} {tri : IVec S256x256 1} (o : Ordered σ tri) (n : Fin 4) (i : Fin 64) (d : Fin 128) :
    ∑ c : Fin 256, Scalar.select (same (ix2 (σ (n, i)) c)) (1 : EReal) 0 * L (ix2 c d) = tot (ch σ L) n d :=
  sum_rows σ _ n (fun j => L (ix2 (σ (n, j)) d)) fun m j => by
    rw [o.same, select_ofBool]
    by_cases hm : m = n
    · subst hm; simp
    · simp [hm]

theorem cumF_apply (n : Fin 4) (i : Fin 64) (d : Fin 128) : cumF L (ix2 (rowsF (n, i)) d) = cum (ch rowsF L) n i d := by
  rw [← sum_tri ordered_F, ← sum_choice hL]
  unfold cumF
  pointwise [k0_pay23, k0_pay15, k0_pay17, k0_pay18, k0_pay16]

theorem totF_apply (n : Fin 4) (i : Fin 64) (d : Fin 128) : totF L (ix2 (rowsF (n, i)) d) = tot (ch rowsF L) n d := by
  rw [← sum_same ordered_F n i, ← sum_choice hL]
  unfold totF
  pointwise [k0_pay26, k0_pay14, k0_pay15, k0_pay17, k0_pay18, k0_pay16]

theorem cumB_apply (n : Fin 4) (i : Fin 64) (d : Fin 128) : cumB L (ix2 (rowsB (n, i)) d) = cum (ch rowsB L) n i d := by
  rw [← sum_tri ordered_B, ← sum_choice hL]
  unfold cumB
  pointwise [k0_pay25, k0_pay13, k0_pay24, k0_pay19, k0_pay20, k0_pay21, k0_pay22]

theorem totB_apply (n : Fin 4) (i : Fin 64) (d : Fin 128) : totB L (ix2 (rowsB (n, i)) d) = tot (ch rowsB L) n d := by
  rw [← sum_same ordered_B n i, ← sum_choice hL]
  unfold totB
  pointwise [k0_pay27, k0_pay14, k0_pay19, k0_pay20, k0_pay21, k0_pay22]

end

end Cert.Proof.Gates

end
-- ==== Proof.ScanF.lean ====
/- The forward direction of a block: each of the kernel's values is the recurrence's, over the block's arrays in chunks from
   the sequence's start; the kernel keeps the state with the value's index first. -/
module

public import proofs.«01_k».proof.Proof.Gates

@[expose] public section

set_option maxRecDepth 16384

noncomputable section

namespace Cert.Proof.ScanF

open Cert.KernelIdeal Cert.KernelIdeal.Gen Idealize.ShloMosaic Cert.Proof.Masks Cert.Proof.Spec Cert.Proof.Block Cert.Proof.Gates

theorem row_val (n : Fin 4) (i : Fin 64) : (rowsF (n, i)).val = 64 * n.val + i.val := rfl

theorem zeroF_apply (e d : Fin 128) : (zeroF : Vec Ideal S1x128x128 .f32) (ix3 0 e d) = 0 := by
  show (k0_pay7 : FVec Ideal S2x128x128 .f32) _ = 0
  unfold k0_pay7
  rw [shapeCast_self]
  exact Ideal.ofBits_zero_f32

variable {x0 x1 x2 : Vec Ideal S256x128 .f32} {L : FVec Ideal S256x128 .f32} (hL : ∀ r d, ∃ u : ℝ, L (ix2 r d) = (u : EReal))
include hL

theorem qd_apply (n : Fin 4) (i : Fin 64) (d : Fin 128) :
    qdF x0 L (ix2 (rowsF (n, i)) d) = qdec (chq rowsF x0) (ch rowsF L) n i d := by
  have h : qdF x0 L (ix2 (rowsF (n, i)) d)
      = x0 (ix2 (rowsF (n, i)) d) * Ideal.ofBits .f32 0x3DB504F3#32 * Ideal.exp (cumF L (ix2 (rowsF (n, i)) d)) := by
    unfold qdF
    pointwise [k0_pay30]
  rw [h, cumF_apply hL]
  rfl

theorem ki_apply (n : Fin 4) (i : Fin 64) (d : Fin 128) :
    kiF x1 L (ix2 (rowsF (n, i)) d) = kinv (ch rowsF x1) (ch rowsF L) n i d := by
  have h : kiF x1 L (ix2 (rowsF (n, i)) d)
      = x1 (ix2 (rowsF (n, i)) d) * Ideal.exp (0 - cumF L (ix2 (rowsF (n, i)) d)) := by
    unfold kiF
    pointwise [k0_pay32]
  rw [h, cumF_apply hL, zero_sub]
  rfl

theorem ks_apply (n : Fin 4) (i : Fin 64) (d : Fin 128) :
    ksF x1 L (ix2 (rowsF (n, i)) d) = kend (ch rowsF x1) (ch rowsF L) n i d := by
  have h : ksF x1 L (ix2 (rowsF (n, i)) d)
      = x1 (ix2 (rowsF (n, i)) d) * Ideal.exp (totF L (ix2 (rowsF (n, i)) d) - cumF L (ix2 (rowsF (n, i)) d)) := by
    unfold ksF
    pointwise [k0_pay34]
  rw [h, cumF_apply hL, totF_apply hL]
  rfl

/-- A row's part from its own chunk. -/
theorem intra_apply (n : Fin 4) (i : Fin 64) (e : Fin 128) :
    k0_pay36 lower (k0_pay28 x2) (qdF x0 L) (kiF x1 L) (ix2 (rowsF (n, i)) e)
      = intra (chq rowsF x0) (ch rowsF x1) (ch rowsF x2) (ch rowsF L) n i e := by
  have h : k0_pay36 lower (k0_pay28 x2) (qdF x0 L) (kiF x1 L) (ix2 (rowsF (n, i)) e)
      = ∑ c : Fin 256, Scalar.select (lower (ix2 (rowsF (n, i)) c))
          ((∑ d : Fin 128, qdF x0 L (ix2 (rowsF (n, i)) d) * kiF x1 L (ix2 c d)) * x2 (ix2 c e)) 0 := by
    pointwise [k0_pay36, k0_pay28]
  rw [h]
  refine sum_rows rowsF _ n _ fun m j => ?_
  rw [ordered_F.tri, select_ofBool]
  by_cases hm : m = n
  · subst hm
    by_cases hj : j ≤ i
    · rw [if_pos ⟨rfl, hj⟩, if_pos rfl]
      unfold att
      rw [if_pos hj]
      simp only [qd_apply hL, ki_apply hL]
    · rw [if_neg (fun h => hj h.2), if_pos rfl]
      unfold att
      rw [if_neg hj, zero_mul]
  · rw [if_neg (fun h => hm h.1), if_neg hm]

/-- One chunk's step of the state, over the rows as the kernel takes them. -/
theorem step_apply (n : Fin 4) (e d : Fin 128) (s : EReal) (S : Fin 128 → Fin 128 → EReal) (hs : s = S d e) (o : Fin 256) (ρ : Fin 64 → Fin 256)
    (ho : ∃ i, o = rowsF (n, i)) (hρ : ∀ j, ρ j = rowsF (n, j)) :
    s * Ideal.exp (totF L (ix2 o d)) + ∑ j : Fin 64, x2 (ix2 (ρ j) e) * ksF x1 L (ix2 (ρ j) d)
      = step (ch rowsF x1) (ch rowsF x2) (ch rowsF L) n S d e := by
  obtain ⟨i, rfl⟩ := ho
  simp only [hρ, totF_apply hL, ks_apply hL, hs]
  unfold step
  rw [mul_comm (S d e)]
  congr 1
  exact Finset.sum_congr rfl fun j _ => mul_comm _ _

theorem st1_apply (e d : Fin 128) : st1F x1 x2 L (ix2 e d) = st1 (ch rowsF x1) (ch rowsF x2) (ch rowsF L) d e := by
  have h : st1F x1 x2 L (ix2 e d) = (zeroF : Vec Ideal S1x128x128 .f32) (ix3 0 e d) * Ideal.exp (totF L (ix2 0 d))
      + ∑ j : Fin 64, x2 (ix2 ⟨j.val, by omega⟩ e) * ksF x1 L (ix2 ⟨j.val, by omega⟩ d) := by
    unfold st1F ksF
    pointwise [k0_pay43, k0_pay28, k0_pay38, k0_pay40]
  rw [h]
  exact step_apply hL 0 e d _ _ (zeroF_apply e d) _ _ ⟨0, Fin.ext (by rw [row_val]; rfl)⟩ (fun j => Fin.ext (by rw [row_val]; simp))

theorem st2_apply (e d : Fin 128) : k0_pay47 (k0_pay28 x2) (ksF x1 L) (k0_pay38 (totF L)) (st1F x1 x2 L) (ix2 e d) = st2 (ch rowsF x1) (ch rowsF x2) (ch rowsF L) d e := by
  have h : k0_pay47 (k0_pay28 x2) (ksF x1 L) (k0_pay38 (totF L)) (st1F x1 x2 L) (ix2 e d) = st1F x1 x2 L (ix2 e d) * Ideal.exp (totF L (ix2 64 d))
      + ∑ j : Fin 64, x2 (ix2 ⟨64 + j.val, by omega⟩ e) * ksF x1 L (ix2 ⟨64 + j.val, by omega⟩ d) := by
    skip
    pointwise [k0_pay47, k0_pay28, k0_pay38, k0_pay40]
  rw [h]
  exact step_apply hL 1 e d _ _ (st1_apply hL e d) _ _ ⟨0, Fin.ext (by rw [row_val]; rfl)⟩ (fun j => Fin.ext (by rw [row_val]; simp))

theorem st3_apply (e d : Fin 128) : st3F x1 x2 L (ix2 e d) = st3 (ch rowsF x1) (ch rowsF x2) (ch rowsF L) d e := by
  have h : st3F x1 x2 L (ix2 e d) = k0_pay47 (k0_pay28 x2) (ksF x1 L) (k0_pay38 (totF L)) (st1F x1 x2 L) (ix2 e d) * Ideal.exp (totF L (ix2 128 d))
      + ∑ j : Fin 64, x2 (ix2 ⟨128 + j.val, by omega⟩ e) * ksF x1 L (ix2 ⟨128 + j.val, by omega⟩ d) := by
    unfold st3F
    pointwise [k0_pay51, k0_pay28, k0_pay38, k0_pay40]
  rw [h]
  exact step_apply hL 2 e d _ _ (st2_apply hL e d) _ _ ⟨0, Fin.ext (by rw [row_val]; rfl)⟩ (fun j => Fin.ext (by rw [row_val]; simp))

theorem st4_apply (e d : Fin 128) : st4F x1 x2 L (ix3 0 e d) = st4 (ch rowsF x1) (ch rowsF x2) (ch rowsF L) d e := by
  have h : st4F x1 x2 L (ix3 0 e d) = st3F x1 x2 L (ix2 e d) * Ideal.exp (totF L (ix2 192 d))
      + ∑ j : Fin 64, x2 (ix2 ⟨192 + j.val, by omega⟩ e) * ksF x1 L (ix2 ⟨192 + j.val, by omega⟩ d) := by
    unfold st4F
    pointwise [k0_pay55, k0_pay28, k0_pay38, k0_pay40]
  rw [h]
  exact step_apply hL 3 e d _ _ (st3_apply hL e d) _ _ ⟨0, Fin.ext (by rw [row_val]; rfl)⟩ (fun j => Fin.ext (by rw [row_val]; simp))

/-- A row's part from the chunks before its own, over the rows as the kernel takes them. -/
theorem inter_of (n : Fin 4) (i : Fin 64) (e : Fin 128) (ρ : Fin 256) (s : Fin 128 → EReal) (hρ : ρ = rowsF (n, i))
    (hs : ∀ d, s d = before (ch rowsF x1) (ch rowsF x2) (ch rowsF L) n d e) :
    ∑ d : Fin 128, qdF x0 L (ix2 ρ d) * s d = inter (chq rowsF x0) (ch rowsF x1) (ch rowsF x2) (ch rowsF L) n i e := by
  subst hρ
  simp only [hs, qd_apply hL]
  rfl

theorem inter0_apply (i : Fin 64) (e : Fin 128) :
    k0_pay42 (qdF x0 L) zeroF (ix2 i e) = inter (chq rowsF x0) (ch rowsF x1) (ch rowsF x2) (ch rowsF L) 0 i e := by
  have h : k0_pay42 (qdF x0 L) zeroF (ix2 i e)
      = ∑ d : Fin 128, qdF x0 L (ix2 ⟨(i).val, by omega⟩ d) * (zeroF : Vec Ideal S1x128x128 .f32) (ix3 0 e d) := by
    skip
    pointwise [k0_pay42, k0_pay40]
  rw [h]
  exact inter_of hL 0 i e _ _ (Fin.ext (by rw [row_val]; simp)) fun d => zeroF_apply e d

theorem inter1_apply (i : Fin 64) (e : Fin 128) :
    k0_pay46 (qdF x0 L) (st1F x1 x2 L) (ix2 i e) = inter (chq rowsF x0) (ch rowsF x1) (ch rowsF x2) (ch rowsF L) 1 i e := by
  have h : k0_pay46 (qdF x0 L) (st1F x1 x2 L) (ix2 i e)
      = ∑ d : Fin 128, qdF x0 L (ix2 ⟨64 + (i).val, by omega⟩ d) * st1F x1 x2 L (ix2 e d) := by
    skip
    pointwise [k0_pay46]
  rw [h]
  exact inter_of hL 1 i e _ _ (Fin.ext (by rw [row_val]; simp)) fun d => st1_apply hL e d

theorem inter2_apply (i : Fin 64) (e : Fin 128) :
    k0_pay50 (k0_pay28 x2) (qdF x0 L) (ksF x1 L) (k0_pay38 (totF L)) (st1F x1 x2 L) (ix2 i e) = inter (chq rowsF x0) (ch rowsF x1) (ch rowsF x2) (ch rowsF L) 2 i e := by
  have h : k0_pay50 (k0_pay28 x2) (qdF x0 L) (ksF x1 L) (k0_pay38 (totF L)) (st1F x1 x2 L) (ix2 i e)
      = ∑ d : Fin 128, qdF x0 L (ix2 ⟨128 + (i).val, by omega⟩ d) * k0_pay47 (k0_pay28 x2) (ksF x1 L) (k0_pay38 (totF L)) (st1F x1 x2 L) (ix2 e d) := by
    skip
    pointwise [k0_pay50]
  rw [h]
  exact inter_of hL 2 i e _ _ (Fin.ext (by rw [row_val]; simp)) fun d => st2_apply hL e d

theorem inter3_apply (i : Fin 64) (e : Fin 128) :
    k0_pay54 (k0_pay28 x2) (qdF x0 L) (ksF x1 L) (k0_pay38 (totF L)) (st1F x1 x2 L) (ix2 i e) = inter (chq rowsF x0) (ch rowsF x1) (ch rowsF x2) (ch rowsF L) 3 i e := by
  have h : k0_pay54 (k0_pay28 x2) (qdF x0 L) (ksF x1 L) (k0_pay38 (totF L)) (st1F x1 x2 L) (ix2 i e)
      = ∑ d : Fin 128, qdF x0 L (ix2 ⟨192 + (i).val, by omega⟩ d) * st3F x1 x2 L (ix2 e d) := by
    unfold st3F
    pointwise [k0_pay54]
  rw [h]
  exact inter_of hL 3 i e _ _ (Fin.ext (by rw [row_val]; simp)) fun d => st3_apply hL e d

/-- The direction's rows. -/
theorem out_apply (n : Fin 4) (i : Fin 64) (e : Fin 128) :
    outF x0 x1 x2 L (ix2 (rowsF (n, i)) e) = out (chq rowsF x0) (ch rowsF x1) (ch rowsF x2) (ch rowsF L) n i e := by
  unfold out
  rw [← intra_apply hL]
  unfold outF
  pointwise [k0_pay56]
  congr 1
  have hv := row_val n i
  have hi := i.isLt
  have hn : n = 0 ∨ n = 1 ∨ n = 2 ∨ n = 3 := by clear hv; revert n; decide
  rcases hn with rfl | rfl | rfl | rfl
  · have hv' : (rowsF (0, i)).val = 0 + i.val := by rw [hv]; simp
    rw [dif_pos (by omega)]
    exact (congrArg (fun k => k0_pay42 (qdF x0 L) zeroF (ix2 k e)) (Fin.ext (by show _ = i.val; simp only []; omega))).trans (inter0_apply hL i e)
  · have hv' : (rowsF (1, i)).val = 64 + i.val := by rw [hv]; rfl
    rw [dif_neg (by omega), dif_pos (by omega)]
    exact (congrArg (fun k => k0_pay46 (qdF x0 L) (st1F x1 x2 L) (ix2 k e)) (Fin.ext (by show _ = i.val; simp only []; omega))).trans (inter1_apply hL i e)
  · have hv' : (rowsF (2, i)).val = 128 + i.val := by rw [hv]; rfl
    rw [dif_neg (by omega), dif_neg (by omega), dif_pos (by omega)]
    exact (congrArg (fun k => k0_pay50 (k0_pay28 x2) (qdF x0 L) (ksF x1 L) (k0_pay38 (totF L)) (st1F x1 x2 L) (ix2 k e)) (Fin.ext (by show _ = i.val; simp only []; omega))).trans (inter2_apply hL i e)
  · have hv' : (rowsF (3, i)).val = 192 + i.val := by rw [hv]; rfl
    rw [dif_neg (by omega), dif_neg (by omega), dif_neg (by omega)]
    exact (congrArg (fun k => k0_pay54 (k0_pay28 x2) (qdF x0 L) (ksF x1 L) (k0_pay38 (totF L)) (st1F x1 x2 L) (ix2 k e)) (Fin.ext (by show _ = i.val; simp only []; omega))).trans (inter3_apply hL i e)

end Cert.Proof.ScanF

end
-- ==== Proof.ScanB.lean ====
/- The backward direction of a block: each of the kernel's values is the recurrence's, over the block's arrays in chunks from
   the sequence's end; the kernel keeps the state with the value's index first. -/
module

public import proofs.«01_k».proof.Proof.Gates

@[expose] public section

set_option maxRecDepth 16384

noncomputable section

namespace Cert.Proof.ScanB

open Cert.KernelIdeal Cert.KernelIdeal.Gen Idealize.ShloMosaic Cert.Proof.Masks Cert.Proof.Spec Cert.Proof.Block Cert.Proof.Gates

theorem row_val (n : Fin 4) (i : Fin 64) : (rowsB (n, i)).val = 255 - (64 * n.val + i.val) := by rw [rowsB_apply]; rfl

theorem zeroB_apply (e d : Fin 128) : (zeroB : Vec Ideal S1x128x128 .f32) (ix3 0 e d) = 0 := by
  show (k0_pay7 : FVec Ideal S2x128x128 .f32) _ = 0
  unfold k0_pay7
  rw [shapeCast_self]
  exact Ideal.ofBits_zero_f32

variable {x0 x1 x2 : Vec Ideal S256x128 .f32} {L : FVec Ideal S256x128 .f32} (hL : ∀ r d, ∃ u : ℝ, L (ix2 r d) = (u : EReal))
include hL

theorem qd_apply (n : Fin 4) (i : Fin 64) (d : Fin 128) :
    qdB x0 L (ix2 (rowsB (n, i)) d) = qdec (chq rowsB x0) (ch rowsB L) n i d := by
  have h : qdB x0 L (ix2 (rowsB (n, i)) d)
      = x0 (ix2 (rowsB (n, i)) d) * Ideal.ofBits .f32 0x3DB504F3#32 * Ideal.exp (cumB L (ix2 (rowsB (n, i)) d)) := by
    unfold qdB cumB
    pointwise [k0_pay31]
  rw [h, cumB_apply hL]
  rfl

theorem ki_apply (n : Fin 4) (i : Fin 64) (d : Fin 128) :
    x1 (ix2 (rowsB (n, i)) d) * kiB L (ix2 (rowsB (n, i)) d) = kinv (ch rowsB x1) (ch rowsB L) n i d := by
  have h : x1 (ix2 (rowsB (n, i)) d) * kiB L (ix2 (rowsB (n, i)) d)
      = x1 (ix2 (rowsB (n, i)) d) * Ideal.exp (0 - cumB L (ix2 (rowsB (n, i)) d)) := by
    unfold kiB cumB
    pointwise [k0_pay33]
  rw [h, cumB_apply hL, zero_sub]
  rfl

theorem ks_apply (n : Fin 4) (i : Fin 64) (d : Fin 128) :
    ksB x1 L (ix2 (rowsB (n, i)) d) = kend (ch rowsB x1) (ch rowsB L) n i d := by
  have h : ksB x1 L (ix2 (rowsB (n, i)) d)
      = x1 (ix2 (rowsB (n, i)) d) * Ideal.exp (totB L (ix2 (rowsB (n, i)) d) - cumB L (ix2 (rowsB (n, i)) d)) := by
    unfold ksB
    pointwise [k0_pay35]
  rw [h, cumB_apply hL, totB_apply hL]
  rfl

/-- A row's part from its own chunk. -/
theorem intra_apply (n : Fin 4) (i : Fin 64) (e : Fin 128) :
    k0_pay37 upper (k0_pay29 x2) (qdB x0 L) x1 (kiB L) (ix2 (rowsB (n, i)) e)
      = intra (chq rowsB x0) (ch rowsB x1) (ch rowsB x2) (ch rowsB L) n i e := by
  have h : k0_pay37 upper (k0_pay29 x2) (qdB x0 L) x1 (kiB L) (ix2 (rowsB (n, i)) e)
      = ∑ c : Fin 256, Scalar.select (upper (ix2 (rowsB (n, i)) c))
          ((∑ d : Fin 128, qdB x0 L (ix2 (rowsB (n, i)) d) * (x1 (ix2 c d) * kiB L (ix2 c d))) * x2 (ix2 c e)) 0 := by
    pointwise [k0_pay37, k0_pay29]
  rw [h]
  refine sum_rows rowsB _ n _ fun m j => ?_
  rw [ordered_B.tri, select_ofBool]
  by_cases hm : m = n
  · subst hm
    by_cases hj : j ≤ i
    · rw [if_pos ⟨rfl, hj⟩, if_pos rfl]
      unfold att
      rw [if_pos hj]
      simp only [qd_apply hL, ki_apply hL]
    · rw [if_neg (fun h => hj h.2), if_pos rfl]
      unfold att
      rw [if_neg hj, zero_mul]
  · rw [if_neg (fun h => hm h.1), if_neg hm]

/-- One chunk's step of the state, over the rows as the kernel takes them. -/
theorem step_apply (n : Fin 4) (e d : Fin 128) (s : EReal) (S : Fin 128 → Fin 128 → EReal) (hs : s = S d e) (o : Fin 256) (ρ : Fin 64 → Fin 256)
    (ho : ∃ i, o = rowsB (n, i)) (hρ : ∀ j, ρ j = rowsB (n, Fin.rev j)) :
    s * Ideal.exp (totB L (ix2 o d)) + ∑ j : Fin 64, x2 (ix2 (ρ j) e) * ksB x1 L (ix2 (ρ j) d)
      = step (ch rowsB x1) (ch rowsB x2) (ch rowsB L) n S d e := by
  obtain ⟨i, rfl⟩ := ho
  simp only [hρ, totB_apply hL, ks_apply hL, hs]
  unfold step
  rw [mul_comm (S d e)]
  congr 1
  rw [← Equiv.sum_comp Fin.revPerm]
  refine Finset.sum_congr rfl fun j _ => ?_
  rw [mul_comm]
  simp only [Fin.revPerm_apply, Fin.rev_rev]

theorem st1_apply (e d : Fin 128) : k0_pay45 (k0_pay29 x2) (ksB x1 L) (k0_pay39 (totB L)) (k0_pay41 zeroB) (ix2 e d) = st1 (ch rowsB x1) (ch rowsB x2) (ch rowsB L) d e := by
  have h : k0_pay45 (k0_pay29 x2) (ksB x1 L) (k0_pay39 (totB L)) (k0_pay41 zeroB) (ix2 e d) = (zeroB : Vec Ideal S1x128x128 .f32) (ix3 0 e d) * Ideal.exp (totB L (ix2 192 d))
      + ∑ j : Fin 64, x2 (ix2 ⟨192 + j.val, by omega⟩ e) * ksB x1 L (ix2 ⟨192 + j.val, by omega⟩ d) := by
    skip
    pointwise [k0_pay45, k0_pay29, k0_pay41, k0_pay39, k0_pay40]
  rw [h]
  exact step_apply hL 0 e d _ _ (zeroB_apply e d) _ _ ⟨63, Fin.ext (by rw [row_val]; rfl)⟩ (fun j => Fin.ext (by rw [row_val]; have := j.isLt; simp [Fin.val_rev]; omega))

theorem st2_apply (e d : Fin 128) : k0_pay49 (k0_pay29 x2) (ksB x1 L) (k0_pay39 (totB L)) (k0_pay41 zeroB) (ix2 e d) = st2 (ch rowsB x1) (ch rowsB x2) (ch rowsB L) d e := by
  have h : k0_pay49 (k0_pay29 x2) (ksB x1 L) (k0_pay39 (totB L)) (k0_pay41 zeroB) (ix2 e d) = k0_pay45 (k0_pay29 x2) (ksB x1 L) (k0_pay39 (totB L)) (k0_pay41 zeroB) (ix2 e d) * Ideal.exp (totB L (ix2 128 d))
      + ∑ j : Fin 64, x2 (ix2 ⟨128 + j.val, by omega⟩ e) * ksB x1 L (ix2 ⟨128 + j.val, by omega⟩ d) := by
    skip
    pointwise [k0_pay49, k0_pay29, k0_pay39, k0_pay40]
  rw [h]
  exact step_apply hL 1 e d _ _ (st1_apply hL e d) _ _ ⟨63, Fin.ext (by rw [row_val]; rfl)⟩ (fun j => Fin.ext (by rw [row_val]; have := j.isLt; simp [Fin.val_rev]; omega))

theorem st3_apply (e d : Fin 128) : st3B x1 x2 L (ix2 e d) = st3 (ch rowsB x1) (ch rowsB x2) (ch rowsB L) d e := by
  have h : st3B x1 x2 L (ix2 e d) = k0_pay49 (k0_pay29 x2) (ksB x1 L) (k0_pay39 (totB L)) (k0_pay41 zeroB) (ix2 e d) * Ideal.exp (totB L (ix2 64 d))
      + ∑ j : Fin 64, x2 (ix2 ⟨64 + j.val, by omega⟩ e) * ksB x1 L (ix2 ⟨64 + j.val, by omega⟩ d) := by
    unfold st3B
    pointwise [k0_pay53, k0_pay29, k0_pay39, k0_pay40]
  rw [h]
  exact step_apply hL 2 e d _ _ (st2_apply hL e d) _ _ ⟨63, Fin.ext (by rw [row_val]; rfl)⟩ (fun j => Fin.ext (by rw [row_val]; have := j.isLt; simp [Fin.val_rev]; omega))

theorem st4_apply (e d : Fin 128) : st4B x1 x2 L (ix3 0 e d) = st4 (ch rowsB x1) (ch rowsB x2) (ch rowsB L) d e := by
  have h : st4B x1 x2 L (ix3 0 e d) = st3B x1 x2 L (ix2 e d) * Ideal.exp (totB L (ix2 0 d))
      + ∑ j : Fin 64, x2 (ix2 ⟨j.val, by omega⟩ e) * ksB x1 L (ix2 ⟨j.val, by omega⟩ d) := by
    unfold st4B
    pointwise [k0_pay57, k0_pay29, k0_pay39, k0_pay40]
  rw [h]
  exact step_apply hL 3 e d _ _ (st3_apply hL e d) _ _ ⟨63, Fin.ext (by rw [row_val]; rfl)⟩ (fun j => Fin.ext (by rw [row_val]; have := j.isLt; simp [Fin.val_rev]; omega))

/-- A row's part from the chunks before its own, over the rows as the kernel takes them. -/
theorem inter_of (n : Fin 4) (i : Fin 64) (e : Fin 128) (ρ : Fin 256) (s : Fin 128 → EReal) (hρ : ρ = rowsB (n, i))
    (hs : ∀ d, s d = before (ch rowsB x1) (ch rowsB x2) (ch rowsB L) n d e) :
    ∑ d : Fin 128, qdB x0 L (ix2 ρ d) * s d = inter (chq rowsB x0) (ch rowsB x1) (ch rowsB x2) (ch rowsB L) n i e := by
  subst hρ
  simp only [hs, qd_apply hL]
  rfl

theorem inter0_apply (i : Fin 64) (e : Fin 128) :
    k0_pay44 (qdB x0 L) zeroB (ix2 (Fin.rev i) e) = inter (chq rowsB x0) (ch rowsB x1) (ch rowsB x2) (ch rowsB L) 0 i e := by
  have h : k0_pay44 (qdB x0 L) zeroB (ix2 (Fin.rev i) e)
      = ∑ d : Fin 128, qdB x0 L (ix2 ⟨192 + ((Fin.rev i)).val, by omega⟩ d) * (zeroB : Vec Ideal S1x128x128 .f32) (ix3 0 e d) := by
    skip
    pointwise [k0_pay44, k0_pay41]
  rw [h]
  exact inter_of hL 0 i e _ _ (Fin.ext (by rw [row_val]; have := i.isLt; simp [Fin.val_rev]; omega)) fun d => zeroB_apply e d

theorem inter1_apply (i : Fin 64) (e : Fin 128) :
    k0_pay48 (k0_pay29 x2) (qdB x0 L) (ksB x1 L) (k0_pay39 (totB L)) (k0_pay41 zeroB) (ix2 (Fin.rev i) e) = inter (chq rowsB x0) (ch rowsB x1) (ch rowsB x2) (ch rowsB L) 1 i e := by
  have h : k0_pay48 (k0_pay29 x2) (qdB x0 L) (ksB x1 L) (k0_pay39 (totB L)) (k0_pay41 zeroB) (ix2 (Fin.rev i) e)
      = ∑ d : Fin 128, qdB x0 L (ix2 ⟨128 + ((Fin.rev i)).val, by omega⟩ d) * k0_pay45 (k0_pay29 x2) (ksB x1 L) (k0_pay39 (totB L)) (k0_pay41 zeroB) (ix2 e d) := by
    skip
    pointwise [k0_pay48]
  rw [h]
  exact inter_of hL 1 i e _ _ (Fin.ext (by rw [row_val]; have := i.isLt; simp [Fin.val_rev]; omega)) fun d => st1_apply hL e d

theorem inter2_apply (i : Fin 64) (e : Fin 128) :
    k0_pay52 (k0_pay29 x2) (qdB x0 L) (ksB x1 L) (k0_pay39 (totB L)) (k0_pay41 zeroB) (ix2 (Fin.rev i) e) = inter (chq rowsB x0) (ch rowsB x1) (ch rowsB x2) (ch rowsB L) 2 i e := by
  have h : k0_pay52 (k0_pay29 x2) (qdB x0 L) (ksB x1 L) (k0_pay39 (totB L)) (k0_pay41 zeroB) (ix2 (Fin.rev i) e)
      = ∑ d : Fin 128, qdB x0 L (ix2 ⟨64 + ((Fin.rev i)).val, by omega⟩ d) * k0_pay49 (k0_pay29 x2) (ksB x1 L) (k0_pay39 (totB L)) (k0_pay41 zeroB) (ix2 e d) := by
    skip
    pointwise [k0_pay52]
  rw [h]
  exact inter_of hL 2 i e _ _ (Fin.ext (by rw [row_val]; have := i.isLt; simp [Fin.val_rev]; omega)) fun d => st2_apply hL e d

/-- The direction's rows. -/
theorem out_apply (n : Fin 4) (i : Fin 64) (e : Fin 128) :
    outB x0 x1 x2 L (ix2 (rowsB (n, i)) e) = out (chq rowsB x0) (ch rowsB x1) (ch rowsB x2) (ch rowsB L) n i e := by
  unfold out
  rw [← intra_apply hL]
  unfold outB
  pointwise [k0_pay58]
  congr 1
  have hv := row_val n i
  have hi := i.isLt
  have hn : n = 0 ∨ n = 1 ∨ n = 2 ∨ n = 3 := by clear hv; revert n; decide
  rcases hn with rfl | rfl | rfl | rfl
  · have hv' : (rowsB (0, i)).val = 255 - i.val := by rw [hv]; show 255 - (64 * 0 + i.val) = _; omega
    rw [dif_neg (by omega), dif_neg (by omega), dif_neg (by omega)]
    exact (congrArg (fun k => k0_pay44 (qdB x0 L) zeroB (ix2 k e)) (Fin.ext (by show _ = (Fin.rev i).val; rw [Fin.val_rev]; simp only []; omega))).trans (inter0_apply hL i e)
  · have hv' : (rowsB (1, i)).val = 191 - i.val := by rw [hv]; show 255 - (64 * 1 + i.val) = _; omega
    rw [dif_neg (by omega), dif_neg (by omega), dif_pos (by omega)]
    exact (congrArg (fun k => k0_pay48 (k0_pay29 x2) (qdB x0 L) (ksB x1 L) (k0_pay39 (totB L)) (k0_pay41 zeroB) (ix2 k e)) (Fin.ext (by show _ = (Fin.rev i).val; rw [Fin.val_rev]; simp only []; omega))).trans (inter1_apply hL i e)
  · have hv' : (rowsB (2, i)).val = 127 - i.val := by rw [hv]; show 255 - (64 * 2 + i.val) = _; omega
    rw [dif_neg (by omega), dif_pos (by omega)]
    exact (congrArg (fun k => k0_pay52 (k0_pay29 x2) (qdB x0 L) (ksB x1 L) (k0_pay39 (totB L)) (k0_pay41 zeroB) (ix2 k e)) (Fin.ext (by show _ = (Fin.rev i).val; rw [Fin.val_rev]; simp only []; omega))).trans (inter2_apply hL i e)
  · have hv' : (rowsB (3, i)).val = 63 - i.val := by rw [hv]; show 255 - (64 * 3 + i.val) = _; omega
    rw [dif_pos (by omega)]
    exact inter_of hL 3 i e _ _ (Fin.ext (by rw [hv'])) fun d => st3_apply hL e d

end Cert.Proof.ScanB

end
-- ==== Proof.BlockValue.lean ====
/- What one block's results hold at an index: the normalised sum of the two directions' rows, and the two closing states
   with the key's index first. -/
module

public import proofs.«01_k».proof.Proof.ScanF
public import proofs.«01_k».proof.Proof.ScanB

@[expose] public section

set_option maxRecDepth 16384

noncomputable section

namespace Cert.Proof.BlockValue

open Cert.KernelIdeal Cert.KernelIdeal.Gen Idealize.ShloMosaic Cert.Proof.Spec Cert.Proof.Block Cert.Proof.Gates

/-- A stored row: the sum of the two directions, normalised, times the gate column's own value through its logistic. -/
theorem rows_normed (x0 x1 x2 x3 : Vec Ideal S256x128 .f32) (L M : FVec Ideal S256x128 .f32) (x9 : Vec Ideal S1x128 .f32)
    (r : Fin 256) (e : Fin 128) :
    rows x0 x1 x2 x3 L M x9 (ix2 r e)
      = normed (fun c => outF x0 x1 x2 L (ix2 r c) + outB x0 x1 x2 M (ix2 r c)) (fun c => x9 (ix2 0 c)) (fun c => x3 (ix2 r c)) e := by
  unfold rows normed
  pointwise [k0_pay61, k0_pay59, k0_pay60]
  rw [zero_sub]

variable {x0 x1 x2 x3 : Vec Ideal S256x128 .f32} {L M : FVec Ideal S256x128 .f32}

/-- The stored row over the two recurrences: forwards at the row itself, backwards at its mirror image. -/
theorem rows_apply (hL : ∀ r d, ∃ u : ℝ, L (ix2 r d) = (u : EReal)) (hM : ∀ r d, ∃ u : ℝ, M (ix2 r d) = (u : EReal))
    (x9 : Vec Ideal S1x128 .f32) (r : Fin 256) (e : Fin 128) :
    rows x0 x1 x2 x3 L M x9 (ix2 r e)
      = normed (fun c => out (chq rowsF x0) (ch rowsF x1) (ch rowsF x2) (ch rowsF L) (chunkOf r) (inChunk r) c
          + out (chq rowsB x0) (ch rowsB x1) (ch rowsB x2) (ch rowsB M) (chunkOf (Fin.rev r)) (inChunk (Fin.rev r)) c)
        (fun c => x9 (ix2 0 c)) (fun c => x3 (ix2 r c)) e := by
  rw [rows_normed]
  congr 1
  funext c
  have h1 := ScanF.out_apply (x0 := x0) (x1 := x1) (x2 := x2) hL (chunkOf r) (inChunk r) c
  have h2 := ScanB.out_apply (x0 := x0) (x1 := x1) (x2 := x2) hM (chunkOf (Fin.rev r)) (inChunk (Fin.rev r)) c
  rw [show rowsF (chunkOf r, inChunk r) = r from rowF_chunk r] at h1
  rw [rowsB_apply, rowB_chunk r] at h2
  rw [h1, h2]

/-- The forward closing state, key's index first. -/
theorem stateF_apply (hL : ∀ r d, ∃ u : ℝ, L (ix2 r d) = (u : EReal)) (d e : Fin 128) :
    (k0_pay62 (st4F x1 x2 L) : FVec Ideal S1x128x128 .f32) (ix3 0 d e) = st4 (ch rowsF x1) (ch rowsF x2) (ch rowsF L) d e := by
  rw [← ScanF.st4_apply hL e d]
  pointwise [k0_pay62]

/-- The backward closing state, key's index first. -/
theorem stateB_apply (hM : ∀ r d, ∃ u : ℝ, M (ix2 r d) = (u : EReal)) (d e : Fin 128) :
    (k0_pay1 (k0_pay63 (st4B x1 x2 M)) : FVec Ideal S1x128x128 .f32) (ix3 0 d e)
      = st4 (ch rowsB x1) (ch rowsB x2) (ch rowsB M) d e := by
  rw [← ScanB.st4_apply hM e d]
  pointwise [k0_pay1, k0_pay63]

end Cert.Proof.BlockValue

end
-- ==== Proof.Blocks.lean ====
/- The blocks a grid point is given, read off the arguments: its sequence's rows of a head's columns, and the head's weights and
   biases, the weights' rows past the sixteenth zero. -/
module

public import proofs.«01_k».proof.Proof.BlockValue
public import proofs.«01_k».proof.Proof.Problem
public import proofs.«01_k».proof.Proof.Gen.KernelIdeal.Value
public import Idealize.ShloMosaic.Lib.StableHlo.ReadAt

@[expose] public section

set_option maxRecDepth 16384

noncomputable section

namespace Cert.Proof.Blocks

open Cert.KernelIdeal Cert.KernelIdeal.Gen Idealize.ShloMosaic Idealize.ShloMosaic.TcCoe Cert.Proof.Spec Cert.Proof.Problem

variable (m : (ℓ : Loc nD τ sig) → Buf (Elt Ideal) ℓ) (c : Dev nD)

/-- The sequence and the head of a grid point. -/
def seqOf (t : Fin cfg0.N) : Fin 32 := ⟨t.val / 4, by have h : t.val < 128 := t.isLt; omega⟩
def headOf (t : Fin cfg0.N) : Fin 4 := ⟨t.val % 4, by omega⟩

theorem idx_z : ∀ t : Fin grid0.N,
    (win0_0.index t 0 = t.val / 4 ∧ win0_0.index t 1 = t.val % 4) ∧ (win0_1.index t 0 = t.val / 4 ∧ win0_1.index t 1 = 4 + t.val % 4)
    ∧ (win0_2.index t 0 = t.val / 4 ∧ win0_2.index t 1 = 8 + t.val % 4) ∧ (win0_3.index t 0 = t.val / 4 ∧ win0_3.index t 1 = 12 + t.val % 4)
    ∧ (win0_4.index t 0 = t.val / 4 ∧ win0_4.index t 1 = 24) := by decide +kernel

theorem idx_w : ∀ t : Fin grid0.N,
    (win0_5.index t 0 = 0 ∧ win0_5.index t 1 = t.val % 4) ∧ (win0_6.index t 0 = 0 ∧ win0_6.index t 1 = t.val % 4)
    ∧ (win0_7.index t 0 = 0 ∧ win0_7.index t 1 = t.val % 4) ∧ (win0_8.index t 0 = 0 ∧ win0_8.index t 1 = t.val % 4)
    ∧ (win0_9.index t 0 = 0 ∧ win0_9.index t 1 = 0) := by decide +kernel

theorem idx_o : ∀ t : Fin grid0.N,
    (win0_10.index t 0 = t.val / 4 ∧ win0_10.index t 1 = t.val % 4)
    ∧ (win0_11.index t 0 = t.val ∧ win0_11.index t 1 = 0 ∧ win0_11.index t 2 = 0)
    ∧ (win0_12.index t 0 = t.val ∧ win0_12.index t 1 = 0 ∧ win0_12.index t 2 = 0) := by decide +kernel

/-- The arguments as functions of a sequence, a row and a column. -/
abbrev z := zOf (m ((c : Thread nD τ).loc main_arg0))
abbrev wF := wOf (m ((c : Thread nD τ).loc main_arg1))
abbrev bF := bOf (m ((c : Thread nD τ).loc main_arg2))
abbrev wB := wOf (m ((c : Thread nD τ).loc main_arg3))
abbrev bB := bOf (m ((c : Thread nD τ).loc main_arg4))
abbrev nw := nOf (m ((c : Thread nD τ).loc main_arg5))

theorem blk0 (t : Fin cfg0.N) (r : Fin 256) (d : Fin 128) :
    (iblk m c 0 t : Vec Ideal S256x128 .f32) (ix2 r d) = z m c (seqOf t) r (col 0 (headOf t) d) := by
  obtain ⟨⟨e0, e1⟩, _⟩ := idx_z t
  show V m c main_arg0 (((cfg0.win 0).blk t).view.emb (ix2 r d)) = m ((c : Thread nD τ).loc main_arg0) (ix2 (inRow (seqOf t) r) (col 0 (headOf t) d))
  rw [V_main_arg0]
  congr 1
  funext a; apply Fin.ext
  match a with
  | ⟨0, _⟩ => show win0_0.index t 0 * 256 + 1 * r.val = 256 * (t.val / 4) + r.val; omega
  | ⟨1, _⟩ => show win0_0.index t 1 * 128 + 1 * d.val = 512 * 0 + 128 * (t.val % 4) + d.val; omega

theorem blk1 (t : Fin cfg0.N) (r : Fin 256) (d : Fin 128) :
    (iblk m c 1 t : Vec Ideal S256x128 .f32) (ix2 r d) = z m c (seqOf t) r (col 1 (headOf t) d) := by
  obtain ⟨_, ⟨e0, e1⟩, _⟩ := idx_z t
  show V m c main_arg0 (((cfg0.win 1).blk t).view.emb (ix2 r d)) = m ((c : Thread nD τ).loc main_arg0) (ix2 (inRow (seqOf t) r) (col 1 (headOf t) d))
  rw [V_main_arg0]
  congr 1
  funext a; apply Fin.ext
  match a with
  | ⟨0, _⟩ => show win0_1.index t 0 * 256 + 1 * r.val = 256 * (t.val / 4) + r.val; omega
  | ⟨1, _⟩ => show win0_1.index t 1 * 128 + 1 * d.val = 512 * 1 + 128 * (t.val % 4) + d.val; omega

theorem blk2 (t : Fin cfg0.N) (r : Fin 256) (d : Fin 128) :
    (iblk m c 2 t : Vec Ideal S256x128 .f32) (ix2 r d) = z m c (seqOf t) r (col 2 (headOf t) d) := by
  obtain ⟨_, _, ⟨e0, e1⟩, _⟩ := idx_z t
  show V m c main_arg0 (((cfg0.win 2).blk t).view.emb (ix2 r d)) = m ((c : Thread nD τ).loc main_arg0) (ix2 (inRow (seqOf t) r) (col 2 (headOf t) d))
  rw [V_main_arg0]
  congr 1
  funext a; apply Fin.ext
  match a with
  | ⟨0, _⟩ => show win0_2.index t 0 * 256 + 1 * r.val = 256 * (t.val / 4) + r.val; omega
  | ⟨1, _⟩ => show win0_2.index t 1 * 128 + 1 * d.val = 512 * 2 + 128 * (t.val % 4) + d.val; omega

theorem blk3 (t : Fin cfg0.N) (r : Fin 256) (d : Fin 128) :
    (iblk m c 3 t : Vec Ideal S256x128 .f32) (ix2 r d) = z m c (seqOf t) r (col 3 (headOf t) d) := by
  obtain ⟨_, _, _, ⟨e0, e1⟩, _⟩ := idx_z t
  show V m c main_arg0 (((cfg0.win 3).blk t).view.emb (ix2 r d)) = m ((c : Thread nD τ).loc main_arg0) (ix2 (inRow (seqOf t) r) (col 3 (headOf t) d))
  rw [V_main_arg0]
  congr 1
  funext a; apply Fin.ext
  match a with
  | ⟨0, _⟩ => show win0_3.index t 0 * 256 + 1 * r.val = 256 * (t.val / 4) + r.val; omega
  | ⟨1, _⟩ => show win0_3.index t 1 * 128 + 1 * d.val = 512 * 3 + 128 * (t.val % 4) + d.val; omega

theorem blk4 (t : Fin cfg0.N) (r : Fin 256) (k : Fin 16) :
    (iblk m c 4 t : Vec Ideal S256x128 .f32) (ix2 r (Fin.castLE (by decide) k)) = z m c (seqOf t) r (lowCol k) := by
  obtain ⟨_, _, _, _, ⟨e0, e1⟩⟩ := idx_z t
  show V m c main_arg0 (((cfg0.win 4).blk t).view.emb (ix2 r (Fin.castLE (by decide) k))) = m ((c : Thread nD τ).loc main_arg0) (ix2 (inRow (seqOf t) r) (lowCol k))
  rw [V_main_arg0]
  congr 1
  funext a; apply Fin.ext
  match a with
  | ⟨0, _⟩ => show win0_4.index t 0 * 256 + 1 * r.val = 256 * (t.val / 4) + r.val; omega
  | ⟨1, _⟩ => show win0_4.index t 1 * 128 + 1 * k.val = 3072 + k.val; omega

theorem V1_low (k : Fin 16) (j : Fin 512) :
    (V m c main_v1 : Vec Ideal S128x512 .f32) (ix2 (Fin.castLE (by decide) k) j) = m ((c : Thread nD τ).loc main_arg1) (ix2 k j) := by
  unfold_abbrev_sides
  after_reads_at
  exact dif_pos k.isLt

theorem V1_pad (k : Fin 128) (hk : 16 ≤ k.val) (j : Fin 512) : @Eq EReal ((V m c main_v1 : Vec Ideal S128x512 .f32) (ix2 k j)) 0 := by
  unfold_abbrev_sides
  after_reads_at
  exact dif_neg (by omega)

theorem V4_low (k : Fin 16) (j : Fin 512) :
    (V m c main_v4 : Vec Ideal S128x512 .f32) (ix2 (Fin.castLE (by decide) k) j) = m ((c : Thread nD τ).loc main_arg3) (ix2 k j) := by
  unfold_abbrev_sides
  after_reads_at
  exact dif_pos k.isLt

theorem V4_pad (k : Fin 128) (hk : 16 ≤ k.val) (j : Fin 512) : @Eq EReal ((V m c main_v4 : Vec Ideal S128x512 .f32) (ix2 k j)) 0 := by
  unfold_abbrev_sides
  after_reads_at
  exact dif_neg (by omega)

theorem V2_apply (j : Fin 512) : (V m c main_v2 : Vec Ideal S1x512 .f32) (ix2 0 j) = m ((c : Thread nD τ).loc main_arg2) (ix1 j) := by
  unfold_abbrev_sides
  after_reads_at

theorem V5_apply (j : Fin 512) : (V m c main_v5 : Vec Ideal S1x512 .f32) (ix2 0 j) = m ((c : Thread nD τ).loc main_arg4) (ix1 j) := by
  unfold_abbrev_sides
  after_reads_at

theorem V6_apply (j : Fin 128) : (V m c main_v6 : Vec Ideal S1x128 .f32) (ix2 0 j) = m ((c : Thread nD τ).loc main_arg5) (ix1 j) := by
  unfold_abbrev_sides
  after_reads_at

/-- Block 5 is the head's columns of the padded weights. -/
theorem emb5 (t : Fin cfg0.N) (k d : Fin 128) : ((cfg0.win 5).blk t).view.emb (ix2 k d) = (ix2 k (headCol (headOf t) d) : S128x512.Idx) := by
  obtain ⟨⟨e0, e1⟩, _⟩ := idx_w t
  funext a; apply Fin.ext
  match a with
  | ⟨0, _⟩ => show win0_5.index t 0 * 128 + 1 * k.val = k.val; omega
  | ⟨1, _⟩ => show win0_5.index t 1 * 128 + 1 * d.val = 128 * (t.val % 4) + d.val; omega

theorem blk5_low (t : Fin cfg0.N) (k : Fin 16) (d : Fin 128) :
    (iblk m c 5 t : Vec Ideal S128x128 .f32) (ix2 (Fin.castLE (by decide) k) d) = wF m c k (headOf t) d := by
  show V m c main_v1 (((cfg0.win 5).blk t).view.emb (ix2 (Fin.castLE (by decide) k) d)) = _
  rw [emb5]
  exact V1_low m c k _

theorem blk5_pad (t : Fin cfg0.N) (k : Fin 128) (hk : 16 ≤ k.val) (d : Fin 128) :
    @Eq EReal ((iblk m c 5 t : Vec Ideal S128x128 .f32) (ix2 k d)) 0 := by
  show V m c main_v1 (((cfg0.win 5).blk t).view.emb (ix2 k d)) = _
  rw [emb5]
  exact V1_pad m c k hk _

/-- Block 7 is the head's columns of the padded weights. -/
theorem emb7 (t : Fin cfg0.N) (k d : Fin 128) : ((cfg0.win 7).blk t).view.emb (ix2 k d) = (ix2 k (headCol (headOf t) d) : S128x512.Idx) := by
  obtain ⟨_, _, ⟨e0, e1⟩, _⟩ := idx_w t
  funext a; apply Fin.ext
  match a with
  | ⟨0, _⟩ => show win0_7.index t 0 * 128 + 1 * k.val = k.val; omega
  | ⟨1, _⟩ => show win0_7.index t 1 * 128 + 1 * d.val = 128 * (t.val % 4) + d.val; omega

theorem blk7_low (t : Fin cfg0.N) (k : Fin 16) (d : Fin 128) :
    (iblk m c 7 t : Vec Ideal S128x128 .f32) (ix2 (Fin.castLE (by decide) k) d) = wB m c k (headOf t) d := by
  show V m c main_v4 (((cfg0.win 7).blk t).view.emb (ix2 (Fin.castLE (by decide) k) d)) = _
  rw [emb7]
  exact V4_low m c k _

theorem blk7_pad (t : Fin cfg0.N) (k : Fin 128) (hk : 16 ≤ k.val) (d : Fin 128) :
    @Eq EReal ((iblk m c 7 t : Vec Ideal S128x128 .f32) (ix2 k d)) 0 := by
  show V m c main_v4 (((cfg0.win 7).blk t).view.emb (ix2 k d)) = _
  rw [emb7]
  exact V4_pad m c k hk _

/-- Block 6 is the head's part of the bias. -/
theorem emb6 (t : Fin cfg0.N) (d : Fin 128) : ((cfg0.win 6).blk t).view.emb (ix2 0 d) = (ix2 0 (headCol (headOf t) d) : S1x512.Idx) := by
  obtain ⟨_, ⟨e0, e1⟩, _⟩ := idx_w t
  funext a; apply Fin.ext
  match a with
  | ⟨0, _⟩ => show win0_6.index t 0 * 1 + 1 * 0 = 0; omega
  | ⟨1, _⟩ => show win0_6.index t 1 * 128 + 1 * d.val = 128 * (t.val % 4) + d.val; omega

theorem blk6 (t : Fin cfg0.N) (d : Fin 128) : (iblk m c 6 t : Vec Ideal S1x128 .f32) (ix2 0 d) = bF m c (headOf t) d := by
  show V m c main_v2 (((cfg0.win 6).blk t).view.emb (ix2 0 d)) = _
  rw [emb6]
  exact V2_apply m c _

/-- Block 8 is the head's part of the bias. -/
theorem emb8 (t : Fin cfg0.N) (d : Fin 128) : ((cfg0.win 8).blk t).view.emb (ix2 0 d) = (ix2 0 (headCol (headOf t) d) : S1x512.Idx) := by
  obtain ⟨_, _, _, ⟨e0, e1⟩, _⟩ := idx_w t
  funext a; apply Fin.ext
  match a with
  | ⟨0, _⟩ => show win0_8.index t 0 * 1 + 1 * 0 = 0; omega
  | ⟨1, _⟩ => show win0_8.index t 1 * 128 + 1 * d.val = 128 * (t.val % 4) + d.val; omega

theorem blk8 (t : Fin cfg0.N) (d : Fin 128) : (iblk m c 8 t : Vec Ideal S1x128 .f32) (ix2 0 d) = bB m c (headOf t) d := by
  show V m c main_v5 (((cfg0.win 8).blk t).view.emb (ix2 0 d)) = _
  rw [emb8]
  exact V5_apply m c _

/-- Block 9 is the norm's weights. -/
theorem emb9 (t : Fin cfg0.N) (d : Fin 128) : ((cfg0.win 9).blk t).view.emb (ix2 0 d) = (ix2 0 d : S1x128.Idx) := by
  obtain ⟨_, _, _, _, ⟨e0, e1⟩⟩ := idx_w t
  funext a; apply Fin.ext
  match a with
  | ⟨0, _⟩ => show win0_9.index t 0 * 1 + 1 * 0 = 0; omega
  | ⟨1, _⟩ => show win0_9.index t 1 * 128 + 1 * d.val = d.val; omega

theorem blk9 (t : Fin cfg0.N) (d : Fin 128) : (iblk m c 9 t : Vec Ideal S1x128 .f32) (ix2 0 d) = nw m c d := by
  show V m c main_v6 (((cfg0.win 9).blk t).view.emb (ix2 0 d)) = _
  rw [emb9]
  exact V6_apply m c _

end Cert.Proof.Blocks

end
-- ==== Proof.Arrays.lean ====
/- What the kernel's three result arrays hold after the run, at every index: the results of `Problem` over the arguments, the
   gates' columns, weights and biases real. -/
module

public import proofs.«01_k».proof.Proof.Blocks

@[expose] public section

set_option maxRecDepth 16384

noncomputable section

namespace Cert.Proof.Arrays

open Cert.KernelIdeal Cert.KernelIdeal.Gen Idealize.ShloMosaic Idealize.ShloMosaic.TcCoe Cert.Proof.Spec Cert.Proof.Problem
open Cert.Proof.Block Cert.Proof.Gates Cert.Proof.Blocks Cert.Proof.BlockValue

variable (m : (ℓ : Loc nD τ sig) → Buf (Elt Ideal) ℓ) (c : Dev nD)

/-- The gates' columns, weights and biases are real numbers. -/
structure GatesReal : Prop where
  low : ∀ s r k, ∃ u : ℝ, z m c s r (lowCol k) = (u : EReal)
  weightF : ∀ k h d, ∃ u : ℝ, wF m c k h d = (u : EReal)
  biasF : ∀ h d, ∃ u : ℝ, bF m c h d = (u : EReal)
  weightB : ∀ k h d, ∃ u : ℝ, wB m c k h d = (u : EReal)
  biasB : ∀ h d, ∃ u : ℝ, bB m c h d = (u : EReal)

variable {m c} (hg : GatesReal m c)
include hg

theorem okF (t : Fin cfg0.N) : GateOk (iblk m c 4 t) (iblk m c 5 t) (iblk m c 6 t) where
  low r k := by rw [blk4]; exact hg.low _ _ _
  weight k d := by rw [blk5_low]; exact hg.weightF _ _ _
  pad k d hk := blk5_pad m c t k hk d
  bias d := by rw [blk6]; exact hg.biasF _ _

theorem okB (t : Fin cfg0.N) : GateOk (iblk m c 4 t) (iblk m c 7 t) (iblk m c 8 t) where
  low r k := by rw [blk4]; exact hg.low _ _ _
  weight k d := by rw [blk7_low]; exact hg.weightB _ _ _
  pad k d hk := blk7_pad m c t k hk d
  bias d := by rw [blk8]; exact hg.biasB _ _

/-- A block's log decays are its sequence's and head's. -/
theorem decayF (t : Fin cfg0.N) (r : Fin 256) (d : Fin 128) :
    laF (iblk m c 4 t) (iblk m c 5 t) (iblk m c 6 t) (ix2 r d) = decay (z m c) (wF m c) (bF m c) (seqOf t) (headOf t) r d := by
  rw [laF_apply (okF hg t)]
  unfold pre decay
  simp only [blk4, blk5_low, blk6]

theorem decayB (t : Fin cfg0.N) (r : Fin 256) (d : Fin 128) :
    laB (iblk m c 4 t) (iblk m c 7 t) (iblk m c 8 t) (ix2 r d) = decay (z m c) (wB m c) (bB m c) (seqOf t) (headOf t) r d := by
  rw [laB_apply (okB hg t)]
  unfold pre decay
  simp only [blk4, blk7_low, blk8]

theorem realF (t : Fin cfg0.N) (r : Fin 256) (d : Fin 128) :
    ∃ u : ℝ, laF (iblk m c 4 t) (iblk m c 5 t) (iblk m c 6 t) (ix2 r d) = (u : EReal) := by
  obtain ⟨u, hu⟩ := pre_real (okF hg t) r d
  rw [laF_apply (okF hg t), hu]
  exact ⟨_, gate_coe u⟩

theorem realB (t : Fin cfg0.N) (r : Fin 256) (d : Fin 128) :
    ∃ u : ℝ, laB (iblk m c 4 t) (iblk m c 7 t) (iblk m c 8 t) (ix2 r d) = (u : EReal) := by
  obtain ⟨u, hu⟩ := pre_real (okB hg t) r d
  rw [laB_apply (okB hg t), hu]
  exact ⟨_, gate_coe u⟩

/-- What a grid point computes, at a row, -/
theorem point_row (t : Fin cfg0.N) (r : Fin 256) (e : Fin 128) :
    rows (iblk m c 0 t) (iblk m c 1 t) (iblk m c 2 t) (iblk m c 3 t) (laF (iblk m c 4 t) (iblk m c 5 t) (iblk m c 6 t))
        (laB (iblk m c 4 t) (iblk m c 7 t) (iblk m c 8 t)) (iblk m c 9 t) (ix2 r e)
      = row (z m c) (wF m c) (wB m c) (bF m c) (bB m c) (nw m c) (seqOf t) (headOf t) r e := by
  rw [rows_apply (realF hg t) (realB hg t)]
  unfold row sweep chunks ch chq queries keys values gates
  simp only [decayF hg, decayB hg, blk0, blk1, blk2, blk3, blk9]

/-- and its two closing states. -/
theorem point_stateF (t : Fin cfg0.N) (d e : Fin 128) :
    k0_pay62 (st4F (iblk m c 1 t) (iblk m c 2 t) (laF (iblk m c 4 t) (iblk m c 5 t) (iblk m c 6 t))) (ix3 0 d e)
      = closing (z m c) (wF m c) (bF m c) (seqOf t) (headOf t) rowsF d e := by
  rw [stateF_apply (realF hg t)]
  unfold closing chunks ch keys values
  simp only [decayF hg, blk1, blk2]

theorem point_stateB (t : Fin cfg0.N) (d e : Fin 128) :
    k0_pay1 (k0_pay63 (st4B (iblk m c 1 t) (iblk m c 2 t) (laB (iblk m c 4 t) (iblk m c 7 t) (iblk m c 8 t)))) (ix3 0 d e)
      = closing (z m c) (wB m c) (bB m c) (seqOf t) (headOf t) rowsB d e := by
  rw [stateB_apply (realB hg t)]
  unfold closing chunks ch keys values
  simp only [decayB hg, blk1, blk2]

/-- The grid point of a sequence and a head. -/
def pointOf (s : Fin 32) (h : Fin 4) : Fin cfg0.N := ⟨4 * s.val + h.val, by show _ < 128; omega⟩
omit hg in
theorem seqOf_point (s : Fin 32) (h : Fin 4) : seqOf (pointOf s h) = s := Fin.ext (by show (4 * s.val + h.val) / 4 = s.val; omega)
omit hg in
theorem headOf_point (s : Fin 32) (h : Fin 4) : headOf (pointOf s h) = h := Fin.ext (by show (4 * s.val + h.val) % 4 = h.val; omega)

/-- The rows' array. -/
theorem rows_array (s : Fin 32) (h : Fin 4) (r : Fin 256) (e : Fin 128) :
    ((dats m 0 c).arrAt 10 cfg0.N : Vec Ideal S8192x512 .bf16) (ix2 (outRow s r) (headCol h e))
      = row (z m c) (wF m c) (wB m c) (bF m c) (bB m c) (nw m c) s h r e := by
  have hb := congrFun (Value.blocks10 m c (pointOf s h) (flush0_10 _)) (ix2 r e)
  rw [Value.flushed10_A, out10_eq] at hb
  have hp := point_row hg (pointOf s h) r e
  rw [seqOf_point, headOf_point] at hp
  have hemb : ((cfg0.win 10).blk (pointOf s h)).view.emb (ix2 r e) = (ix2 (outRow s r) (headCol h e) : S8192x512.Idx) := by
    obtain ⟨⟨e0, e1⟩, _⟩ := idx_o (pointOf s h)
    have hv : (pointOf s h).val = 4 * s.val + h.val := rfl
    rw [hv] at e0 e1
    funext a; apply Fin.ext
    match a with
    | ⟨0, _⟩ => show win0_10.index (pointOf s h) 0 * 256 + 1 * r.val = 256 * s.val + r.val; omega
    | ⟨1, _⟩ => show win0_10.index (pointOf s h) 1 * 128 + 1 * e.val = 128 * h.val + e.val; omega
  rw [View.read_apply, hemb] at hb
  exact hb.trans hp

/-- The forward states' array. -/
theorem stateF_array (s : Fin 32) (h : Fin 4) (d e : Fin 128) :
    ((dats m 0 c).arrAt 11 cfg0.N : Vec Ideal S128x128x128 .f32) (ix3 (pair s h) d e)
      = closing (z m c) (wF m c) (bF m c) s h rowsF d e := by
  have hb := congrFun (Value.blocks11 m c (pointOf s h) (flush0_11 _)) (ix3 0 d e)
  rw [Value.flushed11_A, out11_eq] at hb
  have hp := point_stateF hg (pointOf s h) d e
  rw [seqOf_point, headOf_point] at hp
  have hemb : ((cfg0.win 11).blk (pointOf s h)).view.emb (ix3 0 d e) = (ix3 (pair s h) d e : S128x128x128.Idx) := by
    obtain ⟨_, ⟨e0, e1, e2⟩, _⟩ := idx_o (pointOf s h)
    have hv : (pointOf s h).val = 4 * s.val + h.val := rfl
    rw [hv] at e0
    funext a; apply Fin.ext
    match a with
    | ⟨0, _⟩ => show win0_11.index (pointOf s h) 0 * 1 + 1 * 0 = 4 * s.val + h.val; omega
    | ⟨1, _⟩ => show win0_11.index (pointOf s h) 1 * 128 + 1 * d.val = d.val; omega
    | ⟨2, _⟩ => show win0_11.index (pointOf s h) 2 * 128 + 1 * e.val = e.val; omega
  rw [View.read_apply, hemb] at hb
  exact hb.trans hp

/-- The backward states' array. -/
theorem stateB_array (s : Fin 32) (h : Fin 4) (d e : Fin 128) :
    ((dats m 0 c).arrAt 12 cfg0.N : Vec Ideal S128x128x128 .f32) (ix3 (pair s h) d e)
      = closing (z m c) (wB m c) (bB m c) s h rowsB d e := by
  have hb := congrFun (Value.blocks12 m c (pointOf s h) (flush0_12 _)) (ix3 0 d e)
  rw [Value.flushed12_A, out12_eq] at hb
  have hp := point_stateB hg (pointOf s h) d e
  rw [seqOf_point, headOf_point] at hp
  have hemb : ((cfg0.win 12).blk (pointOf s h)).view.emb (ix3 0 d e) = (ix3 (pair s h) d e : S128x128x128.Idx) := by
    obtain ⟨_, _, ⟨e0, e1, e2⟩⟩ := idx_o (pointOf s h)
    have hv : (pointOf s h).val = 4 * s.val + h.val := rfl
    rw [hv] at e0
    funext a; apply Fin.ext
    match a with
    | ⟨0, _⟩ => show win0_12.index (pointOf s h) 0 * 1 + 1 * 0 = 4 * s.val + h.val; omega
    | ⟨1, _⟩ => show win0_12.index (pointOf s h) 1 * 128 + 1 * d.val = d.val; omega
    | ⟨2, _⟩ => show win0_12.index (pointOf s h) 2 * 128 + 1 * e.val = e.val; omega
  rw [View.read_apply, hemb] at hb
  exact hb.trans hp

end Cert.Proof.Arrays

end
-- ==== Proof.Equation.lean ====
/- The equation: under the precondition the call and the reference end with the same three arrays. -/
module

public import proofs.«01_k».proof.Proof.Finite
public import proofs.«01_k».proof.Proof.Arrays
public import proofs.«01_k».proof.Proof.Gen.Kernel.Frame
public import proofs.«01_k».proof.Proof.Gen.KernelIdeal.Value
public import proofs.«01_k».proof.Proof.Gen.ReferenceIdeal.Run
public import Idealize.ShloMosaic.Lib.Quiescent

@[expose] public section

set_option maxRecDepth 16384

noncomputable section

namespace Cert.Proof.Equation

open Idealize.ShloMosaic Idealize.ShloMosaic.TcCoe Idealize.SL.Sem Cert.Proof.Problem
open Cert.ReferenceIdeal.Read

variable (m : (ℓ : Loc Cert.KernelIdeal.nD Cert.KernelIdeal.τ Cert.KernelIdeal.sig) → Buf (Elt Ideal) ℓ) (c : Dev Cert.KernelIdeal.nD)

/-- The reference's three results of the call's arguments. -/
abbrev rows : Buf (Elt Ideal) ((c.tc : Thread Cert.KernelIdeal.nD Cert.KernelIdeal.τ).loc Cert.KernelIdeal.main_v7_0) :=
  val_main_v137 (F := Ideal) (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4)) (m (c.tc.loc Cert.KernelIdeal.main_arg5))
abbrev stateF : Buf (Elt Ideal) ((c.tc : Thread Cert.KernelIdeal.nD Cert.KernelIdeal.τ).loc Cert.KernelIdeal.main_v7_1) :=
  val_main_v139 (F := Ideal) (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4))
abbrev stateB : Buf (Elt Ideal) ((c.tc : Thread Cert.KernelIdeal.nD Cert.KernelIdeal.τ).loc Cert.KernelIdeal.main_v7_2) :=
  val_main_v141 (F := Ideal) (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4))

section
variable {m c}
variable (hg : Cert.Proof.Arrays.GatesReal m c)
include hg

theorem real : Cert.Proof.RefRows.GatesReal (m (c.tc.loc Cert.KernelIdeal.main_arg0)) (m (c.tc.loc Cert.KernelIdeal.main_arg1))
    (m (c.tc.loc Cert.KernelIdeal.main_arg3)) (m (c.tc.loc Cert.KernelIdeal.main_arg2)) (m (c.tc.loc Cert.KernelIdeal.main_arg4)) :=
  ⟨hg.low, hg.weightF, hg.biasF, hg.weightB, hg.biasB⟩

/-- The call's rows are the reference's. -/
theorem rows_eq : (Cert.KernelIdeal.Gen.dats m 0 c).arrAt 10 Cert.KernelIdeal.cfg0.N = rows m c := by
  funext i
  obtain ⟨a, b, rfl⟩ : ∃ a b, i = ix2 a b := ⟨i 0, i 1, eq_ix2 i⟩
  obtain ⟨s, r, rfl⟩ := outRow_surj a
  obtain ⟨h, e, rfl⟩ := headCol_surj b
  rw [Cert.Proof.Arrays.rows_array hg]
  exact (Cert.Proof.RefRows.rows_at _ (real hg) s h r e).symm

/-- Its forward states are, -/
theorem stateF_eq : (Cert.KernelIdeal.Gen.dats m 0 c).arrAt 11 Cert.KernelIdeal.cfg0.N = stateF m c := by
  funext i
  obtain ⟨a, d, e, rfl⟩ : ∃ a d e, i = ix3 a d e := ⟨i 0, i 1, i 2, eq_ix3 i⟩
  obtain ⟨s, h, rfl⟩ := pair_surj a
  rw [Cert.Proof.Arrays.stateF_array hg]
  exact (Cert.Proof.RefRows.stateF_at (real hg) s h d e).symm

/-- and its backward states. -/
theorem stateB_eq : (Cert.KernelIdeal.Gen.dats m 0 c).arrAt 12 Cert.KernelIdeal.cfg0.N = stateB m c := by
  funext i
  obtain ⟨a, d, e, rfl⟩ : ∃ a d e, i = ix3 a d e := ⟨i 0, i 1, i 2, eq_ix3 i⟩
  obtain ⟨s, h, rfl⟩ := pair_surj a
  rw [Cert.Proof.Arrays.stateB_array hg]
  exact (Cert.Proof.RefRows.stateB_at (real hg) s h d e).symm
end

/-- The frames of the three programs: each runs, and leaves its arguments and every semaphore as they were. -/
theorem frame_k : Cert.quiescent_Kernel := fun m ρ _ => Cert.Kernel.Gen.frame m ρ
theorem frame_ki : Cert.quiescent_KernelIdeal := fun m ρ _ => Cert.KernelIdeal.Gen.frame m ρ
theorem frame_kip : Cert.quiescent_KernelIdeal_pre_finite_gates := fun m ρ _ => Cert.KernelIdeal.Gen.frame m ρ
theorem frame_ri : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)
theorem frame_rip : Cert.quiescent_ReferenceIdeal_pre_finite_gates := fun m ρ _ => frame_ri m ρ trivial

/-- From memories that agree on the arguments, whose gates' columns, weights and biases are real, both run to the same three arrays. -/
theorem algebraic : Cert.algebraic_KernelIdeal_ReferenceIdeal_pre_finite_gates := by
  intro m ρ m' ρ' hpre hag
  have hg (c : Dev Cert.KernelIdeal.nD) : Cert.Proof.Arrays.GatesReal m c :=
    let g := Cert.Proof.Finite.gatesReal _ _ _ _ _ _ (hpre c)
    ⟨g.low, g.weightF, g.biasF, g.weightB, g.biasB⟩
  refine ⟨fun c => rows m c, fun c => stateF m c, fun c => stateB m c, ?_, ?_⟩
  · exact (θ_run Cert.KernelIdeal.defs _ _).mono (fun r h c => ⟨(h c).1.trans (rows_eq (hg c)), (h c).2.1.trans (stateF_eq (hg c)),
      (h c).2.2.1.trans (stateB_eq (hg c)), (h c).2.2.2⟩) (Cert.KernelIdeal.Value.run_blocks (F := Ideal) m ρ)
  · refine (θ_run Cert.ReferenceIdeal.defs _ _).mono (fun r h c => ?_) (Cert.ReferenceIdeal.Value.run (F := Ideal) m' ρ')
    obtain ⟨a0, a1, a2, a3, a4, a5⟩ := hag c
    refine ⟨(h c).1.trans ((val_main_v137_eq _).trans ?_), (h c).2.1.trans ((val_main_v139_eq _).trans ?_),
      (h c).2.2.1.trans ((val_main_v141_eq _).trans ?_), (h c).2.2.2⟩
    all_goals
      repeat rw [StableHlo.launchContents_devRef]
      simp only [a0, a1, a2, a3, a4, a5]

end Cert.Proof.Equation

end
-- ==== Proof.Layer.lean ====
/- The projections into and out of a layer's mixer as functions of the arguments, read at a token's row and a column: `projIn` is
   the modulated norm of the row times a matrix's column, `projOut` the residual row plus its gate times the product of the two
   mixers' outputs with a matrix's column. Rows 0 to 8191 are the prompts' (32 sequences of 256), modulated by the first
   modulation row; the rest are the samples' (4 sequences of 2048), each modulated by a row of its own. -/
module

public import Idealize.ShloMosaic.Lib.Pointwise

@[expose] public section

noncomputable section

namespace Cert.Proof.Layer

open Idealize.ShloMosaic

/-! ## Tokens -/

/-- Row `r` of prompt `s`, and row `r` of sample `b`. -/
def rowP (s : Fin 32) (r : Fin 256) : Fin 16384 := ⟨256 * s.val + r.val, by omega⟩
def rowS (b : Fin 4) (r : Fin 2048) : Fin 16384 := ⟨8192 + (2048 * b.val + r.val), by omega⟩
/-- The same rows counted within the prompts and within the samples. -/
def rowP' (s : Fin 32) (r : Fin 256) : Fin 8192 := ⟨256 * s.val + r.val, by omega⟩
def rowS' (b : Fin 4) (r : Fin 2048) : Fin 8192 := ⟨2048 * b.val + r.val, by omega⟩
/-- A row within the prompts, and within the samples, among all the rows. -/
def inP (p : Fin 8192) : Fin 16384 := ⟨p.val, by omega⟩
def inS (p : Fin 8192) : Fin 16384 := ⟨8192 + p.val, by omega⟩

/-- Every row is a prompt's or a sample's. -/
theorem row_cases (a : Fin 16384) : (∃ s r, a = rowP s r) ∨ (∃ b r, a = rowS b r) := by
  by_cases h : a.val < 8192
  · exact .inl ⟨⟨a.val / 256, by omega⟩, ⟨a.val % 256, by omega⟩, Fin.ext (by show a.val = 256 * (a.val / 256) + a.val % 256; omega)⟩
  · exact .inr ⟨⟨(a.val - 8192) / 2048, by omega⟩, ⟨(a.val - 8192) % 2048, by omega⟩,
      Fin.ext (by show a.val = 8192 + (2048 * ((a.val - 8192) / 2048) + (a.val - 8192) % 2048); omega)⟩

/-- The modulation row of a token's row. -/
def modRow (a : Fin 16384) : Fin 8 := ⟨if a.val < 8192 then 0 else 1 + (a.val - 8192) / 2048, by split <;> omega⟩

theorem modRow_P (s : Fin 32) (r : Fin 256) : modRow (rowP s r) = 0 :=
  Fin.ext (by show (if 256 * s.val + r.val < 8192 then 0 else _) = 0; rw [if_pos (by omega)])
theorem modRow_S (b : Fin 4) (r : Fin 2048) : modRow (rowS b r) = ⟨1 + b.val, by omega⟩ :=
  Fin.ext (by show (if 8192 + (2048 * b.val + r.val) < 8192 then 0 else 1 + (8192 + (2048 * b.val + r.val) - 8192) / 2048) = 1 + b.val
              rw [if_neg (by omega)]; omega)

/-- The columns of a modulation row that hold the shift, the scale and the gate of the mixer. -/
def shiftCol (k : Fin 1024) : Fin 6144 := ⟨k.val, by omega⟩
def scaleCol (k : Fin 1024) : Fin 6144 := ⟨1024 + k.val, by omega⟩
def gateCol (k : Fin 1024) : Fin 6144 := ⟨2048 + k.val, by omega⟩

/-! ## The projections -/

/-- The modulated norm of a row, at an entry. -/
def modnorm (x w sh sc : Fin 1024 → EReal) (k : Fin 1024) : EReal :=
  x k * Ideal.rsqrt (Ideal.div (∑ c : Fin 1024, x c * x c) (Ideal.ofBits .f32 0x44800000#32) + Ideal.ofBits .f32 0x358637BD#32) * w k
    * (Ideal.ofBits .f32 0x3F800000#32 + sc k) + sh k

section
variable (X : FVec Ideal ⟨2, ![16384, 1024]⟩ .f32) (N : FVec Ideal ⟨1, ![1024]⟩ .f32) (M : FVec Ideal ⟨4, ![4, 8, 1, 6144]⟩ .f32) (l : Fin 4)

/-- The modulated norm of a token's row. -/
def rowNorm (a : Fin 16384) (k : Fin 1024) : EReal :=
  modnorm (fun c => X (ix2 a c)) (fun c => N (ix1 c)) (fun c => M (ix4 l (modRow a) 0 (shiftCol c))) (fun c => M (ix4 l (modRow a) 0 (scaleCol c))) k

/-- It times a column. -/
def projIn (w : Fin 1024 → EReal) (a : Fin 16384) : EReal := ∑ k : Fin 1024, rowNorm X N M l a k * w k

/-- A residual row plus its gate times the product of the mixers' outputs `p`, `q` with a column. -/
def projOut (p q : Fin 512 → EReal) (W : FVec Ideal ⟨2, ![1024, 1024]⟩ .f32) (a : Fin 16384) (j : Fin 1024) : EReal :=
  X (ix2 a j) + M (ix4 l (modRow a) 0 (gateCol j))
    * ((∑ k : Fin 512, p k * W (ix2 ⟨k.val, by omega⟩ j)) + ∑ k : Fin 512, q k * W (ix2 ⟨512 + k.val, by omega⟩ j))
end

/-- The matrix of the even layers' projection in the order of the result's columns: the columns up to 2047, the last 1024, the sixteen
    between, and zeros. -/
def ordered (W : FVec Ideal ⟨2, ![1024, 3088]⟩ .f32) (j : Fin 3200) (k : Fin 1024) : EReal :=
  if h : j.val < 2048 then W (ix2 k ⟨j.val, by omega⟩)
  else if h : j.val - 2048 < 1024 then W (ix2 k ⟨2064 + (j.val - 2048), by omega⟩)
  else if h : j.val - 2048 - 1024 < 16 then W (ix2 k ⟨2048 + (j.val - 2048 - 1024), by omega⟩) else 0

/-! ## The mixers' outputs, held apart for the prompts and the samples -/

/-- Two arrays of 8192 rows, one after the other. -/
def parts (P S : Fin 8192 → Fin 512 → EReal) (a : Fin 16384) (k : Fin 512) : EReal :=
  if h : a.val < 8192 then P ⟨a.val, h⟩ k else S ⟨a.val - 8192, by omega⟩ k

theorem parts_inP (P S : Fin 8192 → Fin 512 → EReal) (p : Fin 8192) (k : Fin 512) : parts P S (inP p) k = P p k := dif_pos p.isLt
theorem parts_inS (P S : Fin 8192 → Fin 512 → EReal) (p : Fin 8192) (k : Fin 512) : parts P S (inS p) k = S p k := by
  unfold parts
  have e : (⟨(inS p).val - 8192, by omega⟩ : Fin 8192) = p := Fin.ext (by show 8192 + p.val - 8192 = p.val; omega)
  rw [dif_neg (by show ¬ 8192 + p.val < 8192; omega), e]

/-- A sum over the joined columns is the sum over the first half plus the sum over the second. -/
theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

/-! ## Grid points -/

/-- The grid points of the tiles of 256 rows and of 512 rows. -/
theorem modRow_256 (t : Fin 64) (r : Fin 256) :
    (modRow ⟨256 * t.val + r.val, by omega⟩).val = if t.val < 32 then 0 else 1 + (t.val - 32) / 8 := by
  show (if 256 * t.val + r.val < 8192 then 0 else 1 + (256 * t.val + r.val - 8192) / 2048) = _
  split <;> split <;> omega
theorem modRow_512 (t : Fin 32) (r : Fin 512) :
    (modRow ⟨512 * t.val + r.val, by omega⟩).val = if t.val < 16 then 0 else 1 + (t.val - 16) / 4 := by
  show (if 512 * t.val + r.val < 8192 then 0 else 1 + (512 * t.val + r.val - 8192) / 2048) = _
  split <;> split <;> omega

end Cert.Proof.Layer

end
-- ==== Proof.EvenInKernel.lean ====
/- What the even layers' projection into the mixer leaves in its result array: `projIn` of the arguments at every row and column. -/
module

public import proofs.«01_k».proof.Proof.Layer
public import proofs.«01_k».proof.Proof.Gen.EvenInIdeal.Value
public import Idealize.ShloMosaic.Lib.StableHlo.ReadAt

@[expose] public section

set_option maxRecDepth 16384

noncomputable section

namespace Cert.Proof.EvenInKernel

open Cert.EvenInIdeal Cert.EvenInIdeal.Gen Idealize.ShloMosaic Idealize.ShloMosaic.TcCoe Cert.Proof.Layer

/-- What one tile computes: its rows' modulated norms times the matrix. -/
theorem tile (x0 : Vec Ideal S256x1024 .f32) (x1 : Vec Ideal S1x1024 .f32) (x2 x3 : Vec Ideal S1x1x1x1024 .f32) (x4 : Vec Ideal S1024x3200 .bf16)
    (r : Fin 256) (j : Fin 3200) :
    k0_pay1 x0 x1 x2 x3 x4 (ix2 r j)
      = ∑ k : Fin 1024, modnorm (fun c => x0 (ix2 r c)) (fun c => x1 (ix2 0 c)) (fun c => x2 (ix4 0 0 0 c)) (fun c => x3 (ix4 0 0 0 c)) k * x4 (ix2 k j) := by
  unfold modnorm
  pointwise [k0_pay1]

theorem hz2 : (![0, 0] : Fin 2 → ℕ) = fun _ => 0 := by funext a; fin_cases a <;> rfl
theorem hz4 : (![0, 0, 0, 0] : Fin 4 → ℕ) = fun _ => 0 := by funext a; fin_cases a <;> rfl

/-- The tile's store is the whole of its block. -/
theorem stored (x0 : Vec Ideal S256x1024 .f32) (x1 : Vec Ideal S1x1024 .f32) (x2 x3 : Vec Ideal S1x1x1x1024 .f32) (x4 : Vec Ideal S1024x3200 .bf16) :
    out0_5 x0 x1 x2 x3 x4 = k0_pay1 x0 x1 x2 x3 x4 := by
  unfold out0_5 r0_0 r0_1 r0_2 r0_3 r0_4
  rw [View.canon_unit_zero hz2, View.ld_unit_zero hz2, View.ld_unit_zero hz2, View.ld_unit_zero hz4, View.ld_unit_zero hz4, View.ld_unit_zero hz2]

theorem idx : ∀ t : Fin grid0.N,
    (win0_0.index t 0 = t.val ∧ win0_0.index t 1 = 0) ∧ (win0_1.index t 0 = 0 ∧ win0_1.index t 1 = 0)
    ∧ (win0_2.index t 0 = 0 ∧ win0_2.index t 1 = (if t.val < 32 then 0 else 1 + (t.val - 32) / 8) ∧ win0_2.index t 2 = 0 ∧ win0_2.index t 3 = 0)
    ∧ (win0_3.index t 0 = 0 ∧ win0_3.index t 1 = (if t.val < 32 then 0 else 1 + (t.val - 32) / 8) ∧ win0_3.index t 2 = 0 ∧ win0_3.index t 3 = 1)
    ∧ (win0_4.index t 0 = 0 ∧ win0_4.index t 1 = 0) ∧ (win0_5.index t 0 = t.val ∧ win0_5.index t 1 = 0) := by decide +kernel

variable (m : (ℓ : Loc nD τ sig) → Buf (Elt Ideal) ℓ) (c : Dev nD)

/-- The arguments. -/
abbrev aX : FVec Ideal S16384x1024 .f32 := m ((c : Thread nD τ).loc main_arg0)
abbrev aN : FVec Ideal S1024 .f32 := m ((c : Thread nD τ).loc main_arg1)
abbrev aM : FVec Ideal S4x8x1x6144 .f32 := m ((c : Thread nD τ).loc main_arg2)
abbrev aW : FVec Ideal S1024x3088 .f32 := m ((c : Thread nD τ).loc main_arg3)

/-- Row `r` of tile `t`. -/
def rowOf (t : Fin cfg0.N) (r : Fin 256) : Fin 16384 := ⟨256 * t.val + r.val, by have h : t.val < 64 := t.isLt; omega⟩

/-- The blocks a tile is given: its rows, -/
theorem blk0 (t : Fin cfg0.N) (r : Fin 256) (k : Fin 1024) : (iblk m c 0 t : Vec Ideal S256x1024 .f32) (ix2 r k) = aX m c (ix2 (rowOf t r) k) := by
  obtain ⟨⟨e0, e1⟩, _⟩ := idx t
  show V m c main_arg0 (((cfg0.win 0).blk t).view.emb (ix2 r k)) = m ((c : Thread nD τ).loc main_arg0) (ix2 (rowOf t r) k)
  rw [V_main_arg0]
  congr 1
  funext a; apply Fin.ext
  match a with
  | ⟨0, _⟩ => show win0_0.index t 0 * 256 + 1 * r.val = 256 * t.val + r.val; omega
  | ⟨1, _⟩ => show win0_0.index t 1 * 1024 + 1 * k.val = k.val; omega

theorem V_norm (k : Fin 1024) : (V m c main_v6 : Vec Ideal S1x1024 .f32) (ix2 0 k) = aN m c (ix1 k) := by
  unfold_abbrev_sides
  after_reads_at

/-- the norm's weights, -/
theorem blk1 (t : Fin cfg0.N) (k : Fin 1024) : (iblk m c 1 t : Vec Ideal S1x1024 .f32) (ix2 0 k) = aN m c (ix1 k) := by
  obtain ⟨_, ⟨e0, e1⟩, _⟩ := idx t
  have he : ((cfg0.win 1).blk t).view.emb (ix2 0 k) = (ix2 0 k : S1x1024.Idx) := by
    funext a; apply Fin.ext
    match a with
    | ⟨0, _⟩ => show win0_1.index t 0 * 1 + 1 * 0 = 0; omega
    | ⟨1, _⟩ => show win0_1.index t 1 * 1024 + 1 * k.val = k.val; omega
  show V m c main_v6 (((cfg0.win 1).blk t).view.emb (ix2 0 k)) = _
  rw [he]
  exact V_norm m c k

/-- its shift and scale, -/
theorem blk2 (t : Fin cfg0.N) (r : Fin 256) (k : Fin 1024) :
    (iblk m c 2 t : Vec Ideal S1x1x1x1024 .f32) (ix4 0 0 0 k) = aM m c (ix4 0 (modRow (rowOf t r)) 0 (shiftCol k)) := by
  obtain ⟨_, _, ⟨e0, e1, e2, e3⟩, _⟩ := idx t
  show V m c main_arg2 (((cfg0.win 2).blk t).view.emb (ix4 0 0 0 k)) = m ((c : Thread nD τ).loc main_arg2) _
  rw [V_main_arg2]
  congr 1
  have hr := modRow_256 t r
  funext a; apply Fin.ext
  match a with
  | ⟨0, _⟩ => show win0_2.index t 0 * 1 + 1 * 0 = 0; omega
  | ⟨1, _⟩ => show win0_2.index t 1 * 1 + 1 * 0 = (modRow (rowOf t r)).val; unfold rowOf; omega
  | ⟨2, _⟩ => show win0_2.index t 2 * 1 + 1 * 0 = 0; omega
  | ⟨3, _⟩ => show win0_2.index t 3 * 1024 + 1 * k.val = k.val; omega

theorem blk3 (t : Fin cfg0.N) (r : Fin 256) (k : Fin 1024) :
    (iblk m c 3 t : Vec Ideal S1x1x1x1024 .f32) (ix4 0 0 0 k) = aM m c (ix4 0 (modRow (rowOf t r)) 0 (scaleCol k)) := by
  obtain ⟨_, _, _, ⟨e0, e1, e2, e3⟩, _⟩ := idx t
  show V m c main_arg2 (((cfg0.win 3).blk t).view.emb (ix4 0 0 0 k)) = m ((c : Thread nD τ).loc main_arg2) _
  rw [V_main_arg2]
  congr 1
  have hr := modRow_256 t r
  funext a; apply Fin.ext
  match a with
  | ⟨0, _⟩ => show win0_3.index t 0 * 1 + 1 * 0 = 0; omega
  | ⟨1, _⟩ => show win0_3.index t 1 * 1 + 1 * 0 = (modRow (rowOf t r)).val; unfold rowOf; omega
  | ⟨2, _⟩ => show win0_3.index t 2 * 1 + 1 * 0 = 0; omega
  | ⟨3, _⟩ => show win0_3.index t 3 * 1024 + 1 * k.val = 1024 + k.val; omega

theorem V_matrix (k : Fin 1024) (j : Fin 3200) : (V m c main_v5 : Vec Ideal S1024x3200 .bf16) (ix2 k j) = ordered (aW m c) j k := by
  unfold_abbrev_sides
  after_reads_at
  unfold ordered
  split
  · after_reads_at
  · split
    · after_reads_at
    · split
      · after_reads_at
      · after_reads_at

/-- and the matrix. -/
theorem blk4 (t : Fin cfg0.N) (k : Fin 1024) (j : Fin 3200) : (iblk m c 4 t : Vec Ideal S1024x3200 .bf16) (ix2 k j) = ordered (aW m c) j k := by
  obtain ⟨_, _, _, _, ⟨e0, e1⟩, _⟩ := idx t
  have he : ((cfg0.win 4).blk t).view.emb (ix2 k j) = (ix2 k j : S1024x3200.Idx) := by
    funext a; apply Fin.ext
    match a with
    | ⟨0, _⟩ => show win0_4.index t 0 * 1024 + 1 * k.val = k.val; omega
    | ⟨1, _⟩ => show win0_4.index t 1 * 3200 + 1 * j.val = j.val; omega
  show V m c main_v5 (((cfg0.win 4).blk t).view.emb (ix2 k j)) = _
  rw [he]
  exact V_matrix m c k j

/-- The result array. -/
theorem array (a : Fin 16384) (j : Fin 3200) :
    ((dats m 0 c).arrAt 5 cfg0.N : Vec Ideal S16384x3200 .f32) (ix2 a j)
      = projIn (aX m c) (aN m c) (aM m c) 0 (ordered (aW m c) j) a := by
  obtain ⟨t, r, rfl⟩ : ∃ (t : Fin cfg0.N) (r : Fin 256), a = rowOf t r :=
    ⟨⟨a.val / 256, by show _ < 64; omega⟩, ⟨a.val % 256, by omega⟩, Fin.ext (by show a.val = 256 * (a.val / 256) + a.val % 256; omega)⟩
  have hb := congrFun (Value.blocks5 m c t (flush0_5 _)) (ix2 r j)
  have hemb : ((cfg0.win 5).blk t).view.emb (ix2 r j) = (ix2 (rowOf t r) j : S16384x3200.Idx) := by
    obtain ⟨_, _, _, _, _, ⟨e0, e1⟩⟩ := idx t
    funext a; apply Fin.ext
    match a with
    | ⟨0, _⟩ => show win0_5.index t 0 * 256 + 1 * r.val = 256 * t.val + r.val; omega
    | ⟨1, _⟩ => show win0_5.index t 1 * 3200 + 1 * j.val = j.val; omega
  rw [Value.flushed5, stored, View.read_apply, hemb] at hb
  refine hb.trans ?_
  show k0_pay1 _ _ _ _ _ (ix2 r j) = _
  rw [tile]
  unfold projIn rowNorm
  simp only [blk0, blk1, blk2 m c t r, blk3 m c t r, blk4]

end Cert.Proof.EvenInKernel

end
-- ==== Proof.EvenInRef.lean ====
/- What the plain projection of an even layer holds: `projIn` of the arguments at every row and column. -/
module

public import proofs.«01_k».proof.Proof.Layer
public import proofs.«01_k».proof.Proof.Gen.EvenInRefIdeal.Read

@[expose] public section

set_option maxRecDepth 16384

noncomputable section

namespace Cert.Proof.EvenInRef

open Cert.EvenInRefIdeal Cert.EvenInRefIdeal.Read Idealize.ShloMosaic Cert.Proof.Layer

variable (x0 : FVec Ideal S16384x1024 .f32) (x1 : FVec Ideal S1024 .f32) (x2 : FVec Ideal S4x8x1x6144 .f32) (x3 : FVec Ideal S1024x3088 .f32)

/-- A prompt's rows, and a sample's. -/
theorem tokP (s : Fin 32) (r : Fin 256) (k : Fin 1024) : val_main_v18 (F := Ideal) x0 (ix3 s r k) = x0 (ix2 (rowP s r) k) := by
  have e : (⟨s.val * 256 + r.val, by omega⟩ : Fin 16384) = rowP s r := Fin.ext (by show s.val * 256 + r.val = 256 * s.val + r.val; omega)
  rw [← e]
  pointwise [val_main_v18, val_main_v17]
theorem tokS (b : Fin 4) (r : Fin 2048) (k : Fin 1024) : val_main_v39 (F := Ideal) x0 (ix3 b r k) = x0 (ix2 (rowS b r) k) := by
  have e : (⟨8192 + (b.val * 2048 + r.val), by omega⟩ : Fin 16384) = rowS b r := Fin.ext (by show 8192 + (b.val * 2048 + r.val) = 8192 + (2048 * b.val + r.val); omega)
  rw [← e]
  pointwise [val_main_v39, val_main_v38]

/-- The prompts' shift and scale, and the samples'. -/
theorem shiftP (k : Fin 1024) : val_main_v5 (F := Ideal) x2 (ix3 0 0 k) = x2 (ix4 0 0 0 (shiftCol k)) := by
  unfold shiftCol
  pointwise [val_main_v5, val_main_v2, val_main_v1, val_main_v0]
theorem scaleP (k : Fin 1024) : val_main_v6 (F := Ideal) x2 (ix3 0 0 k) = x2 (ix4 0 0 0 (scaleCol k)) := by
  unfold scaleCol
  pointwise [val_main_v6, val_main_v2, val_main_v1, val_main_v0]
theorem shiftS (b : Fin 4) (k : Fin 1024) : val_main_v11 (F := Ideal) x2 (ix3 b 0 k) = x2 (ix4 0 ⟨1 + b.val, by omega⟩ 0 (shiftCol k)) := by
  unfold shiftCol
  pointwise [val_main_v11, val_main_v4, val_main_v3]
theorem scaleS (b : Fin 4) (k : Fin 1024) : val_main_v12 (F := Ideal) x2 (ix3 b 0 k) = x2 (ix4 0 ⟨1 + b.val, by omega⟩ 0 (scaleCol k)) := by
  unfold scaleCol
  pointwise [val_main_v12, val_main_v4, val_main_v3]

/-- The modulated norm of a prompt's row, and of a sample's. -/
theorem normP (s : Fin 32) (r : Fin 256) (k : Fin 1024) : val_main_v37 (F := Ideal) x0 x1 x2 (ix3 s r k) = rowNorm x0 x1 x2 0 (rowP s r) k := by
  unfold rowNorm modnorm
  simp only [modRow_P, ← shiftP, ← scaleP, ← tokP]
  pointwise [val_main_v37, val_main_v36, val_main_v35, val_main_v34, val_main_v33, val_main_v32, val_main_cst_2, val_main_v31, val_main_v30,
    val_main_v29, val_main_v28, val_main_v27, val_main_v26, val_main_v25, val_main_v24, val_main_cst_1, val_main_v23, val_main_v22, val_main_cst_0,
    val_main_v21, val_main_v20, val_main_cst, val_main_v19]
theorem normS (b : Fin 4) (r : Fin 2048) (k : Fin 1024) : val_main_v58 (F := Ideal) x0 x1 x2 (ix3 b r k) = rowNorm x0 x1 x2 0 (rowS b r) k := by
  unfold rowNorm modnorm
  simp only [modRow_S, ← shiftS, ← scaleS, ← tokS]
  pointwise [val_main_v58, val_main_v57, val_main_v56, val_main_v55, val_main_v54, val_main_v53, val_main_cst_6, val_main_v52, val_main_v51,
    val_main_v50, val_main_v49, val_main_v48, val_main_v47, val_main_v46, val_main_v45, val_main_cst_5, val_main_v44, val_main_v43, val_main_cst_4,
    val_main_v42, val_main_v41, val_main_cst_3, val_main_v40]

/-- The result's rows: the prompts' product, then the samples'. -/
theorem joinedP (a : Fin 16384) (p : Fin 8192) (h : a.val = p.val) (j : Fin 3088) :
    val_main_v63 (F := Ideal) x0 x1 x2 x3 (ix2 a j) = val_main_v61 (F := Ideal) x0 x1 x2 x3 (ix2 p j) := by
  obtain rfl : a = inP p := Fin.ext h
  clear h
  unfold inP
  pointwise [val_main_v63]
theorem joinedS (a : Fin 16384) (p : Fin 8192) (h : a.val = 8192 + p.val) (j : Fin 3088) :
    val_main_v63 (F := Ideal) x0 x1 x2 x3 (ix2 a j) = val_main_v62 (F := Ideal) x0 x1 x2 x3 (ix2 p j) := by
  obtain rfl : a = inS p := Fin.ext h
  clear h
  unfold inS
  have e : (⟨8192 + p.val - 8192, by omega⟩ : Fin 8192) = p := Fin.ext (by show 8192 + p.val - 8192 = p.val; omega)
  pointwise [val_main_v63]

/-- The result at a prompt's row, -/
theorem atP (s : Fin 32) (r : Fin 256) (j : Fin 3088) :
    val_main_v63 (F := Ideal) x0 x1 x2 x3 (ix2 (rowP s r) j) = projIn x0 x1 x2 0 (fun k => x3 (ix2 k j)) (rowP s r) := by
  unfold projIn
  simp only [← normP]
  rw [joinedP x0 x1 x2 x3 (rowP s r) ⟨s.val * 256 + r.val, by omega⟩ (by show 256 * s.val + r.val = s.val * 256 + r.val; omega)]
  pointwise [val_main_v61, val_main_v59]

/-- and at a sample's. -/
theorem atS (b : Fin 4) (r : Fin 2048) (j : Fin 3088) :
    val_main_v63 (F := Ideal) x0 x1 x2 x3 (ix2 (rowS b r) j) = projIn x0 x1 x2 0 (fun k => x3 (ix2 k j)) (rowS b r) := by
  unfold projIn
  simp only [← normS]
  rw [joinedS x0 x1 x2 x3 (rowS b r) ⟨b.val * 2048 + r.val, by omega⟩ (by show 8192 + (2048 * b.val + r.val) = 8192 + (b.val * 2048 + r.val); omega)]
  pointwise [val_main_v62, val_main_v60]

/-- The product. -/
theorem product (a : Fin 16384) (j : Fin 3088) :
    val_main_v63 (F := Ideal) x0 x1 x2 x3 (ix2 a j) = projIn x0 x1 x2 0 (fun k => x3 (ix2 k j)) a := by
  obtain ⟨s, r, rfl⟩ | ⟨b, r, rfl⟩ := row_cases a
  · exact atP x0 x1 x2 x3 s r j
  · exact atS x0 x1 x2 x3 b r j

/-- The result: the product's columns in the order of `ordered`, then zeros. -/
theorem array (a : Fin 16384) (j : Fin 3200) :
    val_main_v68 (F := Ideal) x0 x1 x2 x3 (ix2 a j) = projIn x0 x1 x2 0 (ordered x3 j) a := by
  have h : val_main_v68 (F := Ideal) x0 x1 x2 x3 (ix2 a j)
      = if h : j.val < 2048 then val_main_v63 (F := Ideal) x0 x1 x2 x3 (ix2 a ⟨j.val, by omega⟩)
        else if h : j.val - 2048 < 1024 then val_main_v63 (F := Ideal) x0 x1 x2 x3 (ix2 a ⟨2064 + (j.val - 2048), by omega⟩)
        else if h : j.val - 2048 - 1024 < 16 then val_main_v63 (F := Ideal) x0 x1 x2 x3 (ix2 a ⟨2048 + (j.val - 2048 - 1024), by omega⟩) else 0 := by
    pointwise [val_main_v68, val_main_v64, val_main_v65, val_main_v66, val_main_v67, val_main_cst_7]
  rw [h]
  unfold ordered
  split
  · rw [product]
  · split
    · rw [product]
    · split
      · rw [product]
      · unfold projIn
        simp

end Cert.Proof.EvenInRef

end
-- ==== Proof.EvenInEquation.lean ====
/- The equation of the even layers' projection into the mixers: the call and the plain reference end with the same array. -/
module

public import proofs.«01_k».proof.Defs
public import proofs.«01_k».proof.Proof.EvenInKernel
public import proofs.«01_k».proof.Proof.EvenInRef
public import proofs.«01_k».proof.Proof.Gen.EvenIn.Frame
public import Idealize.ShloMosaic.Lib.Quiescent

@[expose] public section

set_option maxRecDepth 16384

noncomputable section

namespace Cert.Proof.EvenInEquation

open Idealize.ShloMosaic Idealize.ShloMosaic.TcCoe Idealize.SL.Sem
open Cert.EvenInRefIdeal.Read

variable (m : (ℓ : Loc Cert.EvenInIdeal.nD Cert.EvenInIdeal.τ Cert.EvenInIdeal.sig) → Buf (Elt Ideal) ℓ) (c : Dev Cert.EvenInIdeal.nD)

/-- The reference's result of the call's arguments. -/
abbrev plain : Buf (Elt Ideal) ((c.tc : Thread Cert.EvenInIdeal.nD Cert.EvenInIdeal.τ).loc Cert.EvenInIdeal.main_v7) :=
  val_main_v68 (F := Ideal) (m (c.tc.loc Cert.EvenInIdeal.main_arg0)) (m (c.tc.loc Cert.EvenInIdeal.main_arg1)) (m (c.tc.loc Cert.EvenInIdeal.main_arg2)) (m (c.tc.loc Cert.EvenInIdeal.main_arg3))

/-- The call's array is the reference's. -/
theorem array_eq : (Cert.EvenInIdeal.Gen.dats m 0 c).arrAt 5 Cert.EvenInIdeal.cfg0.N = plain m c := by
  funext i
  obtain ⟨a, j, rfl⟩ : ∃ a j, i = ix2 a j := ⟨i 0, i 1, eq_ix2 i⟩
  exact (Cert.Proof.EvenInKernel.array m c a j).trans (Cert.Proof.EvenInRef.array _ _ _ _ a j).symm

/-- The frames of the three programs: each runs, and leaves its arguments and every semaphore as they were. -/
theorem frame_k : Cert.quiescent_EvenIn := fun m ρ _ => Cert.EvenIn.Gen.frame m ρ
theorem frame_ki : Cert.quiescent_EvenInIdeal := fun m ρ _ => Cert.EvenInIdeal.Gen.frame m ρ
theorem frame_ri : Cert.quiescent_EvenInRefIdeal := fun m ρ _ =>
  (θ_run Cert.EvenInRefIdeal.defs _ _).mono (fun r h => ⟨fun c => (h c).2, Idealize.ShloMosaic.sem_eq_zero_of_no_sems (by decide) r.2⟩)
    (Cert.EvenInRefIdeal.Value.run (F := Ideal) m ρ)

/-- From memories that agree on the arguments both run to the same array. -/
theorem algebraic : Cert.algebraic_EvenInIdeal_EvenInRefIdeal := by
  intro m ρ m' ρ' _ hag
  refine ⟨fun c => plain m c, ?_, ?_⟩
  · exact (θ_run Cert.EvenInIdeal.defs _ _).mono (fun r h c => ⟨(h c).1.trans (array_eq m c), (h c).2⟩) (Cert.EvenInIdeal.Value.run_blocks (F := Ideal) m ρ)
  · refine (θ_run Cert.EvenInRefIdeal.defs _ _).mono (fun r h c => ?_) (Cert.EvenInRefIdeal.Value.run (F := Ideal) m' ρ')
    obtain ⟨a0, a1, a2, a3⟩ := hag c
    refine ⟨(h c).1.trans ((val_main_v68_eq _ _).trans ?_), (h c).2⟩
    repeat rw [StableHlo.launchContents_devRef]
    simp only [a0, a1, a2, a3]

end Cert.Proof.EvenInEquation

end
-- ==== Proof.OddInKernel.lean ====
/- What the odd layers' projection into the mixer leaves in its result array: `projIn` of the arguments at every row and column. -/
module

public import proofs.«01_k».proof.Proof.Layer
public import proofs.«01_k».proof.Proof.Gen.OddInIdeal.Value
public import Idealize.ShloMosaic.Lib.StableHlo.ReadAt

@[expose] public section

set_option maxRecDepth 16384

noncomputable section

namespace Cert.Proof.OddInKernel

open Cert.OddInIdeal Cert.OddInIdeal.Gen Idealize.ShloMosaic Idealize.ShloMosaic.TcCoe Cert.Proof.Layer

/-- What one tile computes: its rows' modulated norms times the matrix. -/
theorem tile (x0 : Vec Ideal S256x1024 .f32) (x1 : Vec Ideal S1x1024 .f32) (x2 x3 : Vec Ideal S1x1x1x1024 .f32) (x4 : Vec Ideal S1024x2048 .bf16)
    (r : Fin 256) (j : Fin 2048) :
    k0_pay1 x0 x1 x2 x3 x4 (ix2 r j)
      = ∑ k : Fin 1024, modnorm (fun c => x0 (ix2 r c)) (fun c => x1 (ix2 0 c)) (fun c => x2 (ix4 0 0 0 c)) (fun c => x3 (ix4 0 0 0 c)) k * x4 (ix2 k j) := by
  unfold modnorm
  pointwise [k0_pay1]

theorem hz2 : (![0, 0] : Fin 2 → ℕ) = fun _ => 0 := by funext a; fin_cases a <;> rfl
theorem hz4 : (![0, 0, 0, 0] : Fin 4 → ℕ) = fun _ => 0 := by funext a; fin_cases a <;> rfl

/-- The tile's store is the whole of its block. -/
theorem stored (x0 : Vec Ideal S256x1024 .f32) (x1 : Vec Ideal S1x1024 .f32) (x2 x3 : Vec Ideal S1x1x1x1024 .f32) (x4 : Vec Ideal S1024x2048 .bf16) :
    out0_5 x0 x1 x2 x3 x4 = k0_pay1 x0 x1 x2 x3 x4 := by
  unfold out0_5 r0_0 r0_1 r0_2 r0_3 r0_4
  rw [View.canon_unit_zero hz2, View.ld_unit_zero hz2, View.ld_unit_zero hz2, View.ld_unit_zero hz4, View.ld_unit_zero hz4, View.ld_unit_zero hz2]

theorem idx : ∀ t : Fin grid0.N,
    (win0_0.index t 0 = t.val ∧ win0_0.index t 1 = 0) ∧ (win0_1.index t 0 = 0 ∧ win0_1.index t 1 = 0)
    ∧ (win0_2.index t 0 = 1 ∧ win0_2.index t 1 = (if t.val < 32 then 0 else 1 + (t.val - 32) / 8) ∧ win0_2.index t 2 = 0 ∧ win0_2.index t 3 = 0)
    ∧ (win0_3.index t 0 = 1 ∧ win0_3.index t 1 = (if t.val < 32 then 0 else 1 + (t.val - 32) / 8) ∧ win0_3.index t 2 = 0 ∧ win0_3.index t 3 = 1)
    ∧ (win0_4.index t 0 = 0 ∧ win0_4.index t 1 = 0) ∧ (win0_5.index t 0 = t.val ∧ win0_5.index t 1 = 0) := by decide +kernel

variable (m : (ℓ : Loc nD τ sig) → Buf (Elt Ideal) ℓ) (c : Dev nD)

/-- The arguments. -/
abbrev aX : FVec Ideal S16384x1024 .f32 := m ((c : Thread nD τ).loc main_arg0)
abbrev aN : FVec Ideal S1024 .f32 := m ((c : Thread nD τ).loc main_arg1)
abbrev aM : FVec Ideal S4x8x1x6144 .f32 := m ((c : Thread nD τ).loc main_arg2)
abbrev aW : FVec Ideal S1024x2048 .f32 := m ((c : Thread nD τ).loc main_arg3)

/-- Row `r` of tile `t`. -/
def rowOf (t : Fin cfg0.N) (r : Fin 256) : Fin 16384 := ⟨256 * t.val + r.val, by have h : t.val < 64 := t.isLt; omega⟩

/-- The blocks a tile is given: its rows, -/
theorem blk0 (t : Fin cfg0.N) (r : Fin 256) (k : Fin 1024) : (iblk m c 0 t : Vec Ideal S256x1024 .f32) (ix2 r k) = aX m c (ix2 (rowOf t r) k) := by
  obtain ⟨⟨e0, e1⟩, _⟩ := idx t
  show V m c main_arg0 (((cfg0.win 0).blk t).view.emb (ix2 r k)) = m ((c : Thread nD τ).loc main_arg0) (ix2 (rowOf t r) k)
  rw [V_main_arg0]
  congr 1
  funext a; apply Fin.ext
  match a with
  | ⟨0, _⟩ => show win0_0.index t 0 * 256 + 1 * r.val = 256 * t.val + r.val; omega
  | ⟨1, _⟩ => show win0_0.index t 1 * 1024 + 1 * k.val = k.val; omega

theorem V_norm (k : Fin 1024) : (V m c main_v1 : Vec Ideal S1x1024 .f32) (ix2 0 k) = aN m c (ix1 k) := by
  unfold_abbrev_sides
  after_reads_at

/-- the norm's weights, -/
theorem blk1 (t : Fin cfg0.N) (k : Fin 1024) : (iblk m c 1 t : Vec Ideal S1x1024 .f32) (ix2 0 k) = aN m c (ix1 k) := by
  obtain ⟨_, ⟨e0, e1⟩, _⟩ := idx t
  have he : ((cfg0.win 1).blk t).view.emb (ix2 0 k) = (ix2 0 k : S1x1024.Idx) := by
    funext a; apply Fin.ext
    match a with
    | ⟨0, _⟩ => show win0_1.index t 0 * 1 + 1 * 0 = 0; omega
    | ⟨1, _⟩ => show win0_1.index t 1 * 1024 + 1 * k.val = k.val; omega
  show V m c main_v1 (((cfg0.win 1).blk t).view.emb (ix2 0 k)) = _
  rw [he]
  exact V_norm m c k

/-- its shift and scale, -/
theorem blk2 (t : Fin cfg0.N) (r : Fin 256) (k : Fin 1024) :
    (iblk m c 2 t : Vec Ideal S1x1x1x1024 .f32) (ix4 0 0 0 k) = aM m c (ix4 1 (modRow (rowOf t r)) 0 (shiftCol k)) := by
  obtain ⟨_, _, ⟨e0, e1, e2, e3⟩, _⟩ := idx t
  show V m c main_arg2 (((cfg0.win 2).blk t).view.emb (ix4 0 0 0 k)) = m ((c : Thread nD τ).loc main_arg2) _
  rw [V_main_arg2]
  congr 1
  have hr := modRow_256 t r
  funext a; apply Fin.ext
  match a with
  | ⟨0, _⟩ => show win0_2.index t 0 * 1 + 1 * 0 = 1; omega
  | ⟨1, _⟩ => show win0_2.index t 1 * 1 + 1 * 0 = (modRow (rowOf t r)).val; unfold rowOf; omega
  | ⟨2, _⟩ => show win0_2.index t 2 * 1 + 1 * 0 = 0; omega
  | ⟨3, _⟩ => show win0_2.index t 3 * 1024 + 1 * k.val = k.val; omega

theorem blk3 (t : Fin cfg0.N) (r : Fin 256) (k : Fin 1024) :
    (iblk m c 3 t : Vec Ideal S1x1x1x1024 .f32) (ix4 0 0 0 k) = aM m c (ix4 1 (modRow (rowOf t r)) 0 (scaleCol k)) := by
  obtain ⟨_, _, _, ⟨e0, e1, e2, e3⟩, _⟩ := idx t
  show V m c main_arg2 (((cfg0.win 3).blk t).view.emb (ix4 0 0 0 k)) = m ((c : Thread nD τ).loc main_arg2) _
  rw [V_main_arg2]
  congr 1
  have hr := modRow_256 t r
  funext a; apply Fin.ext
  match a with
  | ⟨0, _⟩ => show win0_3.index t 0 * 1 + 1 * 0 = 1; omega
  | ⟨1, _⟩ => show win0_3.index t 1 * 1 + 1 * 0 = (modRow (rowOf t r)).val; unfold rowOf; omega
  | ⟨2, _⟩ => show win0_3.index t 2 * 1 + 1 * 0 = 0; omega
  | ⟨3, _⟩ => show win0_3.index t 3 * 1024 + 1 * k.val = 1024 + k.val; omega

theorem V_matrix (k : Fin 1024) (j : Fin 2048) : (V m c main_v0 : Vec Ideal S1024x2048 .bf16) (ix2 k j) = aW m c (ix2 k j) := by
  unfold_abbrev_sides
  after_reads_at

/-- and the matrix. -/
theorem blk4 (t : Fin cfg0.N) (k : Fin 1024) (j : Fin 2048) : (iblk m c 4 t : Vec Ideal S1024x2048 .bf16) (ix2 k j) = aW m c (ix2 k j) := by
  obtain ⟨_, _, _, _, ⟨e0, e1⟩, _⟩ := idx t
  have he : ((cfg0.win 4).blk t).view.emb (ix2 k j) = (ix2 k j : S1024x2048.Idx) := by
    funext a; apply Fin.ext
    match a with
    | ⟨0, _⟩ => show win0_4.index t 0 * 1024 + 1 * k.val = k.val; omega
    | ⟨1, _⟩ => show win0_4.index t 1 * 2048 + 1 * j.val = j.val; omega
  show V m c main_v0 (((cfg0.win 4).blk t).view.emb (ix2 k j)) = _
  rw [he]
  exact V_matrix m c k j

/-- The result array. -/
theorem array (a : Fin 16384) (j : Fin 2048) :
    ((dats m 0 c).arrAt 5 cfg0.N : Vec Ideal S16384x2048 .f32) (ix2 a j)
      = projIn (aX m c) (aN m c) (aM m c) 1 (fun k => aW m c (ix2 k j)) a := by
  obtain ⟨t, r, rfl⟩ : ∃ (t : Fin cfg0.N) (r : Fin 256), a = rowOf t r :=
    ⟨⟨a.val / 256, by show _ < 64; omega⟩, ⟨a.val % 256, by omega⟩, Fin.ext (by show a.val = 256 * (a.val / 256) + a.val % 256; omega)⟩
  have hb := congrFun (Value.blocks5 m c t (flush0_5 _)) (ix2 r j)
  have hemb : ((cfg0.win 5).blk t).view.emb (ix2 r j) = (ix2 (rowOf t r) j : S16384x2048.Idx) := by
    obtain ⟨_, _, _, _, _, ⟨e0, e1⟩⟩ := idx t
    funext a; apply Fin.ext
    match a with
    | ⟨0, _⟩ => show win0_5.index t 0 * 256 + 1 * r.val = 256 * t.val + r.val; omega
    | ⟨1, _⟩ => show win0_5.index t 1 * 2048 + 1 * j.val = j.val; omega
  rw [Value.flushed5, stored, View.read_apply, hemb] at hb
  refine hb.trans ?_
  show k0_pay1 _ _ _ _ _ (ix2 r j) = _
  rw [tile]
  unfold projIn rowNorm
  simp only [blk0, blk1, blk2 m c t r, blk3 m c t r, blk4]

end Cert.Proof.OddInKernel

end
-- ==== Proof.OddInRef.lean ====
/- What the plain projection of an odd layer holds: `projIn` of the arguments at every row and column. -/
module

public import proofs.«01_k».proof.Proof.Layer
public import proofs.«01_k».proof.Proof.Gen.OddInRefIdeal.Read

@[expose] public section

set_option maxRecDepth 16384

noncomputable section

namespace Cert.Proof.OddInRef

open Cert.OddInRefIdeal Cert.OddInRefIdeal.Read Idealize.ShloMosaic Cert.Proof.Layer

variable (x0 : FVec Ideal S16384x1024 .f32) (x1 : FVec Ideal S1024 .f32) (x2 : FVec Ideal S4x8x1x6144 .f32) (x3 : FVec Ideal S1024x2048 .f32)

/-- A prompt's rows, and a sample's. -/
theorem tokP (s : Fin 32) (r : Fin 256) (k : Fin 1024) : val_main_v18 (F := Ideal) x0 (ix3 s r k) = x0 (ix2 (rowP s r) k) := by
  have e : (⟨s.val * 256 + r.val, by omega⟩ : Fin 16384) = rowP s r := Fin.ext (by show s.val * 256 + r.val = 256 * s.val + r.val; omega)
  rw [← e]
  pointwise [val_main_v18, val_main_v17]
theorem tokS (b : Fin 4) (r : Fin 2048) (k : Fin 1024) : val_main_v39 (F := Ideal) x0 (ix3 b r k) = x0 (ix2 (rowS b r) k) := by
  have e : (⟨8192 + (b.val * 2048 + r.val), by omega⟩ : Fin 16384) = rowS b r := Fin.ext (by show 8192 + (b.val * 2048 + r.val) = 8192 + (2048 * b.val + r.val); omega)
  rw [← e]
  pointwise [val_main_v39, val_main_v38]

/-- The prompts' shift and scale, and the samples'. -/
theorem shiftP (k : Fin 1024) : val_main_v5 (F := Ideal) x2 (ix3 0 0 k) = x2 (ix4 1 0 0 (shiftCol k)) := by
  unfold shiftCol
  pointwise [val_main_v5, val_main_v2, val_main_v1, val_main_v0]
theorem scaleP (k : Fin 1024) : val_main_v6 (F := Ideal) x2 (ix3 0 0 k) = x2 (ix4 1 0 0 (scaleCol k)) := by
  unfold scaleCol
  pointwise [val_main_v6, val_main_v2, val_main_v1, val_main_v0]
theorem shiftS (b : Fin 4) (k : Fin 1024) : val_main_v11 (F := Ideal) x2 (ix3 b 0 k) = x2 (ix4 1 ⟨1 + b.val, by omega⟩ 0 (shiftCol k)) := by
  unfold shiftCol
  pointwise [val_main_v11, val_main_v4, val_main_v3]
theorem scaleS (b : Fin 4) (k : Fin 1024) : val_main_v12 (F := Ideal) x2 (ix3 b 0 k) = x2 (ix4 1 ⟨1 + b.val, by omega⟩ 0 (scaleCol k)) := by
  unfold scaleCol
  pointwise [val_main_v12, val_main_v4, val_main_v3]

/-- The modulated norm of a prompt's row, and of a sample's. -/
theorem normP (s : Fin 32) (r : Fin 256) (k : Fin 1024) : val_main_v37 (F := Ideal) x0 x1 x2 (ix3 s r k) = rowNorm x0 x1 x2 1 (rowP s r) k := by
  unfold rowNorm modnorm
  simp only [modRow_P, ← shiftP, ← scaleP, ← tokP]
  pointwise [val_main_v37, val_main_v36, val_main_v35, val_main_v34, val_main_v33, val_main_v32, val_main_cst_2, val_main_v31, val_main_v30,
    val_main_v29, val_main_v28, val_main_v27, val_main_v26, val_main_v25, val_main_v24, val_main_cst_1, val_main_v23, val_main_v22, val_main_cst_0,
    val_main_v21, val_main_v20, val_main_cst, val_main_v19]
theorem normS (b : Fin 4) (r : Fin 2048) (k : Fin 1024) : val_main_v58 (F := Ideal) x0 x1 x2 (ix3 b r k) = rowNorm x0 x1 x2 1 (rowS b r) k := by
  unfold rowNorm modnorm
  simp only [modRow_S, ← shiftS, ← scaleS, ← tokS]
  pointwise [val_main_v58, val_main_v57, val_main_v56, val_main_v55, val_main_v54, val_main_v53, val_main_cst_6, val_main_v52, val_main_v51,
    val_main_v50, val_main_v49, val_main_v48, val_main_v47, val_main_v46, val_main_v45, val_main_cst_5, val_main_v44, val_main_v43, val_main_cst_4,
    val_main_v42, val_main_v41, val_main_cst_3, val_main_v40]

/-- The result's rows: the prompts' product, then the samples'. -/
theorem joinedP (a : Fin 16384) (p : Fin 8192) (h : a.val = p.val) (j : Fin 2048) :
    val_main_v63 (F := Ideal) x0 x1 x2 x3 (ix2 a j) = val_main_v61 (F := Ideal) x0 x1 x2 x3 (ix2 p j) := by
  obtain rfl : a = inP p := Fin.ext h
  clear h
  unfold inP
  pointwise [val_main_v63]
theorem joinedS (a : Fin 16384) (p : Fin 8192) (h : a.val = 8192 + p.val) (j : Fin 2048) :
    val_main_v63 (F := Ideal) x0 x1 x2 x3 (ix2 a j) = val_main_v62 (F := Ideal) x0 x1 x2 x3 (ix2 p j) := by
  obtain rfl : a = inS p := Fin.ext h
  clear h
  unfold inS
  have e : (⟨8192 + p.val - 8192, by omega⟩ : Fin 8192) = p := Fin.ext (by show 8192 + p.val - 8192 = p.val; omega)
  pointwise [val_main_v63]

/-- The result at a prompt's row, -/
theorem atP (s : Fin 32) (r : Fin 256) (j : Fin 2048) :
    val_main_v63 (F := Ideal) x0 x1 x2 x3 (ix2 (rowP s r) j) = projIn x0 x1 x2 1 (fun k => x3 (ix2 k j)) (rowP s r) := by
  unfold projIn
  simp only [← normP]
  rw [joinedP x0 x1 x2 x3 (rowP s r) ⟨s.val * 256 + r.val, by omega⟩ (by show 256 * s.val + r.val = s.val * 256 + r.val; omega)]
  pointwise [val_main_v61, val_main_v59]

/-- and at a sample's. -/
theorem atS (b : Fin 4) (r : Fin 2048) (j : Fin 2048) :
    val_main_v63 (F := Ideal) x0 x1 x2 x3 (ix2 (rowS b r) j) = projIn x0 x1 x2 1 (fun k => x3 (ix2 k j)) (rowS b r) := by
  unfold projIn
  simp only [← normS]
  rw [joinedS x0 x1 x2 x3 (rowS b r) ⟨b.val * 2048 + r.val, by omega⟩ (by show 8192 + (2048 * b.val + r.val) = 8192 + (b.val * 2048 + r.val); omega)]
  pointwise [val_main_v62, val_main_v60]

/-- The result. -/
theorem array (a : Fin 16384) (j : Fin 2048) :
    val_main_v63 (F := Ideal) x0 x1 x2 x3 (ix2 a j) = projIn x0 x1 x2 1 (fun k => x3 (ix2 k j)) a := by
  obtain ⟨s, r, rfl⟩ | ⟨b, r, rfl⟩ := row_cases a
  · exact atP x0 x1 x2 x3 s r j
  · exact atS x0 x1 x2 x3 b r j

end Cert.Proof.OddInRef

end
-- ==== Proof.OddInEquation.lean ====
/- The equation of the odd layers' projection into the mixers: the call and the plain reference end with the same array. -/
module

public import proofs.«01_k».proof.Defs
public import proofs.«01_k».proof.Proof.OddInKernel
public import proofs.«01_k».proof.Proof.OddInRef
public import proofs.«01_k».proof.Proof.Gen.OddIn.Frame
public import Idealize.ShloMosaic.Lib.Quiescent

@[expose] public section

set_option maxRecDepth 16384

noncomputable section

namespace Cert.Proof.OddInEquation

open Idealize.ShloMosaic Idealize.ShloMosaic.TcCoe Idealize.SL.Sem
open Cert.OddInRefIdeal.Read

variable (m : (ℓ : Loc Cert.OddInIdeal.nD Cert.OddInIdeal.τ Cert.OddInIdeal.sig) → Buf (Elt Ideal) ℓ) (c : Dev Cert.OddInIdeal.nD)

/-- The reference's result of the call's arguments. -/
abbrev plain : Buf (Elt Ideal) ((c.tc : Thread Cert.OddInIdeal.nD Cert.OddInIdeal.τ).loc Cert.OddInIdeal.main_v2) :=
  val_main_v63 (F := Ideal) (m (c.tc.loc Cert.OddInIdeal.main_arg0)) (m (c.tc.loc Cert.OddInIdeal.main_arg1)) (m (c.tc.loc Cert.OddInIdeal.main_arg2)) (m (c.tc.loc Cert.OddInIdeal.main_arg3))

/-- The call's array is the reference's. -/
theorem array_eq : (Cert.OddInIdeal.Gen.dats m 0 c).arrAt 5 Cert.OddInIdeal.cfg0.N = plain m c := by
  funext i
  obtain ⟨a, j, rfl⟩ : ∃ a j, i = ix2 a j := ⟨i 0, i 1, eq_ix2 i⟩
  exact (Cert.Proof.OddInKernel.array m c a j).trans (Cert.Proof.OddInRef.array _ _ _ _ a j).symm

/-- The frames of the three programs: each runs, and leaves its arguments and every semaphore as they were. -/
theorem frame_k : Cert.quiescent_OddIn := fun m ρ _ => Cert.OddIn.Gen.frame m ρ
theorem frame_ki : Cert.quiescent_OddInIdeal := fun m ρ _ => Cert.OddInIdeal.Gen.frame m ρ
theorem frame_ri : Cert.quiescent_OddInRefIdeal := fun m ρ _ =>
  (θ_run Cert.OddInRefIdeal.defs _ _).mono (fun r h => ⟨fun c => (h c).2, Idealize.ShloMosaic.sem_eq_zero_of_no_sems (by decide) r.2⟩)
    (Cert.OddInRefIdeal.Value.run (F := Ideal) m ρ)

/-- From memories that agree on the arguments both run to the same array. -/
theorem algebraic : Cert.algebraic_OddInIdeal_OddInRefIdeal := by
  intro m ρ m' ρ' _ hag
  refine ⟨fun c => plain m c, ?_, ?_⟩
  · exact (θ_run Cert.OddInIdeal.defs _ _).mono (fun r h c => ⟨(h c).1.trans (array_eq m c), (h c).2⟩) (Cert.OddInIdeal.Value.run_blocks (F := Ideal) m ρ)
  · refine (θ_run Cert.OddInRefIdeal.defs _ _).mono (fun r h c => ?_) (Cert.OddInRefIdeal.Value.run (F := Ideal) m' ρ')
    obtain ⟨a0, a1, a2, a3⟩ := hag c
    refine ⟨(h c).1.trans ((val_main_v63_eq _ _).trans ?_), (h c).2⟩
    repeat rw [StableHlo.launchContents_devRef]
    simp only [a0, a1, a2, a3]

end Cert.Proof.OddInEquation

end
-- ==== Proof.EvenOutKernel.lean ====
/- What the even layers' projection out of the mixers leaves in its result array: `projOut` of the arguments at every row and column. -/
module

public import proofs.«01_k».proof.Proof.Layer
public import proofs.«01_k».proof.Proof.Gen.EvenOutIdeal.Value
public import Idealize.ShloMosaic.Lib.StableHlo.ReadAt

@[expose] public section

set_option maxRecDepth 16384

noncomputable section

namespace Cert.Proof.EvenOutKernel

open Cert.EvenOutIdeal Cert.EvenOutIdeal.Gen Idealize.ShloMosaic Idealize.ShloMosaic.TcCoe Cert.Proof.Layer

/-- What one tile computes of its blocks. -/
def tileOf (a b : Fin 512 → EReal) (x4 : Vec Ideal S1024x1024 .bf16) (x5 : Vec Ideal S512x1024 .f32) (x6 : Vec Ideal S1x1x1x1024 .f32)
    (r : Fin 512) (j : Fin 1024) : EReal :=
  x5 (ix2 r j) + x6 (ix4 0 0 0 j) * ((∑ k : Fin 512, a k * x4 (ix2 ⟨k.val, by omega⟩ j)) + ∑ k : Fin 512, b k * x4 (ix2 ⟨512 + k.val, by omega⟩ j))

theorem hz2 : (![0, 0] : Fin 2 → ℕ) = fun _ => 0 := by funext a; fin_cases a <;> rfl
theorem hz4 : (![0, 0, 0, 0] : Fin 4 → ℕ) = fun _ => 0 := by funext a; fin_cases a <;> rfl

/-- The matrix's two halves of the rows. -/
abbrev upper {F : FTy → Type} [FloatOps F] (x4 : Vec F S1024x1024 .bf16) : Vec F S512x1024 .bf16 :=
  View.ld x4 (Rect.unit (s := S1024x1024) ![0, 0] S512x1024.size inb_S1024x1024_S512x1024_0_0)
abbrev lower {F : FTy → Type} [FloatOps F] (x4 : Vec F S1024x1024 .bf16) : Vec F S512x1024 .bf16 :=
  View.ld x4 (Rect.unit (s := S1024x1024) ![512, 0] S512x1024.size inb_S1024x1024_S512x1024_512_0)

/-- The store of a tile of the prompts. -/
theorem outA_eq {F : FTy → Type} [FloatOps F] (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S1x1x1x1024 .f32) (harg7 : arg7.IsWhole) (arg8 : Memref sig .tc .vmem S512x1024 .f32) (harg8 : arg8.IsWhole) (hc0 : k0_cond1 i = 1#1) (hc1 : ¬k0_cond2 i = 1#1)
    (x0 x1 x2 x3 : Vec F S512x512 .bf16) (x4 : Vec F S1024x1024 .bf16) (x5 : Vec F S512x1024 .f32) (x6 : Vec F S1x1x1x1024 .f32) :
    out0_A_7 c i arg1 harg1 arg2 harg2 arg3 harg3 arg4 harg4 arg5 harg5 arg6 harg6 arg7 harg7 arg8 harg8 hc0 hc1 x0 x1 x2 x3 x4 x5 x6 = k0_pay1 x0 (upper x4) x2 (lower x4) x5 x6 := by
  unfold out0_A_7
  rw [View.read_writes_eq_canon _ _ _ (cover0_A_7 c i arg1 harg1 arg2 harg2 arg3 harg3 arg4 harg4 arg5 harg5 arg6 harg6 arg7 harg7 arg8 harg8 hc0 hc1 x0 x1 x2 x3 x4 x5 x6)]
  unfold kernelRun0_A
  dsimp only
  sl_unfold_run_names
  rw [View.canon_unit_zero hz2]
  simp only [View.readAt_eq_ld, harg1.read_unread, harg2.read_unread, harg3.read_unread, harg4.read_unread, harg5.read_unread, harg6.read_unread,
    harg7.read_unread, View.ld_unit_zero (S := S512x512) hz2, View.ld_unit_zero (S := S512x1024) hz2, View.ld_unit_zero (S := S1x1x1x1024) hz4]

theorem tileA (x0 x2 : Vec Ideal S512x512 .bf16) (x4 : Vec Ideal S1024x1024 .bf16) (x5 : Vec Ideal S512x1024 .f32) (x6 : Vec Ideal S1x1x1x1024 .f32)
    (r : Fin 512) (j : Fin 1024) :
    k0_pay1 x0 (upper x4) x2 (lower x4) x5 x6 (ix2 r j) = tileOf (fun k => x0 (ix2 r k)) (fun k => x2 (ix2 r k)) x4 x5 x6 r j := by
  unfold tileOf upper lower
  pointwise [k0_pay1]

/-- The store of a tile of the samples. -/
theorem outB_eq {F : FTy → Type} [FloatOps F] (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S1x1x1x1024 .f32) (harg7 : arg7.IsWhole) (arg8 : Memref sig .tc .vmem S512x1024 .f32) (harg8 : arg8.IsWhole) (hc0 : ¬k0_cond1 i = 1#1) (hc1 : k0_cond2 i = 1#1)
    (x0 x1 x2 x3 : Vec F S512x512 .bf16) (x4 : Vec F S1024x1024 .bf16) (x5 : Vec F S512x1024 .f32) (x6 : Vec F S1x1x1x1024 .f32) :
    out0_B_7 c i arg1 harg1 arg2 harg2 arg3 harg3 arg4 harg4 arg5 harg5 arg6 harg6 arg7 harg7 arg8 harg8 hc0 hc1 x0 x1 x2 x3 x4 x5 x6 = k0_pay2 x1 (upper x4) x3 (lower x4) x5 x6 := by
  unfold out0_B_7
  rw [View.read_writes_eq_canon _ _ _ (cover0_B_7 c i arg1 harg1 arg2 harg2 arg3 harg3 arg4 harg4 arg5 harg5 arg6 harg6 arg7 harg7 arg8 harg8 hc0 hc1 x0 x1 x2 x3 x4 x5 x6)]
  unfold kernelRun0_B
  dsimp only
  sl_unfold_run_names
  rw [View.canon_unit_zero hz2]
  simp only [View.readAt_eq_ld, harg1.read_unread, harg2.read_unread, harg3.read_unread, harg4.read_unread, harg5.read_unread, harg6.read_unread,
    harg7.read_unread, View.ld_unit_zero (S := S512x512) hz2, View.ld_unit_zero (S := S512x1024) hz2, View.ld_unit_zero (S := S1x1x1x1024) hz4]

theorem tileB (x0 x2 : Vec Ideal S512x512 .bf16) (x4 : Vec Ideal S1024x1024 .bf16) (x5 : Vec Ideal S512x1024 .f32) (x6 : Vec Ideal S1x1x1x1024 .f32)
    (r : Fin 512) (j : Fin 1024) :
    k0_pay2 x0 (upper x4) x2 (lower x4) x5 x6 (ix2 r j) = tileOf (fun k => x0 (ix2 r k)) (fun k => x2 (ix2 r k)) x4 x5 x6 r j := by
  unfold tileOf upper lower
  pointwise [k0_pay2]

theorem idx : ∀ t : Fin grid0.N,
    (win0_0.index t 0 = min t.val 15 ∧ win0_0.index t 1 = 0) ∧ (win0_1.index t 0 = t.val - 16 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = (if t.val < 16 then 0 else 1 + (t.val - 16) / 4) ∧ win0_6.index t 2 = 0 ∧ win0_6.index t 3 = 2)
    ∧ (win0_7.index t 0 = t.val ∧ win0_7.index t 1 = 0) := by decide +kernel

variable (m : (ℓ : Loc nD τ sig) → Buf (Elt Ideal) ℓ) (c : Dev nD)

/-- The arguments: the mixers' outputs, the matrix, the residual rows and the modulation. -/
abbrev a0 : FVec Ideal S8192x512 .bf16 := m ((c : Thread nD τ).loc main_arg0)
abbrev a1 : FVec Ideal S8192x512 .bf16 := m ((c : Thread nD τ).loc main_arg1)
abbrev a2 : FVec Ideal S16384x512 .bf16 := m ((c : Thread nD τ).loc main_arg2)
abbrev aW : FVec Ideal S1024x1024 .f32 := m ((c : Thread nD τ).loc main_arg3)
abbrev aX : FVec Ideal S16384x1024 .f32 := m ((c : Thread nD τ).loc main_arg4)
abbrev aM : FVec Ideal S4x8x1x6144 .f32 := m ((c : Thread nD τ).loc main_arg5)

/-- Row `r` of tile `t`. -/
def rowOf (t : Fin cfg0.N) (r : Fin 512) : Fin 16384 := ⟨512 * t.val + r.val, by have h : t.val < 32 := t.isLt; omega⟩

/-- The blocks a tile is given: its rows of the outputs, -/
theorem blk0 (t : Fin cfg0.N) (ht : t.val < 16) (r : Fin 512) (k : Fin 512) : (iblk m c 0 t : Vec Ideal S512x512 .bf16) (ix2 r k) = a0 m c (ix2 ⟨512 * t.val + r.val, by omega⟩ k) := by
  obtain ⟨⟨a0, a1⟩, ⟨b0, b1⟩, ⟨c0, c1⟩, ⟨d0, d1⟩, _⟩ := idx t
  show V m c main_arg0 (((cfg0.win 0).blk t).view.emb (ix2 r k)) = m ((c : Thread nD τ).loc main_arg0) _
  rw [V_main_arg0]
  congr 1
  funext a; apply Fin.ext
  match a with
  | ⟨0, _⟩ => show win0_0.index t 0 * 512 + 1 * r.val = 512 * t.val + r.val; omega
  | ⟨1, _⟩ => show win0_0.index t 1 * 512 + 1 * k.val = k.val; omega

theorem blk1 (t : Fin cfg0.N) (ht : 16 ≤ t.val) (r : Fin 512) (k : Fin 512) : (iblk m c 1 t : Vec Ideal S512x512 .bf16) (ix2 r k) = a1 m c (ix2 ⟨512 * t.val + r.val - 8192, by have h : t.val < 32 := t.isLt; omega⟩ k) := by
  obtain ⟨⟨a0, a1⟩, ⟨b0, b1⟩, ⟨c0, c1⟩, ⟨d0, d1⟩, _⟩ := idx t
  show V m c main_arg1 (((cfg0.win 1).blk t).view.emb (ix2 r k)) = m ((c : Thread nD τ).loc main_arg1) _
  rw [V_main_arg1]
  congr 1
  funext a; apply Fin.ext
  match a with
  | ⟨0, _⟩ => show win0_1.index t 0 * 512 + 1 * r.val = 512 * t.val + r.val - 8192; omega
  | ⟨1, _⟩ => show win0_1.index t 1 * 512 + 1 * k.val = k.val; omega

theorem blk2 (t : Fin cfg0.N) (r : Fin 512) (k : Fin 512) : (iblk m c 2 t : Vec Ideal S512x512 .bf16) (ix2 r k) = a2 m c (ix2 (rowOf t r) k) := by
  obtain ⟨⟨a0, a1⟩, ⟨b0, b1⟩, ⟨c0, c1⟩, ⟨d0, d1⟩, _⟩ := idx t
  show V m c main_arg2 (((cfg0.win 2).blk t).view.emb (ix2 r k)) = m ((c : Thread nD τ).loc main_arg2) _
  rw [V_main_arg2]
  congr 1
  funext a; apply Fin.ext
  match a with
  | ⟨0, _⟩ => show win0_2.index t 0 * 512 + 1 * r.val = 512 * t.val + r.val; omega
  | ⟨1, _⟩ => show win0_2.index t 1 * 512 + 1 * k.val = k.val; omega

theorem blk3 (t : Fin cfg0.N) (r : Fin 512) (k : Fin 512) : (iblk m c 3 t : Vec Ideal S512x512 .bf16) (ix2 r k) = a2 m c (ix2 (rowOf t r) k) := by
  obtain ⟨⟨a0, a1⟩, ⟨b0, b1⟩, ⟨c0, c1⟩, ⟨d0, d1⟩, _⟩ := idx t
  show V m c main_arg2 (((cfg0.win 3).blk t).view.emb (ix2 r k)) = m ((c : Thread nD τ).loc main_arg2) _
  rw [V_main_arg2]
  congr 1
  funext a; apply Fin.ext
  match a with
  | ⟨0, _⟩ => show win0_3.index t 0 * 512 + 1 * r.val = 512 * t.val + r.val; omega
  | ⟨1, _⟩ => show win0_3.index t 1 * 512 + 1 * k.val = k.val; omega

theorem V_matrix (k j : Fin 1024) : (V m c main_v0 : Vec Ideal S1024x1024 .bf16) (ix2 k j) = aW m c (ix2 k j) := by
  unfold_abbrev_sides
  after_reads_at

/-- the matrix, -/
theorem blk4 (t : Fin cfg0.N) (k j : Fin 1024) : (iblk m c 4 t : Vec Ideal S1024x1024 .bf16) (ix2 k j) = aW m c (ix2 k j) := by
  obtain ⟨_, _, _, _, ⟨e0, e1⟩, _⟩ := idx t
  have he : ((cfg0.win 4).blk t).view.emb (ix2 k j) = (ix2 k j : S1024x1024.Idx) := by
    funext a; apply Fin.ext
    match a with
    | ⟨0, _⟩ => show win0_4.index t 0 * 1024 + 1 * k.val = k.val; omega
    | ⟨1, _⟩ => show win0_4.index t 1 * 1024 + 1 * j.val = j.val; omega
  show V m c main_v0 (((cfg0.win 4).blk t).view.emb (ix2 k j)) = _
  rw [he]
  exact V_matrix m c k j

/-- its residual rows, -/
theorem blk5 (t : Fin cfg0.N) (r : Fin 512) (j : Fin 1024) : (iblk m c 5 t : Vec Ideal S512x1024 .f32) (ix2 r j) = aX m c (ix2 (rowOf t r) j) := by
  obtain ⟨_, _, _, _, _, ⟨e0, e1⟩, _⟩ := idx t
  show V m c main_arg4 (((cfg0.win 5).blk t).view.emb (ix2 r j)) = m ((c : Thread nD τ).loc main_arg4) (ix2 (rowOf t r) j)
  rw [V_main_arg4]
  congr 1
  funext a; apply Fin.ext
  match a with
  | ⟨0, _⟩ => show win0_5.index t 0 * 512 + 1 * r.val = 512 * t.val + r.val; omega
  | ⟨1, _⟩ => show win0_5.index t 1 * 1024 + 1 * j.val = j.val; omega

/-- and its gate. -/
theorem blk6 (t : Fin cfg0.N) (r : Fin 512) (k : Fin 1024) :
    (iblk m c 6 t : Vec Ideal S1x1x1x1024 .f32) (ix4 0 0 0 k) = aM m c (ix4 0 (modRow (rowOf t r)) 0 (gateCol k)) := by
  obtain ⟨_, _, _, _, _, _, ⟨e0, e1, e2, e3⟩, _⟩ := idx t
  show V m c main_arg5 (((cfg0.win 6).blk t).view.emb (ix4 0 0 0 k)) = m ((c : Thread nD τ).loc main_arg5) _
  rw [V_main_arg5]
  congr 1
  have hr := modRow_512 t r
  funext a; apply Fin.ext
  match a with
  | ⟨0, _⟩ => show win0_6.index t 0 * 1 + 1 * 0 = 0; omega
  | ⟨1, _⟩ => show win0_6.index t 1 * 1 + 1 * 0 = (modRow (rowOf t r)).val; unfold rowOf; omega
  | ⟨2, _⟩ => show win0_6.index t 2 * 1 + 1 * 0 = 0; omega
  | ⟨3, _⟩ => show win0_6.index t 3 * 1024 + 1 * k.val = 2048 + k.val; omega

/-- What a tile writes back. -/
theorem written (t : Fin cfg0.N) (r : Fin 512) (j : Fin 1024) :
    ((dats m 0 c).flushed 7 t : Vec Ideal S512x1024 .f32) (ix2 r j)
      = projOut (aX m c) (aM m c) 0 (parts (fun r k => a0 m c (ix2 r k)) (fun r k => a1 m c (ix2 r k)) (rowOf t r)) (fun k => a2 m c (ix2 (rowOf t r) k)) (aW m c) (rowOf t r) j := by
  by_cases ht : t.val < 16
  · rw [Value.flushed7_A m c t ht (by omega), outA_eq]
    show k0_pay1 _ _ _ _ _ _ (ix2 r j) = _
    rw [tileA]
    unfold tileOf projOut
    have hp (P S : Fin 8192 → Fin 512 → EReal) (k : Fin 512) : parts P S (rowOf t r) k = P ⟨512 * t.val + r.val, by omega⟩ k := dif_pos (by show 512 * t.val + r.val < 8192; omega)
    simp only [blk0 m c t ht, blk2 m c t, blk4, blk5, blk6 m c t r, hp]
  · rw [Value.flushed7_B m c t ht (by omega), outB_eq]
    show k0_pay2 _ _ _ _ _ _ (ix2 r j) = _
    rw [tileB]
    unfold tileOf projOut
    have hl : t.val < 32 := t.isLt
    have hp (P S : Fin 8192 → Fin 512 → EReal) (k : Fin 512) : parts P S (rowOf t r) k = S ⟨512 * t.val + r.val - 8192, by omega⟩ k := dif_neg (by show ¬ 512 * t.val + r.val < 8192; omega)
    simp only [blk1 m c t (by omega), blk3 m c t, blk4, blk5, blk6 m c t r, hp]

/-- The result array. -/
theorem array (a : Fin 16384) (j : Fin 1024) :
    ((dats m 0 c).arrAt 7 cfg0.N : Vec Ideal S16384x1024 .f32) (ix2 a j)
      = projOut (aX m c) (aM m c) 0 (parts (fun r k => a0 m c (ix2 r k)) (fun r k => a1 m c (ix2 r k)) a) (fun k => a2 m c (ix2 a k)) (aW m c) a j := by
  obtain ⟨t, r, rfl⟩ : ∃ (t : Fin cfg0.N) (r : Fin 512), a = rowOf t r :=
    ⟨⟨a.val / 512, by show _ < 32; omega⟩, ⟨a.val % 512, by omega⟩, Fin.ext (by show a.val = 512 * (a.val / 512) + a.val % 512; omega)⟩
  have hb := congrFun (Value.blocks7 m c t (flush0_7 _)) (ix2 r j)
  have hemb : ((cfg0.win 7).blk t).view.emb (ix2 r j) = (ix2 (rowOf t r) j : S16384x1024.Idx) := by
    obtain ⟨_, _, _, _, _, _, _, ⟨e0, e1⟩⟩ := idx t
    funext a; apply Fin.ext
    match a with
    | ⟨0, _⟩ => show win0_7.index t 0 * 512 + 1 * r.val = 512 * t.val + r.val; omega
    | ⟨1, _⟩ => show win0_7.index t 1 * 1024 + 1 * j.val = j.val; omega
  rw [View.read_apply, hemb] at hb
  exact hb.trans (written m c t r j)

end Cert.Proof.EvenOutKernel

end
-- ==== Proof.EvenOutRef.lean ====
/- What the plain projection out of the even layers' mixers holds: `projOut` of the arguments at every row and column. -/
module

public import proofs.«01_k».proof.Proof.Layer
public import proofs.«01_k».proof.Proof.Gen.EvenOutRefIdeal.Read

@[expose] public section

set_option maxRecDepth 16384

noncomputable section

namespace Cert.Proof.EvenOutRef

open Cert.EvenOutRefIdeal Cert.EvenOutRefIdeal.Read Idealize.ShloMosaic Cert.Proof.Layer

variable (x0 x1 : FVec Ideal S8192x512 .bf16) (x2 : FVec Ideal S16384x512 .bf16) (x3 : FVec Ideal S1024x1024 .f32) (x4 : FVec Ideal S16384x1024 .f32)
  (x5 : FVec Ideal S4x8x1x6144 .f32)

/-- A prompt's residual rows, and a sample's. -/
theorem tokP (s : Fin 32) (r : Fin 256) (k : Fin 1024) : val_main_v20 (F := Ideal) x4 (ix3 s r k) = x4 (ix2 (rowP s r) k) := by
  have e : (⟨s.val * 256 + r.val, by omega⟩ : Fin 16384) = rowP s r := Fin.ext (by show s.val * 256 + r.val = 256 * s.val + r.val; omega)
  rw [← e]
  pointwise [val_main_v20, val_main_v19]
theorem tokS (b : Fin 4) (r : Fin 2048) (k : Fin 1024) : val_main_v29 (F := Ideal) x4 (ix3 b r k) = x4 (ix2 (rowS b r) k) := by
  have e : (⟨8192 + (b.val * 2048 + r.val), by omega⟩ : Fin 16384) = rowS b r := Fin.ext (by show 8192 + (b.val * 2048 + r.val) = 8192 + (2048 * b.val + r.val); omega)
  rw [← e]
  pointwise [val_main_v29, val_main_v28]

/-- The prompts' gate, and the samples'. -/
theorem gateP (k : Fin 1024) : val_main_v9 (F := Ideal) x5 (ix3 0 0 k) = x5 (ix4 0 0 0 (gateCol k)) := by
  unfold gateCol
  pointwise [val_main_v9, val_main_v4, val_main_v3, val_main_v2]
theorem gateS (b : Fin 4) (k : Fin 1024) : val_main_v15 (F := Ideal) x5 (ix3 b 0 k) = x5 (ix4 0 ⟨1 + b.val, by omega⟩ 0 (gateCol k)) := by
  unfold gateCol
  pointwise [val_main_v15, val_main_v6, val_main_v5]

/-- The joined outputs: the first mixer's columns, then the second's. -/
theorem firstP (p : Fin 8192) (k : Fin 512) : val_main_v21 (F := Ideal) x0 x2 (ix2 p ⟨k.val, by omega⟩) = x0 (ix2 p k) := by
  pointwise [val_main_v21]
theorem secondP (p : Fin 8192) (k : Fin 512) : val_main_v21 (F := Ideal) x0 x2 (ix2 p ⟨512 + k.val, by omega⟩) = x2 (ix2 (inP p) k) := by
  have e : (⟨512 + k.val - 512, by omega⟩ : Fin 512) = k := Fin.ext (by show 512 + k.val - 512 = k.val; omega)
  unfold inP
  pointwise [val_main_v21, val_main_v0]

theorem firstS (p : Fin 8192) (k : Fin 512) : val_main_v30 (F := Ideal) x1 x2 (ix2 p ⟨k.val, by omega⟩) = x1 (ix2 p k) := by
  pointwise [val_main_v30]
theorem secondS (p : Fin 8192) (k : Fin 512) : val_main_v30 (F := Ideal) x1 x2 (ix2 p ⟨512 + k.val, by omega⟩) = x2 (ix2 (inS p) k) := by
  have e : (⟨512 + k.val - 512, by omega⟩ : Fin 512) = k := Fin.ext (by show 512 + k.val - 512 = k.val; omega)
  unfold inS
  pointwise [val_main_v30, val_main_v1]

/-- Their product with the matrix. -/
theorem mixP (s : Fin 32) (r : Fin 256) (j : Fin 1024) : val_main_v24 (F := Ideal) x0 x2 x3 (ix3 s r j)
    = (∑ k : Fin 512, x0 (ix2 (rowP' s r) k) * x3 (ix2 ⟨k.val, by omega⟩ j)) + ∑ k : Fin 512, x2 (ix2 (inP (rowP' s r)) k) * x3 (ix2 ⟨512 + k.val, by omega⟩ j) := by
  have e : (⟨s.val * 256 + r.val, by omega⟩ : Fin 8192) = rowP' s r := Fin.ext (by show s.val * 256 + r.val = 256 * s.val + r.val; omega)
  have h : val_main_v24 (F := Ideal) x0 x2 x3 (ix3 s r j) = ∑ k : Fin 1024, val_main_v21 (F := Ideal) x0 x2 (ix2 (rowP' s r) k) * x3 (ix2 k j) := by
    rw [← e]
    pointwise [val_main_v24, val_main_v23, val_main_v22]
  rw [h, sum_halves]
  simp only [firstP, secondP]

theorem mixS (s : Fin 4) (r : Fin 2048) (j : Fin 1024) : val_main_v33 (F := Ideal) x1 x2 x3 (ix3 s r j)
    = (∑ k : Fin 512, x1 (ix2 (rowS' s r) k) * x3 (ix2 ⟨k.val, by omega⟩ j)) + ∑ k : Fin 512, x2 (ix2 (inS (rowS' s r)) k) * x3 (ix2 ⟨512 + k.val, by omega⟩ j) := by
  have e : (⟨s.val * 2048 + r.val, by omega⟩ : Fin 8192) = rowS' s r := Fin.ext (by show s.val * 2048 + r.val = 2048 * s.val + r.val; omega)
  have h : val_main_v33 (F := Ideal) x1 x2 x3 (ix3 s r j) = ∑ k : Fin 1024, val_main_v30 (F := Ideal) x1 x2 (ix2 (rowS' s r) k) * x3 (ix2 k j) := by
    rw [← e]
    pointwise [val_main_v33, val_main_v32, val_main_v31]
  rw [h, sum_halves]
  simp only [firstS, secondS]

/-- The result's rows: the prompts', then the samples'. -/
theorem joinedP (p : Fin 8192) (j : Fin 1024) :
    val_main_v39 (F := Ideal) x0 x1 x2 x3 x4 x5 (ix2 (inP p) j) = val_main_v37 (F := Ideal) x0 x2 x3 x4 x5 (ix2 p j) := by
  unfold inP
  pointwise [val_main_v39]

theorem joinedS (p : Fin 8192) (j : Fin 1024) :
    val_main_v39 (F := Ideal) x0 x1 x2 x3 x4 x5 (ix2 (inS p) j) = val_main_v38 (F := Ideal) x1 x2 x3 x4 x5 (ix2 p j) := by
  have e : (⟨8192 + p.val - 8192, by omega⟩ : Fin 8192) = p := Fin.ext (by show 8192 + p.val - 8192 = p.val; omega)
  unfold inS
  pointwise [val_main_v39]

/-- The result at a prompt's row. -/
theorem atP (s : Fin 32) (r : Fin 256) (j : Fin 1024) :
    val_main_v39 (F := Ideal) x0 x1 x2 x3 x4 x5 (ix2 (rowP s r) j) = projOut x4 x5 0 (parts (fun r k => x0 (ix2 r k)) (fun r k => x1 (ix2 r k)) (rowP s r)) (fun k => x2 (ix2 (rowP s r) k)) x3 (rowP s r) j := by
  have er : rowP s r = inP (rowP' s r) := rfl
  have e : (⟨s.val * 256 + r.val, by omega⟩ : Fin 8192) = rowP' s r := Fin.ext (by show s.val * 256 + r.val = 256 * s.val + r.val; omega)
  unfold projOut
  simp only [modRow_P]
  rw [← tokP x4 s r j, ← gateP x5 j]
  rw [er]
  simp only [parts_inP]
  rw [← mixP, joinedP, ← e]
  pointwise [val_main_v37, val_main_v27, val_main_v26, val_main_v25]

/-- The result at a sample's row. -/
theorem atS (s : Fin 4) (r : Fin 2048) (j : Fin 1024) :
    val_main_v39 (F := Ideal) x0 x1 x2 x3 x4 x5 (ix2 (rowS s r) j) = projOut x4 x5 0 (parts (fun r k => x0 (ix2 r k)) (fun r k => x1 (ix2 r k)) (rowS s r)) (fun k => x2 (ix2 (rowS s r) k)) x3 (rowS s r) j := by
  have er : rowS s r = inS (rowS' s r) := rfl
  have e : (⟨s.val * 2048 + r.val, by omega⟩ : Fin 8192) = rowS' s r := Fin.ext (by show s.val * 2048 + r.val = 2048 * s.val + r.val; omega)
  unfold projOut
  simp only [modRow_S]
  rw [← tokS x4 s r j, ← gateS x5 s j]
  rw [er]
  simp only [parts_inS]
  rw [← mixS, joinedS, ← e]
  pointwise [val_main_v38, val_main_v36, val_main_v35, val_main_v34]

/-- The result. -/
theorem array (a : Fin 16384) (j : Fin 1024) :
    val_main_v39 (F := Ideal) x0 x1 x2 x3 x4 x5 (ix2 a j) = projOut x4 x5 0 (parts (fun r k => x0 (ix2 r k)) (fun r k => x1 (ix2 r k)) a) (fun k => x2 (ix2 a k)) x3 a j := by
  obtain ⟨s, r, rfl⟩ | ⟨b, r, rfl⟩ := row_cases a
  · exact atP x0 x1 x2 x3 x4 x5 s r j
  · exact atS x0 x1 x2 x3 x4 x5 b r j

end Cert.Proof.EvenOutRef

end
-- ==== Proof.EvenOutEquation.lean ====
/- The equation of the even layers' projection out of the mixers: the call and the plain reference end with the same array. -/
module

public import proofs.«01_k».proof.Defs
public import proofs.«01_k».proof.Proof.EvenOutKernel
public import proofs.«01_k».proof.Proof.EvenOutRef
public import proofs.«01_k».proof.Proof.Gen.EvenOut.Frame
public import Idealize.ShloMosaic.Lib.Quiescent

@[expose] public section

set_option maxRecDepth 16384

noncomputable section

namespace Cert.Proof.EvenOutEquation

open Idealize.ShloMosaic Idealize.ShloMosaic.TcCoe Idealize.SL.Sem
open Cert.EvenOutRefIdeal.Read

variable (m : (ℓ : Loc Cert.EvenOutIdeal.nD Cert.EvenOutIdeal.τ Cert.EvenOutIdeal.sig) → Buf (Elt Ideal) ℓ) (c : Dev Cert.EvenOutIdeal.nD)

/-- The reference's result of the call's arguments. -/
abbrev plain : Buf (Elt Ideal) ((c.tc : Thread Cert.EvenOutIdeal.nD Cert.EvenOutIdeal.τ).loc Cert.EvenOutIdeal.main_v1) :=
  val_main_v39 (F := Ideal) (m (c.tc.loc Cert.EvenOutIdeal.main_arg0)) (m (c.tc.loc Cert.EvenOutIdeal.main_arg1)) (m (c.tc.loc Cert.EvenOutIdeal.main_arg2)) (m (c.tc.loc Cert.EvenOutIdeal.main_arg3)) (m (c.tc.loc Cert.EvenOutIdeal.main_arg4)) (m (c.tc.loc Cert.EvenOutIdeal.main_arg5))

/-- The call's array is the reference's. -/
theorem array_eq : (Cert.EvenOutIdeal.Gen.dats m 0 c).arrAt 7 Cert.EvenOutIdeal.cfg0.N = plain m c := by
  funext i
  obtain ⟨a, j, rfl⟩ : ∃ a j, i = ix2 a j := ⟨i 0, i 1, eq_ix2 i⟩
  exact (Cert.Proof.EvenOutKernel.array m c a j).trans (Cert.Proof.EvenOutRef.array _ _ _ _ _ _ a j).symm

/-- The frames of the three programs: each runs, and leaves its arguments and every semaphore as they were. -/
theorem frame_k : Cert.quiescent_EvenOut := fun m ρ _ => Cert.EvenOut.Gen.frame m ρ
theorem frame_ki : Cert.quiescent_EvenOutIdeal := fun m ρ _ => Cert.EvenOutIdeal.Gen.frame m ρ
theorem frame_ri : Cert.quiescent_EvenOutRefIdeal := fun m ρ _ =>
  (θ_run Cert.EvenOutRefIdeal.defs _ _).mono (fun r h => ⟨fun c => (h c).2, Idealize.ShloMosaic.sem_eq_zero_of_no_sems (by decide) r.2⟩)
    (Cert.EvenOutRefIdeal.Value.run (F := Ideal) m ρ)

/-- From memories that agree on the arguments both run to the same array. -/
theorem algebraic : Cert.algebraic_EvenOutIdeal_EvenOutRefIdeal := by
  intro m ρ m' ρ' _ hag
  refine ⟨fun c => plain m c, ?_, ?_⟩
  · exact (θ_run Cert.EvenOutIdeal.defs _ _).mono (fun r h c => ⟨(h c).1.trans (array_eq m c), (h c).2⟩) (Cert.EvenOutIdeal.Value.run_blocks (F := Ideal) m ρ)
  · refine (θ_run Cert.EvenOutRefIdeal.defs _ _).mono (fun r h c => ?_) (Cert.EvenOutRefIdeal.Value.run (F := Ideal) m' ρ')
    obtain ⟨a0, a1, a2, a3, a4, a5⟩ := hag c
    refine ⟨(h c).1.trans ((val_main_v39_eq _ _ _ _ _ _).trans ?_), (h c).2⟩
    repeat rw [StableHlo.launchContents_devRef]
    simp only [a0, a1, a2, a3, a4, a5]

end Cert.Proof.EvenOutEquation

end
-- ==== Proof.OddOutKernel.lean ====
/- What the odd layers' projection out of the mixers leaves in its result array: `projOut` of the arguments at every row and column. -/
module

public import proofs.«01_k».proof.Proof.Layer
public import proofs.«01_k».proof.Proof.Gen.OddOutIdeal.Value
public import Idealize.ShloMosaic.Lib.StableHlo.ReadAt

@[expose] public section

set_option maxRecDepth 16384

noncomputable section

namespace Cert.Proof.OddOutKernel

open Cert.OddOutIdeal Cert.OddOutIdeal.Gen Idealize.ShloMosaic Idealize.ShloMosaic.TcCoe Cert.Proof.Layer

/-- What one tile computes of its blocks. -/
def tileOf (a b : Fin 512 → EReal) (x4 : Vec Ideal S1024x1024 .bf16) (x5 : Vec Ideal S512x1024 .f32) (x6 : Vec Ideal S1x1x1x1024 .f32)
    (r : Fin 512) (j : Fin 1024) : EReal :=
  x5 (ix2 r j) + x6 (ix4 0 0 0 j) * ((∑ k : Fin 512, a k * x4 (ix2 ⟨k.val, by omega⟩ j)) + ∑ k : Fin 512, b k * x4 (ix2 ⟨512 + k.val, by omega⟩ j))

theorem hz2 : (![0, 0] : Fin 2 → ℕ) = fun _ => 0 := by funext a; fin_cases a <;> rfl
theorem hz4 : (![0, 0, 0, 0] : Fin 4 → ℕ) = fun _ => 0 := by funext a; fin_cases a <;> rfl

/-- The matrix's two halves of the rows. -/
abbrev upper {F : FTy → Type} [FloatOps F] (x4 : Vec F S1024x1024 .bf16) : Vec F S512x1024 .bf16 :=
  View.ld x4 (Rect.unit (s := S1024x1024) ![0, 0] S512x1024.size inb_S1024x1024_S512x1024_0_0)
abbrev lower {F : FTy → Type} [FloatOps F] (x4 : Vec F S1024x1024 .bf16) : Vec F S512x1024 .bf16 :=
  View.ld x4 (Rect.unit (s := S1024x1024) ![512, 0] S512x1024.size inb_S1024x1024_S512x1024_512_0)

/-- The store of a tile of the prompts. -/
theorem outA_eq {F : FTy → Type} [FloatOps F] (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S1x1x1x1024 .f32) (harg7 : arg7.IsWhole) (arg8 : Memref sig .tc .vmem S512x1024 .f32) (harg8 : arg8.IsWhole) (hc0 : k0_cond1 i = 1#1) (hc1 : ¬k0_cond2 i = 1#1)
    (x0 x1 x2 x3 : Vec F S512x512 .bf16) (x4 : Vec F S1024x1024 .bf16) (x5 : Vec F S512x1024 .f32) (x6 : Vec F S1x1x1x1024 .f32) :
    out0_A_7 c i arg1 harg1 arg2 harg2 arg3 harg3 arg4 harg4 arg5 harg5 arg6 harg6 arg7 harg7 arg8 harg8 hc0 hc1 x0 x1 x2 x3 x4 x5 x6 = k0_pay1 x0 (upper x4) x2 (lower x4) x5 x6 := by
  unfold out0_A_7
  rw [View.read_writes_eq_canon _ _ _ (cover0_A_7 c i arg1 harg1 arg2 harg2 arg3 harg3 arg4 harg4 arg5 harg5 arg6 harg6 arg7 harg7 arg8 harg8 hc0 hc1 x0 x1 x2 x3 x4 x5 x6)]
  unfold kernelRun0_A
  dsimp only
  sl_unfold_run_names
  rw [View.canon_unit_zero hz2]
  simp only [View.readAt_eq_ld, harg1.read_unread, harg2.read_unread, harg3.read_unread, harg4.read_unread, harg5.read_unread, harg6.read_unread,
    harg7.read_unread, View.ld_unit_zero (S := S512x512) hz2, View.ld_unit_zero (S := S512x1024) hz2, View.ld_unit_zero (S := S1x1x1x1024) hz4]

theorem tileA (x0 x2 : Vec Ideal S512x512 .bf16) (x4 : Vec Ideal S1024x1024 .bf16) (x5 : Vec Ideal S512x1024 .f32) (x6 : Vec Ideal S1x1x1x1024 .f32)
    (r : Fin 512) (j : Fin 1024) :
    k0_pay1 x0 (upper x4) x2 (lower x4) x5 x6 (ix2 r j) = tileOf (fun k => x0 (ix2 r k)) (fun k => x2 (ix2 r k)) x4 x5 x6 r j := by
  unfold tileOf upper lower
  pointwise [k0_pay1]

/-- The store of a tile of the samples. -/
theorem outB_eq {F : FTy → Type} [FloatOps F] (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S1x1x1x1024 .f32) (harg7 : arg7.IsWhole) (arg8 : Memref sig .tc .vmem S512x1024 .f32) (harg8 : arg8.IsWhole) (hc0 : ¬k0_cond1 i = 1#1) (hc1 : k0_cond2 i = 1#1)
    (x0 x1 x2 x3 : Vec F S512x512 .bf16) (x4 : Vec F S1024x1024 .bf16) (x5 : Vec F S512x1024 .f32) (x6 : Vec F S1x1x1x1024 .f32) :
    out0_B_7 c i arg1 harg1 arg2 harg2 arg3 harg3 arg4 harg4 arg5 harg5 arg6 harg6 arg7 harg7 arg8 harg8 hc0 hc1 x0 x1 x2 x3 x4 x5 x6 = k0_pay2 x1 (upper x4) x3 (lower x4) x5 x6 := by
  unfold out0_B_7
  rw [View.read_writes_eq_canon _ _ _ (cover0_B_7 c i arg1 harg1 arg2 harg2 arg3 harg3 arg4 harg4 arg5 harg5 arg6 harg6 arg7 harg7 arg8 harg8 hc0 hc1 x0 x1 x2 x3 x4 x5 x6)]
  unfold kernelRun0_B
  dsimp only
  sl_unfold_run_names
  rw [View.canon_unit_zero hz2]
  simp only [View.readAt_eq_ld, harg1.read_unread, harg2.read_unread, harg3.read_unread, harg4.read_unread, harg5.read_unread, harg6.read_unread,
    harg7.read_unread, View.ld_unit_zero (S := S512x512) hz2, View.ld_unit_zero (S := S512x1024) hz2, View.ld_unit_zero (S := S1x1x1x1024) hz4]

theorem tileB (x0 x2 : Vec Ideal S512x512 .bf16) (x4 : Vec Ideal S1024x1024 .bf16) (x5 : Vec Ideal S512x1024 .f32) (x6 : Vec Ideal S1x1x1x1024 .f32)
    (r : Fin 512) (j : Fin 1024) :
    k0_pay2 x0 (upper x4) x2 (lower x4) x5 x6 (ix2 r j) = tileOf (fun k => x0 (ix2 r k)) (fun k => x2 (ix2 r k)) x4 x5 x6 r j := by
  unfold tileOf upper lower
  pointwise [k0_pay2]

theorem idx : ∀ t : Fin grid0.N,
    (win0_0.index t 0 = min t.val 15 ∧ win0_0.index t 1 = 0) ∧ (win0_1.index t 0 = t.val - 16 ∧ win0_1.index t 1 = 0)
    ∧ (win0_2.index t 0 = min t.val 15 ∧ win0_2.index t 1 = 0) ∧ (win0_3.index t 0 = t.val - 16 ∧ win0_3.index t 1 = 0)
    ∧ (win0_4.index t 0 = 0 ∧ win0_4.index t 1 = 0) ∧ (win0_5.index t 0 = t.val ∧ win0_5.index t 1 = 0)
    ∧ (win0_6.index t 0 = 1 ∧ win0_6.index t 1 = (if t.val < 16 then 0 else 1 + (t.val - 16) / 4) ∧ win0_6.index t 2 = 0 ∧ win0_6.index t 3 = 2)
    ∧ (win0_7.index t 0 = t.val ∧ win0_7.index t 1 = 0) := by decide +kernel

variable (m : (ℓ : Loc nD τ sig) → Buf (Elt Ideal) ℓ) (c : Dev nD)

/-- The arguments: the mixers' outputs, the matrix, the residual rows and the modulation. -/
abbrev a0 : FVec Ideal S8192x512 .bf16 := m ((c : Thread nD τ).loc main_arg0)
abbrev a1 : FVec Ideal S8192x512 .bf16 := m ((c : Thread nD τ).loc main_arg1)
abbrev a2 : FVec Ideal S8192x512 .bf16 := m ((c : Thread nD τ).loc main_arg2)
abbrev a3 : FVec Ideal S8192x512 .bf16 := m ((c : Thread nD τ).loc main_arg3)
abbrev aW : FVec Ideal S1024x1024 .f32 := m ((c : Thread nD τ).loc main_arg4)
abbrev aX : FVec Ideal S16384x1024 .f32 := m ((c : Thread nD τ).loc main_arg5)
abbrev aM : FVec Ideal S4x8x1x6144 .f32 := m ((c : Thread nD τ).loc main_arg6)

/-- Row `r` of tile `t`. -/
def rowOf (t : Fin cfg0.N) (r : Fin 512) : Fin 16384 := ⟨512 * t.val + r.val, by have h : t.val < 32 := t.isLt; omega⟩

/-- The blocks a tile is given: its rows of the outputs, -/
theorem blk0 (t : Fin cfg0.N) (ht : t.val < 16) (r : Fin 512) (k : Fin 512) : (iblk m c 0 t : Vec Ideal S512x512 .bf16) (ix2 r k) = a0 m c (ix2 ⟨512 * t.val + r.val, by omega⟩ k) := by
  obtain ⟨⟨a0, a1⟩, ⟨b0, b1⟩, ⟨c0, c1⟩, ⟨d0, d1⟩, _⟩ := idx t
  show V m c main_arg0 (((cfg0.win 0).blk t).view.emb (ix2 r k)) = m ((c : Thread nD τ).loc main_arg0) _
  rw [V_main_arg0]
  congr 1
  funext a; apply Fin.ext
  match a with
  | ⟨0, _⟩ => show win0_0.index t 0 * 512 + 1 * r.val = 512 * t.val + r.val; omega
  | ⟨1, _⟩ => show win0_0.index t 1 * 512 + 1 * k.val = k.val; omega

theorem blk1 (t : Fin cfg0.N) (ht : 16 ≤ t.val) (r : Fin 512) (k : Fin 512) : (iblk m c 1 t : Vec Ideal S512x512 .bf16) (ix2 r k) = a1 m c (ix2 ⟨512 * t.val + r.val - 8192, by have h : t.val < 32 := t.isLt; omega⟩ k) := by
  obtain ⟨⟨a0, a1⟩, ⟨b0, b1⟩, ⟨c0, c1⟩, ⟨d0, d1⟩, _⟩ := idx t
  show V m c main_arg1 (((cfg0.win 1).blk t).view.emb (ix2 r k)) = m ((c : Thread nD τ).loc main_arg1) _
  rw [V_main_arg1]
  congr 1
  funext a; apply Fin.ext
  match a with
  | ⟨0, _⟩ => show win0_1.index t 0 * 512 + 1 * r.val = 512 * t.val + r.val - 8192; omega
  | ⟨1, _⟩ => show win0_1.index t 1 * 512 + 1 * k.val = k.val; omega

theorem blk2 (t : Fin cfg0.N) (ht : t.val < 16) (r : Fin 512) (k : Fin 512) : (iblk m c 2 t : Vec Ideal S512x512 .bf16) (ix2 r k) = a2 m c (ix2 ⟨512 * t.val + r.val, by omega⟩ k) := by
  obtain ⟨⟨a0, a1⟩, ⟨b0, b1⟩, ⟨c0, c1⟩, ⟨d0, d1⟩, _⟩ := idx t
  show V m c main_arg2 (((cfg0.win 2).blk t).view.emb (ix2 r k)) = m ((c : Thread nD τ).loc main_arg2) _
  rw [V_main_arg2]
  congr 1
  funext a; apply Fin.ext
  match a with
  | ⟨0, _⟩ => show win0_2.index t 0 * 512 + 1 * r.val = 512 * t.val + r.val; omega
  | ⟨1, _⟩ => show win0_2.index t 1 * 512 + 1 * k.val = k.val; omega

theorem blk3 (t : Fin cfg0.N) (ht : 16 ≤ t.val) (r : Fin 512) (k : Fin 512) : (iblk m c 3 t : Vec Ideal S512x512 .bf16) (ix2 r k) = a3 m c (ix2 ⟨512 * t.val + r.val - 8192, by have h : t.val < 32 := t.isLt; omega⟩ k) := by
  obtain ⟨⟨a0, a1⟩, ⟨b0, b1⟩, ⟨c0, c1⟩, ⟨d0, d1⟩, _⟩ := idx t
  show V m c main_arg3 (((cfg0.win 3).blk t).view.emb (ix2 r k)) = m ((c : Thread nD τ).loc main_arg3) _
  rw [V_main_arg3]
  congr 1
  funext a; apply Fin.ext
  match a with
  | ⟨0, _⟩ => show win0_3.index t 0 * 512 + 1 * r.val = 512 * t.val + r.val - 8192; omega
  | ⟨1, _⟩ => show win0_3.index t 1 * 512 + 1 * k.val = k.val; omega

theorem V_matrix (k j : Fin 1024) : (V m c main_v0 : Vec Ideal S1024x1024 .bf16) (ix2 k j) = aW m c (ix2 k j) := by
  unfold_abbrev_sides
  after_reads_at

/-- the matrix, -/
theorem blk4 (t : Fin cfg0.N) (k j : Fin 1024) : (iblk m c 4 t : Vec Ideal S1024x1024 .bf16) (ix2 k j) = aW m c (ix2 k j) := by
  obtain ⟨_, _, _, _, ⟨e0, e1⟩, _⟩ := idx t
  have he : ((cfg0.win 4).blk t).view.emb (ix2 k j) = (ix2 k j : S1024x1024.Idx) := by
    funext a; apply Fin.ext
    match a with
    | ⟨0, _⟩ => show win0_4.index t 0 * 1024 + 1 * k.val = k.val; omega
    | ⟨1, _⟩ => show win0_4.index t 1 * 1024 + 1 * j.val = j.val; omega
  show V m c main_v0 (((cfg0.win 4).blk t).view.emb (ix2 k j)) = _
  rw [he]
  exact V_matrix m c k j

/-- its residual rows, -/
theorem blk5 (t : Fin cfg0.N) (r : Fin 512) (j : Fin 1024) : (iblk m c 5 t : Vec Ideal S512x1024 .f32) (ix2 r j) = aX m c (ix2 (rowOf t r) j) := by
  obtain ⟨_, _, _, _, _, ⟨e0, e1⟩, _⟩ := idx t
  show V m c main_arg5 (((cfg0.win 5).blk t).view.emb (ix2 r j)) = m ((c : Thread nD τ).loc main_arg5) (ix2 (rowOf t r) j)
  rw [V_main_arg5]
  congr 1
  funext a; apply Fin.ext
  match a with
  | ⟨0, _⟩ => show win0_5.index t 0 * 512 + 1 * r.val = 512 * t.val + r.val; omega
  | ⟨1, _⟩ => show win0_5.index t 1 * 1024 + 1 * j.val = j.val; omega

/-- and its gate. -/
theorem blk6 (t : Fin cfg0.N) (r : Fin 512) (k : Fin 1024) :
    (iblk m c 6 t : Vec Ideal S1x1x1x1024 .f32) (ix4 0 0 0 k) = aM m c (ix4 1 (modRow (rowOf t r)) 0 (gateCol k)) := by
  obtain ⟨_, _, _, _, _, _, ⟨e0, e1, e2, e3⟩, _⟩ := idx t
  show V m c main_arg6 (((cfg0.win 6).blk t).view.emb (ix4 0 0 0 k)) = m ((c : Thread nD τ).loc main_arg6) _
  rw [V_main_arg6]
  congr 1
  have hr := modRow_512 t r
  funext a; apply Fin.ext
  match a with
  | ⟨0, _⟩ => show win0_6.index t 0 * 1 + 1 * 0 = 1; omega
  | ⟨1, _⟩ => show win0_6.index t 1 * 1 + 1 * 0 = (modRow (rowOf t r)).val; unfold rowOf; omega
  | ⟨2, _⟩ => show win0_6.index t 2 * 1 + 1 * 0 = 0; omega
  | ⟨3, _⟩ => show win0_6.index t 3 * 1024 + 1 * k.val = 2048 + k.val; omega

/-- What a tile writes back. -/
theorem written (t : Fin cfg0.N) (r : Fin 512) (j : Fin 1024) :
    ((dats m 0 c).flushed 7 t : Vec Ideal S512x1024 .f32) (ix2 r j)
      = projOut (aX m c) (aM m c) 1 (parts (fun r k => a0 m c (ix2 r k)) (fun r k => a1 m c (ix2 r k)) (rowOf t r)) (parts (fun r k => a2 m c (ix2 r k)) (fun r k => a3 m c (ix2 r k)) (rowOf t r)) (aW m c) (rowOf t r) j := by
  by_cases ht : t.val < 16
  · rw [Value.flushed7_A m c t ht (by omega), outA_eq]
    show k0_pay1 _ _ _ _ _ _ (ix2 r j) = _
    rw [tileA]
    unfold tileOf projOut
    have hp (P S : Fin 8192 → Fin 512 → EReal) (k : Fin 512) : parts P S (rowOf t r) k = P ⟨512 * t.val + r.val, by omega⟩ k := dif_pos (by show 512 * t.val + r.val < 8192; omega)
    simp only [blk0 m c t ht, blk2 m c t ht, blk4, blk5, blk6 m c t r, hp]
  · rw [Value.flushed7_B m c t ht (by omega), outB_eq]
    show k0_pay2 _ _ _ _ _ _ (ix2 r j) = _
    rw [tileB]
    unfold tileOf projOut
    have hl : t.val < 32 := t.isLt
    have hp (P S : Fin 8192 → Fin 512 → EReal) (k : Fin 512) : parts P S (rowOf t r) k = S ⟨512 * t.val + r.val - 8192, by omega⟩ k := dif_neg (by show ¬ 512 * t.val + r.val < 8192; omega)
    simp only [blk1 m c t (by omega), blk3 m c t (by omega), blk4, blk5, blk6 m c t r, hp]

/-- The result array. -/
theorem array (a : Fin 16384) (j : Fin 1024) :
    ((dats m 0 c).arrAt 7 cfg0.N : Vec Ideal S16384x1024 .f32) (ix2 a j)
      = projOut (aX m c) (aM m c) 1 (parts (fun r k => a0 m c (ix2 r k)) (fun r k => a1 m c (ix2 r k)) a) (parts (fun r k => a2 m c (ix2 r k)) (fun r k => a3 m c (ix2 r k)) a) (aW m c) a j := by
  obtain ⟨t, r, rfl⟩ : ∃ (t : Fin cfg0.N) (r : Fin 512), a = rowOf t r :=
    ⟨⟨a.val / 512, by show _ < 32; omega⟩, ⟨a.val % 512, by omega⟩, Fin.ext (by show a.val = 512 * (a.val / 512) + a.val % 512; omega)⟩
  have hb := congrFun (Value.blocks7 m c t (flush0_7 _)) (ix2 r j)
  have hemb : ((cfg0.win 7).blk t).view.emb (ix2 r j) = (ix2 (rowOf t r) j : S16384x1024.Idx) := by
    obtain ⟨_, _, _, _, _, _, _, ⟨e0, e1⟩⟩ := idx t
    funext a; apply Fin.ext
    match a with
    | ⟨0, _⟩ => show win0_7.index t 0 * 512 + 1 * r.val = 512 * t.val + r.val; omega
    | ⟨1, _⟩ => show win0_7.index t 1 * 1024 + 1 * j.val = j.val; omega
  rw [View.read_apply, hemb] at hb
  exact hb.trans (written m c t r j)

end Cert.Proof.OddOutKernel

end
-- ==== Proof.OddOutRef.lean ====
/- What the plain projection out of the odd layers' mixers holds: `projOut` of the arguments at every row and column. -/
module

public import proofs.«01_k».proof.Proof.Layer
public import proofs.«01_k».proof.Proof.Gen.OddOutRefIdeal.Read

@[expose] public section

set_option maxRecDepth 16384

noncomputable section

namespace Cert.Proof.OddOutRef

open Cert.OddOutRefIdeal Cert.OddOutRefIdeal.Read Idealize.ShloMosaic Cert.Proof.Layer

variable (x0 x1 x2 x3 : FVec Ideal S8192x512 .bf16) (x4 : FVec Ideal S1024x1024 .f32) (x5 : FVec Ideal S16384x1024 .f32)
  (x6 : FVec Ideal S4x8x1x6144 .f32)

/-- A prompt's residual rows, and a sample's. -/
theorem tokP (s : Fin 32) (r : Fin 256) (k : Fin 1024) : val_main_v18 (F := Ideal) x5 (ix3 s r k) = x5 (ix2 (rowP s r) k) := by
  have e : (⟨s.val * 256 + r.val, by omega⟩ : Fin 16384) = rowP s r := Fin.ext (by show s.val * 256 + r.val = 256 * s.val + r.val; omega)
  rw [← e]
  pointwise [val_main_v18, val_main_v17]
theorem tokS (b : Fin 4) (r : Fin 2048) (k : Fin 1024) : val_main_v27 (F := Ideal) x5 (ix3 b r k) = x5 (ix2 (rowS b r) k) := by
  have e : (⟨8192 + (b.val * 2048 + r.val), by omega⟩ : Fin 16384) = rowS b r := Fin.ext (by show 8192 + (b.val * 2048 + r.val) = 8192 + (2048 * b.val + r.val); omega)
  rw [← e]
  pointwise [val_main_v27, val_main_v26]

/-- The prompts' gate, and the samples'. -/
theorem gateP (k : Fin 1024) : val_main_v7 (F := Ideal) x6 (ix3 0 0 k) = x6 (ix4 1 0 0 (gateCol k)) := by
  unfold gateCol
  pointwise [val_main_v7, val_main_v2, val_main_v1, val_main_v0]
theorem gateS (b : Fin 4) (k : Fin 1024) : val_main_v13 (F := Ideal) x6 (ix3 b 0 k) = x6 (ix4 1 ⟨1 + b.val, by omega⟩ 0 (gateCol k)) := by
  unfold gateCol
  pointwise [val_main_v13, val_main_v4, val_main_v3]

/-- The joined outputs: the first mixer's columns, then the second's. -/
theorem firstP (p : Fin 8192) (k : Fin 512) : val_main_v19 (F := Ideal) x0 x2 (ix2 p ⟨k.val, by omega⟩) = x0 (ix2 p k) := by
  pointwise [val_main_v19]
theorem secondP (p : Fin 8192) (k : Fin 512) : val_main_v19 (F := Ideal) x0 x2 (ix2 p ⟨512 + k.val, by omega⟩) = x2 (ix2 p k) := by
  have e : (⟨512 + k.val - 512, by omega⟩ : Fin 512) = k := Fin.ext (by show 512 + k.val - 512 = k.val; omega)
  pointwise [val_main_v19]

theorem firstS (p : Fin 8192) (k : Fin 512) : val_main_v28 (F := Ideal) x1 x3 (ix2 p ⟨k.val, by omega⟩) = x1 (ix2 p k) := by
  pointwise [val_main_v28]
theorem secondS (p : Fin 8192) (k : Fin 512) : val_main_v28 (F := Ideal) x1 x3 (ix2 p ⟨512 + k.val, by omega⟩) = x3 (ix2 p k) := by
  have e : (⟨512 + k.val - 512, by omega⟩ : Fin 512) = k := Fin.ext (by show 512 + k.val - 512 = k.val; omega)
  pointwise [val_main_v28]

/-- Their product with the matrix. -/
theorem mixP (s : Fin 32) (r : Fin 256) (j : Fin 1024) : val_main_v22 (F := Ideal) x0 x2 x4 (ix3 s r j)
    = (∑ k : Fin 512, x0 (ix2 (rowP' s r) k) * x4 (ix2 ⟨k.val, by omega⟩ j)) + ∑ k : Fin 512, x2 (ix2 (rowP' s r) k) * x4 (ix2 ⟨512 + k.val, by omega⟩ j) := by
  have e : (⟨s.val * 256 + r.val, by omega⟩ : Fin 8192) = rowP' s r := Fin.ext (by show s.val * 256 + r.val = 256 * s.val + r.val; omega)
  have h : val_main_v22 (F := Ideal) x0 x2 x4 (ix3 s r j) = ∑ k : Fin 1024, val_main_v19 (F := Ideal) x0 x2 (ix2 (rowP' s r) k) * x4 (ix2 k j) := by
    rw [← e]
    pointwise [val_main_v22, val_main_v21, val_main_v20]
  rw [h, sum_halves]
  simp only [firstP, secondP]

theorem mixS (s : Fin 4) (r : Fin 2048) (j : Fin 1024) : val_main_v31 (F := Ideal) x1 x3 x4 (ix3 s r j)
    = (∑ k : Fin 512, x1 (ix2 (rowS' s r) k) * x4 (ix2 ⟨k.val, by omega⟩ j)) + ∑ k : Fin 512, x3 (ix2 (rowS' s r) k) * x4 (ix2 ⟨512 + k.val, by omega⟩ j) := by
  have e : (⟨s.val * 2048 + r.val, by omega⟩ : Fin 8192) = rowS' s r := Fin.ext (by show s.val * 2048 + r.val = 2048 * s.val + r.val; omega)
  have h : val_main_v31 (F := Ideal) x1 x3 x4 (ix3 s r j) = ∑ k : Fin 1024, val_main_v28 (F := Ideal) x1 x3 (ix2 (rowS' s r) k) * x4 (ix2 k j) := by
    rw [← e]
    pointwise [val_main_v31, val_main_v30, val_main_v29]
  rw [h, sum_halves]
  simp only [firstS, secondS]

/-- The result's rows: the prompts', then the samples'. -/
theorem joinedP (p : Fin 8192) (j : Fin 1024) :
    val_main_v37 (F := Ideal) x0 x1 x2 x3 x4 x5 x6 (ix2 (inP p) j) = val_main_v35 (F := Ideal) x0 x2 x4 x5 x6 (ix2 p j) := by
  unfold inP
  pointwise [val_main_v37]

theorem joinedS (p : Fin 8192) (j : Fin 1024) :
    val_main_v37 (F := Ideal) x0 x1 x2 x3 x4 x5 x6 (ix2 (inS p) j) = val_main_v36 (F := Ideal) x1 x3 x4 x5 x6 (ix2 p j) := by
  have e : (⟨8192 + p.val - 8192, by omega⟩ : Fin 8192) = p := Fin.ext (by show 8192 + p.val - 8192 = p.val; omega)
  unfold inS
  pointwise [val_main_v37]

/-- The result at a prompt's row. -/
theorem atP (s : Fin 32) (r : Fin 256) (j : Fin 1024) :
    val_main_v37 (F := Ideal) x0 x1 x2 x3 x4 x5 x6 (ix2 (rowP s r) j) = projOut x5 x6 1 (parts (fun r k => x0 (ix2 r k)) (fun r k => x1 (ix2 r k)) (rowP s r)) (parts (fun r k => x2 (ix2 r k)) (fun r k => x3 (ix2 r k)) (rowP s r)) x4 (rowP s r) j := by
  have er : rowP s r = inP (rowP' s r) := rfl
  have e : (⟨s.val * 256 + r.val, by omega⟩ : Fin 8192) = rowP' s r := Fin.ext (by show s.val * 256 + r.val = 256 * s.val + r.val; omega)
  unfold projOut
  simp only [modRow_P]
  rw [← tokP x5 s r j, ← gateP x6 j]
  rw [er]
  simp only [parts_inP]
  rw [← mixP, joinedP, ← e]
  pointwise [val_main_v35, val_main_v25, val_main_v24, val_main_v23]

/-- The result at a sample's row. -/
theorem atS (s : Fin 4) (r : Fin 2048) (j : Fin 1024) :
    val_main_v37 (F := Ideal) x0 x1 x2 x3 x4 x5 x6 (ix2 (rowS s r) j) = projOut x5 x6 1 (parts (fun r k => x0 (ix2 r k)) (fun r k => x1 (ix2 r k)) (rowS s r)) (parts (fun r k => x2 (ix2 r k)) (fun r k => x3 (ix2 r k)) (rowS s r)) x4 (rowS s r) j := by
  have er : rowS s r = inS (rowS' s r) := rfl
  have e : (⟨s.val * 2048 + r.val, by omega⟩ : Fin 8192) = rowS' s r := Fin.ext (by show s.val * 2048 + r.val = 2048 * s.val + r.val; omega)
  unfold projOut
  simp only [modRow_S]
  rw [← tokS x5 s r j, ← gateS x6 s j]
  rw [er]
  simp only [parts_inS]
  rw [← mixS, joinedS, ← e]
  pointwise [val_main_v36, val_main_v34, val_main_v33, val_main_v32]

/-- The result. -/
theorem array (a : Fin 16384) (j : Fin 1024) :
    val_main_v37 (F := Ideal) x0 x1 x2 x3 x4 x5 x6 (ix2 a j) = projOut x5 x6 1 (parts (fun r k => x0 (ix2 r k)) (fun r k => x1 (ix2 r k)) a) (parts (fun r k => x2 (ix2 r k)) (fun r k => x3 (ix2 r k)) a) x4 a j := by
  obtain ⟨s, r, rfl⟩ | ⟨b, r, rfl⟩ := row_cases a
  · exact atP x0 x1 x2 x3 x4 x5 x6 s r j
  · exact atS x0 x1 x2 x3 x4 x5 x6 b r j

end Cert.Proof.OddOutRef

end
-- ==== Proof.OddOutEquation.lean ====
/- The equation of the odd layers' projection out of the mixers: the call and the plain reference end with the same array. -/
module

public import proofs.«01_k».proof.Defs
public import proofs.«01_k».proof.Proof.OddOutKernel
public import proofs.«01_k».proof.Proof.OddOutRef
public import proofs.«01_k».proof.Proof.Gen.OddOut.Frame
public import Idealize.ShloMosaic.Lib.Quiescent

@[expose] public section

set_option maxRecDepth 16384

noncomputable section

namespace Cert.Proof.OddOutEquation

open Idealize.ShloMosaic Idealize.ShloMosaic.TcCoe Idealize.SL.Sem
open Cert.OddOutRefIdeal.Read

variable (m : (ℓ : Loc Cert.OddOutIdeal.nD Cert.OddOutIdeal.τ Cert.OddOutIdeal.sig) → Buf (Elt Ideal) ℓ) (c : Dev Cert.OddOutIdeal.nD)

/-- The reference's result of the call's arguments. -/
abbrev plain : Buf (Elt Ideal) ((c.tc : Thread Cert.OddOutIdeal.nD Cert.OddOutIdeal.τ).loc Cert.OddOutIdeal.main_v1) :=
  val_main_v37 (F := Ideal) (m (c.tc.loc Cert.OddOutIdeal.main_arg0)) (m (c.tc.loc Cert.OddOutIdeal.main_arg1)) (m (c.tc.loc Cert.OddOutIdeal.main_arg2)) (m (c.tc.loc Cert.OddOutIdeal.main_arg3)) (m (c.tc.loc Cert.OddOutIdeal.main_arg4)) (m (c.tc.loc Cert.OddOutIdeal.main_arg5)) (m (c.tc.loc Cert.OddOutIdeal.main_arg6))

/-- The call's array is the reference's. -/
theorem array_eq : (Cert.OddOutIdeal.Gen.dats m 0 c).arrAt 7 Cert.OddOutIdeal.cfg0.N = plain m c := by
  funext i
  obtain ⟨a, j, rfl⟩ : ∃ a j, i = ix2 a j := ⟨i 0, i 1, eq_ix2 i⟩
  exact (Cert.Proof.OddOutKernel.array m c a j).trans (Cert.Proof.OddOutRef.array _ _ _ _ _ _ _ a j).symm

/-- The frames of the three programs: each runs, and leaves its arguments and every semaphore as they were. -/
theorem frame_k : Cert.quiescent_OddOut := fun m ρ _ => Cert.OddOut.Gen.frame m ρ
theorem frame_ki : Cert.quiescent_OddOutIdeal := fun m ρ _ => Cert.OddOutIdeal.Gen.frame m ρ
theorem frame_ri : Cert.quiescent_OddOutRefIdeal := fun m ρ _ =>
  (θ_run Cert.OddOutRefIdeal.defs _ _).mono (fun r h => ⟨fun c => (h c).2, Idealize.ShloMosaic.sem_eq_zero_of_no_sems (by decide) r.2⟩)
    (Cert.OddOutRefIdeal.Value.run (F := Ideal) m ρ)

/-- From memories that agree on the arguments both run to the same array. -/
theorem algebraic : Cert.algebraic_OddOutIdeal_OddOutRefIdeal := by
  intro m ρ m' ρ' _ hag
  refine ⟨fun c => plain m c, ?_, ?_⟩
  · exact (θ_run Cert.OddOutIdeal.defs _ _).mono (fun r h c => ⟨(h c).1.trans (array_eq m c), (h c).2⟩) (Cert.OddOutIdeal.Value.run_blocks (F := Ideal) m ρ)
  · refine (θ_run Cert.OddOutRefIdeal.defs _ _).mono (fun r h c => ?_) (Cert.OddOutRefIdeal.Value.run (F := Ideal) m' ρ')
    obtain ⟨a0, a1, a2, a3, a4, a5, a6⟩ := hag c
    refine ⟨(h c).1.trans ((val_main_v37_eq _ _ _ _ _ _ _).trans ?_), (h c).2⟩
    repeat rw [StableHlo.launchContents_devRef]
    simp only [a0, a1, a2, a3, a4, a5, a6]

end Cert.Proof.OddOutEquation

end
-- ==== Proof.Norm.lean ====
/- The last norm at an entry: a row's entry over the root of its mean square, times the weight. -/
module

public import Idealize.ShloMosaic.Lib.Pointwise

@[expose] public section

noncomputable section

namespace Cert.Proof.Norm

open Idealize.ShloMosaic

/-- The norm of the row `x` with the weights `w`. -/
def normed (x w : Fin 1024 → EReal) (k : Fin 1024) : EReal :=
  x k * Ideal.rsqrt (Ideal.div (∑ c : Fin 1024, x c * x c) (Ideal.ofBits .f32 0x44800000#32) + Ideal.ofBits .f32 0x358637BD#32) * w k

end Cert.Proof.Norm

end
-- ==== Proof.FinalContextKernel.lean ====
/- What the last norm of the context rows leaves in its result array: the norm of each row. -/
module

public import proofs.«01_k».proof.Proof.Norm
public import proofs.«01_k».proof.Proof.Gen.FinalContextIdeal.Value
public import Idealize.ShloMosaic.Lib.StableHlo.ReadAt

@[expose] public section

set_option maxRecDepth 16384

noncomputable section

namespace Cert.Proof.FinalContextKernel

open Cert.FinalContextIdeal Cert.FinalContextIdeal.Gen Idealize.ShloMosaic Idealize.ShloMosaic.TcCoe Cert.Proof.Norm

/-- What one tile computes. -/
theorem tile (x0 : Vec Ideal S512x1024 .f32) (x1 : Vec Ideal S1x1024 .f32) (r : Fin 512) (j : Fin 1024) :
    k0_pay1 x0 x1 (ix2 r j) = normed (fun k => x0 (ix2 r k)) (fun k => x1 (ix2 0 k)) j := by
  unfold normed
  pointwise [k0_pay1]

theorem hz2 : (![0, 0] : Fin 2 → ℕ) = fun _ => 0 := by funext a; fin_cases a <;> rfl

/-- The tile's store is the whole of its block. -/
theorem stored (x0 : Vec Ideal S512x1024 .f32) (x1 : Vec Ideal S1x1024 .f32) : out0_2 x0 x1 = k0_pay1 x0 x1 := by
  unfold out0_2 r0_0 r0_1
  rw [View.canon_unit_zero hz2, View.ld_unit_zero hz2, View.ld_unit_zero hz2]

theorem idx : ∀ t : Fin grid0.N,
    (win0_0.index t 0 = 0 + t.val ∧ win0_0.index t 1 = 0) ∧ (win0_1.index t 0 = 0 ∧ win0_1.index t 1 = 0)
    ∧ (win0_2.index t 0 = t.val ∧ win0_2.index t 1 = 0) := by decide +kernel

variable (m : (ℓ : Loc nD τ sig) → Buf (Elt Ideal) ℓ) (c : Dev nD)

/-- The arguments. -/
abbrev aX : FVec Ideal S16384x1024 .f32 := m ((c : Thread nD τ).loc main_arg0)
abbrev aN : FVec Ideal S1024 .f32 := m ((c : Thread nD τ).loc main_arg1)

/-- Row `r` of tile `t` among the result's rows, and a result's row among all the rows. -/
def rowOf (t : Fin cfg0.N) (r : Fin 512) : Fin 8192 := ⟨512 * t.val + r.val, by have h : t.val < 16 := t.isLt; omega⟩
def src (p : Fin 8192) : Fin 16384 := ⟨p.val, by omega⟩

/-- The blocks a tile is given: its rows, -/
theorem blk0 (t : Fin cfg0.N) (r : Fin 512) (k : Fin 1024) : (iblk m c 0 t : Vec Ideal S512x1024 .f32) (ix2 r k) = aX m c (ix2 (src (rowOf t r)) k) := by
  obtain ⟨⟨e0, e1⟩, _⟩ := idx t
  show V m c main_arg0 (((cfg0.win 0).blk t).view.emb (ix2 r k)) = m ((c : Thread nD τ).loc main_arg0) (ix2 (src (rowOf t r)) k)
  rw [V_main_arg0]
  congr 1
  funext a; apply Fin.ext
  match a with
  | ⟨0, _⟩ => show win0_0.index t 0 * 512 + 1 * r.val = 512 * t.val + r.val; omega
  | ⟨1, _⟩ => show win0_0.index t 1 * 1024 + 1 * k.val = k.val; omega

theorem V_norm (k : Fin 1024) : (V m c main_v0 : Vec Ideal S1x1024 .f32) (ix2 0 k) = aN m c (ix1 k) := by
  unfold_abbrev_sides
  after_reads_at

/-- and the weights. -/
theorem blk1 (t : Fin cfg0.N) (k : Fin 1024) : (iblk m c 1 t : Vec Ideal S1x1024 .f32) (ix2 0 k) = aN m c (ix1 k) := by
  obtain ⟨_, ⟨e0, e1⟩, _⟩ := idx t
  have he : ((cfg0.win 1).blk t).view.emb (ix2 0 k) = (ix2 0 k : S1x1024.Idx) := by
    funext a; apply Fin.ext
    match a with
    | ⟨0, _⟩ => show win0_1.index t 0 * 1 + 1 * 0 = 0; omega
    | ⟨1, _⟩ => show win0_1.index t 1 * 1024 + 1 * k.val = k.val; omega
  show V m c main_v0 (((cfg0.win 1).blk t).view.emb (ix2 0 k)) = _
  rw [he]
  exact V_norm m c k

/-- The result array. -/
theorem array (p : Fin 8192) (j : Fin 1024) :
    ((dats m 0 c).arrAt 2 cfg0.N : Vec Ideal S8192x1024 .f32) (ix2 p j)
      = normed (fun k => aX m c (ix2 (src p) k)) (fun k => aN m c (ix1 k)) j := by
  obtain ⟨t, r, rfl⟩ : ∃ (t : Fin cfg0.N) (r : Fin 512), p = rowOf t r :=
    ⟨⟨p.val / 512, by show _ < 16; omega⟩, ⟨p.val % 512, by omega⟩, Fin.ext (by show p.val = 512 * (p.val / 512) + p.val % 512; omega)⟩
  have hb := congrFun (Value.blocks2 m c t (flush0_2 _)) (ix2 r j)
  have hemb : ((cfg0.win 2).blk t).view.emb (ix2 r j) = (ix2 (rowOf t r) j : S8192x1024.Idx) := by
    obtain ⟨_, _, ⟨e0, e1⟩⟩ := idx t
    funext a; apply Fin.ext
    match a with
    | ⟨0, _⟩ => show win0_2.index t 0 * 512 + 1 * r.val = 512 * t.val + r.val; omega
    | ⟨1, _⟩ => show win0_2.index t 1 * 1024 + 1 * j.val = j.val; omega
  rw [Value.flushed2, stored, View.read_apply, hemb] at hb
  refine hb.trans ?_
  show k0_pay1 _ _ (ix2 r j) = _
  rw [tile]
  simp only [blk0, blk1]

end Cert.Proof.FinalContextKernel

end
-- ==== Proof.FinalContextRef.lean ====
/- What the plain norm of the context rows holds: the norm of each row. -/
module

public import proofs.«01_k».proof.Proof.Norm
public import proofs.«01_k».proof.Proof.Gen.FinalContextRefIdeal.Read

@[expose] public section

set_option maxRecDepth 16384

noncomputable section

namespace Cert.Proof.FinalContextRef

open Cert.FinalContextRefIdeal Cert.FinalContextRefIdeal.Read Idealize.ShloMosaic Cert.Proof.Norm

variable (x0 : FVec Ideal S16384x1024 .f32) (x1 : FVec Ideal S1024 .f32)

/-- The rows. -/
theorem rows (p : Fin 8192) (k : Fin 1024) : val_main_v0 (F := Ideal) x0 (ix2 p k) = x0 (ix2 ⟨p.val, by omega⟩ k) := by
  pointwise [val_main_v0]

/-- The result. -/
theorem array (p : Fin 8192) (j : Fin 1024) :
    val_main_v13 (F := Ideal) x0 x1 (ix2 p j) = normed (fun k => x0 (ix2 ⟨p.val, by omega⟩ k)) (fun k => x1 (ix1 k)) j := by
  unfold normed
  simp only [← rows x0 p]
  pointwise [val_main_v13, val_main_v12, val_main_v11, val_main_v10, val_main_v9, val_main_v8, val_main_v7, val_main_v6, val_main_v5, val_main_v4,
    val_main_v3, val_main_v2, val_main_v1, val_main_cst, val_main_cst_0, val_main_cst_1]

end Cert.Proof.FinalContextRef

end
-- ==== Proof.FinalContextEquation.lean ====
/- The equation of the last norm of the prompts' rows: the call and the plain reference end with the same array. -/
module

public import proofs.«01_k».proof.Defs
public import proofs.«01_k».proof.Proof.FinalContextKernel
public import proofs.«01_k».proof.Proof.FinalContextRef
public import proofs.«01_k».proof.Proof.Gen.FinalContext.Frame
public import Idealize.ShloMosaic.Lib.Quiescent

@[expose] public section

set_option maxRecDepth 16384

noncomputable section

namespace Cert.Proof.FinalContextEquation

open Idealize.ShloMosaic Idealize.ShloMosaic.TcCoe Idealize.SL.Sem
open Cert.FinalContextRefIdeal.Read

variable (m : (ℓ : Loc Cert.FinalContextIdeal.nD Cert.FinalContextIdeal.τ Cert.FinalContextIdeal.sig) → Buf (Elt Ideal) ℓ) (c : Dev Cert.FinalContextIdeal.nD)

/-- The reference's result of the call's arguments. -/
abbrev plain : Buf (Elt Ideal) ((c.tc : Thread Cert.FinalContextIdeal.nD Cert.FinalContextIdeal.τ).loc Cert.FinalContextIdeal.main_v1) :=
  val_main_v13 (F := Ideal) (m (c.tc.loc Cert.FinalContextIdeal.main_arg0)) (m (c.tc.loc Cert.FinalContextIdeal.main_arg1))

/-- The call's array is the reference's. -/
theorem array_eq : (Cert.FinalContextIdeal.Gen.dats m 0 c).arrAt 2 Cert.FinalContextIdeal.cfg0.N = plain m c := by
  funext i
  obtain ⟨a, j, rfl⟩ : ∃ a j, i = ix2 a j := ⟨i 0, i 1, eq_ix2 i⟩
  exact (Cert.Proof.FinalContextKernel.array m c a j).trans (Cert.Proof.FinalContextRef.array _ _ a j).symm

/-- The frames of the three programs: each runs, and leaves its arguments and every semaphore as they were. -/
theorem frame_k : Cert.quiescent_FinalContext := fun m ρ _ => Cert.FinalContext.Gen.frame m ρ
theorem frame_ki : Cert.quiescent_FinalContextIdeal := fun m ρ _ => Cert.FinalContextIdeal.Gen.frame m ρ
theorem frame_ri : Cert.quiescent_FinalContextRefIdeal := fun m ρ _ =>
  (θ_run Cert.FinalContextRefIdeal.defs _ _).mono (fun r h => ⟨fun c => (h c).2, Idealize.ShloMosaic.sem_eq_zero_of_no_sems (by decide) r.2⟩)
    (Cert.FinalContextRefIdeal.Value.run (F := Ideal) m ρ)

/-- From memories that agree on the arguments both run to the same array. -/
theorem algebraic : Cert.algebraic_FinalContextIdeal_FinalContextRefIdeal := by
  intro m ρ m' ρ' _ hag
  refine ⟨fun c => plain m c, ?_, ?_⟩
  · exact (θ_run Cert.FinalContextIdeal.defs _ _).mono (fun r h c => ⟨(h c).1.trans (array_eq m c), (h c).2⟩) (Cert.FinalContextIdeal.Value.run_blocks (F := Ideal) m ρ)
  · refine (θ_run Cert.FinalContextRefIdeal.defs _ _).mono (fun r h c => ?_) (Cert.FinalContextRefIdeal.Value.run (F := Ideal) m' ρ')
    obtain ⟨a0, a1⟩ := hag c
    refine ⟨(h c).1.trans ((val_main_v13_eq _ _).trans ?_), (h c).2⟩
    repeat rw [StableHlo.launchContents_devRef]
    simp only [a0, a1]

end Cert.Proof.FinalContextEquation

end
-- ==== Proof.FinalLatentKernel.lean ====
/- What the last norm of the latent rows leaves in its result array: the norm of each row. -/
module

public import proofs.«01_k».proof.Proof.Norm
public import proofs.«01_k».proof.Proof.Gen.FinalLatentIdeal.Value
public import Idealize.ShloMosaic.Lib.StableHlo.ReadAt

@[expose] public section

set_option maxRecDepth 16384

noncomputable section

namespace Cert.Proof.FinalLatentKernel

open Cert.FinalLatentIdeal Cert.FinalLatentIdeal.Gen Idealize.ShloMosaic Idealize.ShloMosaic.TcCoe Cert.Proof.Norm

/-- What one tile computes. -/
theorem tile (x0 : Vec Ideal S512x1024 .f32) (x1 : Vec Ideal S1x1024 .f32) (r : Fin 512) (j : Fin 1024) :
    k0_pay1 x0 x1 (ix2 r j) = normed (fun k => x0 (ix2 r k)) (fun k => x1 (ix2 0 k)) j := by
  unfold normed
  pointwise [k0_pay1]

theorem hz2 : (![0, 0] : Fin 2 → ℕ) = fun _ => 0 := by funext a; fin_cases a <;> rfl

/-- The tile's store is the whole of its block. -/
theorem stored (x0 : Vec Ideal S512x1024 .f32) (x1 : Vec Ideal S1x1024 .f32) : out0_2 x0 x1 = k0_pay1 x0 x1 := by
  unfold out0_2 r0_0 r0_1
  rw [View.canon_unit_zero hz2, View.ld_unit_zero hz2, View.ld_unit_zero hz2]

theorem idx : ∀ t : Fin grid0.N,
    (win0_0.index t 0 = 16 + t.val ∧ win0_0.index t 1 = 0) ∧ (win0_1.index t 0 = 0 ∧ win0_1.index t 1 = 0)
    ∧ (win0_2.index t 0 = t.val ∧ win0_2.index t 1 = 0) := by decide +kernel

variable (m : (ℓ : Loc nD τ sig) → Buf (Elt Ideal) ℓ) (c : Dev nD)

/-- The arguments. -/
abbrev aX : FVec Ideal S16384x1024 .f32 := m ((c : Thread nD τ).loc main_arg0)
abbrev aN : FVec Ideal S1024 .f32 := m ((c : Thread nD τ).loc main_arg1)

/-- Row `r` of tile `t` among the result's rows, and a result's row among all the rows. -/
def rowOf (t : Fin cfg0.N) (r : Fin 512) : Fin 8192 := ⟨512 * t.val + r.val, by have h : t.val < 16 := t.isLt; omega⟩
def src (p : Fin 8192) : Fin 16384 := ⟨8192 + p.val, by omega⟩

/-- The blocks a tile is given: its rows, -/
theorem blk0 (t : Fin cfg0.N) (r : Fin 512) (k : Fin 1024) : (iblk m c 0 t : Vec Ideal S512x1024 .f32) (ix2 r k) = aX m c (ix2 (src (rowOf t r)) k) := by
  obtain ⟨⟨e0, e1⟩, _⟩ := idx t
  show V m c main_arg0 (((cfg0.win 0).blk t).view.emb (ix2 r k)) = m ((c : Thread nD τ).loc main_arg0) (ix2 (src (rowOf t r)) k)
  rw [V_main_arg0]
  congr 1
  funext a; apply Fin.ext
  match a with
  | ⟨0, _⟩ => show win0_0.index t 0 * 512 + 1 * r.val = 8192 + (512 * t.val + r.val); omega
  | ⟨1, _⟩ => show win0_0.index t 1 * 1024 + 1 * k.val = k.val; omega

theorem V_norm (k : Fin 1024) : (V m c main_v0 : Vec Ideal S1x1024 .f32) (ix2 0 k) = aN m c (ix1 k) := by
  unfold_abbrev_sides
  after_reads_at

/-- and the weights. -/
theorem blk1 (t : Fin cfg0.N) (k : Fin 1024) : (iblk m c 1 t : Vec Ideal S1x1024 .f32) (ix2 0 k) = aN m c (ix1 k) := by
  obtain ⟨_, ⟨e0, e1⟩, _⟩ := idx t
  have he : ((cfg0.win 1).blk t).view.emb (ix2 0 k) = (ix2 0 k : S1x1024.Idx) := by
    funext a; apply Fin.ext
    match a with
    | ⟨0, _⟩ => show win0_1.index t 0 * 1 + 1 * 0 = 0; omega
    | ⟨1, _⟩ => show win0_1.index t 1 * 1024 + 1 * k.val = k.val; omega
  show V m c main_v0 (((cfg0.win 1).blk t).view.emb (ix2 0 k)) = _
  rw [he]
  exact V_norm m c k

/-- The result array. -/
theorem array (p : Fin 8192) (j : Fin 1024) :
    ((dats m 0 c).arrAt 2 cfg0.N : Vec Ideal S8192x1024 .f32) (ix2 p j)
      = normed (fun k => aX m c (ix2 (src p) k)) (fun k => aN m c (ix1 k)) j := by
  obtain ⟨t, r, rfl⟩ : ∃ (t : Fin cfg0.N) (r : Fin 512), p = rowOf t r :=
    ⟨⟨p.val / 512, by show _ < 16; omega⟩, ⟨p.val % 512, by omega⟩, Fin.ext (by show p.val = 512 * (p.val / 512) + p.val % 512; omega)⟩
  have hb := congrFun (Value.blocks2 m c t (flush0_2 _)) (ix2 r j)
  have hemb : ((cfg0.win 2).blk t).view.emb (ix2 r j) = (ix2 (rowOf t r) j : S8192x1024.Idx) := by
    obtain ⟨_, _, ⟨e0, e1⟩⟩ := idx t
    funext a; apply Fin.ext
    match a with
    | ⟨0, _⟩ => show win0_2.index t 0 * 512 + 1 * r.val = 512 * t.val + r.val; omega
    | ⟨1, _⟩ => show win0_2.index t 1 * 1024 + 1 * j.val = j.val; omega
  rw [Value.flushed2, stored, View.read_apply, hemb] at hb
  refine hb.trans ?_
  show k0_pay1 _ _ (ix2 r j) = _
  rw [tile]
  simp only [blk0, blk1]

end Cert.Proof.FinalLatentKernel

end
-- ==== Proof.FinalLatentRef.lean ====
/- What the plain norm of the latent rows holds: the norm of each row. -/
module

public import proofs.«01_k».proof.Proof.Norm
public import proofs.«01_k».proof.Proof.Gen.FinalLatentRefIdeal.Read

@[expose] public section

set_option maxRecDepth 16384

noncomputable section

namespace Cert.Proof.FinalLatentRef

open Cert.FinalLatentRefIdeal Cert.FinalLatentRefIdeal.Read Idealize.ShloMosaic Cert.Proof.Norm

variable (x0 : FVec Ideal S16384x1024 .f32) (x1 : FVec Ideal S1024 .f32)

/-- The rows. -/
theorem rows (p : Fin 8192) (k : Fin 1024) : val_main_v0 (F := Ideal) x0 (ix2 p k) = x0 (ix2 ⟨8192 + p.val, by omega⟩ k) := by
  pointwise [val_main_v0]

/-- The result. -/
theorem array (p : Fin 8192) (j : Fin 1024) :
    val_main_v13 (F := Ideal) x0 x1 (ix2 p j) = normed (fun k => x0 (ix2 ⟨8192 + p.val, by omega⟩ k)) (fun k => x1 (ix1 k)) j := by
  unfold normed
  simp only [← rows x0 p]
  pointwise [val_main_v13, val_main_v12, val_main_v11, val_main_v10, val_main_v9, val_main_v8, val_main_v7, val_main_v6, val_main_v5, val_main_v4,
    val_main_v3, val_main_v2, val_main_v1, val_main_cst, val_main_cst_0, val_main_cst_1]

end Cert.Proof.FinalLatentRef

end
-- ==== Proof.FinalLatentEquation.lean ====
/- The equation of the last norm of the samples' rows: the call and the plain reference end with the same array. -/
module

public import proofs.«01_k».proof.Defs
public import proofs.«01_k».proof.Proof.FinalLatentKernel
public import proofs.«01_k».proof.Proof.FinalLatentRef
public import proofs.«01_k».proof.Proof.Gen.FinalLatent.Frame
public import Idealize.ShloMosaic.Lib.Quiescent

@[expose] public section

set_option maxRecDepth 16384

noncomputable section

namespace Cert.Proof.FinalLatentEquation

open Idealize.ShloMosaic Idealize.ShloMosaic.TcCoe Idealize.SL.Sem
open Cert.FinalLatentRefIdeal.Read

variable (m : (ℓ : Loc Cert.FinalLatentIdeal.nD Cert.FinalLatentIdeal.τ Cert.FinalLatentIdeal.sig) → Buf (Elt Ideal) ℓ) (c : Dev Cert.FinalLatentIdeal.nD)

/-- The reference's result of the call's arguments. -/
abbrev plain : Buf (Elt Ideal) ((c.tc : Thread Cert.FinalLatentIdeal.nD Cert.FinalLatentIdeal.τ).loc Cert.FinalLatentIdeal.main_v1) :=
  val_main_v13 (F := Ideal) (m (c.tc.loc Cert.FinalLatentIdeal.main_arg0)) (m (c.tc.loc Cert.FinalLatentIdeal.main_arg1))

/-- The call's array is the reference's. -/
theorem array_eq : (Cert.FinalLatentIdeal.Gen.dats m 0 c).arrAt 2 Cert.FinalLatentIdeal.cfg0.N = plain m c := by
  funext i
  obtain ⟨a, j, rfl⟩ : ∃ a j, i = ix2 a j := ⟨i 0, i 1, eq_ix2 i⟩
  exact (Cert.Proof.FinalLatentKernel.array m c a j).trans (Cert.Proof.FinalLatentRef.array _ _ a j).symm

/-- The frames of the three programs: each runs, and leaves its arguments and every semaphore as they were. -/
theorem frame_k : Cert.quiescent_FinalLatent := fun m ρ _ => Cert.FinalLatent.Gen.frame m ρ
theorem frame_ki : Cert.quiescent_FinalLatentIdeal := fun m ρ _ => Cert.FinalLatentIdeal.Gen.frame m ρ
theorem frame_ri : Cert.quiescent_FinalLatentRefIdeal := fun m ρ _ =>
  (θ_run Cert.FinalLatentRefIdeal.defs _ _).mono (fun r h => ⟨fun c => (h c).2, Idealize.ShloMosaic.sem_eq_zero_of_no_sems (by decide) r.2⟩)
    (Cert.FinalLatentRefIdeal.Value.run (F := Ideal) m ρ)

/-- From memories that agree on the arguments both run to the same array. -/
theorem algebraic : Cert.algebraic_FinalLatentIdeal_FinalLatentRefIdeal := by
  intro m ρ m' ρ' _ hag
  refine ⟨fun c => plain m c, ?_, ?_⟩
  · exact (θ_run Cert.FinalLatentIdeal.defs _ _).mono (fun r h c => ⟨(h c).1.trans (array_eq m c), (h c).2⟩) (Cert.FinalLatentIdeal.Value.run_blocks (F := Ideal) m ρ)
  · refine (θ_run Cert.FinalLatentRefIdeal.defs _ _).mono (fun r h c => ?_) (Cert.FinalLatentRefIdeal.Value.run (F := Ideal) m' ρ')
    obtain ⟨a0, a1⟩ := hag c
    refine ⟨(h c).1.trans ((val_main_v13_eq _ _).trans ?_), (h c).2⟩
    repeat rw [StableHlo.launchContents_devRef]
    simp only [a0, a1]

end Cert.Proof.FinalLatentEquation

end
-- ==== Proof.Gating.lean ====
/- The gating of an even layer at an entry: a chunk's gated units times its mixed, normed values. -/
module

public import Idealize.ShloMosaic.Lib.Pointwise

@[expose] public section

noncomputable section

namespace Cert.Proof.Gating

open Idealize.ShloMosaic

/-- The gelu, by the hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The norm of the row `x` of one head, with the weights `w`. -/
def vnorm (x w : Fin 128 → EReal) (d : Fin 128) : EReal :=
  x d * Ideal.rsqrt (Ideal.div (∑ e : Fin 128, x e * x e) (Ideal.ofBits .f32 0x43000000#32) + Ideal.ofBits .f32 0x358637BD#32) * w d

/-- A row's entry of a chunk: its unit, times the chunk's normed values mixed by the row's weights, with the bias. -/
def gated (u : EReal) (v : Fin 128 → Fin 128 → EReal) (w s : Fin 128 → EReal) (b : EReal) (d : Fin 128) : EReal :=
  gelu u * ((∑ k : Fin 128, s k * vnorm (fun e => gelu (v k e)) w d) + b)

/-- Row `i` of chunk `q`, and the columns of the units, the values and the result. -/
def chRow (q i : Fin 128) : Fin 16384 := ⟨128 * q.val + i.val, by omega⟩
def uCol (h : Fin 4) (d : Fin 128) : Fin 3200 := ⟨2048 + (128 * h.val + d.val), by omega⟩
def vCol (h : Fin 4) (d : Fin 128) : Fin 3200 := ⟨2560 + (128 * h.val + d.val), by omega⟩
def oCol (h : Fin 4) (d : Fin 128) : Fin 512 := ⟨128 * h.val + d.val, by omega⟩

/-- The gating's result. -/
def gatedAt (z : Fin 16384 → Fin 3200 → EReal) (n : Fin 128 → EReal) (w : Fin 4 → Fin 128 → Fin 128 → EReal) (b : Fin 4 → Fin 128 → EReal)
    (q i : Fin 128) (h : Fin 4) (d : Fin 128) : EReal :=
  gated (z (chRow q i) (uCol h d)) (fun k e => z (chRow q k) (vCol h e)) n (w h i) (b h i) d

theorem row_cases (a : Fin 16384) : ∃ q i, a = chRow q i :=
  ⟨⟨a.val / 128, by omega⟩, ⟨a.val % 128, by omega⟩, Fin.ext (by show a.val = 128 * (a.val / 128) + a.val % 128; omega)⟩

theorem col_cases (j : Fin 512) : ∃ h d, j = oCol h d :=
  ⟨⟨j.val / 128, by omega⟩, ⟨j.val % 128, by omega⟩, Fin.ext (by show j.val = 128 * (j.val / 128) + j.val % 128; omega)⟩

end Cert.Proof.Gating

end
-- ==== Proof.SguKernel.lean ====
/- What an even layer's gating leaves in its result array: `gatedAt` of the arguments at every row and column. -/
module

public import proofs.«01_k».proof.Proof.Gating
public import proofs.«01_k».proof.Proof.Gen.SguIdeal.Value
public import Idealize.ShloMosaic.Lib.StableHlo.ReadAt
public import Idealize.ShloMosaic.Lib.Pipeline.CanonAppend

@[expose] public section

set_option maxRecDepth 16384

noncomputable section

namespace Cert.Proof.SguKernel

open Cert.SguIdeal Cert.SguIdeal.Gen Idealize.ShloMosaic Idealize.ShloMosaic.TcCoe Cert.Proof.Gating

theorem hz2 : (![0, 0] : Fin 2 → ℕ) = fun _ => 0 := by funext a; fin_cases a <;> rfl
theorem hz3 : (![0, 0, 0] : Fin 3 → ℕ) = fun _ => 0 := by funext a; fin_cases a <;> rfl

/-- The gelus of a tile's units and of its values, and the values' norm. -/
theorem unit_at (x : Vec Ideal S512x128 .f32) (p : Fin 512) (d : Fin 128) : k0_pay8 x (ix2 p d) = gelu (x (ix2 p d)) := by
  unfold gelu
  pointwise [k0_pay8]
theorem value_at (x : Vec Ideal S512x128 .f32) (y : Vec Ideal S1x128 .f32) (p : Fin 512) (d : Fin 128) :
    k0_pay1 (k0_pay9 x) (k0_pay10 y) (ix2 p d) = vnorm (fun e => gelu (x (ix2 p e))) (fun e => y (ix2 0 e)) d := by
  unfold vnorm gelu
  pointwise [k0_pay1, k0_pay9, k0_pay10]

/-- Row `i` of chunk `c` of a tile. -/
def tRow (c : Fin 4) (i : Fin 128) : Fin 512 := ⟨128 * c.val + i.val, by omega⟩

/-- What a tile's result holds at row `i` of its chunk `c`. -/
def entry (x0 x1 : Vec Ideal S512x128 .f32) (x2 : Vec Ideal S1x128 .f32) (x3 : Vec Ideal S1x128x128 .bf16) (x4 : Vec Ideal S1x128x128 .f32)
    (c : Fin 4) (i d : Fin 128) : EReal :=
  gated (x0 (ix2 (tRow c i) d)) (fun k e => x1 (ix2 (tRow c k) e)) (fun e => x2 (ix2 0 e)) (fun k => x3 (ix3 0 i k)) (x4 (ix3 0 i d)) d

/-- The four stores, one to a chunk. -/
theorem chunk0 (x0 x1 : Vec Ideal S512x128 .f32) (x2 : Vec Ideal S1x128 .f32) (x3 : Vec Ideal S1x128x128 .bf16) (x4 : Vec Ideal S1x128x128 .f32)
    (i d : Fin 128) : k0_pay4 (k0_pay8 x0) (k0_pay9 x1) (k0_pay10 x2) x3 x4 (ix2 i d) = entry x0 x1 x2 x3 x4 0 i d := by
  have e : ∀ k : Fin 128, (⟨k.val, by omega⟩ : Fin 512) = tRow 0 k := fun k => Fin.ext (by show k.val = 128 * 0 + k.val; omega)
  unfold entry gated
  simp only [← value_at]
  simp only [← unit_at, ← e]
  generalize k0_pay8 x0 = u
  generalize k0_pay9 x1 = v
  generalize k0_pay10 x2 = w
  pointwise [k0_pay4, k0_pay2, k0_pay3]
theorem chunk1 (x0 x1 : Vec Ideal S512x128 .f32) (x2 : Vec Ideal S1x128 .f32) (x3 : Vec Ideal S1x128x128 .bf16) (x4 : Vec Ideal S1x128x128 .f32)
    (i d : Fin 128) : k0_pay5 (k0_pay8 x0) (k0_pay9 x1) (k0_pay10 x2) x3 x4 (ix2 i d) = entry x0 x1 x2 x3 x4 1 i d := by
  have e : ∀ k : Fin 128, (⟨128 + k.val, by omega⟩ : Fin 512) = tRow 1 k := fun k => Fin.ext (by show 128 + k.val = 128 * 1 + k.val; omega)
  unfold entry gated
  simp only [← value_at]
  simp only [← unit_at, ← e]
  generalize k0_pay8 x0 = u
  generalize k0_pay9 x1 = v
  generalize k0_pay10 x2 = w
  pointwise [k0_pay5, k0_pay2, k0_pay3]
theorem chunk2 (x0 x1 : Vec Ideal S512x128 .f32) (x2 : Vec Ideal S1x128 .f32) (x3 : Vec Ideal S1x128x128 .bf16) (x4 : Vec Ideal S1x128x128 .f32)
    (i d : Fin 128) : k0_pay6 (k0_pay8 x0) (k0_pay9 x1) (k0_pay10 x2) x3 x4 (ix2 i d) = entry x0 x1 x2 x3 x4 2 i d := by
  have e : ∀ k : Fin 128, (⟨256 + k.val, by omega⟩ : Fin 512) = tRow 2 k := fun k => Fin.ext (by show 256 + k.val = 128 * 2 + k.val; omega)
  unfold entry gated
  simp only [← value_at]
  simp only [← unit_at, ← e]
  generalize k0_pay8 x0 = u
  generalize k0_pay9 x1 = v
  generalize k0_pay10 x2 = w
  pointwise [k0_pay6, k0_pay2, k0_pay3]
theorem chunk3 (x0 x1 : Vec Ideal S512x128 .f32) (x2 : Vec Ideal S1x128 .f32) (x3 : Vec Ideal S1x128x128 .bf16) (x4 : Vec Ideal S1x128x128 .f32)
    (i d : Fin 128) : k0_pay7 (k0_pay8 x0) (k0_pay9 x1) (k0_pay10 x2) x3 x4 (ix2 i d) = entry x0 x1 x2 x3 x4 3 i d := by
  have e : ∀ k : Fin 128, (⟨384 + k.val, by omega⟩ : Fin 512) = tRow 3 k := fun k => Fin.ext (by show 384 + k.val = 128 * 3 + k.val; omega)
  unfold entry gated
  simp only [← value_at]
  simp only [← unit_at, ← e]
  generalize k0_pay8 x0 = u
  generalize k0_pay9 x1 = v
  generalize k0_pay10 x2 = w
  pointwise [k0_pay7, k0_pay2, k0_pay3]

/-- The tile's result. -/
theorem stored (x0 x1 : Vec Ideal S512x128 .f32) (x2 : Vec Ideal S1x128 .f32) (x3 : Vec Ideal S1x128x128 .bf16) (x4 : Vec Ideal S1x128x128 .f32)
    (c : Fin 4) (i d : Fin 128) : out0_5 x0 x1 x2 x3 x4 (ix2 (tRow c i) d) = entry x0 x1 x2 x3 x4 c i d := by
  have l0 : View.ld x0 r0_0 = x0 := View.ld_unit_zero hz2 _ _
  have l1 : View.ld x1 r0_0 = x1 := View.ld_unit_zero hz2 _ _
  have l2 : View.ld x2 r0_1 = x2 := View.ld_unit_zero hz2 _ _
  have l3 : View.ld x3 r0_2 = x3 := View.ld_unit_zero hz3 _ _
  have l4 : View.ld x4 r0_2 = x4 := View.ld_unit_zero hz3 _ _
  unfold_out out0_5
  rw [l0, l1, l2, l3, l4]
  have hg : ∀ (c' : Fin 4) (n : ℕ) (hn : n = 128 * c'.val) (y : S512x128.Idx) (i' d' : Fin 128), (y 0).val = n + 1 * i'.val → (y 1).val = 0 + 1 * d'.val →
      entry x0 x1 x2 x3 x4 c' i' d' = entry x0 x1 x2 x3 x4 ⟨(y 0).val / 128, by have h : (y 0).val < 512 := (y 0).isLt; omega⟩
        ⟨(y 0).val % 128, by omega⟩ ⟨(y 1).val, (y 1).isLt⟩ := by
    intro c' n hn y i' d' h0 h1
    congr 1
    · exact Fin.ext (by show c'.val = (y 0).val / 128; omega)
    · exact Fin.ext (by show i'.val = (y 0).val % 128; omega)
    · exact Fin.ext (by show d'.val = (y 1).val; omega)
  refine (View.canon_append_of_pieces (fun y : S512x128.Idx => entry x0 x1 x2 x3 x4 ⟨(y 0).val / 128, by have h : (y 0).val < 512 := (y 0).isLt; omega⟩
    ⟨(y 0).val % 128, by omega⟩ ⟨(y 1).val, (y 1).isLt⟩) [] _ ?_ (ix2 (tRow c i) d) (cover0_5 _ _ _ _ _)).trans ?_
  · intro p hp x
    simp only [List.mem_cons, List.not_mem_nil, or_false] at hp
    rcases hp with rfl | rfl | rfl | rfl
    · obtain ⟨i', d', rfl⟩ : ∃ (i' d' : Fin 128), x = ix2 i' d' := ⟨x 0, x 1, eq_ix2 x⟩
      exact (chunk3 x0 x1 x2 x3 x4 i' d').trans (hg 3 384 rfl _ i' d' rfl rfl)
    · obtain ⟨i', d', rfl⟩ : ∃ (i' d' : Fin 128), x = ix2 i' d' := ⟨x 0, x 1, eq_ix2 x⟩
      exact (chunk2 x0 x1 x2 x3 x4 i' d').trans (hg 2 256 rfl _ i' d' rfl rfl)
    · obtain ⟨i', d', rfl⟩ : ∃ (i' d' : Fin 128), x = ix2 i' d' := ⟨x 0, x 1, eq_ix2 x⟩
      exact (chunk1 x0 x1 x2 x3 x4 i' d').trans (hg 1 128 rfl _ i' d' rfl rfl)
    · obtain ⟨i', d', rfl⟩ : ∃ (i' d' : Fin 128), x = ix2 i' d' := ⟨x 0, x 1, eq_ix2 x⟩
      exact (chunk0 x0 x1 x2 x3 x4 i' d').trans (hg 0 0 rfl _ i' d' rfl rfl)
  · exact (hg c (128 * c.val) rfl (ix2 (tRow c i) d) i d (by show 128 * c.val + i.val = _; omega) (by show d.val = _; omega)).symm

theorem idx : ∀ t : Fin grid0.N,
    (win0_0.index t 0 = t.val / 4 ∧ win0_0.index t 1 = 16 + t.val % 4) ∧ (win0_1.index t 0 = t.val / 4 ∧ win0_1.index t 1 = 20 + t.val % 4)
    ∧ (win0_2.index t 0 = 0 ∧ win0_2.index t 1 = 0) ∧ (win0_3.index t 0 = t.val % 4 ∧ win0_3.index t 1 = 0 ∧ win0_3.index t 2 = 0)
    ∧ (win0_4.index t 0 = t.val % 4 ∧ win0_4.index t 1 = 0 ∧ win0_4.index t 2 = 0)
    ∧ (win0_5.index t 0 = t.val / 4 ∧ win0_5.index t 1 = t.val % 4) := by decide +kernel

variable (m : (ℓ : Loc nD τ sig) → Buf (Elt Ideal) ℓ) (c : Dev nD)

/-- The arguments. -/
abbrev aZ : FVec Ideal S16384x3200 .f32 := m ((c : Thread nD τ).loc main_arg0)
abbrev aN : FVec Ideal S128 .f32 := m ((c : Thread nD τ).loc main_arg1)
abbrev aW : FVec Ideal S4x128x128 .f32 := m ((c : Thread nD τ).loc main_arg2)
abbrev aB : FVec Ideal S4x128 .f32 := m ((c : Thread nD τ).loc main_arg3)

/-- A tile's chunks, its rows and its head. -/
def chunkOf (t : Fin cfg0.N) (k : Fin 4) : Fin 128 := ⟨4 * (t.val / 4) + k.val, by have h : t.val < 128 := t.isLt; omega⟩
def headOf (t : Fin cfg0.N) : Fin 4 := ⟨t.val % 4, by omega⟩

/-- The blocks a tile is given: its units, -/
theorem blk0 (t : Fin cfg0.N) (k : Fin 4) (i d : Fin 128) :
    (iblk m c 0 t : Vec Ideal S512x128 .f32) (ix2 (tRow k i) d) = aZ m c (ix2 (chRow (chunkOf t k) i) (uCol (headOf t) d)) := by
  obtain ⟨⟨e0, e1⟩, _⟩ := idx t
  show V m c main_arg0 (((cfg0.win 0).blk t).view.emb (ix2 (tRow k i) d)) = m ((c : Thread nD τ).loc main_arg0) _
  rw [V_main_arg0]
  congr 1
  funext a; apply Fin.ext
  match a with
  | ⟨0, _⟩ => show win0_0.index t 0 * 512 + 1 * (128 * k.val + i.val) = 128 * (4 * (t.val / 4) + k.val) + i.val; omega
  | ⟨1, _⟩ => show win0_0.index t 1 * 128 + 1 * d.val = 2048 + (128 * (t.val % 4) + d.val); omega

/-- its values, -/
theorem blk1 (t : Fin cfg0.N) (k : Fin 4) (i d : Fin 128) :
    (iblk m c 1 t : Vec Ideal S512x128 .f32) (ix2 (tRow k i) d) = aZ m c (ix2 (chRow (chunkOf t k) i) (vCol (headOf t) d)) := by
  obtain ⟨_, ⟨e0, e1⟩, _⟩ := idx t
  show V m c main_arg0 (((cfg0.win 1).blk t).view.emb (ix2 (tRow k i) d)) = m ((c : Thread nD τ).loc main_arg0) _
  rw [V_main_arg0]
  congr 1
  funext a; apply Fin.ext
  match a with
  | ⟨0, _⟩ => show win0_1.index t 0 * 512 + 1 * (128 * k.val + i.val) = 128 * (4 * (t.val / 4) + k.val) + i.val; omega
  | ⟨1, _⟩ => show win0_1.index t 1 * 128 + 1 * d.val = 2560 + (128 * (t.val % 4) + d.val); omega

theorem V_norm (k : Fin 128) : (V m c main_v2 : Vec Ideal S1x128 .f32) (ix2 0 k) = aN m c (ix1 k) := by
  unfold_abbrev_sides
  after_reads_at

/-- the norm's weights, -/
theorem blk2 (t : Fin cfg0.N) (k : Fin 128) : (iblk m c 2 t : Vec Ideal S1x128 .f32) (ix2 0 k) = aN m c (ix1 k) := by
  obtain ⟨_, _, ⟨e0, e1⟩, _⟩ := idx t
  have he : ((cfg0.win 2).blk t).view.emb (ix2 0 k) = (ix2 0 k : S1x128.Idx) := by
    funext a; apply Fin.ext
    match a with
    | ⟨0, _⟩ => show win0_2.index t 0 * 1 + 1 * 0 = 0; omega
    | ⟨1, _⟩ => show win0_2.index t 1 * 128 + 1 * k.val = k.val; omega
  show V m c main_v2 (((cfg0.win 2).blk t).view.emb (ix2 0 k)) = _
  rw [he]
  exact V_norm m c k

theorem V_mix (h : Fin 4) (i k : Fin 128) : (V m c main_v3 : Vec Ideal S4x128x128 .bf16) (ix3 h i k) = aW m c (ix3 h i k) := by
  unfold_abbrev_sides
  after_reads_at

/-- its head's mixing weights -/
theorem blk3 (t : Fin cfg0.N) (i k : Fin 128) : (iblk m c 3 t : Vec Ideal S1x128x128 .bf16) (ix3 0 i k) = aW m c (ix3 (headOf t) i k) := by
  obtain ⟨_, _, _, ⟨e0, e1, e2⟩, _⟩ := idx t
  have he : ((cfg0.win 3).blk t).view.emb (ix3 0 i k) = (ix3 (headOf t) i k : S4x128x128.Idx) := by
    funext a; apply Fin.ext
    match a with
    | ⟨0, _⟩ => show win0_3.index t 0 * 1 + 1 * 0 = t.val % 4; omega
    | ⟨1, _⟩ => show win0_3.index t 1 * 128 + 1 * i.val = i.val; omega
    | ⟨2, _⟩ => show win0_3.index t 2 * 128 + 1 * k.val = k.val; omega
  show V m c main_v3 (((cfg0.win 3).blk t).view.emb (ix3 0 i k)) = _
  rw [he]
  exact V_mix m c _ i k

theorem V_bias (h : Fin 4) (i k : Fin 128) : (V m c main_v1 : Vec Ideal S4x128x128 .f32) (ix3 h i k) = aB m c (ix2 h i) := by
  unfold_abbrev_sides
  after_reads_at

/-- and biases. -/
theorem blk4 (t : Fin cfg0.N) (i k : Fin 128) : (iblk m c 4 t : Vec Ideal S1x128x128 .f32) (ix3 0 i k) = aB m c (ix2 (headOf t) i) := by
  obtain ⟨_, _, _, _, ⟨e0, e1, e2⟩, _⟩ := idx t
  have he : ((cfg0.win 4).blk t).view.emb (ix3 0 i k) = (ix3 (headOf t) i k : S4x128x128.Idx) := by
    funext a; apply Fin.ext
    match a with
    | ⟨0, _⟩ => show win0_4.index t 0 * 1 + 1 * 0 = t.val % 4; omega
    | ⟨1, _⟩ => show win0_4.index t 1 * 128 + 1 * i.val = i.val; omega
    | ⟨2, _⟩ => show win0_4.index t 2 * 128 + 1 * k.val = k.val; omega
  show V m c main_v1 (((cfg0.win 4).blk t).view.emb (ix3 0 i k)) = _
  rw [he]
  exact V_bias m c _ i k

/-- The result array. -/
theorem array (q i : Fin 128) (h : Fin 4) (d : Fin 128) :
    ((dats m 0 c).arrAt 5 cfg0.N : Vec Ideal S16384x512 .bf16) (ix2 (chRow q i) (oCol h d))
      = gatedAt (fun a j => aZ m c (ix2 a j)) (fun k => aN m c (ix1 k)) (fun h i k => aW m c (ix3 h i k)) (fun h i => aB m c (ix2 h i)) q i h d := by
  obtain ⟨t, k, rfl, rfl⟩ : ∃ (t : Fin cfg0.N) (k : Fin 4), q = chunkOf t k ∧ h = headOf t :=
    ⟨⟨4 * (q.val / 4) + h.val, by show _ < 128; omega⟩, ⟨q.val % 4, by omega⟩,
      Fin.ext (by show q.val = 4 * ((4 * (q.val / 4) + h.val) / 4) + q.val % 4; omega), Fin.ext (by show h.val = (4 * (q.val / 4) + h.val) % 4; omega)⟩
  have hb := congrFun (Value.blocks5 m c t (flush0_5 _)) (ix2 (tRow k i) d)
  have hemb : ((cfg0.win 5).blk t).view.emb (ix2 (tRow k i) d) = (ix2 (chRow (chunkOf t k) i) (oCol (headOf t) d) : S16384x512.Idx) := by
    obtain ⟨_, _, _, _, _, ⟨e0, e1⟩⟩ := idx t
    funext a; apply Fin.ext
    match a with
    | ⟨0, _⟩ => show win0_5.index t 0 * 512 + 1 * (128 * k.val + i.val) = 128 * (4 * (t.val / 4) + k.val) + i.val; omega
    | ⟨1, _⟩ => show win0_5.index t 1 * 128 + 1 * d.val = 128 * (t.val % 4) + d.val; omega
  rw [Value.flushed5, View.read_apply, hemb] at hb
  refine hb.trans ?_
  show out0_5 _ _ _ _ _ (ix2 (tRow k i) d) = _
  rw [stored]
  unfold gatedAt entry
  simp only [blk0, blk1, blk2, blk3, blk4]

end Cert.Proof.SguKernel

end
-- ==== Proof.SguRef.lean ====
/- What the plain gating of an even layer holds: `gatedAt` of the arguments at every row and column. -/
module

public import proofs.«01_k».proof.Proof.Gating
public import proofs.«01_k».proof.Proof.Gen.SguRefIdeal.Read

@[expose] public section

set_option maxRecDepth 16384

noncomputable section

namespace Cert.Proof.SguRef

open Cert.SguRefIdeal Cert.SguRefIdeal.Read Idealize.ShloMosaic Cert.Proof.Gating

variable (x0 : FVec Ideal S16384x3200 .f32) (x1 : FVec Ideal S128 .f32) (x2 : FVec Ideal S4x128x128 .f32) (x3 : FVec Ideal S4x128 .f32)

/-- Column `d` of head `h`, row `i` of chunk `n` of a prompt or a sample, and the chunks of both. -/
def hCol (h : Fin 4) (d : Fin 128) : Fin 512 := ⟨h.val * 128 + d.val, by omega⟩
def rowInP (n : Fin 2) (i : Fin 128) : Fin 256 := ⟨n.val * 128 + i.val, by omega⟩
def rowInS (n : Fin 16) (i : Fin 128) : Fin 2048 := ⟨n.val * 128 + i.val, by omega⟩
def chunkP (s : Fin 32) (n : Fin 2) : Fin 128 := ⟨2 * s.val + n.val, by omega⟩
def chunkS (s : Fin 4) (n : Fin 16) : Fin 128 := ⟨64 + (16 * s.val + n.val), by omega⟩
def rowP (s : Fin 32) (r : Fin 256) : Fin 16384 := ⟨s.val * 256 + r.val, by omega⟩
def rowS (s : Fin 4) (r : Fin 2048) : Fin 16384 := ⟨8192 + (s.val * 2048 + r.val), by omega⟩

/-- The prompts: their units and values, -/
theorem unitP (s : Fin 32) (r : Fin 256) (h : Fin 4) (d : Fin 128) : val_main_v3 (F := Ideal) x0 (ix3 s r (hCol h d)) = x0 (ix2 (rowP s r) (uCol h d)) := by
  have e : (⟨2048 + (h.val * 128 + d.val), by omega⟩ : Fin 3200) = uCol h d := Fin.ext (by show 2048 + (h.val * 128 + d.val) = 2048 + (128 * h.val + d.val); omega)
  rw [← e]
  unfold rowP hCol
  pointwise [val_main_v3, val_main_v2, val_main_v0]
theorem valueP (s : Fin 32) (r : Fin 256) (h : Fin 4) (d : Fin 128) : val_main_v5 (F := Ideal) x0 (ix3 s r (hCol h d)) = x0 (ix2 (rowP s r) (vCol h d)) := by
  have e : (⟨2560 + (h.val * 128 + d.val), by omega⟩ : Fin 3200) = vCol h d := Fin.ext (by show 2560 + (h.val * 128 + d.val) = 2560 + (128 * h.val + d.val); omega)
  rw [← e]
  unfold rowP hCol
  pointwise [val_main_v5, val_main_v4, val_main_v1]

/-- the units' gelu, -/
theorem geluP (s : Fin 32) (r : Fin 256) (h : Fin 4) (d : Fin 128) : val_main_v19 (F := Ideal) x0 (ix4 s r h d) = gelu (x0 (ix2 (rowP s r) (uCol h d))) := by
  rw [← unitP x0]
  unfold gelu hCol
  pointwise [val_main_v19, val_main_v18, val_main_v17, val_main_v16, val_main_v15, val_main_v14, val_main_v13, val_main_v12, val_main_v11, val_main_v10, val_main_v9, val_main_v8, val_main_v7, val_main_v6, val_main_cst, val_main_cst_0, val_main_cst_1, val_main_cst_2, val_main_cst_3, val_main_cst_4, val_main_cst_5, val_main_cst_6, val_main_cst_7, val_main_cst_8, val_main_cst_9]

/-- the values' gelu and norm, -/
theorem vgeluP (s : Fin 32) (r : Fin 256) (h : Fin 4) (d : Fin 128) : val_main_v33 (F := Ideal) x0 (ix4 s r h d) = gelu (x0 (ix2 (rowP s r) (vCol h d))) := by
  rw [← valueP x0]
  unfold gelu hCol
  pointwise [val_main_v33, val_main_v32, val_main_v31, val_main_v30, val_main_v29, val_main_v28, val_main_v27, val_main_v26, val_main_v25, val_main_v24, val_main_v23, val_main_v22, val_main_v21, val_main_v20, val_main_cst, val_main_cst_0, val_main_cst_1, val_main_cst_2, val_main_cst_3, val_main_cst_4, val_main_cst_5, val_main_cst_6, val_main_cst_7, val_main_cst_8, val_main_cst_9]
theorem normP (s : Fin 32) (r : Fin 256) (h : Fin 4) (d : Fin 128) :
    val_main_v46 (F := Ideal) x0 x1 (ix4 s r h d) = vnorm (fun e => gelu (x0 (ix2 (rowP s r) (vCol h e)))) (fun e => x1 (ix1 e)) d := by
  unfold vnorm
  simp only [← vgeluP]
  pointwise [val_main_v46, val_main_v45, val_main_v44, val_main_v43, val_main_v42, val_main_v41, val_main_v40, val_main_v39, val_main_v38, val_main_v37, val_main_v36, val_main_v35, val_main_v34, val_main_cst, val_main_cst_0, val_main_cst_1, val_main_cst_2, val_main_cst_3, val_main_cst_4, val_main_cst_5, val_main_cst_6, val_main_cst_7, val_main_cst_8, val_main_cst_9]

/-- the chunks' mixture, with the bias, -/
theorem mixP (s : Fin 32) (n : Fin 2) (i : Fin 128) (h : Fin 4) (d : Fin 128) :
    val_main_v54 (F := Ideal) x0 x1 x2 x3 (ix4 s (rowInP n i) h d)
      = (∑ k : Fin 128, x2 (ix3 h i k) * val_main_v46 (F := Ideal) x0 x1 (ix4 s (rowInP n k) h d)) + x3 (ix2 h i) := by
  have hm : ∀ k : Fin 128, x2 (ix3 h i k) * val_main_v46 (F := Ideal) x0 x1 (ix4 s (rowInP n k) h d)
      = val_main_v46 (F := Ideal) x0 x1 (ix4 s (rowInP n k) h d) * x2 (ix3 h i k) := fun k => mul_comm _ _
  simp only [hm]
  unfold rowInP
  pointwise [val_main_v54, val_main_v53, val_main_v52, val_main_v51, val_main_v50, val_main_v49, val_main_v48, val_main_v47]

/-- and the result. -/
theorem gatedP (s : Fin 32) (n : Fin 2) (i : Fin 128) (h : Fin 4) (d : Fin 128) :
    val_main_v56 (F := Ideal) x0 x1 x2 x3 (ix3 s (rowInP n i) (hCol h d))
      = gatedAt (fun a j => x0 (ix2 a j)) (fun k => x1 (ix1 k)) (fun h i k => x2 (ix3 h i k)) (fun h i => x3 (ix2 h i)) (chunkP s n) i h d := by
  have hr : ∀ k : Fin 128, chRow (chunkP s n) k = rowP s (rowInP n k) := fun k => Fin.ext (by show 128 * (2 * s.val + n.val) + k.val = s.val * 256 + (n.val * 128 + k.val); omega)
  have e : val_main_v56 (F := Ideal) x0 x1 x2 x3 (ix3 s (rowInP n i) (hCol h d)) = val_main_v55 (F := Ideal) x0 x1 x2 x3 (ix4 s (rowInP n i) h d) := by
    generalize rowInP n i = r
    unfold hCol
    pointwise [val_main_v56]
  rw [e, val_main_v55_apply, mixP, geluP]
  simp only [normP]
  unfold gatedAt gated
  simp only [hr]
  pointwise []

/-- The samples: their units and values, -/
theorem unitS (s : Fin 4) (r : Fin 2048) (h : Fin 4) (d : Fin 128) : val_main_v58 (F := Ideal) x0 (ix3 s r (hCol h d)) = x0 (ix2 (rowS s r) (uCol h d)) := by
  have e : (⟨2048 + (h.val * 128 + d.val), by omega⟩ : Fin 3200) = uCol h d := Fin.ext (by show 2048 + (h.val * 128 + d.val) = 2048 + (128 * h.val + d.val); omega)
  rw [← e]
  unfold rowS hCol
  pointwise [val_main_v58, val_main_v57, val_main_v0]
theorem valueS (s : Fin 4) (r : Fin 2048) (h : Fin 4) (d : Fin 128) : val_main_v60 (F := Ideal) x0 (ix3 s r (hCol h d)) = x0 (ix2 (rowS s r) (vCol h d)) := by
  have e : (⟨2560 + (h.val * 128 + d.val), by omega⟩ : Fin 3200) = vCol h d := Fin.ext (by show 2560 + (h.val * 128 + d.val) = 2560 + (128 * h.val + d.val); omega)
  rw [← e]
  unfold rowS hCol
  pointwise [val_main_v60, val_main_v59, val_main_v1]

/-- the units' gelu, -/
theorem geluS (s : Fin 4) (r : Fin 2048) (h : Fin 4) (d : Fin 128) : val_main_v74 (F := Ideal) x0 (ix4 s r h d) = gelu (x0 (ix2 (rowS s r) (uCol h d))) := by
  rw [← unitS x0]
  unfold gelu hCol
  pointwise [val_main_v74, val_main_v73, val_main_v72, val_main_v71, val_main_v70, val_main_v69, val_main_v68, val_main_v67, val_main_v66, val_main_v65, val_main_v64, val_main_v63, val_main_v62, val_main_v61, val_main_cst_10, val_main_cst_11, val_main_cst_12, val_main_cst_13, val_main_cst_14, val_main_cst_15, val_main_cst_16, val_main_cst_17, val_main_cst_18, val_main_cst_19, val_main_cst_20]

/-- the values' gelu and norm, -/
theorem vgeluS (s : Fin 4) (r : Fin 2048) (h : Fin 4) (d : Fin 128) : val_main_v88 (F := Ideal) x0 (ix4 s r h d) = gelu (x0 (ix2 (rowS s r) (vCol h d))) := by
  rw [← valueS x0]
  unfold gelu hCol
  pointwise [val_main_v88, val_main_v87, val_main_v86, val_main_v85, val_main_v84, val_main_v83, val_main_v82, val_main_v81, val_main_v80, val_main_v79, val_main_v78, val_main_v77, val_main_v76, val_main_v75, val_main_cst_10, val_main_cst_11, val_main_cst_12, val_main_cst_13, val_main_cst_14, val_main_cst_15, val_main_cst_16, val_main_cst_17, val_main_cst_18, val_main_cst_19, val_main_cst_20]
theorem normS (s : Fin 4) (r : Fin 2048) (h : Fin 4) (d : Fin 128) :
    val_main_v101 (F := Ideal) x0 x1 (ix4 s r h d) = vnorm (fun e => gelu (x0 (ix2 (rowS s r) (vCol h e)))) (fun e => x1 (ix1 e)) d := by
  unfold vnorm
  simp only [← vgeluS]
  pointwise [val_main_v101, val_main_v100, val_main_v99, val_main_v98, val_main_v97, val_main_v96, val_main_v95, val_main_v94, val_main_v93, val_main_v92, val_main_v91, val_main_v90, val_main_v89, val_main_cst_10, val_main_cst_11, val_main_cst_12, val_main_cst_13, val_main_cst_14, val_main_cst_15, val_main_cst_16, val_main_cst_17, val_main_cst_18, val_main_cst_19, val_main_cst_20]

/-- the chunks' mixture, with the bias, -/
theorem mixS (s : Fin 4) (n : Fin 16) (i : Fin 128) (h : Fin 4) (d : Fin 128) :
    val_main_v109 (F := Ideal) x0 x1 x2 x3 (ix4 s (rowInS n i) h d)
      = (∑ k : Fin 128, x2 (ix3 h i k) * val_main_v101 (F := Ideal) x0 x1 (ix4 s (rowInS n k) h d)) + x3 (ix2 h i) := by
  have hm : ∀ k : Fin 128, x2 (ix3 h i k) * val_main_v101 (F := Ideal) x0 x1 (ix4 s (rowInS n k) h d)
      = val_main_v101 (F := Ideal) x0 x1 (ix4 s (rowInS n k) h d) * x2 (ix3 h i k) := fun k => mul_comm _ _
  simp only [hm]
  unfold rowInS
  pointwise [val_main_v109, val_main_v108, val_main_v107, val_main_v106, val_main_v105, val_main_v104, val_main_v103, val_main_v102]

/-- and the result. -/
theorem gatedS (s : Fin 4) (n : Fin 16) (i : Fin 128) (h : Fin 4) (d : Fin 128) :
    val_main_v111 (F := Ideal) x0 x1 x2 x3 (ix3 s (rowInS n i) (hCol h d))
      = gatedAt (fun a j => x0 (ix2 a j)) (fun k => x1 (ix1 k)) (fun h i k => x2 (ix3 h i k)) (fun h i => x3 (ix2 h i)) (chunkS s n) i h d := by
  have hr : ∀ k : Fin 128, chRow (chunkS s n) k = rowS s (rowInS n k) := fun k => Fin.ext (by show 128 * (64 + (16 * s.val + n.val)) + k.val = 8192 + (s.val * 2048 + (n.val * 128 + k.val)); omega)
  have e : val_main_v111 (F := Ideal) x0 x1 x2 x3 (ix3 s (rowInS n i) (hCol h d)) = val_main_v110 (F := Ideal) x0 x1 x2 x3 (ix4 s (rowInS n i) h d) := by
    generalize rowInS n i = r
    unfold hCol
    pointwise [val_main_v111]
  rw [e, val_main_v110_apply, mixS, geluS]
  simp only [normS]
  unfold gatedAt gated
  simp only [hr]
  pointwise []

/-- The result's rows: the prompts', then the samples'. -/
def inP (p : Fin 8192) : Fin 16384 := ⟨p.val, by omega⟩
def inS (p : Fin 8192) : Fin 16384 := ⟨8192 + p.val, by omega⟩
theorem halfP (a : Fin 16384) (p : Fin 8192) (h : a.val = p.val) (j : Fin 512) :
    val_main_v115 (F := Ideal) x0 x1 x2 x3 (ix2 a j) = val_main_v112 (F := Ideal) x0 x1 x2 x3 (ix2 p j) := by
  obtain rfl : a = inP p := Fin.ext h
  clear h
  unfold inP
  pointwise [val_main_v115, val_main_v114]
theorem halfS (a : Fin 16384) (p : Fin 8192) (h : a.val = 8192 + p.val) (j : Fin 512) :
    val_main_v115 (F := Ideal) x0 x1 x2 x3 (ix2 a j) = val_main_v113 (F := Ideal) x0 x1 x2 x3 (ix2 p j) := by
  obtain rfl : a = inS p := Fin.ext h
  clear h
  unfold inS
  have e : (⟨8192 + p.val - 8192, by omega⟩ : Fin 8192) = p := Fin.ext (by show 8192 + p.val - 8192 = p.val; omega)
  pointwise [val_main_v115, val_main_v114]
theorem joinedP (a : Fin 16384) (s : Fin 32) (r : Fin 256) (e : a = rowP s r) (j : Fin 512) :
    val_main_v115 (F := Ideal) x0 x1 x2 x3 (ix2 a j) = val_main_v56 (F := Ideal) x0 x1 x2 x3 (ix3 s r j) := by
  rw [halfP x0 x1 x2 x3 a ⟨s.val * 256 + r.val, by omega⟩ (by rw [e]; rfl)]
  clear e
  pointwise [val_main_v112]
theorem joinedS (a : Fin 16384) (s : Fin 4) (r : Fin 2048) (e : a = rowS s r) (j : Fin 512) :
    val_main_v115 (F := Ideal) x0 x1 x2 x3 (ix2 a j) = val_main_v111 (F := Ideal) x0 x1 x2 x3 (ix3 s r j) := by
  rw [halfS x0 x1 x2 x3 a ⟨s.val * 2048 + r.val, by omega⟩ (by rw [e]; rfl)]
  clear e
  pointwise [val_main_v113]

/-- The result. -/
theorem array (q i : Fin 128) (h : Fin 4) (d : Fin 128) :
    val_main_v115 (F := Ideal) x0 x1 x2 x3 (ix2 (chRow q i) (oCol h d))
      = gatedAt (fun a j => x0 (ix2 a j)) (fun k => x1 (ix1 k)) (fun h i k => x2 (ix3 h i k)) (fun h i => x3 (ix2 h i)) q i h d := by
  have ec : oCol h d = hCol h d := Fin.ext (by show 128 * h.val + d.val = h.val * 128 + d.val; omega)
  rw [ec]
  by_cases hq : q.val < 64
  · obtain ⟨s, n, rfl⟩ : ∃ s n, q = chunkP s n := ⟨⟨q.val / 2, by omega⟩, ⟨q.val % 2, by omega⟩, Fin.ext (by show q.val = 2 * (q.val / 2) + q.val % 2; omega)⟩
    rw [joinedP x0 x1 x2 x3 _ s (rowInP n i) (Fin.ext (by show 128 * (2 * s.val + n.val) + i.val = s.val * 256 + (n.val * 128 + i.val); omega))]
    exact gatedP x0 x1 x2 x3 s n i h d
  · obtain ⟨s, n, rfl⟩ : ∃ s n, q = chunkS s n := ⟨⟨(q.val - 64) / 16, by omega⟩, ⟨(q.val - 64) % 16, by omega⟩, Fin.ext (by show q.val = 64 + (16 * ((q.val - 64) / 16) + (q.val - 64) % 16); omega)⟩
    rw [joinedS x0 x1 x2 x3 _ s (rowInS n i) (Fin.ext (by show 128 * (64 + (16 * s.val + n.val)) + i.val = 8192 + (s.val * 2048 + (n.val * 128 + i.val)); omega))]
    exact gatedS x0 x1 x2 x3 s n i h d

end Cert.Proof.SguRef

end
-- ==== Proof.SguEquation.lean ====
/- The equation of the even layers' gating: the call and the plain reference end with the same array. -/
module

public import proofs.«01_k».proof.Defs
public import proofs.«01_k».proof.Proof.SguKernel
public import proofs.«01_k».proof.Proof.SguRef
public import proofs.«01_k».proof.Proof.Gen.Sgu.Frame
public import Idealize.ShloMosaic.Lib.Quiescent

@[expose] public section

set_option maxRecDepth 16384

noncomputable section

namespace Cert.Proof.SguEquation

open Idealize.ShloMosaic Idealize.ShloMosaic.TcCoe Idealize.SL.Sem
open Cert.SguRefIdeal.Read

variable (m : (ℓ : Loc Cert.SguIdeal.nD Cert.SguIdeal.τ Cert.SguIdeal.sig) → Buf (Elt Ideal) ℓ) (c : Dev Cert.SguIdeal.nD)

/-- The reference's result of the call's arguments. -/
abbrev plain : Buf (Elt Ideal) ((c.tc : Thread Cert.SguIdeal.nD Cert.SguIdeal.τ).loc Cert.SguIdeal.main_v4) :=
  val_main_v115 (F := Ideal) (m (c.tc.loc Cert.SguIdeal.main_arg0)) (m (c.tc.loc Cert.SguIdeal.main_arg1)) (m (c.tc.loc Cert.SguIdeal.main_arg2)) (m (c.tc.loc Cert.SguIdeal.main_arg3))

/-- The call's array is the reference's. -/
theorem array_eq : (Cert.SguIdeal.Gen.dats m 0 c).arrAt 5 Cert.SguIdeal.cfg0.N = plain m c := by
  funext i
  obtain ⟨a, j, rfl⟩ : ∃ a j, i = ix2 a j := ⟨i 0, i 1, eq_ix2 i⟩
  obtain ⟨q, r, rfl⟩ := Cert.Proof.Gating.row_cases a
  obtain ⟨h, d, rfl⟩ := Cert.Proof.Gating.col_cases j
  exact (Cert.Proof.SguKernel.array m c q r h d).trans (Cert.Proof.SguRef.array _ _ _ _ q r h d).symm

/-- The frames of the three programs: each runs, and leaves its arguments and every semaphore as they were. -/
theorem frame_k : Cert.quiescent_Sgu := fun m ρ _ => Cert.Sgu.Gen.frame m ρ
theorem frame_ki : Cert.quiescent_SguIdeal := fun m ρ _ => Cert.SguIdeal.Gen.frame m ρ
theorem frame_ri : Cert.quiescent_SguRefIdeal := fun m ρ _ =>
  (θ_run Cert.SguRefIdeal.defs _ _).mono (fun r h => ⟨fun c => (h c).2, Idealize.ShloMosaic.sem_eq_zero_of_no_sems (by decide) r.2⟩)
    (Cert.SguRefIdeal.Value.run (F := Ideal) m ρ)

/-- From memories that agree on the arguments both run to the same array. -/
theorem algebraic : Cert.algebraic_SguIdeal_SguRefIdeal := by
  intro m ρ m' ρ' _ hag
  refine ⟨fun c => plain m c, ?_, ?_⟩
  · exact (θ_run Cert.SguIdeal.defs _ _).mono (fun r h c => ⟨(h c).1.trans (array_eq m c), (h c).2⟩) (Cert.SguIdeal.Value.run_blocks (F := Ideal) m ρ)
  · refine (θ_run Cert.SguRefIdeal.defs _ _).mono (fun r h c => ?_) (Cert.SguRefIdeal.Value.run (F := Ideal) m' ρ')
    obtain ⟨a0, a1, a2, a3⟩ := hag c
    refine ⟨(h c).1.trans ((val_main_v115_eq _ _).trans ?_), (h c).2⟩
    repeat rw [StableHlo.launchContents_devRef]
    simp only [a0, a1, a2, a3]

end Cert.Proof.SguEquation

end
-- ==== Proof.Convolving.lean ====
/- The convolution of an odd layer at an entry: three taps over a prompt's rows, nothing before its first row and nothing after its last. -/
module

public import Idealize.ShloMosaic.Lib.Pointwise

@[expose] public section

noncomputable section

namespace Cert.Proof.Convolving

open Idealize.ShloMosaic

/-- Row `r` of prompt `s`, among the projected rows and in the result, and the columns of the gates and of the values. -/
def zRow (s : Fin 32) (r : Fin 256) : Fin 16384 := ⟨s.val * 256 + r.val, by omega⟩
def oRow (s : Fin 32) (r : Fin 256) : Fin 8192 := ⟨s.val * 256 + r.val, by omega⟩
def bCol (j : Fin 512) : Fin 2048 := ⟨j.val, by omega⟩
def cCol (j : Fin 512) : Fin 2048 := ⟨512 + j.val, by omega⟩
def xCol (j : Fin 512) : Fin 2048 := ⟨1024 + j.val, by omega⟩

/-- The three taps, from the rows' values `t` and the weights. -/
def taps (t : Fin 256 → EReal) (w0 w1 w2 : EReal) (r : Fin 256) : EReal :=
  (if h : r.val = 0 then 0 else t ⟨r.val - 1, by omega⟩ * w0) + t r * w1 + (if h : r.val = 255 then 0 else t ⟨r.val + 1, by omega⟩ * w2)

/-- The convolution's result. -/
def convAt (z : Fin 16384 → Fin 2048 → EReal) (w : Fin 3 → Fin 512 → EReal) (s : Fin 32) (r : Fin 256) (j : Fin 512) : EReal :=
  z (zRow s r) (bCol j) * taps (fun k => z (zRow s k) (cCol j) * z (zRow s k) (xCol j)) (w 0 j) (w 1 j) (w 2 j) r

theorem row_cases (a : Fin 8192) : ∃ s r, a = oRow s r :=
  ⟨⟨a.val / 256, by omega⟩, ⟨a.val % 256, by omega⟩, Fin.ext (by show a.val = a.val / 256 * 256 + a.val % 256; omega)⟩

end Cert.Proof.Convolving

end
-- ==== Proof.ConvKernel.lean ====
/- What an odd layer's convolution leaves in its result array: `convAt` of the arguments at every row and column. -/
module

public import proofs.«01_k».proof.Proof.Convolving
public import proofs.«01_k».proof.Proof.Gen.ConvIdeal.Value
public import Idealize.ShloMosaic.Lib.StableHlo.ReadAt

@[expose] public section

set_option maxRecDepth 16384

noncomputable section

namespace Cert.Proof.ConvKernel

open Cert.ConvIdeal Cert.ConvIdeal.Gen Idealize.ShloMosaic Idealize.ShloMosaic.TcCoe Cert.Proof.Convolving

/-- A row's place in its prompt. -/
theorem pos0 : ∀ r : Fin 2048, k0_pay3 (ix2 r 0) = BitVec.ofNat 32 (r.val % 256) := by decide +kernel
theorem pos (r : Fin 2048) (j : Fin 128) : k0_pay3 (ix2 r j) = BitVec.ofNat 32 (r.val % 256) :=
  (show k0_pay3 (ix2 r j) = k0_pay3 (ix2 r 0) from rfl).trans (pos0 r)

theorem sel (a b : BitVec 32) (u v : EReal) : Scalar.select (IntOp.cmpi .eq a b) u v = if a = b then u else v := by
  by_cases h : a = b
  · simp [Scalar.select, IntOp.cmpi, h]
  · have hf : (a == b) = false := by simpa using h
    simp [Scalar.select, IntOp.cmpi, h, hf]

theorem small (n k : ℕ) (hn : n < 256) (hk : k < 256) : BitVec.ofNat 32 n = BitVec.ofNat 32 k ↔ n = k := by
  rw [← BitVec.toNat_inj, BitVec.toNat_ofNat, BitVec.toNat_ofNat]
  omega

/-- Row `r` of prompt `q` of a tile. -/
def tRow (q : Fin 8) (r : Fin 256) : Fin 2048 := ⟨q.val * 256 + r.val, by omega⟩

/-- The row before with the first weight and the row itself with the second, nothing before a prompt's first row; -/
theorem prev (x y : Vec Ideal S2048x128 .f32) (w0 w1 : Vec Ideal S1x128 .f32) (q : Fin 8) (r : Fin 256) (j : Fin 128) :
    k0_pay5 x y w0 w1 (ix2 (tRow q r) j)
      = (if h : r.val = 0 then 0 else x (ix2 (tRow q ⟨r.val - 1, by omega⟩) j) * y (ix2 (tRow q ⟨r.val - 1, by omega⟩) j) * w0 (ix2 0 j))
        + x (ix2 (tRow q r) j) * y (ix2 (tRow q r) j) * w1 (ix2 0 j) := by
  have hp : k0_pay3 (ix2 (tRow q r) j) = BitVec.ofNat 32 r.val := (pos _ _).trans (congrArg _ (by show (q.val * 256 + r.val) % 256 = r.val; omega))
  pointwise [k0_pay5, k0_pay2]
  rw [hp, sel]
  by_cases h0 : r.val = 0
  · rw [if_pos ((small _ 0 r.isLt (by omega)).2 h0), dif_pos h0]
  · rw [if_neg (fun e => h0 ((small _ 0 r.isLt (by omega)).1 e)), dif_neg h0]
    have e : ∀ hlt, (⟨((tRow q r).val + 2048 - 1) % 2048, hlt⟩ : Fin 2048) = tRow q ⟨r.val - 1, by omega⟩ := fun hlt => Fin.ext (by
      show (q.val * 256 + r.val + 2048 - 1) % 2048 = q.val * 256 + (r.val - 1)
      omega)
    rw [e]

/-- the row after, nothing after a prompt's last row. -/
theorem next (x y : Vec Ideal S2048x128 .f32) (q : Fin 8) (r : Fin 256) (j : Fin 128) :
    k0_pay4 x y (ix2 (tRow q r) j)
      = if h : r.val = 255 then 0 else x (ix2 (tRow q ⟨r.val + 1, by omega⟩) j) * y (ix2 (tRow q ⟨r.val + 1, by omega⟩) j) := by
  have hp : k0_pay3 (ix2 (tRow q r) j) = BitVec.ofNat 32 r.val := (pos _ _).trans (congrArg _ (by show (q.val * 256 + r.val) % 256 = r.val; omega))
  pointwise [k0_pay4, k0_pay2]
  rw [hp, sel]
  by_cases h0 : r.val = 255
  · rw [if_pos ((small _ 255 r.isLt (by omega)).2 h0), dif_pos h0]
  · rw [if_neg (fun e => h0 ((small _ 255 r.isLt (by omega)).1 e)), dif_neg h0]
    have e : ∀ hlt, (⟨((tRow q r).val + 2048 - 2047) % 2048, hlt⟩ : Fin 2048) = tRow q ⟨r.val + 1, by omega⟩ := fun hlt => Fin.ext (by
      show (q.val * 256 + r.val + 2048 - 2047) % 2048 = q.val * 256 + (r.val + 1)
      omega)
    rw [e]

theorem hz2 : (![0, 0] : Fin 2 → ℕ) = fun _ => 0 := by funext a; fin_cases a <;> rfl

/-- The three rows of weights. -/
theorem weight0 (x : Vec Ideal S3x128 .f32) (j : Fin 128) : View.ld x r0_1 (ix2 0 j) = x (ix2 0 j) := by
  show x _ = x _
  congr 1
  funext a; apply Fin.ext
  match a with
  | ⟨0, _⟩ => rfl
  | ⟨1, _⟩ => show 0 + 1 * j.val = j.val; omega
theorem weight1 (x : Vec Ideal S3x128 .f32) (j : Fin 128) : View.ld x r0_2 (ix2 0 j) = x (ix2 1 j) := by
  show x _ = x _
  congr 1
  funext a; apply Fin.ext
  match a with
  | ⟨0, _⟩ => rfl
  | ⟨1, _⟩ => show 0 + 1 * j.val = j.val; omega
theorem weight2 (x : Vec Ideal S3x128 .f32) (j : Fin 128) : View.ld x r0_3 (ix2 0 j) = x (ix2 2 j) := by
  show x _ = x _
  congr 1
  funext a; apply Fin.ext
  match a with
  | ⟨0, _⟩ => rfl
  | ⟨1, _⟩ => show 0 + 1 * j.val = j.val; omega

/-- The tile's result. -/
theorem stored (x0 x1 x2 : Vec Ideal S2048x128 .f32) (x3 : Vec Ideal S3x128 .f32) (q : Fin 8) (r : Fin 256) (j : Fin 128) :
    out0_4 x0 x1 x2 x3 (ix2 (tRow q r) j)
      = x0 (ix2 (tRow q r) j) * taps (fun k => x1 (ix2 (tRow q k) j) * x2 (ix2 (tRow q k) j)) (x3 (ix2 0 j)) (x3 (ix2 1 j)) (x3 (ix2 2 j)) r := by
  have l0 : View.ld x0 r0_0 = x0 := View.ld_unit_zero hz2 _ _
  have l1 : View.ld x1 r0_0 = x1 := View.ld_unit_zero hz2 _ _
  have l2 : View.ld x2 r0_0 = x2 := View.ld_unit_zero hz2 _ _
  unfold out0_4
  rw [l0, l1, l2]
  unfold r0_0
  rw [View.canon_unit_zero hz2]
  have hf : k0_pay1 (k0_pay4 x1 x2) (k0_pay5 x1 x2 (View.ld x3 r0_1) (View.ld x3 r0_2)) (View.ld x3 r0_3) x0 (ix2 (tRow q r) j)
      = x0 (ix2 (tRow q r) j) * (k0_pay5 x1 x2 (View.ld x3 r0_1) (View.ld x3 r0_2) (ix2 (tRow q r) j) + k0_pay4 x1 x2 (ix2 (tRow q r) j) * View.ld x3 r0_3 (ix2 0 j)) := by
    generalize k0_pay4 x1 x2 = u
    generalize k0_pay5 x1 x2 (View.ld x3 r0_1) (View.ld x3 r0_2) = v
    generalize View.ld x3 r0_3 = w
    pointwise [k0_pay1]
  rw [hf, prev, next, weight0, weight1, weight2]
  unfold taps
  by_cases h : r.val = 255
  · rw [dif_pos h, dif_pos h, zero_mul]
  · rw [dif_neg h, dif_neg h]

theorem idx : ∀ t : Fin grid0.N,
    (win0_0.index t 0 = t.val / 4 ∧ win0_0.index t 1 = t.val % 4) ∧ (win0_1.index t 0 = t.val / 4 ∧ win0_1.index t 1 = 4 + t.val % 4)
    ∧ (win0_2.index t 0 = t.val / 4 ∧ win0_2.index t 1 = 8 + t.val % 4) ∧ (win0_3.index t 0 = 0 ∧ win0_3.index t 1 = t.val % 4)
    ∧ (win0_4.index t 0 = t.val / 4 ∧ win0_4.index t 1 = t.val % 4) := by decide +kernel

variable (m : (ℓ : Loc nD τ sig) → Buf (Elt Ideal) ℓ) (c : Dev nD)

/-- The arguments. -/
abbrev aZ : FVec Ideal S16384x2048 .f32 := m ((c : Thread nD τ).loc main_arg0)
abbrev aW : FVec Ideal S3x512 .f32 := m ((c : Thread nD τ).loc main_arg1)

/-- A tile's prompts and columns. -/
def promptOf (t : Fin cfg0.N) (q : Fin 8) : Fin 32 := ⟨8 * (t.val / 4) + q.val, by have h : t.val < 16 := t.isLt; omega⟩
def colOf (t : Fin cfg0.N) (j : Fin 128) : Fin 512 := ⟨128 * (t.val % 4) + j.val, by omega⟩

/-- The blocks a tile is given: the gates of the result, -/
theorem blk0 (t : Fin cfg0.N) (q : Fin 8) (r : Fin 256) (j : Fin 128) :
    (iblk m c 0 t : Vec Ideal S2048x128 .f32) (ix2 (tRow q r) j) = aZ m c (ix2 (zRow (promptOf t q) r) (bCol (colOf t j))) := by
  obtain ⟨⟨e0, e1⟩, _⟩ := idx t
  show V m c main_arg0 (((cfg0.win 0).blk t).view.emb (ix2 (tRow q r) j)) = m ((c : Thread nD τ).loc main_arg0) _
  rw [V_main_arg0]
  congr 1
  funext a; apply Fin.ext
  match a with
  | ⟨0, _⟩ => show win0_0.index t 0 * 2048 + 1 * (q.val * 256 + r.val) = (8 * (t.val / 4) + q.val) * 256 + r.val; omega
  | ⟨1, _⟩ => show win0_0.index t 1 * 128 + 1 * j.val = 128 * (t.val % 4) + j.val; omega

/-- the gates of the values, -/
theorem blk1 (t : Fin cfg0.N) (q : Fin 8) (r : Fin 256) (j : Fin 128) :
    (iblk m c 1 t : Vec Ideal S2048x128 .f32) (ix2 (tRow q r) j) = aZ m c (ix2 (zRow (promptOf t q) r) (cCol (colOf t j))) := by
  obtain ⟨_, ⟨e0, e1⟩, _⟩ := idx t
  show V m c main_arg0 (((cfg0.win 1).blk t).view.emb (ix2 (tRow q r) j)) = m ((c : Thread nD τ).loc main_arg0) _
  rw [V_main_arg0]
  congr 1
  funext a; apply Fin.ext
  match a with
  | ⟨0, _⟩ => show win0_1.index t 0 * 2048 + 1 * (q.val * 256 + r.val) = (8 * (t.val / 4) + q.val) * 256 + r.val; omega
  | ⟨1, _⟩ => show win0_1.index t 1 * 128 + 1 * j.val = 512 + (128 * (t.val % 4) + j.val); omega

/-- the values, -/
theorem blk2 (t : Fin cfg0.N) (q : Fin 8) (r : Fin 256) (j : Fin 128) :
    (iblk m c 2 t : Vec Ideal S2048x128 .f32) (ix2 (tRow q r) j) = aZ m c (ix2 (zRow (promptOf t q) r) (xCol (colOf t j))) := by
  obtain ⟨_, _, ⟨e0, e1⟩, _⟩ := idx t
  show V m c main_arg0 (((cfg0.win 2).blk t).view.emb (ix2 (tRow q r) j)) = m ((c : Thread nD τ).loc main_arg0) _
  rw [V_main_arg0]
  congr 1
  funext a; apply Fin.ext
  match a with
  | ⟨0, _⟩ => show win0_2.index t 0 * 2048 + 1 * (q.val * 256 + r.val) = (8 * (t.val / 4) + q.val) * 256 + r.val; omega
  | ⟨1, _⟩ => show win0_2.index t 1 * 128 + 1 * j.val = 1024 + (128 * (t.val % 4) + j.val); omega

/-- and the weights. -/
theorem blk3 (t : Fin cfg0.N) (k : Fin 3) (j : Fin 128) :
    (iblk m c 3 t : Vec Ideal S3x128 .f32) (ix2 k j) = aW m c (ix2 k (colOf t j)) := by
  obtain ⟨_, _, _, ⟨e0, e1⟩, _⟩ := idx t
  show V m c main_arg1 (((cfg0.win 3).blk t).view.emb (ix2 k j)) = m ((c : Thread nD τ).loc main_arg1) _
  rw [V_main_arg1]
  congr 1
  funext a; apply Fin.ext
  match a with
  | ⟨0, _⟩ => show win0_3.index t 0 * 3 + 1 * k.val = k.val; omega
  | ⟨1, _⟩ => show win0_3.index t 1 * 128 + 1 * j.val = 128 * (t.val % 4) + j.val; omega

/-- The result array. -/
theorem array (s : Fin 32) (r : Fin 256) (j : Fin 512) :
    ((dats m 0 c).arrAt 4 cfg0.N : Vec Ideal S8192x512 .bf16) (ix2 (oRow s r) j)
      = convAt (fun a k => aZ m c (ix2 a k)) (fun k i => aW m c (ix2 k i)) s r j := by
  obtain ⟨t, q, d, rfl, rfl⟩ : ∃ (t : Fin cfg0.N) (q : Fin 8) (d : Fin 128), s = promptOf t q ∧ j = colOf t d :=
    ⟨⟨4 * (s.val / 8) + j.val / 128, by show _ < 16; omega⟩, ⟨s.val % 8, by omega⟩, ⟨j.val % 128, by omega⟩,
      Fin.ext (by show s.val = 8 * ((4 * (s.val / 8) + j.val / 128) / 4) + s.val % 8; omega),
      Fin.ext (by show j.val = 128 * ((4 * (s.val / 8) + j.val / 128) % 4) + j.val % 128; omega)⟩
  have hb := congrFun (Value.blocks4 m c t (flush0_4 _)) (ix2 (tRow q r) d)
  have hemb : ((cfg0.win 4).blk t).view.emb (ix2 (tRow q r) d) = (ix2 (oRow (promptOf t q) r) (colOf t d) : S8192x512.Idx) := by
    obtain ⟨_, _, _, _, ⟨e0, e1⟩⟩ := idx t
    funext a; apply Fin.ext
    match a with
    | ⟨0, _⟩ => show win0_4.index t 0 * 2048 + 1 * (q.val * 256 + r.val) = (8 * (t.val / 4) + q.val) * 256 + r.val; omega
    | ⟨1, _⟩ => show win0_4.index t 1 * 128 + 1 * d.val = 128 * (t.val % 4) + d.val; omega
  rw [Value.flushed4, View.read_apply, hemb] at hb
  refine hb.trans ?_
  show out0_4 _ _ _ _ (ix2 (tRow q r) d) = _
  rw [stored]
  unfold convAt
  simp only [blk0, blk1, blk2, blk3]

end Cert.Proof.ConvKernel

end
-- ==== Proof.ConvRef.lean ====
/- What the plain convolution of an odd layer holds: `convAt` of the arguments at every row and column. -/
module

public import proofs.«01_k».proof.Proof.Convolving
public import proofs.«01_k».proof.Proof.Gen.ConvRefIdeal.Read

@[expose] public section

set_option maxRecDepth 16384

noncomputable section

namespace Cert.Proof.ConvRef

open Cert.ConvRefIdeal Cert.ConvRefIdeal.Read Idealize.ShloMosaic Cert.Proof.Convolving

variable (x0 : FVec Ideal S16384x2048 .f32) (x1 : FVec Ideal S3x512 .f32)

/-- The padded values: nothing in the first and last rows. -/
theorem padded (s : Fin 32) (r : Fin 258) (j : Fin 512) :
    val_main_v7 (F := Ideal) x0 (ix3 s r j)
      = if h : 1 ≤ r.val ∧ r.val - 1 < 256 then val_main_v6 (F := Ideal) x0 (ix3 s ⟨r.val - 1, h.2⟩ j) else FloatOps.sitofp (F := Ideal) .f32 0#32 := by
  pointwise [val_main_v7, val_main_call0_v0, val_main_c]

theorem zero_eq : FloatOps.sitofp (F := Ideal) .f32 0#32 = (0 : EReal) := by
  show ((BitVec.toInt 0#32 : ℝ) : EReal) = 0
  simp

theorem first (s : Fin 32) (j : Fin 512) : val_main_v7 (F := Ideal) x0 (ix3 s 0 j) = (0 : EReal) := by
  rw [padded, dif_neg (by show ¬ (1 ≤ 0 ∧ 0 - 1 < 256); omega), zero_eq]
theorem last (s : Fin 32) (j : Fin 512) : val_main_v7 (F := Ideal) x0 (ix3 s 257 j) = (0 : EReal) := by
  rw [padded, dif_neg (by show ¬ (1 ≤ 257 ∧ 257 - 1 < 256); omega), zero_eq]
theorem inner (s : Fin 32) (r : Fin 258) (k : Fin 256) (h : r.val = k.val + 1) (j : Fin 512) :
    val_main_v7 (F := Ideal) x0 (ix3 s r j) = x0 (ix2 (zRow s k) (cCol j)) * x0 (ix2 (zRow s k) (xCol j)) := by
  have e : ∀ hk, (⟨r.val - 1, hk⟩ : Fin 256) = k := fun hk => Fin.ext (by show r.val - 1 = k.val; omega)
  rw [padded, dif_pos (by omega), e]
  unfold zRow cCol xCol
  pointwise [val_main_v6, val_main_v4, val_main_v3, val_main_v1, val_main_v0]

/-- The sum of the three taps, gated. -/
theorem summed (s : Fin 32) (r : Fin 256) (j : Fin 512) :
    val_main_v28 (F := Ideal) x0 x1 (ix3 s r j)
      = x0 (ix2 (zRow s r) (bCol j)) * (val_main_v7 (F := Ideal) x0 (ix3 s ⟨r.val, by omega⟩ j) * x1 (ix2 0 j)
        + val_main_v7 (F := Ideal) x0 (ix3 s ⟨1 + r.val, by omega⟩ j) * x1 (ix2 1 j) + val_main_v7 (F := Ideal) x0 (ix3 s ⟨2 + r.val, by omega⟩ j) * x1 (ix2 2 j)) := by
  unfold zRow bCol
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8,
    val_main_v2, val_main_v1, val_main_v0]

/-- The result. -/
theorem array (s : Fin 32) (r : Fin 256) (j : Fin 512) :
    val_main_v30 (F := Ideal) x0 x1 (ix2 (oRow s r) j) = convAt (fun a k => x0 (ix2 a k)) (fun k i => x1 (ix2 k i)) s r j := by
  have e : val_main_v30 (F := Ideal) x0 x1 (ix2 (oRow s r) j) = val_main_v28 (F := Ideal) x0 x1 (ix3 s r j) := by
    unfold oRow
    pointwise [val_main_v30, val_main_v29]
  rw [e, summed]
  unfold convAt taps
  have h1 := inner x0 s ⟨1 + r.val, by omega⟩ r (by show 1 + r.val = r.val + 1; omega) j
  have h0 : val_main_v7 (F := Ideal) x0 (ix3 s ⟨r.val, by omega⟩ j) * x1 (ix2 0 j)
      = if h : r.val = 0 then 0 else x0 (ix2 (zRow s ⟨r.val - 1, by omega⟩) (cCol j)) * x0 (ix2 (zRow s ⟨r.val - 1, by omega⟩) (xCol j)) * x1 (ix2 0 j) := by
    by_cases h : r.val = 0
    · rw [dif_pos h, show (⟨r.val, by omega⟩ : Fin 258) = 0 from Fin.ext h, first, zero_mul]
    · rw [dif_neg h, inner x0 s ⟨r.val, by omega⟩ ⟨r.val - 1, by omega⟩ (by show r.val = r.val - 1 + 1; omega) j]
  have h2 : val_main_v7 (F := Ideal) x0 (ix3 s ⟨2 + r.val, by omega⟩ j) * x1 (ix2 2 j)
      = if h : r.val = 255 then 0 else x0 (ix2 (zRow s ⟨r.val + 1, by omega⟩) (cCol j)) * x0 (ix2 (zRow s ⟨r.val + 1, by omega⟩) (xCol j)) * x1 (ix2 2 j) := by
    by_cases h : r.val = 255
    · rw [dif_pos h, show (⟨2 + r.val, by omega⟩ : Fin 258) = 257 from Fin.ext (by show 2 + r.val = 257; omega), last, zero_mul]
    · rw [dif_neg h, inner x0 s ⟨2 + r.val, by omega⟩ ⟨r.val + 1, by omega⟩ (by show 2 + r.val = r.val + 1 + 1; omega) j]
  rw [h0, h1, h2]

end Cert.Proof.ConvRef

end
-- ==== Proof.ConvEquation.lean ====
/- The equation of the odd layers' convolution: the call and the plain reference end with the same array. -/
module

public import proofs.«01_k».proof.Defs
public import proofs.«01_k».proof.Proof.ConvKernel
public import proofs.«01_k».proof.Proof.ConvRef
public import proofs.«01_k».proof.Proof.Gen.Conv.Frame
public import Idealize.ShloMosaic.Lib.Quiescent

@[expose] public section

set_option maxRecDepth 16384

noncomputable section

namespace Cert.Proof.ConvEquation

open Idealize.ShloMosaic Idealize.ShloMosaic.TcCoe Idealize.SL.Sem
open Cert.ConvRefIdeal.Read

variable (m : (ℓ : Loc Cert.ConvIdeal.nD Cert.ConvIdeal.τ Cert.ConvIdeal.sig) → Buf (Elt Ideal) ℓ) (c : Dev Cert.ConvIdeal.nD)

/-- The reference's result of the call's arguments. -/
abbrev plain : Buf (Elt Ideal) ((c.tc : Thread Cert.ConvIdeal.nD Cert.ConvIdeal.τ).loc Cert.ConvIdeal.main_v0) :=
  val_main_v30 (F := Ideal) (m (c.tc.loc Cert.ConvIdeal.main_arg0)) (m (c.tc.loc Cert.ConvIdeal.main_arg1))

/-- The call's array is the reference's. -/
theorem array_eq : (Cert.ConvIdeal.Gen.dats m 0 c).arrAt 4 Cert.ConvIdeal.cfg0.N = plain m c := by
  funext i
  obtain ⟨a, j, rfl⟩ : ∃ a j, i = ix2 a j := ⟨i 0, i 1, eq_ix2 i⟩
  obtain ⟨s, r, rfl⟩ := Cert.Proof.Convolving.row_cases a
  exact (Cert.Proof.ConvKernel.array m c s r j).trans (Cert.Proof.ConvRef.array _ _ s r j).symm

/-- The frames of the three programs: each runs, and leaves its arguments and every semaphore as they were. -/
theorem frame_k : Cert.quiescent_Conv := fun m ρ _ => Cert.Conv.Gen.frame m ρ
theorem frame_ki : Cert.quiescent_ConvIdeal := fun m ρ _ => Cert.ConvIdeal.Gen.frame m ρ
theorem frame_ri : Cert.quiescent_ConvRefIdeal := fun m ρ _ =>
  (θ_run Cert.ConvRefIdeal.defs _ _).mono (fun r h => ⟨fun c => (h c).2, Idealize.ShloMosaic.sem_eq_zero_of_no_sems (by decide) r.2⟩)
    (Cert.ConvRefIdeal.Value.run (F := Ideal) m ρ)

/-- From memories that agree on the arguments both run to the same array. -/
theorem algebraic : Cert.algebraic_ConvIdeal_ConvRefIdeal := by
  intro m ρ m' ρ' _ hag
  refine ⟨fun c => plain m c, ?_, ?_⟩
  · exact (θ_run Cert.ConvIdeal.defs _ _).mono (fun r h c => ⟨(h c).1.trans (array_eq m c), (h c).2⟩) (Cert.ConvIdeal.Value.run_blocks (F := Ideal) m ρ)
  · refine (θ_run Cert.ConvRefIdeal.defs _ _).mono (fun r h c => ?_) (Cert.ConvRefIdeal.Value.run (F := Ideal) m' ρ')
    obtain ⟨a0, a1⟩ := hag c
    refine ⟨(h c).1.trans ((val_main_v30_eq _ _).trans ?_), (h c).2⟩
    repeat rw [StableHlo.launchContents_devRef]
    simp only [a0, a1]

end Cert.Proof.ConvEquation

end
-- ==== Proof.ConvolvingLatent.lean ====
/- The convolution of an odd layer at an entry of a sample: three taps over the sample's rows, nothing before its first row and nothing after its last. -/
module

public import Idealize.ShloMosaic.Lib.Pointwise

@[expose] public section

noncomputable section

namespace Cert.Proof.ConvolvingLatent

open Idealize.ShloMosaic

/-- Row `r` of sample `s`, among the projected rows and in the result, and the columns of the gates and of the values. -/
def zRow (s : Fin 4) (r : Fin 2048) : Fin 16384 := ⟨8192 + (s.val * 2048 + r.val), by omega⟩
def oRow (s : Fin 4) (r : Fin 2048) : Fin 8192 := ⟨s.val * 2048 + r.val, by omega⟩
def bCol (j : Fin 512) : Fin 2048 := ⟨j.val, by omega⟩
def cCol (j : Fin 512) : Fin 2048 := ⟨512 + j.val, by omega⟩
def xCol (j : Fin 512) : Fin 2048 := ⟨1024 + j.val, by omega⟩

/-- The three taps, from the rows' values `t` and the weights. -/
def taps (t : Fin 2048 → EReal) (w0 w1 w2 : EReal) (r : Fin 2048) : EReal :=
  (if h : r.val = 0 then 0 else t ⟨r.val - 1, by omega⟩ * w0) + t r * w1 + (if h : r.val = 2047 then 0 else t ⟨r.val + 1, by omega⟩ * w2)

/-- The convolution's result. -/
def convAt (z : Fin 16384 → Fin 2048 → EReal) (w : Fin 3 → Fin 512 → EReal) (s : Fin 4) (r : Fin 2048) (j : Fin 512) : EReal :=
  z (zRow s r) (bCol j) * taps (fun k => z (zRow s k) (cCol j) * z (zRow s k) (xCol j)) (w 0 j) (w 1 j) (w 2 j) r

theorem row_cases (a : Fin 8192) : ∃ s r, a = oRow s r :=
  ⟨⟨a.val / 2048, by omega⟩, ⟨a.val % 2048, by omega⟩, Fin.ext (by show a.val = a.val / 2048 * 2048 + a.val % 2048; omega)⟩

end Cert.Proof.ConvolvingLatent

end
-- ==== Proof.ConvLatentKernel.lean ====
/- What an odd layer's convolution of the samples leaves in its result array: `convAt` of the arguments at every row and column. -/
module

public import proofs.«01_k».proof.Proof.ConvolvingLatent
public import proofs.«01_k».proof.Proof.Gen.ConvLatentIdeal.Value
public import Idealize.ShloMosaic.Lib.StableHlo.ReadAt

@[expose] public section

set_option maxRecDepth 16384

noncomputable section

namespace Cert.Proof.ConvLatentKernel

open Cert.ConvLatentIdeal Cert.ConvLatentIdeal.Gen Idealize.ShloMosaic Idealize.ShloMosaic.TcCoe Cert.Proof.ConvolvingLatent

/-- A row's place in its sample. -/
theorem pos0 : ∀ r : Fin 2048, k0_pay3 (ix2 r 0) = BitVec.ofNat 32 r.val := by decide +kernel
theorem pos (r : Fin 2048) (j : Fin 128) : k0_pay3 (ix2 r j) = BitVec.ofNat 32 r.val :=
  (show k0_pay3 (ix2 r j) = k0_pay3 (ix2 r 0) from rfl).trans (pos0 r)

theorem sel (a b : BitVec 32) (u v : EReal) : Scalar.select (IntOp.cmpi .eq a b) u v = if a = b then u else v := by
  by_cases h : a = b
  · simp [Scalar.select, IntOp.cmpi, h]
  · have hf : (a == b) = false := by simpa using h
    simp [Scalar.select, IntOp.cmpi, h, hf]

theorem small (n k : ℕ) (hn : n < 2048) (hk : k < 2048) : BitVec.ofNat 32 n = BitVec.ofNat 32 k ↔ n = k := by
  rw [← BitVec.toNat_inj, BitVec.toNat_ofNat, BitVec.toNat_ofNat]
  omega

/-- The row before with the first weight and the row itself with the second, nothing before a sample's first row; -/
theorem prev (x y : Vec Ideal S2048x128 .f32) (w0 w1 : Vec Ideal S1x128 .f32) (r : Fin 2048) (j : Fin 128) :
    k0_pay5 x y w0 w1 (ix2 r j)
      = (if h : r.val = 0 then 0 else x (ix2 ⟨r.val - 1, by omega⟩ j) * y (ix2 ⟨r.val - 1, by omega⟩ j) * w0 (ix2 0 j))
        + x (ix2 r j) * y (ix2 r j) * w1 (ix2 0 j) := by
  have hp : k0_pay3 (ix2 r j) = BitVec.ofNat 32 r.val := pos _ _
  pointwise [k0_pay5, k0_pay2]
  rw [hp, sel]
  by_cases h0 : r.val = 0
  · rw [if_pos ((small _ 0 r.isLt (by omega)).2 h0), dif_pos h0]
  · rw [if_neg (fun e => h0 ((small _ 0 r.isLt (by omega)).1 e)), dif_neg h0]
    have e : ∀ hlt, (⟨(r.val + 2048 - 1) % 2048, hlt⟩ : Fin 2048) = ⟨r.val - 1, by omega⟩ := fun hlt => Fin.ext (by
      show (r.val + 2048 - 1) % 2048 = r.val - 1
      omega)
    rw [e]

/-- the row after, nothing after a sample's last row. -/
theorem next (x y : Vec Ideal S2048x128 .f32) (r : Fin 2048) (j : Fin 128) :
    k0_pay4 x y (ix2 r j)
      = if h : r.val = 2047 then 0 else x (ix2 ⟨r.val + 1, by omega⟩ j) * y (ix2 ⟨r.val + 1, by omega⟩ j) := by
  have hp : k0_pay3 (ix2 r j) = BitVec.ofNat 32 r.val := pos _ _
  pointwise [k0_pay4, k0_pay2]
  rw [hp, sel]
  by_cases h0 : r.val = 2047
  · rw [if_pos ((small _ 2047 r.isLt (by omega)).2 h0), dif_pos h0]
  · rw [if_neg (fun e => h0 ((small _ 2047 r.isLt (by omega)).1 e)), dif_neg h0]
    have e : ∀ hlt, (⟨(r.val + 2048 - 2047) % 2048, hlt⟩ : Fin 2048) = ⟨r.val + 1, by omega⟩ := fun hlt => Fin.ext (by
      show (r.val + 2048 - 2047) % 2048 = r.val + 1
      omega)
    rw [e]

theorem hz2 : (![0, 0] : Fin 2 → ℕ) = fun _ => 0 := by funext a; fin_cases a <;> rfl

/-- The three rows of weights. -/
theorem weight0 (x : Vec Ideal S3x128 .f32) (j : Fin 128) : View.ld x r0_1 (ix2 0 j) = x (ix2 0 j) := by
  show x _ = x _
  congr 1
  funext a; apply Fin.ext
  match a with
  | ⟨0, _⟩ => rfl
  | ⟨1, _⟩ => show 0 + 1 * j.val = j.val; omega
theorem weight1 (x : Vec Ideal S3x128 .f32) (j : Fin 128) : View.ld x r0_2 (ix2 0 j) = x (ix2 1 j) := by
  show x _ = x _
  congr 1
  funext a; apply Fin.ext
  match a with
  | ⟨0, _⟩ => rfl
  | ⟨1, _⟩ => show 0 + 1 * j.val = j.val; omega
theorem weight2 (x : Vec Ideal S3x128 .f32) (j : Fin 128) : View.ld x r0_3 (ix2 0 j) = x (ix2 2 j) := by
  show x _ = x _
  congr 1
  funext a; apply Fin.ext
  match a with
  | ⟨0, _⟩ => rfl
  | ⟨1, _⟩ => show 0 + 1 * j.val = j.val; omega

/-- The tile's result. -/
theorem stored (x0 x1 x2 : Vec Ideal S2048x128 .f32) (x3 : Vec Ideal S3x128 .f32) (r : Fin 2048) (j : Fin 128) :
    out0_4 x0 x1 x2 x3 (ix2 r j)
      = x0 (ix2 r j) * taps (fun k => x1 (ix2 k j) * x2 (ix2 k j)) (x3 (ix2 0 j)) (x3 (ix2 1 j)) (x3 (ix2 2 j)) r := by
  have l0 : View.ld x0 r0_0 = x0 := View.ld_unit_zero hz2 _ _
  have l1 : View.ld x1 r0_0 = x1 := View.ld_unit_zero hz2 _ _
  have l2 : View.ld x2 r0_0 = x2 := View.ld_unit_zero hz2 _ _
  unfold out0_4
  rw [l0, l1, l2]
  unfold r0_0
  rw [View.canon_unit_zero hz2]
  have hf : k0_pay1 (k0_pay4 x1 x2) (k0_pay5 x1 x2 (View.ld x3 r0_1) (View.ld x3 r0_2)) (View.ld x3 r0_3) x0 (ix2 r j)
      = x0 (ix2 r j) * (k0_pay5 x1 x2 (View.ld x3 r0_1) (View.ld x3 r0_2) (ix2 r j) + k0_pay4 x1 x2 (ix2 r j) * View.ld x3 r0_3 (ix2 0 j)) := by
    generalize k0_pay4 x1 x2 = u
    generalize k0_pay5 x1 x2 (View.ld x3 r0_1) (View.ld x3 r0_2) = v
    generalize View.ld x3 r0_3 = w
    pointwise [k0_pay1]
  rw [hf, prev, next, weight0, weight1, weight2]
  unfold taps
  by_cases h : r.val = 2047
  · rw [dif_pos h, dif_pos h, zero_mul]
  · rw [dif_neg h, dif_neg h]

theorem idx : ∀ t : Fin grid0.N,
    (win0_0.index t 0 = 4 + t.val / 4 ∧ win0_0.index t 1 = t.val % 4) ∧ (win0_1.index t 0 = 4 + t.val / 4 ∧ win0_1.index t 1 = 4 + t.val % 4)
    ∧ (win0_2.index t 0 = 4 + t.val / 4 ∧ win0_2.index t 1 = 8 + t.val % 4) ∧ (win0_3.index t 0 = 0 ∧ win0_3.index t 1 = t.val % 4)
    ∧ (win0_4.index t 0 = t.val / 4 ∧ win0_4.index t 1 = t.val % 4) := by decide +kernel

variable (m : (ℓ : Loc nD τ sig) → Buf (Elt Ideal) ℓ) (c : Dev nD)

/-- The arguments. -/
abbrev aZ : FVec Ideal S16384x2048 .f32 := m ((c : Thread nD τ).loc main_arg0)
abbrev aW : FVec Ideal S3x512 .f32 := m ((c : Thread nD τ).loc main_arg1)

/-- A tile's sample and columns. -/
def sampleOf (t : Fin cfg0.N) : Fin 4 := ⟨t.val / 4, by have h : t.val < 16 := t.isLt; omega⟩
def colOf (t : Fin cfg0.N) (j : Fin 128) : Fin 512 := ⟨128 * (t.val % 4) + j.val, by omega⟩

/-- The blocks a tile is given: the gates of the result, -/
theorem blk0 (t : Fin cfg0.N) (r : Fin 2048) (j : Fin 128) :
    (iblk m c 0 t : Vec Ideal S2048x128 .f32) (ix2 r j) = aZ m c (ix2 (zRow (sampleOf t) r) (bCol (colOf t j))) := by
  obtain ⟨⟨e0, e1⟩, _⟩ := idx t
  show V m c main_arg0 (((cfg0.win 0).blk t).view.emb (ix2 r j)) = m ((c : Thread nD τ).loc main_arg0) _
  rw [V_main_arg0]
  congr 1
  funext a; apply Fin.ext
  match a with
  | ⟨0, _⟩ => show win0_0.index t 0 * 2048 + 1 * r.val = 8192 + (t.val / 4 * 2048 + r.val); omega
  | ⟨1, _⟩ => show win0_0.index t 1 * 128 + 1 * j.val = 128 * (t.val % 4) + j.val; omega

/-- the gates of the values, -/
theorem blk1 (t : Fin cfg0.N) (r : Fin 2048) (j : Fin 128) :
    (iblk m c 1 t : Vec Ideal S2048x128 .f32) (ix2 r j) = aZ m c (ix2 (zRow (sampleOf t) r) (cCol (colOf t j))) := by
  obtain ⟨_, ⟨e0, e1⟩, _⟩ := idx t
  show V m c main_arg0 (((cfg0.win 1).blk t).view.emb (ix2 r j)) = m ((c : Thread nD τ).loc main_arg0) _
  rw [V_main_arg0]
  congr 1
  funext a; apply Fin.ext
  match a with
  | ⟨0, _⟩ => show win0_1.index t 0 * 2048 + 1 * r.val = 8192 + (t.val / 4 * 2048 + r.val); omega
  | ⟨1, _⟩ => show win0_1.index t 1 * 128 + 1 * j.val = 512 + (128 * (t.val % 4) + j.val); omega

/-- the values, -/
theorem blk2 (t : Fin cfg0.N) (r : Fin 2048) (j : Fin 128) :
    (iblk m c 2 t : Vec Ideal S2048x128 .f32) (ix2 r j) = aZ m c (ix2 (zRow (sampleOf t) r) (xCol (colOf t j))) := by
  obtain ⟨_, _, ⟨e0, e1⟩, _⟩ := idx t
  show V m c main_arg0 (((cfg0.win 2).blk t).view.emb (ix2 r j)) = m ((c : Thread nD τ).loc main_arg0) _
  rw [V_main_arg0]
  congr 1
  funext a; apply Fin.ext
  match a with
  | ⟨0, _⟩ => show win0_2.index t 0 * 2048 + 1 * r.val = 8192 + (t.val / 4 * 2048 + r.val); omega
  | ⟨1, _⟩ => show win0_2.index t 1 * 128 + 1 * j.val = 1024 + (128 * (t.val % 4) + j.val); omega

/-- and the weights. -/
theorem blk3 (t : Fin cfg0.N) (k : Fin 3) (j : Fin 128) :
    (iblk m c 3 t : Vec Ideal S3x128 .f32) (ix2 k j) = aW m c (ix2 k (colOf t j)) := by
  obtain ⟨_, _, _, ⟨e0, e1⟩, _⟩ := idx t
  show V m c main_arg1 (((cfg0.win 3).blk t).view.emb (ix2 k j)) = m ((c : Thread nD τ).loc main_arg1) _
  rw [V_main_arg1]
  congr 1
  funext a; apply Fin.ext
  match a with
  | ⟨0, _⟩ => show win0_3.index t 0 * 3 + 1 * k.val = k.val; omega
  | ⟨1, _⟩ => show win0_3.index t 1 * 128 + 1 * j.val = 128 * (t.val % 4) + j.val; omega

/-- The result array. -/
theorem array (s : Fin 4) (r : Fin 2048) (j : Fin 512) :
    ((dats m 0 c).arrAt 4 cfg0.N : Vec Ideal S8192x512 .bf16) (ix2 (oRow s r) j)
      = convAt (fun a k => aZ m c (ix2 a k)) (fun k i => aW m c (ix2 k i)) s r j := by
  obtain ⟨t, d, rfl, rfl⟩ : ∃ (t : Fin cfg0.N) (d : Fin 128), s = sampleOf t ∧ j = colOf t d :=
    ⟨⟨4 * s.val + j.val / 128, by show _ < 16; omega⟩, ⟨j.val % 128, by omega⟩,
      Fin.ext (by show s.val = (4 * s.val + j.val / 128) / 4; omega),
      Fin.ext (by show j.val = 128 * ((4 * s.val + j.val / 128) % 4) + j.val % 128; omega)⟩
  have hb := congrFun (Value.blocks4 m c t (flush0_4 _)) (ix2 r d)
  have hemb : ((cfg0.win 4).blk t).view.emb (ix2 r d) = (ix2 (oRow (sampleOf t) r) (colOf t d) : S8192x512.Idx) := by
    obtain ⟨_, _, _, _, ⟨e0, e1⟩⟩ := idx t
    funext a; apply Fin.ext
    match a with
    | ⟨0, _⟩ => show win0_4.index t 0 * 2048 + 1 * r.val = t.val / 4 * 2048 + r.val; omega
    | ⟨1, _⟩ => show win0_4.index t 1 * 128 + 1 * d.val = 128 * (t.val % 4) + d.val; omega
  rw [Value.flushed4, View.read_apply, hemb] at hb
  refine hb.trans ?_
  show out0_4 _ _ _ _ (ix2 r d) = _
  rw [stored]
  unfold convAt
  simp only [blk0, blk1, blk2, blk3]

end Cert.Proof.ConvLatentKernel

end
-- ==== Proof.ConvLatentRef.lean ====
/- What the plain convolution of an odd layer's samples holds: `convAt` of the arguments at every row and column. -/
module

public import proofs.«01_k».proof.Proof.ConvolvingLatent
public import proofs.«01_k».proof.Proof.Gen.ConvLatentRefIdeal.Read

@[expose] public section

set_option maxRecDepth 16384

noncomputable section

namespace Cert.Proof.ConvLatentRef

open Cert.ConvLatentRefIdeal Cert.ConvLatentRefIdeal.Read Idealize.ShloMosaic Cert.Proof.ConvolvingLatent

variable (x0 : FVec Ideal S16384x2048 .f32) (x1 : FVec Ideal S3x512 .f32)

/-- The padded values: nothing in the first and last rows. -/
theorem padded (s : Fin 4) (r : Fin 2050) (j : Fin 512) :
    val_main_v7 (F := Ideal) x0 (ix3 s r j)
      = if h : 1 ≤ r.val ∧ r.val - 1 < 2048 then val_main_v6 (F := Ideal) x0 (ix3 s ⟨r.val - 1, h.2⟩ j) else FloatOps.sitofp (F := Ideal) .f32 0#32 := by
  pointwise [val_main_v7, val_main_call0_v0, val_main_c]

theorem zero_eq : FloatOps.sitofp (F := Ideal) .f32 0#32 = (0 : EReal) := by
  show ((BitVec.toInt 0#32 : ℝ) : EReal) = 0
  simp

theorem first (s : Fin 4) (j : Fin 512) : val_main_v7 (F := Ideal) x0 (ix3 s 0 j) = (0 : EReal) := by
  rw [padded, dif_neg (by show ¬ (1 ≤ 0 ∧ 0 - 1 < 2048); omega), zero_eq]
theorem last (s : Fin 4) (j : Fin 512) : val_main_v7 (F := Ideal) x0 (ix3 s 2049 j) = (0 : EReal) := by
  rw [padded, dif_neg (by show ¬ (1 ≤ 2049 ∧ 2049 - 1 < 2048); omega), zero_eq]
theorem inner (s : Fin 4) (r : Fin 2050) (k : Fin 2048) (h : r.val = k.val + 1) (j : Fin 512) :
    val_main_v7 (F := Ideal) x0 (ix3 s r j) = x0 (ix2 (zRow s k) (cCol j)) * x0 (ix2 (zRow s k) (xCol j)) := by
  have e : ∀ hk, (⟨r.val - 1, hk⟩ : Fin 2048) = k := fun hk => Fin.ext (by show r.val - 1 = k.val; omega)
  rw [padded, dif_pos (by omega), e]
  unfold zRow cCol xCol
  pointwise [val_main_v6, val_main_v4, val_main_v3, val_main_v1, val_main_v0]

/-- The sum of the three taps, gated. -/
theorem summed (s : Fin 4) (r : Fin 2048) (j : Fin 512) :
    val_main_v28 (F := Ideal) x0 x1 (ix3 s r j)
      = x0 (ix2 (zRow s r) (bCol j)) * (val_main_v7 (F := Ideal) x0 (ix3 s ⟨r.val, by omega⟩ j) * x1 (ix2 0 j)
        + val_main_v7 (F := Ideal) x0 (ix3 s ⟨1 + r.val, by omega⟩ j) * x1 (ix2 1 j) + val_main_v7 (F := Ideal) x0 (ix3 s ⟨2 + r.val, by omega⟩ j) * x1 (ix2 2 j)) := by
  unfold zRow bCol
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8,
    val_main_v2, val_main_v1, val_main_v0]

/-- The result. -/
theorem array (s : Fin 4) (r : Fin 2048) (j : Fin 512) :
    val_main_v30 (F := Ideal) x0 x1 (ix2 (oRow s r) j) = convAt (fun a k => x0 (ix2 a k)) (fun k i => x1 (ix2 k i)) s r j := by
  have e : val_main_v30 (F := Ideal) x0 x1 (ix2 (oRow s r) j) = val_main_v28 (F := Ideal) x0 x1 (ix3 s r j) := by
    unfold oRow
    pointwise [val_main_v30, val_main_v29]
  rw [e, summed]
  unfold convAt taps
  have h1 := inner x0 s ⟨1 + r.val, by omega⟩ r (by show 1 + r.val = r.val + 1; omega) j
  have h0 : val_main_v7 (F := Ideal) x0 (ix3 s ⟨r.val, by omega⟩ j) * x1 (ix2 0 j)
      = if h : r.val = 0 then 0 else x0 (ix2 (zRow s ⟨r.val - 1, by omega⟩) (cCol j)) * x0 (ix2 (zRow s ⟨r.val - 1, by omega⟩) (xCol j)) * x1 (ix2 0 j) := by
    by_cases h : r.val = 0
    · rw [dif_pos h, show (⟨r.val, by omega⟩ : Fin 2050) = 0 from Fin.ext h, first, zero_mul]
    · rw [dif_neg h, inner x0 s ⟨r.val, by omega⟩ ⟨r.val - 1, by omega⟩ (by show r.val = r.val - 1 + 1; omega) j]
  have h2 : val_main_v7 (F := Ideal) x0 (ix3 s ⟨2 + r.val, by omega⟩ j) * x1 (ix2 2 j)
      = if h : r.val = 2047 then 0 else x0 (ix2 (zRow s ⟨r.val + 1, by omega⟩) (cCol j)) * x0 (ix2 (zRow s ⟨r.val + 1, by omega⟩) (xCol j)) * x1 (ix2 2 j) := by
    by_cases h : r.val = 2047
    · rw [dif_pos h, show (⟨2 + r.val, by omega⟩ : Fin 2050) = 2049 from Fin.ext (by show 2 + r.val = 2049; omega), last, zero_mul]
    · rw [dif_neg h, inner x0 s ⟨2 + r.val, by omega⟩ ⟨r.val + 1, by omega⟩ (by show 2 + r.val = r.val + 1 + 1; omega) j]
  rw [h0, h1, h2]

end Cert.Proof.ConvLatentRef

end
-- ==== Proof.ConvLatentEquation.lean ====
/- The equation of the odd layers' convolution of the samples: the call and the plain reference end with the same array. -/
module

public import proofs.«01_k».proof.Defs
public import proofs.«01_k».proof.Proof.ConvLatentKernel
public import proofs.«01_k».proof.Proof.ConvLatentRef
public import proofs.«01_k».proof.Proof.Gen.ConvLatent.Frame
public import Idealize.ShloMosaic.Lib.Quiescent

@[expose] public section

set_option maxRecDepth 16384

noncomputable section

namespace Cert.Proof.ConvLatentEquation

open Idealize.ShloMosaic Idealize.ShloMosaic.TcCoe Idealize.SL.Sem
open Cert.ConvLatentRefIdeal.Read

variable (m : (ℓ : Loc Cert.ConvLatentIdeal.nD Cert.ConvLatentIdeal.τ Cert.ConvLatentIdeal.sig) → Buf (Elt Ideal) ℓ) (c : Dev Cert.ConvLatentIdeal.nD)

/-- The reference's result of the call's arguments. -/
abbrev plain : Buf (Elt Ideal) ((c.tc : Thread Cert.ConvLatentIdeal.nD Cert.ConvLatentIdeal.τ).loc Cert.ConvLatentIdeal.main_v0) :=
  val_main_v30 (F := Ideal) (m (c.tc.loc Cert.ConvLatentIdeal.main_arg0)) (m (c.tc.loc Cert.ConvLatentIdeal.main_arg1))

/-- The call's array is the reference's. -/
theorem array_eq : (Cert.ConvLatentIdeal.Gen.dats m 0 c).arrAt 4 Cert.ConvLatentIdeal.cfg0.N = plain m c := by
  funext i
  obtain ⟨a, j, rfl⟩ : ∃ a j, i = ix2 a j := ⟨i 0, i 1, eq_ix2 i⟩
  obtain ⟨s, r, rfl⟩ := Cert.Proof.ConvolvingLatent.row_cases a
  exact (Cert.Proof.ConvLatentKernel.array m c s r j).trans (Cert.Proof.ConvLatentRef.array _ _ s r j).symm

/-- The frames of the three programs: each runs, and leaves its arguments and every semaphore as they were. -/
theorem frame_k : Cert.quiescent_ConvLatent := fun m ρ _ => Cert.ConvLatent.Gen.frame m ρ
theorem frame_ki : Cert.quiescent_ConvLatentIdeal := fun m ρ _ => Cert.ConvLatentIdeal.Gen.frame m ρ
theorem frame_ri : Cert.quiescent_ConvLatentRefIdeal := fun m ρ _ =>
  (θ_run Cert.ConvLatentRefIdeal.defs _ _).mono (fun r h => ⟨fun c => (h c).2, Idealize.ShloMosaic.sem_eq_zero_of_no_sems (by decide) r.2⟩)
    (Cert.ConvLatentRefIdeal.Value.run (F := Ideal) m ρ)

/-- From memories that agree on the arguments both run to the same array. -/
theorem algebraic : Cert.algebraic_ConvLatentIdeal_ConvLatentRefIdeal := by
  intro m ρ m' ρ' _ hag
  refine ⟨fun c => plain m c, ?_, ?_⟩
  · exact (θ_run Cert.ConvLatentIdeal.defs _ _).mono (fun r h c => ⟨(h c).1.trans (array_eq m c), (h c).2⟩) (Cert.ConvLatentIdeal.Value.run_blocks (F := Ideal) m ρ)
  · refine (θ_run Cert.ConvLatentRefIdeal.defs _ _).mono (fun r h c => ?_) (Cert.ConvLatentRefIdeal.Value.run (F := Ideal) m' ρ')
    obtain ⟨a0, a1⟩ := hag c
    refine ⟨(h c).1.trans ((val_main_v30_eq _ _).trans ?_), (h c).2⟩
    repeat rw [StableHlo.launchContents_devRef]
    simp only [a0, a1]

end Cert.Proof.ConvLatentEquation

end
-- ==== Proof.Mixing.lean ====
/- The Fourier mixing at an entry: the transform over the columns and then over the rows, each a sum of products with a
   matrix of cosines and one of sines, whose real part is scaled. -/
module

public import Idealize.ShloMosaic.Lib.Pointwise

@[expose] public section

noncomputable section

namespace Cert.Proof.Mixing

open Idealize.ShloMosaic

/-- Row `k` and column `e` of a sequence's head. -/
def mixAt (z : Fin 256 → Fin 128 → EReal) (cd sd : Fin 128 → Fin 128 → EReal) (cl sl : Fin 256 → Fin 256 → EReal) (k : Fin 256) (e : Fin 128) : EReal :=
  ((∑ l : Fin 256, cl k l * ∑ d : Fin 128, z l d * cd d e) - ∑ l : Fin 256, sl k l * ∑ d : Fin 128, z l d * sd d e)
    * Ideal.ofBits .f32 0x3BB504F3#32

/-- The column of entry `e` of head `h`, among the result's. -/
def col (h : Fin 4) (e : Fin 128) : Fin 512 := ⟨h.val * 128 + e.val, by omega⟩

theorem col_cases (j : Fin 512) : ∃ h e, j = col h e :=
  ⟨⟨j.val / 128, by omega⟩, ⟨j.val % 128, by omega⟩, Fin.ext (by show j.val = j.val / 128 * 128 + j.val % 128; omega)⟩

/-- Row `r` of sequence `s`, among the result's. -/
def row (s : Fin 32) (r : Fin 256) : Fin 8192 := ⟨s.val * 256 + r.val, by omega⟩

theorem row_cases (a : Fin 8192) : ∃ s r, a = row s r :=
  ⟨⟨a.val / 256, by omega⟩, ⟨a.val % 256, by omega⟩, Fin.ext (by show a.val = a.val / 256 * 256 + a.val % 256; omega)⟩

end Cert.Proof.Mixing

end
-- ==== Proof.FourierKernel.lean ====
/- What the Fourier mixing of the prompts leaves in its result array: `mixAt` of its rows and of the matrices it is given. -/
module

public import proofs.«01_k».proof.Proof.Mixing
public import proofs.«01_k».proof.Proof.Gen.FourierIdeal.Value

@[expose] public section

set_option maxRecDepth 16384

noncomputable section

namespace Cert.Proof.FourierKernel

open Cert.FourierIdeal Cert.FourierIdeal.Gen Idealize.ShloMosaic Idealize.ShloMosaic.TcCoe Cert.Proof.Mixing

theorem hz2 : (![0, 0] : Fin 2 → ℕ) = fun _ => 0 := by funext a; fin_cases a <;> rfl

section
variable {F : FTy → Type} [FloatOps F]

/-- A head's columns of a block. -/
abbrev head0 (x : Vec F S256x512 .f32) : Vec F S256x128 .f32 := View.ld x (Rect.unit (s := S256x512) ![0, 0] S256x128.size inb_S256x512_S256x128_0_0)
abbrev head1 (x : Vec F S256x512 .f32) : Vec F S256x128 .f32 := View.ld x (Rect.unit (s := S256x512) ![0, 128] S256x128.size inb_S256x512_S256x128_0_128)
abbrev head2 (x : Vec F S256x512 .f32) : Vec F S256x128 .f32 := View.ld x (Rect.unit (s := S256x512) ![0, 256] S256x128.size inb_S256x512_S256x128_0_256)
abbrev head3 (x : Vec F S256x512 .f32) : Vec F S256x128 .f32 := View.ld x (Rect.unit (s := S256x512) ![0, 384] S256x128.size inb_S256x512_S256x128_0_384)

/-- The four heads' stores into a buffer. -/
abbrev stores (w0 w1 w2 w3 : Vec F S256x128 .bf16) : List (View.Piece (Elt F) S256x512 .bf16) :=
  [⟨Rect.unit (s := S256x512) ![0, 384] S256x128.size inb_S256x512_S256x128_0_384, w3⟩,
   ⟨Rect.unit (s := S256x512) ![0, 256] S256x128.size inb_S256x512_S256x128_0_256, w2⟩,
   ⟨Rect.unit (s := S256x512) ![0, 128] S256x128.size inb_S256x512_S256x128_0_128, w1⟩,
   ⟨Rect.unit (s := S256x512) ![0, 0] S256x128.size inb_S256x512_S256x128_0_0, w0⟩]

theorem cover (w0 w1 w2 w3 : Vec F S256x128 .bf16) (y : S256x512.Idx) : ∃ pc ∈ stores w0 w1 w2 w3, y ∈ pc.1.set :=
  View.cover_of_tiledL (stores w0 w1 w2 w3) S256x128.size (by sl_kernel_rfl) y

/-- The buffer of the products with the cosines, and that with the sines. -/
abbrev bufP (x : Vec F S256x512 .f32) (w : Vec F S128x128 .bf16) : Vec F S256x512 .bf16 :=
  View.canon (stores (k0_pay10 w (head0 x)) (k0_pay13 w (head1 x)) (k0_pay1 (k0_pay16 w (head2 x))) (k0_pay4 (k0_pay7 w) (head3 x)))
abbrev bufQ (x : Vec F S256x512 .f32) (w : Vec F S128x128 .bf16) : Vec F S256x512 .bf16 :=
  View.canon (stores (k0_pay11 w (head0 x)) (k0_pay14 w (head1 x)) (k0_pay2 (k0_pay8 w) (k0_pay15 (head2 x))) (k0_pay5 (k0_pay8 w) (head3 x)))

/-- A whole buffer read back is what its stores left. -/
theorem readback (v : Memref sig .tc .vmem S256x512 .bf16) (L : List (View.Piece (Elt F) S256x512 .bf16)) (inb : ∀ a, ![0, 0] a + S256x512.size a ≤ S256x512.size a) :
    v.view.readCov L (Rect.unit (s := S256x512) ![0, 0] S256x512.size inb).toLoadRect = View.canon L := by
  rw [View.readCov_eq_canon']
  exact View.ld_unit_zero (S := S256x512) hz2 inb (View.canon L)

/-- The tile's store. -/
theorem outA_eq (c : Dev nD) (i : grid0.Coords) (arg2 : Memref sig .tc .vmem S256x512 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (hc0 : cond0_0 i)
    (x0 : Vec F S256x512 .f32) (x1 : Vec F S128x128 .bf16) (x2 : Vec F S128x128 .bf16) (x3 : Vec F S256x256 .bf16) (x4 : Vec F S256x256 .bf16) :
    out0_A_5 c i arg2 harg2 arg3 harg3 arg4 harg4 arg5 harg5 arg6 harg6 arg7 harg7 arg8 harg8 arg9 harg9 hc0 x0 x1 x2 x3 x4 = k0_pay6 x3 (bufP x0 x1) x4 (bufQ x0 x2) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_run_names
  rw [View.canon_unit_zero hz2, readback, readback]
  simp only [View.readAt_eq_ld, harg2.read_unread, harg3.read_unread, harg4.read_unread, harg5.read_unread, harg6.read_unread,
    View.ld_unit_zero (S := S256x256) hz2, View.ld_unit_zero (S := S128x128) hz2]

end

/-- A block's rows transformed over a head's columns with a matrix. -/
def mixed (x : Vec Ideal S256x512 .f32) (w : Vec Ideal S128x128 .bf16) (r : Fin 256) (h : Fin 4) (e : Fin 128) : EReal :=
  ∑ d : Fin 128, x (ix2 r (col h d)) * w (ix2 d e)

/-- The four stores' payloads as one array. -/
def joined (w : Fin 4 → Vec Ideal S256x128 .bf16) (y : S256x512.Idx) : EReal :=
  w ⟨(y 1).val / 128, by have h : (y 1).val < 512 := (y 1).isLt; omega⟩ (ix2 (y 0) ⟨(y 1).val % 128, by omega⟩)

theorem joined_at (w : Fin 4 → Vec Ideal S256x128 .bf16) (k : Fin 4) (x : S256x128.Idx) (y : S256x512.Idx) (h0 : (y 0).val = (x 0).val)
    (h1 : (y 1).val = 128 * k.val + (x 1).val) : w k x = joined w y := by
  have hx : (x 1).val < 128 := (x 1).isLt
  unfold joined
  have e0 : (⟨(y 1).val / 128, by have h : (y 1).val < 512 := (y 1).isLt; omega⟩ : Fin 4) = k := Fin.ext (by show (y 1).val / 128 = k.val; omega)
  rw [e0]
  congr 1
  funext a; apply Fin.ext
  match a with
  | ⟨0, _⟩ => exact h0.symm
  | ⟨1, _⟩ => show (x 1).val = (y 1).val % 128; omega

/-- The four stores read at an entry, whatever they hold. -/
theorem stored (w : Fin 4 → Vec Ideal S256x128 .bf16) (r : Fin 256) (h : Fin 4) (e : Fin 128) :
    (View.canon (stores (w 0) (w 1) (w 2) (w 3)) : Vec Ideal S256x512 .bf16) (ix2 r (col h e)) = w h (ix2 r e) := by
  refine (View.canon_apply_of_pieces (Val := Elt Ideal) (e := .bf16) (joined w) (stores (w 0) (w 1) (w 2) (w 3)) ?_ (ix2 r (col h e)) (cover _ _ _ _ _)).trans
    (joined_at w h (ix2 r e) (ix2 r (col h e)) rfl (by show h.val * 128 + e.val = 128 * h.val + e.val; omega)).symm
  intro p hp
  simp only [List.mem_cons, List.not_mem_nil, or_false] at hp
  rcases hp with rfl | rfl | rfl | rfl
  · exact fun x => joined_at w 3 x _ (by show 0 + 1 * (x 0).val = _; omega) (by show 384 + 1 * (x 1).val = 128 * 3 + (x 1).val; omega)
  · exact fun x => joined_at w 2 x _ (by show 0 + 1 * (x 0).val = _; omega) (by show 256 + 1 * (x 1).val = 128 * 2 + (x 1).val; omega)
  · exact fun x => joined_at w 1 x _ (by show 0 + 1 * (x 0).val = _; omega) (by show 128 + 1 * (x 1).val = 128 * 1 + (x 1).val; omega)
  · exact fun x => joined_at w 0 x _ (by show 0 + 1 * (x 0).val = _; omega) (by show 0 + 1 * (x 1).val = 128 * 0 + (x 1).val; omega)

section
variable (x : Vec Ideal S256x512 .f32) (w : Vec Ideal S128x128 .bf16)

/-- The four column blocks of a tile. -/
theorem head0_at (r : Fin 256) (d : Fin 128) : head0 x (ix2 r d) = x (ix2 r ⟨d.val, by omega⟩) := by
  show x _ = x _
  congr 1
  funext a; apply Fin.ext
  match a with
  | ⟨0, _⟩ => show 0 + 1 * r.val = r.val; omega
  | ⟨1, _⟩ => show 0 + 1 * d.val = d.val; omega

theorem head1_at (r : Fin 256) (d : Fin 128) : head1 x (ix2 r d) = x (ix2 r ⟨128 + d.val, by omega⟩) := by
  show x _ = x _
  congr 1
  funext a; apply Fin.ext
  match a with
  | ⟨0, _⟩ => show 0 + 1 * r.val = r.val; omega
  | ⟨1, _⟩ => show 128 + 1 * d.val = 128 + d.val; omega

theorem head2_at (r : Fin 256) (d : Fin 128) : head2 x (ix2 r d) = x (ix2 r ⟨256 + d.val, by omega⟩) := by
  show x _ = x _
  congr 1
  funext a; apply Fin.ext
  match a with
  | ⟨0, _⟩ => show 0 + 1 * r.val = r.val; omega
  | ⟨1, _⟩ => show 256 + 1 * d.val = 256 + d.val; omega

theorem head3_at (r : Fin 256) (d : Fin 128) : head3 x (ix2 r d) = x (ix2 r ⟨384 + d.val, by omega⟩) := by
  show x _ = x _
  congr 1
  funext a; apply Fin.ext
  match a with
  | ⟨0, _⟩ => show 0 + 1 * r.val = r.val; omega
  | ⟨1, _⟩ => show 384 + 1 * d.val = 384 + d.val; omega

theorem bufP_at (r : Fin 256) (h : Fin 4) (e : Fin 128) : bufP x w (ix2 r (col h e)) = mixed x w r h e := by
  refine (stored ![k0_pay10 w (head0 x), k0_pay13 w (head1 x), k0_pay1 (k0_pay16 w (head2 x)), k0_pay4 (k0_pay7 w) (head3 x)] r h e).trans ?_
  unfold mixed col
  fin_cases h
  · show k0_pay10 w (head0 x) (ix2 r e) = _
    pointwise [k0_pay10, k0_pay9, k0_pay7]
    exact Finset.sum_congr rfl fun d _ => congrArg (· * w (ix2 d e)) (head0_at x r d)
  · show k0_pay13 w (head1 x) (ix2 r e) = _
    pointwise [k0_pay13, k0_pay12, k0_pay7]
    exact Finset.sum_congr rfl fun d _ => congrArg (· * w (ix2 d e)) (head1_at x r d)
  · show k0_pay1 (k0_pay16 w (head2 x)) (ix2 r e) = _
    pointwise [k0_pay1, k0_pay16, k0_pay15, k0_pay7]
    exact Finset.sum_congr rfl fun d _ => congrArg (· * w (ix2 d e)) (head2_at x r d)
  · show k0_pay4 (k0_pay7 w) (head3 x) (ix2 r e) = _
    pointwise [k0_pay4, k0_pay3, k0_pay7]
    exact Finset.sum_congr rfl fun d _ => congrArg (· * w (ix2 d e)) (head3_at x r d)

theorem bufQ_at (r : Fin 256) (h : Fin 4) (e : Fin 128) : bufQ x w (ix2 r (col h e)) = mixed x w r h e := by
  refine (stored ![k0_pay11 w (head0 x), k0_pay14 w (head1 x), k0_pay2 (k0_pay8 w) (k0_pay15 (head2 x)), k0_pay5 (k0_pay8 w) (head3 x)] r h e).trans ?_
  unfold mixed col
  fin_cases h
  · show k0_pay11 w (head0 x) (ix2 r e) = _
    pointwise [k0_pay11, k0_pay9, k0_pay8]
    exact Finset.sum_congr rfl fun d _ => congrArg (· * w (ix2 d e)) (head0_at x r d)
  · show k0_pay14 w (head1 x) (ix2 r e) = _
    pointwise [k0_pay14, k0_pay12, k0_pay8]
    exact Finset.sum_congr rfl fun d _ => congrArg (· * w (ix2 d e)) (head1_at x r d)
  · show k0_pay2 (k0_pay8 w) (k0_pay15 (head2 x)) (ix2 r e) = _
    pointwise [k0_pay2, k0_pay15, k0_pay8]
    exact Finset.sum_congr rfl fun d _ => congrArg (· * w (ix2 d e)) (head2_at x r d)
  · show k0_pay5 (k0_pay8 w) (head3 x) (ix2 r e) = _
    pointwise [k0_pay5, k0_pay3, k0_pay8]
    exact Finset.sum_congr rfl fun d _ => congrArg (· * w (ix2 d e)) (head3_at x r d)

end

/-- What one tile computes. -/
theorem tile (x0 : Vec Ideal S256x512 .f32) (x1 x2 : Vec Ideal S128x128 .bf16) (x3 x4 : Vec Ideal S256x256 .bf16) (r : Fin 256) (h : Fin 4) (e : Fin 128) :
    k0_pay6 x3 (bufP x0 x1) x4 (bufQ x0 x2) (ix2 r (col h e))
      = mixAt (fun l d => x0 (ix2 l (col h d))) (fun d e => x1 (ix2 d e)) (fun d e => x2 (ix2 d e)) (fun k l => x3 (ix2 k l)) (fun k l => x4 (ix2 k l)) r e := by
  have hp : ∀ l, bufP x0 x1 (ix2 l (col h e)) = ∑ d : Fin 128, x0 (ix2 l (col h d)) * x1 (ix2 d e) := fun l => bufP_at x0 x1 l h e
  have hq : ∀ l, bufQ x0 x2 (ix2 l (col h e)) = ∑ d : Fin 128, x0 (ix2 l (col h d)) * x2 (ix2 d e) := fun l => bufQ_at x0 x2 l h e
  unfold mixAt
  simp only [← hp, ← hq]
  generalize bufP x0 x1 = p
  generalize bufQ x0 x2 = q
  generalize col h e = j
  pointwise [k0_pay6]

theorem idx : ∀ t : Fin grid0.N,
    (win0_0.index t 0 = t.val ∧ win0_0.index t 1 = 3) ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) := by decide +kernel

variable (m : (ℓ : Loc nD τ sig) → Buf (Elt Ideal) ℓ) (c : Dev nD)

/-- The argument, and the matrices the call is given. -/
abbrev aZ : FVec Ideal S16384x2048 .f32 := m ((c : Thread nD τ).loc main_arg0)
abbrev mCD : Vec Ideal S128x128 .bf16 := V m c main_v11
abbrev mSD : Vec Ideal S128x128 .bf16 := V m c main_v13
abbrev mCL : Vec Ideal S256x256 .bf16 := V m c main_v25
abbrev mSL : Vec Ideal S256x256 .bf16 := V m c main_v27

/-- The argument's row and column of a sequence's row and a head's column. -/
def src (s : Fin 32) (l : Fin 256) : Fin 16384 := ⟨s.val * 256 + l.val, by omega⟩
def srcCol (h : Fin 4) (d : Fin 128) : Fin 2048 := ⟨1536 + (h.val * 128 + d.val), by omega⟩

def seqOf (t : Fin cfg0.N) : Fin 32 := ⟨t.val, t.isLt⟩

/-- The blocks a tile is given: its sequence's rows, -/
theorem blk0 (t : Fin cfg0.N) (l : Fin 256) (h : Fin 4) (d : Fin 128) :
    (iblk m c 0 t : Vec Ideal S256x512 .f32) (ix2 l (col h d)) = aZ m c (ix2 (src (seqOf t) l) (srcCol h d)) := by
  obtain ⟨⟨e0, e1⟩, _⟩ := idx t
  show V m c main_arg0 (((cfg0.win 0).blk t).view.emb (ix2 l (col h d))) = m ((c : Thread nD τ).loc main_arg0) _
  rw [V_main_arg0]
  congr 1
  funext a; apply Fin.ext
  match a with
  | ⟨0, _⟩ => show win0_0.index t 0 * 256 + 1 * l.val = t.val * 256 + l.val; omega
  | ⟨1, _⟩ => show win0_0.index t 1 * 512 + 1 * (h.val * 128 + d.val) = 1536 + (h.val * 128 + d.val); omega

/-- and the four matrices. -/
theorem blk1 (t : Fin cfg0.N) (k l : Fin 128) : (iblk m c 1 t : Vec Ideal S128x128 .bf16) (ix2 k l) = mCD m c (ix2 k l) := by
  obtain ⟨_, ⟨a0, a1⟩, ⟨b0, b1⟩, ⟨c0, c1⟩, ⟨d0, d1⟩, _⟩ := idx t
  have he : ((cfg0.win 1).blk t).view.emb (ix2 k l) = (ix2 k l : S128x128.Idx) := by
    funext a; apply Fin.ext
    match a with
    | ⟨0, _⟩ => show win0_1.index t 0 * 128 + 1 * k.val = k.val; omega
    | ⟨1, _⟩ => show win0_1.index t 1 * 128 + 1 * l.val = l.val; omega
  exact congrArg (mCD m c) he

theorem blk2 (t : Fin cfg0.N) (k l : Fin 128) : (iblk m c 2 t : Vec Ideal S128x128 .bf16) (ix2 k l) = mSD m c (ix2 k l) := by
  obtain ⟨_, ⟨a0, a1⟩, ⟨b0, b1⟩, ⟨c0, c1⟩, ⟨d0, d1⟩, _⟩ := idx t
  have he : ((cfg0.win 2).blk t).view.emb (ix2 k l) = (ix2 k l : S128x128.Idx) := by
    funext a; apply Fin.ext
    match a with
    | ⟨0, _⟩ => show win0_2.index t 0 * 128 + 1 * k.val = k.val; omega
    | ⟨1, _⟩ => show win0_2.index t 1 * 128 + 1 * l.val = l.val; omega
  exact congrArg (mSD m c) he

theorem blk3 (t : Fin cfg0.N) (k l : Fin 256) : (iblk m c 3 t : Vec Ideal S256x256 .bf16) (ix2 k l) = mCL m c (ix2 k l) := by
  obtain ⟨_, ⟨a0, a1⟩, ⟨b0, b1⟩, ⟨c0, c1⟩, ⟨d0, d1⟩, _⟩ := idx t
  have he : ((cfg0.win 3).blk t).view.emb (ix2 k l) = (ix2 k l : S256x256.Idx) := by
    funext a; apply Fin.ext
    match a with
    | ⟨0, _⟩ => show win0_3.index t 0 * 256 + 1 * k.val = k.val; omega
    | ⟨1, _⟩ => show win0_3.index t 1 * 256 + 1 * l.val = l.val; omega
  exact congrArg (mCL m c) he

theorem blk4 (t : Fin cfg0.N) (k l : Fin 256) : (iblk m c 4 t : Vec Ideal S256x256 .bf16) (ix2 k l) = mSL m c (ix2 k l) := by
  obtain ⟨_, ⟨a0, a1⟩, ⟨b0, b1⟩, ⟨c0, c1⟩, ⟨d0, d1⟩, _⟩ := idx t
  have he : ((cfg0.win 4).blk t).view.emb (ix2 k l) = (ix2 k l : S256x256.Idx) := by
    funext a; apply Fin.ext
    match a with
    | ⟨0, _⟩ => show win0_4.index t 0 * 256 + 1 * k.val = k.val; omega
    | ⟨1, _⟩ => show win0_4.index t 1 * 256 + 1 * l.val = l.val; omega
  exact congrArg (mSL m c) he

/-- The result array. -/
theorem array (s : Fin 32) (k : Fin 256) (h : Fin 4) (e : Fin 128) :
    ((dats m 0 c).arrAt 5 cfg0.N : Vec Ideal S8192x512 .bf16) (ix2 (row s k) (col h e))
      = mixAt (fun l d => aZ m c (ix2 (src s l) (srcCol h d))) (fun d e => mCD m c (ix2 d e)) (fun d e => mSD m c (ix2 d e))
          (fun k l => mCL m c (ix2 k l)) (fun k l => mSL m c (ix2 k l)) k e := by
  obtain ⟨t, rfl⟩ : ∃ t : Fin cfg0.N, s = seqOf t := ⟨⟨s.val, s.isLt⟩, rfl⟩
  have hb := congrFun (Value.blocks5 m c t (flush0_5 _)) (ix2 k (col h e))
  have hemb : ((cfg0.win 5).blk t).view.emb (ix2 k (col h e)) = (ix2 (row (seqOf t) k) (col h e) : S8192x512.Idx) := by
    obtain ⟨_, _, _, _, _, ⟨e0, e1⟩⟩ := idx t
    funext a; apply Fin.ext
    match a with
    | ⟨0, _⟩ => show win0_5.index t 0 * 256 + 1 * k.val = t.val * 256 + k.val; omega
    | ⟨1, _⟩ => show win0_5.index t 1 * 512 + 1 * (h.val * 128 + e.val) = h.val * 128 + e.val; omega
  rw [Value.flushed5_A, outA_eq, View.read_apply, hemb] at hb
  refine hb.trans ?_
  show k0_pay6 _ (bufP _ _) _ (bufQ _ _) (ix2 k (col h e)) = _
  rw [tile]
  simp only [blk0, blk1, blk2, blk3, blk4]

end Cert.Proof.FourierKernel

end
-- ==== Proof.FourierRef.lean ====
/- What the plain Fourier mixing holds: `mixAt` of its rows and of its matrices of cosines and sines. -/
module

public import proofs.«01_k».proof.Proof.Mixing
public import proofs.«01_k».proof.Proof.Gen.FourierRefIdeal.Read

@[expose] public section

set_option maxRecDepth 16384

noncomputable section

namespace Cert.Proof.FourierRef

open Cert.FourierRefIdeal Cert.FourierRefIdeal.Read Idealize.ShloMosaic Cert.Proof.Mixing

variable (x0 : FVec Ideal S16384x2048 .f32)

/-- A sequence's rows at a head's columns. -/
theorem rows (s : Fin 32) (l : Fin 256) (h : Fin 4) (d : Fin 128) :
    val_main_v6 (F := Ideal) x0 (ix4 s l h d) = x0 (ix2 ⟨s.val * 256 + l.val, by omega⟩ ⟨1536 + (h.val * 128 + d.val), by omega⟩) := by
  pointwise [val_main_v6, val_main_v5, val_main_v4, val_main_v3, val_main_v2, val_main_v1, val_main_v0]

/-- The result. -/
theorem array (s : Fin 32) (k : Fin 256) (h : Fin 4) (e : Fin 128) :
    val_main_v41 (F := Ideal) x0 (ix2 (row s k) (col h e))
      = mixAt (fun l d => x0 (ix2 ⟨s.val * 256 + l.val, by omega⟩ ⟨1536 + (h.val * 128 + d.val), by omega⟩))
          (fun d e => val_main_v17 (F := Ideal) (ix2 d e)) (fun d e => val_main_v18 (F := Ideal) (ix2 d e))
          (fun k l => val_main_v29 (F := Ideal) (ix2 k l)) (fun k l => val_main_v30 (F := Ideal) (ix2 k l)) k e := by
  have e1 : ∀ l, val_main_v31 (F := Ideal) x0 (ix4 s l h e) = ∑ d : Fin 128, val_main_v6 (F := Ideal) x0 (ix4 s l h d) * val_main_v17 (F := Ideal) (ix2 d e) := by
    intro l
    unfold val_main_v31
    generalize val_main_v6 (F := Ideal) x0 = z
    generalize val_main_v17 (F := Ideal) = w
    pointwise
  have e2 : ∀ l, val_main_v32 (F := Ideal) x0 (ix4 s l h e) = ∑ d : Fin 128, val_main_v6 (F := Ideal) x0 (ix4 s l h d) * val_main_v18 (F := Ideal) (ix2 d e) := by
    intro l
    unfold val_main_v32
    generalize val_main_v6 (F := Ideal) x0 = z
    generalize val_main_v18 (F := Ideal) = w
    pointwise
  unfold mixAt
  simp only [← rows, ← e1, ← e2]
  simp only [mul_comm (val_main_v29 (F := Ideal) _), mul_comm (val_main_v30 (F := Ideal) _)]
  unfold row col
  unfold val_main_v41 val_main_v40 val_main_v39 val_main_v38 val_main_cst_2 val_main_v37 val_main_v36 val_main_v35 val_main_v34 val_main_v33
  generalize val_main_v31 (F := Ideal) x0 = p
  generalize val_main_v32 (F := Ideal) x0 = q
  generalize val_main_v29 (F := Ideal) = u
  generalize val_main_v30 (F := Ideal) = v
  pointwise

end Cert.Proof.FourierRef

end
-- ==== Proof.FourierEquation.lean ====
/- The equation of the Fourier mixing: the call and the plain reference end with the same array. -/
module

public import proofs.«01_k».proof.Defs
public import proofs.«01_k».proof.Proof.FourierKernel
public import proofs.«01_k».proof.Proof.FourierRef
public import proofs.«01_k».proof.Proof.Gen.Fourier.Frame
public import Idealize.ShloMosaic.Lib.Quiescent
public import Idealize.ShloMosaic.Lib.StableHlo.ReadAt

@[expose] public section

set_option maxRecDepth 16384

noncomputable section

namespace Cert.Proof.FourierEquation

open Idealize.ShloMosaic Idealize.ShloMosaic.TcCoe Idealize.SL.Sem
open Cert.FourierRefIdeal.Read

variable (m : (ℓ : Loc Cert.FourierIdeal.nD Cert.FourierIdeal.τ Cert.FourierIdeal.sig) → Buf (Elt Ideal) ℓ) (c : Dev Cert.FourierIdeal.nD)

/-- The matrices of the heads' width are the reference's, -/
theorem cd (a b : Fin 128) : Cert.Proof.FourierKernel.mCD m c (ix2 a b) = val_main_v17 (F := Ideal) (ix2 a b) := by
  unfold_abbrev_sides
  after_reads_at
  symm
  pointwise [val_main_v17, val_main_v16, val_main_v15, val_main_cst, val_main_v14, val_main_v13, val_main_call0_v14, val_main_call0_v13, val_main_call0_v12, val_main_call0_v11, val_main_call0_v10, val_main_call0_v9, val_main_call0_c_3, val_main_call0_v8, val_main_call0_v7, val_main_call0_c_2, val_main_call0_v6, val_main_call0_v5, val_main_call0_c_1, val_main_call0_v4, val_main_call0_v3, val_main_call0_v2, val_main_call0_c_0, val_main_call0_v1, val_main_call0_c, val_main_call0_v0, val_main_c, val_main_v12, val_main_v11, val_main_v10, val_main_v9, val_main_v8, val_main_v7]

theorem sd (a b : Fin 128) : Cert.Proof.FourierKernel.mSD m c (ix2 a b) = val_main_v18 (F := Ideal) (ix2 a b) := by
  unfold_abbrev_sides
  after_reads_at
  symm
  pointwise [val_main_v18, val_main_v16, val_main_v15, val_main_cst, val_main_v14, val_main_v13, val_main_call0_v14, val_main_call0_v13, val_main_call0_v12, val_main_call0_v11, val_main_call0_v10, val_main_call0_v9, val_main_call0_c_3, val_main_call0_v8, val_main_call0_v7, val_main_call0_c_2, val_main_call0_v6, val_main_call0_v5, val_main_call0_c_1, val_main_call0_v4, val_main_call0_v3, val_main_call0_v2, val_main_call0_c_0, val_main_call0_v1, val_main_call0_c, val_main_call0_v0, val_main_c, val_main_v12, val_main_v11, val_main_v10, val_main_v9, val_main_v8, val_main_v7]

/-- and those of the sequence's length. -/
theorem cl (a b : Fin 256) : Cert.Proof.FourierKernel.mCL m c (ix2 a b) = val_main_v29 (F := Ideal) (ix2 a b) := by
  unfold_abbrev_sides
  after_reads_at
  symm
  pointwise [val_main_v29, val_main_v28, val_main_v27, val_main_cst_1, val_main_v26, val_main_v25, val_main_call1_v14, val_main_call1_v13, val_main_call1_v12, val_main_call1_v11, val_main_call1_v10, val_main_call1_v9, val_main_call1_c_3, val_main_call1_v8, val_main_call1_v7, val_main_call1_c_2, val_main_call1_v6, val_main_call1_v5, val_main_call1_c_1, val_main_call1_v4, val_main_call1_v3, val_main_call1_v2, val_main_call1_c_0, val_main_call1_v1, val_main_call1_c, val_main_call1_v0, val_main_c_0, val_main_v24, val_main_v23, val_main_v22, val_main_v21, val_main_v20, val_main_v19]

theorem sl (a b : Fin 256) : Cert.Proof.FourierKernel.mSL m c (ix2 a b) = val_main_v30 (F := Ideal) (ix2 a b) := by
  unfold_abbrev_sides
  after_reads_at
  symm
  pointwise [val_main_v30, val_main_v28, val_main_v27, val_main_cst_1, val_main_v26, val_main_v25, val_main_call1_v14, val_main_call1_v13, val_main_call1_v12, val_main_call1_v11, val_main_call1_v10, val_main_call1_v9, val_main_call1_c_3, val_main_call1_v8, val_main_call1_v7, val_main_call1_c_2, val_main_call1_v6, val_main_call1_v5, val_main_call1_c_1, val_main_call1_v4, val_main_call1_v3, val_main_call1_v2, val_main_call1_c_0, val_main_call1_v1, val_main_call1_c, val_main_call1_v0, val_main_c_0, val_main_v24, val_main_v23, val_main_v22, val_main_v21, val_main_v20, val_main_v19]

theorem mixAt_congr (z : Fin 256 → Fin 128 → EReal) {cd cd' sd sd' : Fin 128 → Fin 128 → EReal} {cl cl' sl sl' : Fin 256 → Fin 256 → EReal}
    (h1 : ∀ a b, cd a b = cd' a b) (h2 : ∀ a b, sd a b = sd' a b) (h3 : ∀ a b, cl a b = cl' a b) (h4 : ∀ a b, sl a b = sl' a b)
    (k : Fin 256) (e : Fin 128) : Cert.Proof.Mixing.mixAt z cd sd cl sl k e = Cert.Proof.Mixing.mixAt z cd' sd' cl' sl' k e := by
  obtain rfl : cd = cd' := funext fun a => funext (h1 a)
  obtain rfl : sd = sd' := funext fun a => funext (h2 a)
  obtain rfl : cl = cl' := funext fun a => funext (h3 a)
  obtain rfl : sl = sl' := funext fun a => funext (h4 a)
  rfl

/-- The reference's result of the call's argument. -/
abbrev plain : Buf (Elt Ideal) ((c.tc : Thread Cert.FourierIdeal.nD Cert.FourierIdeal.τ).loc Cert.FourierIdeal.main_v28) :=
  val_main_v41 (F := Ideal) (m (c.tc.loc Cert.FourierIdeal.main_arg0))

/-- The call's array is the reference's. -/
theorem array_eq : (Cert.FourierIdeal.Gen.dats m 0 c).arrAt 5 Cert.FourierIdeal.cfg0.N = plain m c := by
  funext i
  obtain ⟨a, j, rfl⟩ : ∃ a j, i = ix2 a j := ⟨i 0, i 1, eq_ix2 i⟩
  obtain ⟨s, k, rfl⟩ := Cert.Proof.Mixing.row_cases a
  obtain ⟨h, e, rfl⟩ := Cert.Proof.Mixing.col_cases j
  exact (Cert.Proof.FourierKernel.array m c s k h e).trans (Eq.trans
    (mixAt_congr _ (cd m c) (sd m c) (cl m c) (sl m c) k e)
    (Cert.Proof.FourierRef.array (m (c.tc.loc Cert.FourierIdeal.main_arg0)) s k h e).symm)

/-- The frames of the three programs: each runs, and leaves its arguments and every semaphore as they were. -/
theorem frame_k : Cert.quiescent_Fourier := fun m ρ _ => Cert.Fourier.Gen.frame m ρ
theorem frame_ki : Cert.quiescent_FourierIdeal := fun m ρ _ => Cert.FourierIdeal.Gen.frame m ρ
theorem frame_ri : Cert.quiescent_FourierRefIdeal := fun m ρ _ =>
  (θ_run Cert.FourierRefIdeal.defs _ _).mono (fun r h => ⟨fun c => (h c).2, Idealize.ShloMosaic.sem_eq_zero_of_no_sems (by decide) r.2⟩)
    (Cert.FourierRefIdeal.Value.run (F := Ideal) m ρ)

/-- From memories that agree on the arguments both run to the same array. -/
theorem algebraic : Cert.algebraic_FourierIdeal_FourierRefIdeal := by
  intro m ρ m' ρ' _ hag
  refine ⟨fun c => plain m c, ?_, ?_⟩
  · exact (θ_run Cert.FourierIdeal.defs _ _).mono (fun r h c => ⟨(h c).1.trans (array_eq m c), (h c).2⟩) (Cert.FourierIdeal.Value.run_blocks (F := Ideal) m ρ)
  · refine (θ_run Cert.FourierRefIdeal.defs _ _).mono (fun r h c => ?_) (Cert.FourierRefIdeal.Value.run (F := Ideal) m' ρ')
    have a0 := hag c
    refine ⟨(h c).1.trans ((val_main_v41_eq _ _).trans ?_), (h c).2⟩
    repeat rw [StableHlo.launchContents_devRef]
    simp only [a0]

end Cert.Proof.FourierEquation

end
-- ==== Proof.Embedding.lean ====
/- The embedded tokens at an entry: a prompt's value, or a sample's with its place's embedding added. -/
module

public import Idealize.ShloMosaic.Lib.Pointwise

@[expose] public section

noncomputable section

namespace Cert.Proof.Embedding

open Idealize.ShloMosaic

/-- A token's row: the prompts' rows first, then the samples'. -/
def tokenAt (p : Fin 32 → Fin 256 → Fin 1024 → EReal) (s : Fin 4 → Fin 2048 → Fin 1024 → EReal) (e : Fin 2048 → Fin 1024 → EReal)
    (a : Fin 16384) (j : Fin 1024) : EReal :=
  if h : a.val < 8192 then p ⟨a.val / 256, by omega⟩ ⟨a.val % 256, by omega⟩ j
  else s ⟨(a.val - 8192) / 2048, by omega⟩ ⟨(a.val - 8192) % 2048, by omega⟩ j + e ⟨(a.val - 8192) % 2048, by omega⟩ j

end Cert.Proof.Embedding

end
-- ==== Proof.EmbedKernel.lean ====
/- What the embedding leaves in its result array: `tokenAt` of the arguments at every row and column. -/
module

public import proofs.«01_k».proof.Proof.Embedding
public import proofs.«01_k».proof.Proof.Gen.EmbedIdeal.Value
public import Idealize.ShloMosaic.Lib.StableHlo.ReadAt

@[expose] public section

set_option maxRecDepth 16384

noncomputable section

namespace Cert.Proof.EmbedKernel

open Cert.EmbedIdeal Cert.EmbedIdeal.Gen Idealize.ShloMosaic Idealize.ShloMosaic.TcCoe Cert.Proof.Embedding

theorem hz2 : (![0, 0] : Fin 2 → ℕ) = fun _ => 0 := by funext a; fin_cases a <;> rfl

/-- The store of a tile of the prompts. -/
theorem outA_eq {F : FTy → Type} [FloatOps F] (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (hc0 : cond0_0 i) (hc1 : ¬cond0_1 i)
    (x0 x1 x2 : Vec F S512x1024 .f32) :
    out0_A_3 c i arg1 harg1 arg2 harg2 arg3 harg3 arg4 harg4 hc0 hc1 x0 x1 x2 = k0_pay1 x0 := by
  unfold out0_A_3
  rw [View.read_writes_eq_canon _ _ _ (cover0_A_3 c i arg1 harg1 arg2 harg2 arg3 harg3 arg4 harg4 hc0 hc1 x0 x1 x2)]
  unfold kernelRun0_A
  dsimp only
  sl_unfold_run_names
  rw [View.canon_unit_zero hz2]
  simp only [View.readAt_eq_ld, harg1.read_unread, harg2.read_unread, harg3.read_unread, View.ld_unit_zero (S := S512x1024) hz2]

/-- The store of a tile of the samples. -/
theorem outB_eq {F : FTy → Type} [FloatOps F] (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (hc0 : ¬cond0_0 i) (hc1 : cond0_1 i)
    (x0 x1 x2 : Vec F S512x1024 .f32) :
    out0_B_3 c i arg1 harg1 arg2 harg2 arg3 harg3 arg4 harg4 hc0 hc1 x0 x1 x2 = k0_pay2 x1 x2 := by
  unfold out0_B_3
  rw [View.read_writes_eq_canon _ _ _ (cover0_B_3 c i arg1 harg1 arg2 harg2 arg3 harg3 arg4 harg4 hc0 hc1 x0 x1 x2)]
  unfold kernelRun0_B
  dsimp only
  sl_unfold_run_names
  rw [View.canon_unit_zero hz2]
  simp only [View.readAt_eq_ld, harg1.read_unread, harg2.read_unread, harg3.read_unread, View.ld_unit_zero (S := S512x1024) hz2]

theorem tileA (x : Vec Ideal S512x1024 .f32) (r : Fin 512) (j : Fin 1024) : k0_pay1 x (ix2 r j) = x (ix2 r j) := by
  pointwise [k0_pay1]
theorem tileB (x y : Vec Ideal S512x1024 .f32) (r : Fin 512) (j : Fin 1024) : k0_pay2 x y (ix2 r j) = x (ix2 r j) + y (ix2 r j) := by
  pointwise [k0_pay2]

theorem idx : ∀ t : Fin grid0.N,
    (win0_0.index t 0 = min t.val 15 ∧ win0_0.index t 1 = 0) ∧ (win0_1.index t 0 = t.val - 16 ∧ win0_1.index t 1 = 0)
    ∧ (win0_2.index t 0 = (t.val - 16) % 4 ∧ win0_2.index t 1 = 0) ∧ (win0_3.index t 0 = t.val ∧ win0_3.index t 1 = 0) := by decide +kernel

variable (m : (ℓ : Loc nD τ sig) → Buf (Elt Ideal) ℓ) (c : Dev nD)

/-- The arguments: the prompts, the samples and the places' embeddings. -/
abbrev aP : FVec Ideal S32x256x1024 .f32 := m ((c : Thread nD τ).loc main_arg0)
abbrev aS : FVec Ideal S4x2048x1024 .f32 := m ((c : Thread nD τ).loc main_arg1)
abbrev aE : FVec Ideal S2048x1024 .f32 := m ((c : Thread nD τ).loc main_arg2)

/-- Row `r` of tile `t`. -/
def rowOf (t : Fin cfg0.N) (r : Fin 512) : Fin 16384 := ⟨512 * t.val + r.val, by have h : t.val < 32 := t.isLt; omega⟩

/-- The prompts and the samples as rows. -/
theorem V_prompts (s : Fin 32) (r : Fin 256) (j : Fin 1024) :
    (V m c main_v0 : Vec Ideal S8192x1024 .f32) (ix2 ⟨s.val * 256 + r.val, by omega⟩ j) = aP m c (ix3 s r j) := by
  unfold_abbrev_sides
  after_reads_at
theorem V_samples (s : Fin 4) (r : Fin 2048) (j : Fin 1024) :
    (V m c main_v1 : Vec Ideal S8192x1024 .f32) (ix2 ⟨s.val * 2048 + r.val, by omega⟩ j) = aS m c (ix3 s r j) := by
  unfold_abbrev_sides
  after_reads_at

/-- The blocks a tile is given: its rows of the prompts, -/
theorem blk0 (t : Fin cfg0.N) (ht : t.val < 16) (r : Fin 512) (j : Fin 1024) :
    (iblk m c 0 t : Vec Ideal S512x1024 .f32) (ix2 r j)
      = aP m c (ix3 ⟨(512 * t.val + r.val) / 256, by omega⟩ ⟨(512 * t.val + r.val) % 256, by omega⟩ j) := by
  obtain ⟨⟨e0, e1⟩, _⟩ := idx t
  rw [← V_prompts]
  show V m c main_v0 (((cfg0.win 0).blk t).view.emb (ix2 r j)) = _
  congr 1
  funext a; apply Fin.ext
  match a with
  | ⟨0, _⟩ => show win0_0.index t 0 * 512 + 1 * r.val = (512 * t.val + r.val) / 256 * 256 + (512 * t.val + r.val) % 256; omega
  | ⟨1, _⟩ => show win0_0.index t 1 * 1024 + 1 * j.val = j.val; omega

/-- its rows of the samples, -/
theorem blk1 (t : Fin cfg0.N) (ht : 16 ≤ t.val) (r : Fin 512) (j : Fin 1024) :
    (iblk m c 1 t : Vec Ideal S512x1024 .f32) (ix2 r j)
      = aS m c (ix3 ⟨(512 * t.val + r.val - 8192) / 2048, by have h : t.val < 32 := t.isLt; omega⟩ ⟨(512 * t.val + r.val - 8192) % 2048, by omega⟩ j) := by
  obtain ⟨_, ⟨e0, e1⟩, _⟩ := idx t
  rw [← V_samples]
  show V m c main_v1 (((cfg0.win 1).blk t).view.emb (ix2 r j)) = _
  congr 1
  funext a; apply Fin.ext
  match a with
  | ⟨0, _⟩ => show win0_1.index t 0 * 512 + 1 * r.val = (512 * t.val + r.val - 8192) / 2048 * 2048 + (512 * t.val + r.val - 8192) % 2048; omega
  | ⟨1, _⟩ => show win0_1.index t 1 * 1024 + 1 * j.val = j.val; omega

/-- and its places' embeddings. -/
theorem blk2 (t : Fin cfg0.N) (ht : 16 ≤ t.val) (r : Fin 512) (j : Fin 1024) :
    (iblk m c 2 t : Vec Ideal S512x1024 .f32) (ix2 r j) = aE m c (ix2 ⟨(512 * t.val + r.val - 8192) % 2048, by omega⟩ j) := by
  obtain ⟨_, _, ⟨e0, e1⟩, _⟩ := idx t
  show V m c main_arg2 (((cfg0.win 2).blk t).view.emb (ix2 r j)) = m ((c : Thread nD τ).loc main_arg2) _
  rw [V_main_arg2]
  congr 1
  funext a; apply Fin.ext
  match a with
  | ⟨0, _⟩ => show win0_2.index t 0 * 512 + 1 * r.val = (512 * t.val + r.val - 8192) % 2048; omega
  | ⟨1, _⟩ => show win0_2.index t 1 * 1024 + 1 * j.val = j.val; omega

/-- What a tile writes back. -/
theorem written (t : Fin cfg0.N) (r : Fin 512) (j : Fin 1024) :
    ((dats m 0 c).flushed 3 t : Vec Ideal S512x1024 .f32) (ix2 r j)
      = tokenAt (fun s r j => aP m c (ix3 s r j)) (fun s r j => aS m c (ix3 s r j)) (fun r j => aE m c (ix2 r j)) (rowOf t r) j := by
  unfold tokenAt
  by_cases ht : t.val < 16
  · rw [Value.flushed3_A m c t ht (by omega), outA_eq, dif_pos (by show 512 * t.val + r.val < 8192; omega)]
    show k0_pay1 _ (ix2 r j) = _
    rw [tileA, blk0 m c t ht]
    rfl
  · rw [Value.flushed3_B m c t ht (by omega), outB_eq, dif_neg (by show ¬ 512 * t.val + r.val < 8192; omega)]
    show k0_pay2 _ _ (ix2 r j) = _
    rw [tileB, blk1 m c t (by omega), blk2 m c t (by omega)]
    rfl

/-- The result array. -/
theorem array (a : Fin 16384) (j : Fin 1024) :
    ((dats m 0 c).arrAt 3 cfg0.N : Vec Ideal S16384x1024 .f32) (ix2 a j)
      = tokenAt (fun s r j => aP m c (ix3 s r j)) (fun s r j => aS m c (ix3 s r j)) (fun r j => aE m c (ix2 r j)) a j := by
  obtain ⟨t, r, rfl⟩ : ∃ (t : Fin cfg0.N) (r : Fin 512), a = rowOf t r :=
    ⟨⟨a.val / 512, by show _ < 32; omega⟩, ⟨a.val % 512, by omega⟩, Fin.ext (by show a.val = 512 * (a.val / 512) + a.val % 512; omega)⟩
  have hb := congrFun (Value.blocks3 m c t (flush0_3 _)) (ix2 r j)
  have hemb : ((cfg0.win 3).blk t).view.emb (ix2 r j) = (ix2 (rowOf t r) j : S16384x1024.Idx) := by
    obtain ⟨_, _, _, ⟨e0, e1⟩⟩ := idx t
    funext a; apply Fin.ext
    match a with
    | ⟨0, _⟩ => show win0_3.index t 0 * 512 + 1 * r.val = 512 * t.val + r.val; omega
    | ⟨1, _⟩ => show win0_3.index t 1 * 1024 + 1 * j.val = j.val; omega
  rw [View.read_apply, hemb] at hb
  exact hb.trans (written m c t r j)

end Cert.Proof.EmbedKernel

end
-- ==== Proof.EmbedRef.lean ====
/- What the plain embedding holds: `tokenAt` of the arguments at every row and column. -/
module

public import proofs.«01_k».proof.Proof.Embedding
public import proofs.«01_k».proof.Proof.Gen.EmbedRefIdeal.Read

@[expose] public section

set_option maxRecDepth 16384

noncomputable section

namespace Cert.Proof.EmbedRef

open Cert.EmbedRefIdeal Cert.EmbedRefIdeal.Read Idealize.ShloMosaic Cert.Proof.Embedding

variable (x0 : FVec Ideal S32x256x1024 .f32) (x1 : FVec Ideal S4x2048x1024 .f32) (x2 : FVec Ideal S2048x1024 .f32)

theorem prompts (s : Fin 32) (r : Fin 256) (j : Fin 1024) :
    val_main_v3 (F := Ideal) x0 (ix2 ⟨s.val * 256 + r.val, by omega⟩ j) = x0 (ix3 s r j) := by
  pointwise [val_main_v3]

theorem samples (s : Fin 4) (r : Fin 2048) (j : Fin 1024) :
    val_main_v4 (F := Ideal) x1 x2 (ix2 ⟨s.val * 2048 + r.val, by omega⟩ j) = x1 (ix3 s r j) + x2 (ix2 r j) := by
  pointwise [val_main_v4, val_main_v2, val_main_v1, val_main_v0]

/-- The tokens' rows. -/
theorem array (a : Fin 16384) (j : Fin 1024) :
    val_main_v5 (F := Ideal) x0 x1 x2 (ix2 a j) = tokenAt (fun s r j => x0 (ix3 s r j)) (fun s r j => x1 (ix3 s r j)) (fun r j => x2 (ix2 r j)) a j := by
  have e : val_main_v5 (F := Ideal) x0 x1 x2 (ix2 a j)
      = if h : a.val < 8192 then val_main_v3 (F := Ideal) x0 (ix2 ⟨a.val, h⟩ j) else val_main_v4 (F := Ideal) x1 x2 (ix2 ⟨a.val - 8192, by omega⟩ j) := by
    unfold val_main_v5
    generalize val_main_v3 (F := Ideal) x0 = u
    generalize val_main_v4 (F := Ideal) x1 x2 = v
    by_cases h : a.val < 8192
    · rw [dif_pos h]; pointwise; exact dif_pos h
    · rw [dif_neg h]; pointwise; exact dif_neg h
  rw [e]
  unfold tokenAt
  by_cases h : a.val < 8192
  · rw [dif_pos h, dif_pos h]
    refine Eq.trans ?_ (prompts x0 ⟨a.val / 256, by omega⟩ ⟨a.val % 256, by omega⟩ j)
    refine congrArg (fun q => val_main_v3 (F := Ideal) x0 (ix2 q j)) ?_
    exact Fin.ext (by show a.val = a.val / 256 * 256 + a.val % 256; omega)
  · rw [dif_neg h, dif_neg h]
    refine Eq.trans ?_ (samples x1 x2 ⟨(a.val - 8192) / 2048, by omega⟩ ⟨(a.val - 8192) % 2048, by omega⟩ j)
    refine congrArg (fun q => val_main_v4 (F := Ideal) x1 x2 (ix2 q j)) ?_
    exact Fin.ext (by show a.val - 8192 = (a.val - 8192) / 2048 * 2048 + (a.val - 8192) % 2048; omega)

end Cert.Proof.EmbedRef

end
-- ==== Proof.EmbedEquation.lean ====
/- The equation of the tokens' embedding: the call and the plain reference end with the same array. -/
module

public import proofs.«01_k».proof.Defs
public import proofs.«01_k».proof.Proof.EmbedKernel
public import proofs.«01_k».proof.Proof.EmbedRef
public import proofs.«01_k».proof.Proof.Gen.Embed.Frame
public import Idealize.ShloMosaic.Lib.Quiescent

@[expose] public section

set_option maxRecDepth 16384

noncomputable section

namespace Cert.Proof.EmbedEquation

open Idealize.ShloMosaic Idealize.ShloMosaic.TcCoe Idealize.SL.Sem
open Cert.EmbedRefIdeal.Read

variable (m : (ℓ : Loc Cert.EmbedIdeal.nD Cert.EmbedIdeal.τ Cert.EmbedIdeal.sig) → Buf (Elt Ideal) ℓ) (c : Dev Cert.EmbedIdeal.nD)

/-- The reference's result of the call's arguments. -/
abbrev plain : Buf (Elt Ideal) ((c.tc : Thread Cert.EmbedIdeal.nD Cert.EmbedIdeal.τ).loc Cert.EmbedIdeal.main_v2) :=
  val_main_v5 (F := Ideal) (m (c.tc.loc Cert.EmbedIdeal.main_arg0)) (m (c.tc.loc Cert.EmbedIdeal.main_arg1)) (m (c.tc.loc Cert.EmbedIdeal.main_arg2))

/-- The call's array is the reference's. -/
theorem array_eq : (Cert.EmbedIdeal.Gen.dats m 0 c).arrAt 3 Cert.EmbedIdeal.cfg0.N = plain m c := by
  funext i
  obtain ⟨a, j, rfl⟩ : ∃ a j, i = ix2 a j := ⟨i 0, i 1, eq_ix2 i⟩
  exact (Cert.Proof.EmbedKernel.array m c a j).trans (Cert.Proof.EmbedRef.array _ _ _ a j).symm

/-- The frames of the three programs: each runs, and leaves its arguments and every semaphore as they were. -/
theorem frame_k : Cert.quiescent_Embed := fun m ρ _ => Cert.Embed.Gen.frame m ρ
theorem frame_ki : Cert.quiescent_EmbedIdeal := fun m ρ _ => Cert.EmbedIdeal.Gen.frame m ρ
theorem frame_ri : Cert.quiescent_EmbedRefIdeal := fun m ρ _ =>
  (θ_run Cert.EmbedRefIdeal.defs _ _).mono (fun r h => ⟨fun c => (h c).2, Idealize.ShloMosaic.sem_eq_zero_of_no_sems (by decide) r.2⟩)
    (Cert.EmbedRefIdeal.Value.run (F := Ideal) m ρ)

/-- From memories that agree on the arguments both run to the same array. -/
theorem algebraic : Cert.algebraic_EmbedIdeal_EmbedRefIdeal := by
  intro m ρ m' ρ' _ hag
  refine ⟨fun c => plain m c, ?_, ?_⟩
  · exact (θ_run Cert.EmbedIdeal.defs _ _).mono (fun r h c => ⟨(h c).1.trans (array_eq m c), (h c).2⟩) (Cert.EmbedIdeal.Value.run_blocks (F := Ideal) m ρ)
  · refine (θ_run Cert.EmbedRefIdeal.defs _ _).mono (fun r h c => ?_) (Cert.EmbedRefIdeal.Value.run (F := Ideal) m' ρ')
    obtain ⟨a0, a1, a2⟩ := hag c
    refine ⟨(h c).1.trans ((val_main_v5_eq _ _ _).trans ?_), (h c).2⟩
    repeat rw [StableHlo.launchContents_devRef]
    simp only [a0, a1, a2]

end Cert.Proof.EmbedEquation

end
-- ==== Proof.Modulating.lean ====
/- The modulation at an entry: the layer's product of the conditioning's rows, each value weighted by its logistic, plus the
   layer's bias. The product in three parts is the plain product where the values are real. -/
module

public import Idealize.ShloMosaic.Lib.Pointwise

@[expose] public section

noncomputable section

namespace Cert.Proof.Modulating

open Idealize.ShloMosaic

/-- A value times its logistic. -/
def silu (x : EReal) : EReal := x * Ideal.div 1 (1 + Ideal.exp (-x))

/-- Layer `l` at row `r` and column `j`. -/
def modAt (cc : Fin 8 → Fin 1024 → EReal) (w : Fin 4 → Fin 1024 → Fin 6144 → EReal) (b : Fin 4 → Fin 6144 → EReal)
    (l : Fin 4) (r : Fin 8) (j : Fin 6144) : EReal := (∑ k : Fin 1024, silu (cc r k) * w l k j) + b l j

/-- A real value times its logistic is real. -/
theorem silu_real {x : EReal} (h : ∃ u : ℝ, x = (u : EReal)) : ∃ u : ℝ, silu x = (u : EReal) := by
  obtain ⟨u, rfl⟩ := h
  have he : Ideal.exp (-(u : EReal)) = ((Real.exp (-u) : ℝ) : EReal) := by rw [← EReal.coe_neg]; rfl
  have hd : (1 : EReal) + ((Real.exp (-u) : ℝ) : EReal) = ((1 + Real.exp (-u) : ℝ) : EReal) := by rw [EReal.coe_add, EReal.coe_one]
  refine ⟨u * (1 / (1 + Real.exp (-u))), ?_⟩
  unfold silu
  rw [he, hd, Ideal.div_coe (by positivity), one_mul, EReal.coe_mul]

/-- A real number less itself is zero. -/
theorem sub_self_of_real {x : EReal} (h : ∃ r : ℝ, x = (r : EReal)) : x - x = 0 := by
  obtain ⟨r, rfl⟩ := h
  rw [← EReal.coe_sub, sub_self, EReal.coe_zero]

/-- The product in three parts of real values is the plain product. -/
theorem threeparts {n : ℕ} (x w : Fin n → EReal) (hx : ∀ k, ∃ u : ℝ, x k = (u : EReal)) (hw : ∀ k, ∃ u : ℝ, w k = (u : EReal)) :
    (∑ k, x k * w k) + (∑ k, (x k - x k) * w k) + (∑ k, x k * (w k - w k)) = ∑ k, x k * w k := by
  simp only [fun k => sub_self_of_real (hx k), fun k => sub_self_of_real (hw k), zero_mul, mul_zero, Finset.sum_const_zero, add_zero]

end Cert.Proof.Modulating

end
-- ==== Proof.ModKernel.lean ====
/- What the modulation's call leaves in its result array: `modAt` of the arguments, where the conditioning and the weights
   are real. -/
module

public import proofs.«01_k».proof.Proof.Modulating
public import proofs.«01_k».proof.Proof.Gen.ModIdeal.Value
public import Idealize.ShloMosaic.Lib.StableHlo.ReadAt

@[expose] public section

set_option maxRecDepth 16384

noncomputable section

namespace Cert.Proof.ModKernel

open Cert.ModIdeal Cert.ModIdeal.Gen Idealize.ShloMosaic Idealize.ShloMosaic.TcCoe Cert.Proof.Modulating

/-- What one tile computes, its product in three parts. -/
theorem parts (x0 : Vec Ideal S8x1024 .f32) (x1 : Vec Ideal S1x1024x1024 .f32) (x2 : Vec Ideal S1x1x1024 .f32) (r : Fin 8) (j : Fin 1024) :
    k0_pay1 x0 x1 x2 (ix3 0 r j)
      = ((∑ k : Fin 1024, silu (x0 (ix2 r k)) * x1 (ix3 0 k j)) + (∑ k : Fin 1024, (silu (x0 (ix2 r k)) - silu (x0 (ix2 r k))) * x1 (ix3 0 k j))
          + (∑ k : Fin 1024, silu (x0 (ix2 r k)) * (x1 (ix3 0 k j) - x1 (ix3 0 k j)))) + x2 (ix3 0 0 j) := by
  unfold silu
  simp only [← zero_sub]
  pointwise [k0_pay1]

/-- What one tile computes of real values. -/
theorem tile (x0 : Vec Ideal S8x1024 .f32) (x1 : Vec Ideal S1x1024x1024 .f32) (x2 : Vec Ideal S1x1x1024 .f32) (r : Fin 8) (j : Fin 1024)
    (h0 : ∀ k, ∃ u : ℝ, x0 (ix2 r k) = (u : EReal)) (h1 : ∀ k, ∃ u : ℝ, x1 (ix3 0 k j) = (u : EReal)) :
    k0_pay1 x0 x1 x2 (ix3 0 r j) = (∑ k : Fin 1024, silu (x0 (ix2 r k)) * x1 (ix3 0 k j)) + x2 (ix3 0 0 j) := by
  rw [parts, threeparts (fun k => silu (x0 (ix2 r k))) (fun k => x1 (ix3 0 k j)) (fun k => silu_real (h0 k)) h1]

theorem hz2 : (![0, 0] : Fin 2 → ℕ) = fun _ => 0 := by funext a; fin_cases a <;> rfl
theorem hz3 : (![0, 0, 0] : Fin 3 → ℕ) = fun _ => 0 := by funext a; fin_cases a <;> rfl

/-- The tile's store is the whole of its block. -/
theorem stored (x0 : Vec Ideal S8x1024 .f32) (x1 : Vec Ideal S1x1024x1024 .f32) (x2 : Vec Ideal S1x1x1024 .f32) : out0_3 x0 x1 x2 = k0_pay1 x0 x1 x2 := by
  unfold out0_3 r0_0 r0_1 r0_2 r0_3
  rw [View.canon_unit_zero hz3, View.ld_unit_zero hz2, View.ld_unit_zero hz3, View.ld_unit_zero hz3]

theorem idx : ∀ t : Fin grid0.N,
    (win0_0.index t 0 = 0 ∧ win0_0.index t 1 = 0) ∧ (win0_1.index t 0 = t.val / 6 ∧ win0_1.index t 1 = 0 ∧ win0_1.index t 2 = t.val % 6)
    ∧ (win0_2.index t 0 = t.val / 6 ∧ win0_2.index t 1 = 0 ∧ win0_2.index t 2 = t.val % 6)
    ∧ (win0_3.index t 0 = t.val / 6 ∧ win0_3.index t 1 = 0 ∧ win0_3.index t 2 = t.val % 6) := by decide +kernel

variable (m : (ℓ : Loc nD τ sig) → Buf (Elt Ideal) ℓ) (c : Dev nD)

/-- The arguments: the conditioning's rows, the weights and the biases. -/
abbrev aC : FVec Ideal S8x1024 .f32 := m ((c : Thread nD τ).loc main_arg0)
abbrev aW : FVec Ideal S4x1024x6144 .f32 := m ((c : Thread nD τ).loc main_arg1)
abbrev aB : FVec Ideal S4x6144 .f32 := m ((c : Thread nD τ).loc main_arg2)

/-- The layer of tile `t`, and its column `j` among the layer's. -/
def layerOf (t : Fin cfg0.N) : Fin 4 := ⟨t.val / 6, by have h : t.val < 24 := t.isLt; omega⟩
def colOf (t : Fin cfg0.N) (j : Fin 1024) : Fin 6144 := ⟨t.val % 6 * 1024 + j.val, by omega⟩

/-- The blocks a tile is given: the rows, -/
theorem blk0 (t : Fin cfg0.N) (r : Fin 8) (k : Fin 1024) : (iblk m c 0 t : Vec Ideal S8x1024 .f32) (ix2 r k) = aC m c (ix2 r k) := by
  obtain ⟨⟨e0, e1⟩, _⟩ := idx t
  show V m c main_arg0 (((cfg0.win 0).blk t).view.emb (ix2 r k)) = m ((c : Thread nD τ).loc main_arg0) (ix2 r k)
  rw [V_main_arg0]
  congr 1
  funext a; apply Fin.ext
  match a with
  | ⟨0, _⟩ => show win0_0.index t 0 * 8 + 1 * r.val = r.val; omega
  | ⟨1, _⟩ => show win0_0.index t 1 * 1024 + 1 * k.val = k.val; omega

/-- its columns of its layer's weights, -/
theorem blk1 (t : Fin cfg0.N) (k j : Fin 1024) : (iblk m c 1 t : Vec Ideal S1x1024x1024 .f32) (ix3 0 k j) = aW m c (ix3 (layerOf t) k (colOf t j)) := by
  obtain ⟨_, ⟨e0, e1, e2⟩, _⟩ := idx t
  show V m c main_arg1 (((cfg0.win 1).blk t).view.emb (ix3 0 k j)) = m ((c : Thread nD τ).loc main_arg1) (ix3 (layerOf t) k (colOf t j))
  rw [V_main_arg1]
  congr 1
  funext a; apply Fin.ext
  match a with
  | ⟨0, _⟩ => show win0_1.index t 0 * 1 + 1 * 0 = t.val / 6; omega
  | ⟨1, _⟩ => show win0_1.index t 1 * 1024 + 1 * k.val = k.val; omega
  | ⟨2, _⟩ => show win0_1.index t 2 * 1024 + 1 * j.val = t.val % 6 * 1024 + j.val; omega

theorem V_bias (l : Fin 4) (j : Fin 6144) : (V m c main_v0 : Vec Ideal S4x1x6144 .f32) (ix3 l 0 j) = aB m c (ix2 l j) := by
  unfold_abbrev_sides
  after_reads_at

/-- and of its bias. -/
theorem blk2 (t : Fin cfg0.N) (j : Fin 1024) : (iblk m c 2 t : Vec Ideal S1x1x1024 .f32) (ix3 0 0 j) = aB m c (ix2 (layerOf t) (colOf t j)) := by
  obtain ⟨_, _, ⟨e0, e1, e2⟩, _⟩ := idx t
  have he : ((cfg0.win 2).blk t).view.emb (ix3 0 0 j) = (ix3 (layerOf t) 0 (colOf t j) : S4x1x6144.Idx) := by
    funext a; apply Fin.ext
    match a with
    | ⟨0, _⟩ => show win0_2.index t 0 * 1 + 1 * 0 = t.val / 6; omega
    | ⟨1, _⟩ => show win0_2.index t 1 * 1 + 1 * 0 = 0; omega
    | ⟨2, _⟩ => show win0_2.index t 2 * 1024 + 1 * j.val = t.val % 6 * 1024 + j.val; omega
  show V m c main_v0 (((cfg0.win 2).blk t).view.emb (ix3 0 0 j)) = _
  rw [he]
  exact V_bias m c _ _

/-- The result array. -/
theorem array (hC : ∀ r k, ∃ u : ℝ, aC m c (ix2 r k) = (u : EReal)) (hW : ∀ l k j, ∃ u : ℝ, aW m c (ix3 l k j) = (u : EReal))
    (l : Fin 4) (r : Fin 8) (j : Fin 6144) :
    ((dats m 0 c).arrAt 3 cfg0.N : Vec Ideal S4x8x6144 .f32) (ix3 l r j)
      = modAt (fun r k => aC m c (ix2 r k)) (fun l k j => aW m c (ix3 l k j)) (fun l j => aB m c (ix2 l j)) l r j := by
  obtain ⟨t, i, rfl, rfl⟩ : ∃ (t : Fin cfg0.N) (i : Fin 1024), l = layerOf t ∧ j = colOf t i :=
    ⟨⟨6 * l.val + j.val / 1024, by show _ < 24; omega⟩, ⟨j.val % 1024, by omega⟩,
      Fin.ext (by show l.val = (6 * l.val + j.val / 1024) / 6; omega),
      Fin.ext (by show j.val = (6 * l.val + j.val / 1024) % 6 * 1024 + j.val % 1024; omega)⟩
  have hb := congrFun (Value.blocks3 m c t (flush0_3 _)) (ix3 0 r i)
  have hemb : ((cfg0.win 3).blk t).view.emb (ix3 0 r i) = (ix3 (layerOf t) r (colOf t i) : S4x8x6144.Idx) := by
    obtain ⟨_, _, _, ⟨e0, e1, e2⟩⟩ := idx t
    funext a; apply Fin.ext
    match a with
    | ⟨0, _⟩ => show win0_3.index t 0 * 1 + 1 * 0 = t.val / 6; omega
    | ⟨1, _⟩ => show win0_3.index t 1 * 8 + 1 * r.val = r.val; omega
    | ⟨2, _⟩ => show win0_3.index t 2 * 1024 + 1 * i.val = t.val % 6 * 1024 + i.val; omega
  rw [Value.flushed3, stored, View.read_apply, hemb] at hb
  refine hb.trans ?_
  show k0_pay1 _ _ _ (ix3 0 r i) = _
  rw [tile _ _ _ _ _ (fun k => by rw [blk0]; exact hC r k) (fun k => by rw [blk1]; exact hW _ k _)]
  simp only [blk0, blk1, blk2]
  rfl

end Cert.Proof.ModKernel

end
-- ==== Proof.ModRef.lean ====
/- What the plain modulation holds: `modAt` of the arguments at every layer, row and column. -/
module

public import proofs.«01_k».proof.Proof.Modulating
public import proofs.«01_k».proof.Proof.Gen.ModRefIdeal.Read

@[expose] public section

set_option maxRecDepth 16384

noncomputable section

namespace Cert.Proof.ModRef

open Cert.ModRefIdeal Cert.ModRefIdeal.Facts₀ Cert.ModRefIdeal.Read Idealize.ShloMosaic Cert.Proof.Modulating

variable (x0 : FVec Ideal S8x1024 .f32) (x1 : FVec Ideal S4x1024x6144 .f32) (x2 : FVec Ideal S4x6144 .f32)

/-- Layer 0: the rows, -/
theorem rows0 (r : Fin 8) (k : Fin 1024) : val_main_v0 (F := Ideal) x0 (ix2 r k) = silu (x0 (ix2 r k)) := by
  unfold silu
  pointwise [val_main_v0, val_main_call0_v5, val_main_call0_v4, val_main_call0_cst_0, val_main_call0_v3, val_main_call0_v2, val_main_call0_cst, val_main_call0_v1, val_main_call0_v0]

/-- its result. -/
theorem layer0 (r : Fin 8) (j : Fin 6144) :
    val_main_v36 (F := Ideal) x0 x1 x2 (ix3 0 r j) = modAt (fun r k => x0 (ix2 r k)) (fun l k j => x1 (ix3 l k j)) (fun l j => x2 (ix2 l j)) 0 r j := by
  unfold modAt
  simp only [← rows0]
  generalize hp : val_main_v0 (F := Ideal) x0 = p
  unfold val_main_v36 val_main_v8 val_main_v3
  rw [hp]
  pointwise [val_main_v2, val_main_v1, val_main_v7, val_main_v6, val_main_v5, val_main_v4]

/-- Layer 1: the rows, -/
theorem rows1 (r : Fin 8) (k : Fin 1024) : val_main_v9 (F := Ideal) x0 (ix2 r k) = silu (x0 (ix2 r k)) := by
  unfold silu
  pointwise [val_main_v9, val_main_call1_v5, val_main_call1_v4, val_main_call1_cst_0, val_main_call1_v3, val_main_call1_v2, val_main_call1_cst, val_main_call1_v1, val_main_call1_v0]

/-- its result. -/
theorem layer1 (r : Fin 8) (j : Fin 6144) :
    val_main_v37 (F := Ideal) x0 x1 x2 (ix3 0 r j) = modAt (fun r k => x0 (ix2 r k)) (fun l k j => x1 (ix3 l k j)) (fun l j => x2 (ix2 l j)) 1 r j := by
  unfold modAt
  simp only [← rows1]
  generalize hp : val_main_v9 (F := Ideal) x0 = p
  unfold val_main_v37 val_main_v17 val_main_v12
  rw [hp]
  pointwise [val_main_v11, val_main_v10, val_main_v16, val_main_v15, val_main_v14, val_main_v13]

/-- Layer 2: the rows, -/
theorem rows2 (r : Fin 8) (k : Fin 1024) : val_main_v18 (F := Ideal) x0 (ix2 r k) = silu (x0 (ix2 r k)) := by
  unfold silu
  pointwise [val_main_v18, val_main_call2_v5, val_main_call2_v4, val_main_call2_cst_0, val_main_call2_v3, val_main_call2_v2, val_main_call2_cst, val_main_call2_v1, val_main_call2_v0]

/-- its result. -/
theorem layer2 (r : Fin 8) (j : Fin 6144) :
    val_main_v38 (F := Ideal) x0 x1 x2 (ix3 0 r j) = modAt (fun r k => x0 (ix2 r k)) (fun l k j => x1 (ix3 l k j)) (fun l j => x2 (ix2 l j)) 2 r j := by
  unfold modAt
  simp only [← rows2]
  generalize hp : val_main_v18 (F := Ideal) x0 = p
  unfold val_main_v38 val_main_v26 val_main_v21
  rw [hp]
  pointwise [val_main_v20, val_main_v19, val_main_v25, val_main_v24, val_main_v23, val_main_v22]

/-- Layer 3: the rows, -/
theorem rows3 (r : Fin 8) (k : Fin 1024) : val_main_v27 (F := Ideal) x0 (ix2 r k) = silu (x0 (ix2 r k)) := by
  unfold silu
  pointwise [val_main_v27, val_main_call3_v5, val_main_call3_v4, val_main_call3_cst_0, val_main_call3_v3, val_main_call3_v2, val_main_call3_cst, val_main_call3_v1, val_main_call3_v0]

/-- its result. -/
theorem layer3 (r : Fin 8) (j : Fin 6144) :
    val_main_v39 (F := Ideal) x0 x1 x2 (ix3 0 r j) = modAt (fun r k => x0 (ix2 r k)) (fun l k j => x1 (ix3 l k j)) (fun l j => x2 (ix2 l j)) 3 r j := by
  unfold modAt
  simp only [← rows3]
  generalize hp : val_main_v27 (F := Ideal) x0 = p
  unfold val_main_v39 val_main_v35 val_main_v30
  rw [hp]
  pointwise [val_main_v29, val_main_v28, val_main_v34, val_main_v33, val_main_v32, val_main_v31]

/-- A layer of the four. -/
theorem pick0 (p0 p1 p2 p3 : FVec Ideal S1x8x6144 .f32) (r : Fin 8) (j : Fin 6144) :
    (concatenate S4x8x6144 0 [⟨S1x8x6144, p0⟩, ⟨S1x8x6144, p1⟩, ⟨S1x8x6144, p2⟩, ⟨S1x8x6144, p3⟩] concatenates_S1x8x6144_S1x8x6144_S1x8x6144_S1x8x6144_S4x8x6144_d0 : FVec Ideal S4x8x6144 .f32) (ix3 0 r j)
      = p0 (ix3 0 r j) := by
  pointwise
theorem pick1 (p0 p1 p2 p3 : FVec Ideal S1x8x6144 .f32) (r : Fin 8) (j : Fin 6144) :
    (concatenate S4x8x6144 0 [⟨S1x8x6144, p0⟩, ⟨S1x8x6144, p1⟩, ⟨S1x8x6144, p2⟩, ⟨S1x8x6144, p3⟩] concatenates_S1x8x6144_S1x8x6144_S1x8x6144_S1x8x6144_S4x8x6144_d0 : FVec Ideal S4x8x6144 .f32) (ix3 1 r j)
      = p1 (ix3 0 r j) := by
  pointwise
theorem pick2 (p0 p1 p2 p3 : FVec Ideal S1x8x6144 .f32) (r : Fin 8) (j : Fin 6144) :
    (concatenate S4x8x6144 0 [⟨S1x8x6144, p0⟩, ⟨S1x8x6144, p1⟩, ⟨S1x8x6144, p2⟩, ⟨S1x8x6144, p3⟩] concatenates_S1x8x6144_S1x8x6144_S1x8x6144_S1x8x6144_S4x8x6144_d0 : FVec Ideal S4x8x6144 .f32) (ix3 2 r j)
      = p2 (ix3 0 r j) := by
  pointwise
theorem pick3 (p0 p1 p2 p3 : FVec Ideal S1x8x6144 .f32) (r : Fin 8) (j : Fin 6144) :
    (concatenate S4x8x6144 0 [⟨S1x8x6144, p0⟩, ⟨S1x8x6144, p1⟩, ⟨S1x8x6144, p2⟩, ⟨S1x8x6144, p3⟩] concatenates_S1x8x6144_S1x8x6144_S1x8x6144_S1x8x6144_S4x8x6144_d0 : FVec Ideal S4x8x6144 .f32) (ix3 3 r j)
      = p3 (ix3 0 r j) := by
  pointwise

/-- The layers' results. -/
theorem array (l : Fin 4) (r : Fin 8) (j : Fin 6144) :
    val_main_v40 (F := Ideal) x0 x1 x2 (ix3 l r j) = modAt (fun r k => x0 (ix2 r k)) (fun l k j => x1 (ix3 l k j)) (fun l j => x2 (ix2 l j)) l r j := by
  fin_cases l
  · refine Eq.trans ?_ (layer0 x0 x1 x2 r j); exact pick0 _ _ _ _ r j
  · refine Eq.trans ?_ (layer1 x0 x1 x2 r j); exact pick1 _ _ _ _ r j
  · refine Eq.trans ?_ (layer2 x0 x1 x2 r j); exact pick2 _ _ _ _ r j
  · refine Eq.trans ?_ (layer3 x0 x1 x2 r j); exact pick3 _ _ _ _ r j

end Cert.Proof.ModRef

end
-- ==== Proof.ModEquation.lean ====
/- The equation of the layers' modulation: the call and the plain reference end with the same array. -/
module

public import proofs.«01_k».proof.Defs
public import proofs.«01_k».proof.Proof.ModKernel
public import proofs.«01_k».proof.Proof.ModRef
public import proofs.«01_k».proof.Proof.Finite
public import proofs.«01_k».proof.Proof.Gen.Mod.Frame
public import Idealize.ShloMosaic.Lib.Quiescent

@[expose] public section

set_option maxRecDepth 16384

noncomputable section

namespace Cert.Proof.ModEquation

open Idealize.ShloMosaic Idealize.ShloMosaic.TcCoe Idealize.SL.Sem
open Cert.ModRefIdeal.Read

variable (m : (ℓ : Loc Cert.ModIdeal.nD Cert.ModIdeal.τ Cert.ModIdeal.sig) → Buf (Elt Ideal) ℓ) (c : Dev Cert.ModIdeal.nD)

/-- The reference's result of the call's arguments. -/
abbrev plain : Buf (Elt Ideal) ((c.tc : Thread Cert.ModIdeal.nD Cert.ModIdeal.τ).loc Cert.ModIdeal.main_v1) :=
  val_main_v40 (F := Ideal) (m (c.tc.loc Cert.ModIdeal.main_arg0)) (m (c.tc.loc Cert.ModIdeal.main_arg1)) (m (c.tc.loc Cert.ModIdeal.main_arg2))

/-- The precondition's shapes fit. -/
instance facts : Cert.Pre_finite_modulation.Facts where
  bcast_S_S8x1024 := by decide
  reducesTo_S8x1024_S_d0_1 := by decide
  h_S_ := by decide
  bcast_S_S4x1024x6144 := by decide
  reducesTo_S4x1024x6144_S_d0_1_2 := by decide

/-- What the precondition says: the conditioning and the weights are real numbers. -/
theorem real (x0 : FVec Ideal Cert.Pre_finite_modulation.S8x1024 .f32) (x1 : FVec Ideal Cert.Pre_finite_modulation.S4x1024x6144 .f32)
    (x2 : FVec Ideal Cert.Pre_finite_modulation.S4x6144 .f32) (e : Cert.Pre_finite_modulation.fn (F := Ideal) x0 x1 x2 = fun _ => 1#1) :
    (∀ r k, ∃ u : ℝ, x0 (ix2 r k) = (u : EReal)) ∧ ∀ l k j, ∃ u : ℝ, x1 (ix3 l k j) = (u : EReal) := by
  have e0 := congrFun e ix0
  dsimp only [Cert.Pre_finite_modulation.fn] at e0
  obtain ⟨h0, h1⟩ := IntOp.andi_eq_one.1 e0
  exact ⟨fun r k => Cert.Proof.Finite.real_at _ _ (fun _ => rfl) _ _ _ h0 _, fun l k j => Cert.Proof.Finite.real_at _ _ (fun _ => rfl) _ _ _ h1 _⟩

/-- The call's array is the reference's. -/
theorem array_eq (hC : ∀ r k, ∃ u : ℝ, Cert.Proof.ModKernel.aC m c (ix2 r k) = (u : EReal))
    (hW : ∀ l k j, ∃ u : ℝ, Cert.Proof.ModKernel.aW m c (ix3 l k j) = (u : EReal)) : (Cert.ModIdeal.Gen.dats m 0 c).arrAt 3 Cert.ModIdeal.cfg0.N = plain m c := by
  funext i
  obtain ⟨l, r, j, rfl⟩ : ∃ l r j, i = ix3 l r j := ⟨i 0, i 1, i 2, eq_ix3 i⟩
  exact (Cert.Proof.ModKernel.array m c hC hW l r j).trans (Cert.Proof.ModRef.array _ _ _ l r j).symm

/-- The frames of the three programs: each runs, and leaves its arguments and every semaphore as they were. -/
theorem frame_k : Cert.quiescent_Mod := fun m ρ _ => Cert.Mod.Gen.frame m ρ
theorem frame_ki : Cert.quiescent_ModIdeal := fun m ρ _ => Cert.ModIdeal.Gen.frame m ρ
theorem frame_kip : Cert.quiescent_ModIdeal_pre_finite_modulation := fun m ρ _ => Cert.ModIdeal.Gen.frame m ρ
theorem frame_ri : Cert.quiescent_ModRefIdeal := fun m ρ _ =>
  (θ_run Cert.ModRefIdeal.defs _ _).mono (fun r h => ⟨fun c => (h c).2, Idealize.ShloMosaic.sem_eq_zero_of_no_sems (by decide) r.2⟩)
    (Cert.ModRefIdeal.Value.run (F := Ideal) m ρ)

theorem frame_rip : Cert.quiescent_ModRefIdeal_pre_finite_modulation := fun m ρ _ => frame_ri m ρ trivial

/-- From memories that agree on the arguments, whose conditioning and weights are real, both run to the same array. -/
theorem algebraic : Cert.algebraic_ModIdeal_ModRefIdeal_pre_finite_modulation := by
  intro m ρ m' ρ' hpre hag
  have hr (c : Dev Cert.ModIdeal.nD) := real _ _ _ (hpre c)
  refine ⟨fun c => plain m c, ?_, ?_⟩
  · exact (θ_run Cert.ModIdeal.defs _ _).mono (fun r h c => ⟨(h c).1.trans (array_eq m c (hr c).1 (hr c).2), (h c).2⟩) (Cert.ModIdeal.Value.run_blocks (F := Ideal) m ρ)
  · refine (θ_run Cert.ModRefIdeal.defs _ _).mono (fun r h c => ?_) (Cert.ModRefIdeal.Value.run (F := Ideal) m' ρ')
    obtain ⟨a0, a1, a2⟩ := hag c
    refine ⟨(h c).1.trans ((val_main_v40_eq _ _ _).trans ?_), (h c).2⟩
    repeat rw [StableHlo.launchContents_devRef]
    simp only [a0, a1, a2]

end Cert.Proof.ModEquation

end
-- ==== Proof.MixingLatent.lean ====
/- The samples' Fourier mixing at an entry: the transform over the columns and then over the rows, each a sum of products with a
   matrix of cosines and one of sines, whose real part is scaled. -/
module

public import Idealize.ShloMosaic.Lib.Pointwise

@[expose] public section

noncomputable section

namespace Cert.Proof.MixingLatent

open Idealize.ShloMosaic

/-- Row `k` and column `e` of a sequence's head. -/
def mixAt (z : Fin 2048 → Fin 128 → EReal) (cd sd : Fin 128 → Fin 128 → EReal) (cl sl : Fin 2048 → Fin 2048 → EReal) (k : Fin 2048) (e : Fin 128) : EReal :=
  ((∑ l : Fin 2048, cl k l * ∑ d : Fin 128, z l d * cd d e) - ∑ l : Fin 2048, sl k l * ∑ d : Fin 128, z l d * sd d e)
    * Ideal.ofBits .f32 0x3B000000#32

/-- The column of entry `e` of head `h`, among the result's. -/
def col (h : Fin 4) (e : Fin 128) : Fin 512 := ⟨h.val * 128 + e.val, by omega⟩

theorem col_cases (j : Fin 512) : ∃ h e, j = col h e :=
  ⟨⟨j.val / 128, by omega⟩, ⟨j.val % 128, by omega⟩, Fin.ext (by show j.val = j.val / 128 * 128 + j.val % 128; omega)⟩

/-- Row `r` of sequence `s`, among the result's. -/
def row (s : Fin 4) (r : Fin 2048) : Fin 8192 := ⟨s.val * 2048 + r.val, by omega⟩

theorem row_cases (a : Fin 8192) : ∃ s r, a = row s r :=
  ⟨⟨a.val / 2048, by omega⟩, ⟨a.val % 2048, by omega⟩, Fin.ext (by show a.val = a.val / 2048 * 2048 + a.val % 2048; omega)⟩

end Cert.Proof.MixingLatent

end
-- ==== Proof.FourierLatentKernel.lean ====
/- What the Fourier mixing of the samples leaves in its result array: `mixAt` of its rows and of the matrices it is given. -/
module

public import proofs.«01_k».proof.Proof.MixingLatent
public import proofs.«01_k».proof.Proof.Gen.FourierLatentIdeal.Value

@[expose] public section

set_option maxRecDepth 16384

noncomputable section

namespace Cert.Proof.FourierLatentKernel

open Cert.FourierLatentIdeal Cert.FourierLatentIdeal.Gen Idealize.ShloMosaic Idealize.ShloMosaic.TcCoe Cert.Proof.MixingLatent

theorem hz2 : (![0, 0] : Fin 2 → ℕ) = fun _ => 0 := by funext a; fin_cases a <;> rfl

section
variable {F : FTy → Type} [FloatOps F]

/-- A head's columns of a block. -/
abbrev head0 (x : Vec F S2048x512 .f32) : Vec F S2048x128 .f32 := View.ld x (Rect.unit (s := S2048x512) ![0, 0] S2048x128.size inb_S2048x512_S2048x128_0_0)
abbrev head1 (x : Vec F S2048x512 .f32) : Vec F S2048x128 .f32 := View.ld x (Rect.unit (s := S2048x512) ![0, 128] S2048x128.size inb_S2048x512_S2048x128_0_128)
abbrev head2 (x : Vec F S2048x512 .f32) : Vec F S2048x128 .f32 := View.ld x (Rect.unit (s := S2048x512) ![0, 256] S2048x128.size inb_S2048x512_S2048x128_0_256)
abbrev head3 (x : Vec F S2048x512 .f32) : Vec F S2048x128 .f32 := View.ld x (Rect.unit (s := S2048x512) ![0, 384] S2048x128.size inb_S2048x512_S2048x128_0_384)

/-- The four heads' stores into a buffer. -/
abbrev stores (w0 w1 w2 w3 : Vec F S2048x128 .bf16) : List (View.Piece (Elt F) S2048x512 .bf16) :=
  [⟨Rect.unit (s := S2048x512) ![0, 384] S2048x128.size inb_S2048x512_S2048x128_0_384, w3⟩,
   ⟨Rect.unit (s := S2048x512) ![0, 256] S2048x128.size inb_S2048x512_S2048x128_0_256, w2⟩,
   ⟨Rect.unit (s := S2048x512) ![0, 128] S2048x128.size inb_S2048x512_S2048x128_0_128, w1⟩,
   ⟨Rect.unit (s := S2048x512) ![0, 0] S2048x128.size inb_S2048x512_S2048x128_0_0, w0⟩]

theorem cover (w0 w1 w2 w3 : Vec F S2048x128 .bf16) (y : S2048x512.Idx) : ∃ pc ∈ stores w0 w1 w2 w3, y ∈ pc.1.set :=
  View.cover_of_tiledL (stores w0 w1 w2 w3) S2048x128.size (by sl_kernel_rfl) y

/-- The buffer of the products with the cosines, and that with the sines. -/
abbrev bufP (x : Vec F S2048x512 .f32) (w : Vec F S128x128 .bf16) : Vec F S2048x512 .bf16 :=
  View.canon (stores (k0_pay10 w (head0 x)) (k0_pay13 w (head1 x)) (k0_pay1 (k0_pay16 w (head2 x))) (k0_pay4 (k0_pay7 w) (head3 x)))
abbrev bufQ (x : Vec F S2048x512 .f32) (w : Vec F S128x128 .bf16) : Vec F S2048x512 .bf16 :=
  View.canon (stores (k0_pay11 w (head0 x)) (k0_pay14 w (head1 x)) (k0_pay2 (k0_pay8 w) (k0_pay15 (head2 x))) (k0_pay5 (k0_pay8 w) (head3 x)))

/-- A whole buffer read back is what its stores left. -/
theorem readback (v : Memref sig .tc .vmem S2048x512 .bf16) (L : List (View.Piece (Elt F) S2048x512 .bf16)) (inb : ∀ a, ![0, 0] a + S2048x512.size a ≤ S2048x512.size a) :
    v.view.readCov L (Rect.unit (s := S2048x512) ![0, 0] S2048x512.size inb).toLoadRect = View.canon L := by
  rw [View.readCov_eq_canon']
  exact View.ld_unit_zero (S := S2048x512) hz2 inb (View.canon L)

/-- The store of a sequence's first tile, and what it leaves in the buffers. -/
theorem outA_eq (c : Dev nD) (i : grid0.Coords) (arg2 : Memref sig .tc .vmem S2048x512 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S2048x512 .bf16) (harg8 : arg8.IsWhole) (arg9 : Memref sig .tc .vmem S2048x512 .bf16) (harg9 : arg9.IsWhole) (hc0 : cond0_0 i)
    (x0 : Vec F S2048x512 .f32) (x1 : Vec F S128x128 .bf16) (x2 : Vec F S128x128 .bf16) (x3 : Vec F S512x2048 .bf16) (x4 : Vec F S512x2048 .bf16) :
    out0_A_5 c i arg2 harg2 arg3 harg3 arg4 harg4 arg5 harg5 arg6 harg6 arg7 harg7 arg8 harg8 arg9 harg9 hc0 x0 x1 x2 x3 x4 = k0_pay6 x3 (bufP x0 x1) x4 (bufQ x0 x2) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_run_names
  rw [View.canon_unit_zero hz2, readback, readback]
  simp only [View.readAt_eq_ld, harg2.read_unread, harg3.read_unread, harg4.read_unread, harg5.read_unread, harg6.read_unread, harg8.read_unread, harg9.read_unread,
    View.ld_unit_zero (S := S512x2048) hz2, View.ld_unit_zero (S := S128x128) hz2, View.ld_unit_zero (S := S2048x512) hz2]

theorem scratchA0_eq (c : Dev nD) (i : grid0.Coords) (arg2 : Memref sig .tc .vmem S2048x512 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S2048x512 .bf16) (harg8 : arg8.IsWhole) (arg9 : Memref sig .tc .vmem S2048x512 .bf16) (harg9 : arg9.IsWhole) (hc0 : cond0_0 i)
    (x0 : Vec F S2048x512 .f32) (x1 : Vec F S128x128 .bf16) (x2 : Vec F S128x128 .bf16) (x3 : Vec F S512x2048 .bf16) (x4 : Vec F S512x2048 .bf16) :
    sout0_A_0 c i arg2 harg2 arg3 harg3 arg4 harg4 arg5 harg5 arg6 harg6 arg7 harg7 arg8 harg8 arg9 harg9 hc0 x0 x1 x2 x3 x4 = bufP x0 x1 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_run_names
  simp only [View.readAt_eq_ld, harg2.read_unread, harg3.read_unread, harg4.read_unread, harg5.read_unread, harg6.read_unread, harg8.read_unread, harg9.read_unread,
    View.ld_unit_zero (S := S512x2048) hz2, View.ld_unit_zero (S := S128x128) hz2, View.ld_unit_zero (S := S2048x512) hz2]

theorem scratchA1_eq (c : Dev nD) (i : grid0.Coords) (arg2 : Memref sig .tc .vmem S2048x512 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S2048x512 .bf16) (harg8 : arg8.IsWhole) (arg9 : Memref sig .tc .vmem S2048x512 .bf16) (harg9 : arg9.IsWhole) (hc0 : cond0_0 i)
    (x0 : Vec F S2048x512 .f32) (x1 : Vec F S128x128 .bf16) (x2 : Vec F S128x128 .bf16) (x3 : Vec F S512x2048 .bf16) (x4 : Vec F S512x2048 .bf16) :
    sout0_A_1 c i arg2 harg2 arg3 harg3 arg4 harg4 arg5 harg5 arg6 harg6 arg7 harg7 arg8 harg8 arg9 harg9 hc0 x0 x1 x2 x3 x4 = bufQ x0 x2 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_run_names
  simp only [View.readAt_eq_ld, harg2.read_unread, harg3.read_unread, harg4.read_unread, harg5.read_unread, harg6.read_unread, harg8.read_unread, harg9.read_unread,
    View.ld_unit_zero (S := S512x2048) hz2, View.ld_unit_zero (S := S128x128) hz2, View.ld_unit_zero (S := S2048x512) hz2]

/-- The store of a later tile, over what the buffers hold. -/
theorem outB_eq (c : Dev nD) (i : grid0.Coords) (arg2 : Memref sig .tc .vmem S2048x512 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S2048x512 .bf16) (harg8 : arg8.IsWhole) (arg9 : Memref sig .tc .vmem S2048x512 .bf16) (harg9 : arg9.IsWhole) (hc0 : ¬cond0_0 i)
    (x0 : Vec F S2048x512 .f32) (x1 : Vec F S128x128 .bf16) (x2 : Vec F S128x128 .bf16) (x3 : Vec F S512x2048 .bf16) (x4 : Vec F S512x2048 .bf16) (p q : Vec F S2048x512 .bf16) :
    out0_B_5 c i arg2 harg2 arg3 harg3 arg4 harg4 arg5 harg5 arg6 harg6 arg7 harg7 arg8 harg8 arg9 harg9 hc0 x0 x1 x2 x3 x4 p q = k0_pay6 x3 p x4 q := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 p q)]
  unfold kernelRun0_B
  dsimp only
  sl_unfold_run_names
  rw [View.canon_unit_zero hz2]
  simp only [View.readAt_eq_ld, harg2.read_unread, harg3.read_unread, harg4.read_unread, harg5.read_unread, harg6.read_unread, harg8.read_unread, harg9.read_unread,
    View.ld_unit_zero (S := S512x2048) hz2, View.ld_unit_zero (S := S128x128) hz2, View.ld_unit_zero (S := S2048x512) hz2]

end

/-- A block's rows transformed over a head's columns with a matrix. -/
def mixed (x : Vec Ideal S2048x512 .f32) (w : Vec Ideal S128x128 .bf16) (r : Fin 2048) (h : Fin 4) (e : Fin 128) : EReal :=
  ∑ d : Fin 128, x (ix2 r (col h d)) * w (ix2 d e)

/-- The four stores' payloads as one array. -/
def joined (w : Fin 4 → Vec Ideal S2048x128 .bf16) (y : S2048x512.Idx) : EReal :=
  w ⟨(y 1).val / 128, by have h : (y 1).val < 512 := (y 1).isLt; omega⟩ (ix2 (y 0) ⟨(y 1).val % 128, by omega⟩)

theorem joined_at (w : Fin 4 → Vec Ideal S2048x128 .bf16) (k : Fin 4) (x : S2048x128.Idx) (y : S2048x512.Idx) (h0 : (y 0).val = (x 0).val)
    (h1 : (y 1).val = 128 * k.val + (x 1).val) : w k x = joined w y := by
  have hx : (x 1).val < 128 := (x 1).isLt
  unfold joined
  have e0 : (⟨(y 1).val / 128, by have h : (y 1).val < 512 := (y 1).isLt; omega⟩ : Fin 4) = k := Fin.ext (by show (y 1).val / 128 = k.val; omega)
  rw [e0]
  congr 1
  funext a; apply Fin.ext
  match a with
  | ⟨0, _⟩ => exact h0.symm
  | ⟨1, _⟩ => show (x 1).val = (y 1).val % 128; omega

/-- The four stores read at an entry, whatever they hold. -/
theorem stored (w : Fin 4 → Vec Ideal S2048x128 .bf16) (r : Fin 2048) (h : Fin 4) (e : Fin 128) :
    (View.canon (stores (w 0) (w 1) (w 2) (w 3)) : Vec Ideal S2048x512 .bf16) (ix2 r (col h e)) = w h (ix2 r e) := by
  refine (View.canon_apply_of_pieces (Val := Elt Ideal) (e := .bf16) (joined w) (stores (w 0) (w 1) (w 2) (w 3)) ?_ (ix2 r (col h e)) (cover _ _ _ _ _)).trans
    (joined_at w h (ix2 r e) (ix2 r (col h e)) rfl (by show h.val * 128 + e.val = 128 * h.val + e.val; omega)).symm
  intro p hp
  simp only [List.mem_cons, List.not_mem_nil, or_false] at hp
  rcases hp with rfl | rfl | rfl | rfl
  · exact fun x => joined_at w 3 x _ (by show 0 + 1 * (x 0).val = _; omega) (by show 384 + 1 * (x 1).val = 128 * 3 + (x 1).val; omega)
  · exact fun x => joined_at w 2 x _ (by show 0 + 1 * (x 0).val = _; omega) (by show 256 + 1 * (x 1).val = 128 * 2 + (x 1).val; omega)
  · exact fun x => joined_at w 1 x _ (by show 0 + 1 * (x 0).val = _; omega) (by show 128 + 1 * (x 1).val = 128 * 1 + (x 1).val; omega)
  · exact fun x => joined_at w 0 x _ (by show 0 + 1 * (x 0).val = _; omega) (by show 0 + 1 * (x 1).val = 128 * 0 + (x 1).val; omega)

section
variable (x : Vec Ideal S2048x512 .f32) (w : Vec Ideal S128x128 .bf16)

/-- The four column blocks of a tile. -/
theorem head0_at (r : Fin 2048) (d : Fin 128) : head0 x (ix2 r d) = x (ix2 r ⟨d.val, by omega⟩) := by
  show x _ = x _
  congr 1
  funext a; apply Fin.ext
  match a with
  | ⟨0, _⟩ => show 0 + 1 * r.val = r.val; omega
  | ⟨1, _⟩ => show 0 + 1 * d.val = d.val; omega

theorem head1_at (r : Fin 2048) (d : Fin 128) : head1 x (ix2 r d) = x (ix2 r ⟨128 + d.val, by omega⟩) := by
  show x _ = x _
  congr 1
  funext a; apply Fin.ext
  match a with
  | ⟨0, _⟩ => show 0 + 1 * r.val = r.val; omega
  | ⟨1, _⟩ => show 128 + 1 * d.val = 128 + d.val; omega

theorem head2_at (r : Fin 2048) (d : Fin 128) : head2 x (ix2 r d) = x (ix2 r ⟨256 + d.val, by omega⟩) := by
  show x _ = x _
  congr 1
  funext a; apply Fin.ext
  match a with
  | ⟨0, _⟩ => show 0 + 1 * r.val = r.val; omega
  | ⟨1, _⟩ => show 256 + 1 * d.val = 256 + d.val; omega

theorem head3_at (r : Fin 2048) (d : Fin 128) : head3 x (ix2 r d) = x (ix2 r ⟨384 + d.val, by omega⟩) := by
  show x _ = x _
  congr 1
  funext a; apply Fin.ext
  match a with
  | ⟨0, _⟩ => show 0 + 1 * r.val = r.val; omega
  | ⟨1, _⟩ => show 384 + 1 * d.val = 384 + d.val; omega

theorem bufP_at (r : Fin 2048) (h : Fin 4) (e : Fin 128) : bufP x w (ix2 r (col h e)) = mixed x w r h e := by
  refine (stored ![k0_pay10 w (head0 x), k0_pay13 w (head1 x), k0_pay1 (k0_pay16 w (head2 x)), k0_pay4 (k0_pay7 w) (head3 x)] r h e).trans ?_
  unfold mixed col
  fin_cases h
  · show k0_pay10 w (head0 x) (ix2 r e) = _
    pointwise [k0_pay10, k0_pay9, k0_pay7]
    exact Finset.sum_congr rfl fun d _ => congrArg (· * w (ix2 d e)) (head0_at x r d)
  · show k0_pay13 w (head1 x) (ix2 r e) = _
    pointwise [k0_pay13, k0_pay12, k0_pay7]
    exact Finset.sum_congr rfl fun d _ => congrArg (· * w (ix2 d e)) (head1_at x r d)
  · show k0_pay1 (k0_pay16 w (head2 x)) (ix2 r e) = _
    pointwise [k0_pay1, k0_pay16, k0_pay15, k0_pay7]
    exact Finset.sum_congr rfl fun d _ => congrArg (· * w (ix2 d e)) (head2_at x r d)
  · show k0_pay4 (k0_pay7 w) (head3 x) (ix2 r e) = _
    pointwise [k0_pay4, k0_pay3, k0_pay7]
    exact Finset.sum_congr rfl fun d _ => congrArg (· * w (ix2 d e)) (head3_at x r d)

theorem bufQ_at (r : Fin 2048) (h : Fin 4) (e : Fin 128) : bufQ x w (ix2 r (col h e)) = mixed x w r h e := by
  refine (stored ![k0_pay11 w (head0 x), k0_pay14 w (head1 x), k0_pay2 (k0_pay8 w) (k0_pay15 (head2 x)), k0_pay5 (k0_pay8 w) (head3 x)] r h e).trans ?_
  unfold mixed col
  fin_cases h
  · show k0_pay11 w (head0 x) (ix2 r e) = _
    pointwise [k0_pay11, k0_pay9, k0_pay8]
    exact Finset.sum_congr rfl fun d _ => congrArg (· * w (ix2 d e)) (head0_at x r d)
  · show k0_pay14 w (head1 x) (ix2 r e) = _
    pointwise [k0_pay14, k0_pay12, k0_pay8]
    exact Finset.sum_congr rfl fun d _ => congrArg (· * w (ix2 d e)) (head1_at x r d)
  · show k0_pay2 (k0_pay8 w) (k0_pay15 (head2 x)) (ix2 r e) = _
    pointwise [k0_pay2, k0_pay15, k0_pay8]
    exact Finset.sum_congr rfl fun d _ => congrArg (· * w (ix2 d e)) (head2_at x r d)
  · show k0_pay5 (k0_pay8 w) (head3 x) (ix2 r e) = _
    pointwise [k0_pay5, k0_pay3, k0_pay8]
    exact Finset.sum_congr rfl fun d _ => congrArg (· * w (ix2 d e)) (head3_at x r d)

end

/-- What one tile computes. -/
theorem tile (x0 : Vec Ideal S2048x512 .f32) (x1 x2 : Vec Ideal S128x128 .bf16) (x3 x4 : Vec Ideal S512x2048 .bf16) (r : Fin 512) (h : Fin 4) (e : Fin 128) :
    k0_pay6 x3 (bufP x0 x1) x4 (bufQ x0 x2) (ix2 r (col h e))
      = ((∑ l : Fin 2048, x3 (ix2 r l) * ∑ d : Fin 128, x0 (ix2 l (col h d)) * x1 (ix2 d e)) - ∑ l : Fin 2048, x4 (ix2 r l) * ∑ d : Fin 128, x0 (ix2 l (col h d)) * x2 (ix2 d e))
        * Ideal.ofBits .f32 0x3B000000#32 := by
  have hp : ∀ l, bufP x0 x1 (ix2 l (col h e)) = ∑ d : Fin 128, x0 (ix2 l (col h d)) * x1 (ix2 d e) := fun l => bufP_at x0 x1 l h e
  have hq : ∀ l, bufQ x0 x2 (ix2 l (col h e)) = ∑ d : Fin 128, x0 (ix2 l (col h d)) * x2 (ix2 d e) := fun l => bufQ_at x0 x2 l h e
  simp only [← hp, ← hq]
  generalize bufP x0 x1 = p
  generalize bufQ x0 x2 = q
  generalize col h e = j
  pointwise [k0_pay6]

theorem idx : ∀ t : Fin grid0.N,
    (win0_0.index t 0 = 4 + t.val / 4 ∧ win0_0.index t 1 = 3) ∧ (win0_1.index t 0 = 0 ∧ win0_1.index t 1 = 0) ∧ (win0_2.index t 0 = 0 ∧ win0_2.index t 1 = 0)
    ∧ (win0_3.index t 0 = t.val % 4 ∧ win0_3.index t 1 = 0) ∧ (win0_4.index t 0 = t.val % 4 ∧ win0_4.index t 1 = 0)
    ∧ (win0_5.index t 0 = t.val ∧ win0_5.index t 1 = 0) := by decide +kernel

variable (m : (ℓ : Loc nD τ sig) → Buf (Elt Ideal) ℓ) (c : Dev nD)

/-- The argument, and the matrices the call is given. -/
abbrev aZ : FVec Ideal S16384x2048 .f32 := m ((c : Thread nD τ).loc main_arg0)
abbrev mCD : Vec Ideal S128x128 .bf16 := V m c main_v11
abbrev mSD : Vec Ideal S128x128 .bf16 := V m c main_v13
abbrev mCL : Vec Ideal S2048x2048 .bf16 := V m c main_v25
abbrev mSL : Vec Ideal S2048x2048 .bf16 := V m c main_v27

/-- The argument's row and column of a sequence's row and a head's column. -/
def src (s : Fin 4) (l : Fin 2048) : Fin 16384 := ⟨8192 + (s.val * 2048 + l.val), by omega⟩
def srcCol (h : Fin 4) (d : Fin 128) : Fin 2048 := ⟨1536 + (h.val * 128 + d.val), by omega⟩

/-- A tile's sequence, and the rows of it that the tile computes. -/
def seqOf (t : Fin cfg0.N) : Fin 4 := ⟨t.val / 4, by have h : t.val < 16 := t.isLt; omega⟩
def rowOf (t : Fin cfg0.N) (r : Fin 512) : Fin 2048 := ⟨t.val % 4 * 512 + r.val, by omega⟩

/-- The blocks a tile is given: its sequence's rows, -/
theorem blk0 (t : Fin cfg0.N) (l : Fin 2048) (h : Fin 4) (d : Fin 128) :
    (iblk m c 0 t : Vec Ideal S2048x512 .f32) (ix2 l (col h d)) = aZ m c (ix2 (src (seqOf t) l) (srcCol h d)) := by
  obtain ⟨⟨e0, e1⟩, _⟩ := idx t
  show V m c main_arg0 (((cfg0.win 0).blk t).view.emb (ix2 l (col h d))) = m ((c : Thread nD τ).loc main_arg0) _
  rw [V_main_arg0]
  congr 1
  funext a; apply Fin.ext
  match a with
  | ⟨0, _⟩ => show win0_0.index t 0 * 2048 + 1 * l.val = 8192 + (t.val / 4 * 2048 + l.val); omega
  | ⟨1, _⟩ => show win0_0.index t 1 * 512 + 1 * (h.val * 128 + d.val) = 1536 + (h.val * 128 + d.val); omega

/-- the matrices of the heads' width, -/
theorem blk1 (t : Fin cfg0.N) : (iblk m c 1 t : Vec Ideal S128x128 .bf16) = mCD m c := by
  obtain ⟨_, ⟨a0, a1⟩, ⟨b0, b1⟩, ⟨c0, c1⟩, ⟨d0, d1⟩, _⟩ := idx t
  funext i
  obtain ⟨k, l, rfl⟩ : ∃ k l, i = ix2 k l := ⟨i 0, i 1, eq_ix2 i⟩
  have he : ((cfg0.win 1).blk t).view.emb (ix2 k l) = (ix2 k l : S128x128.Idx) := by
    funext a; apply Fin.ext
    match a with
    | ⟨0, _⟩ => show win0_1.index t 0 * 128 + 1 * k.val = k.val; omega
    | ⟨1, _⟩ => show win0_1.index t 1 * 128 + 1 * l.val = l.val; omega
  exact congrArg (mCD m c) he

theorem blk2 (t : Fin cfg0.N) : (iblk m c 2 t : Vec Ideal S128x128 .bf16) = mSD m c := by
  obtain ⟨_, ⟨a0, a1⟩, ⟨b0, b1⟩, ⟨c0, c1⟩, ⟨d0, d1⟩, _⟩ := idx t
  funext i
  obtain ⟨k, l, rfl⟩ : ∃ k l, i = ix2 k l := ⟨i 0, i 1, eq_ix2 i⟩
  have he : ((cfg0.win 2).blk t).view.emb (ix2 k l) = (ix2 k l : S128x128.Idx) := by
    funext a; apply Fin.ext
    match a with
    | ⟨0, _⟩ => show win0_2.index t 0 * 128 + 1 * k.val = k.val; omega
    | ⟨1, _⟩ => show win0_2.index t 1 * 128 + 1 * l.val = l.val; omega
  exact congrArg (mSD m c) he

/-- and its rows of those of the length. -/
theorem blk3 (t : Fin cfg0.N) (r : Fin 512) (l : Fin 2048) : (iblk m c 3 t : Vec Ideal S512x2048 .bf16) (ix2 r l) = mCL m c (ix2 (rowOf t r) l) := by
  obtain ⟨_, ⟨a0, a1⟩, ⟨b0, b1⟩, ⟨c0, c1⟩, ⟨d0, d1⟩, _⟩ := idx t
  have he : ((cfg0.win 3).blk t).view.emb (ix2 r l) = (ix2 (rowOf t r) l : S2048x2048.Idx) := by
    funext a; apply Fin.ext
    match a with
    | ⟨0, _⟩ => show win0_3.index t 0 * 512 + 1 * r.val = t.val % 4 * 512 + r.val; omega
    | ⟨1, _⟩ => show win0_3.index t 1 * 2048 + 1 * l.val = l.val; omega
  exact congrArg (mCL m c) he

theorem blk4 (t : Fin cfg0.N) (r : Fin 512) (l : Fin 2048) : (iblk m c 4 t : Vec Ideal S512x2048 .bf16) (ix2 r l) = mSL m c (ix2 (rowOf t r) l) := by
  obtain ⟨_, ⟨a0, a1⟩, ⟨b0, b1⟩, ⟨c0, c1⟩, ⟨d0, d1⟩, _⟩ := idx t
  have he : ((cfg0.win 4).blk t).view.emb (ix2 r l) = (ix2 (rowOf t r) l : S2048x2048.Idx) := by
    funext a; apply Fin.ext
    match a with
    | ⟨0, _⟩ => show win0_4.index t 0 * 512 + 1 * r.val = t.val % 4 * 512 + r.val; omega
    | ⟨1, _⟩ => show win0_4.index t 1 * 2048 + 1 * l.val = l.val; omega
  exact congrArg (mSL m c) he

/-- Tiles of one sequence are given the same rows. -/
theorem blk0_congr (t t' : Fin cfg0.N) (h : seqOf t = seqOf t') : (iblk m c 0 t : Vec Ideal S2048x512 .f32) = iblk m c 0 t' := by
  funext i
  obtain ⟨l, j, rfl⟩ : ∃ l j, i = ix2 l j := ⟨i 0, i 1, eq_ix2 i⟩
  obtain ⟨h', d, rfl⟩ := col_cases j
  exact (blk0 m c t l h' d).trans (by rw [h]; exact (blk0 m c t' l h' d).symm)

/-- What the two buffers hold after a tile: the products of its sequence's rows. -/
theorem scratch (n : ℕ) (hn : n < cfg0.N) :
    (outsAt0 m c n hn).2.1 = bufP (iblk m c 0 ⟨n, hn⟩) (mCD m c) ∧ (outsAt0 m c n hn).2.2 = bufQ (iblk m c 0 ⟨n, hn⟩) (mSD m c) := by
  induction n with
  | zero =>
    have e := outsAt0_A m c ⟨0, hn⟩ (Nat.zero_mod 4)
    dsimp only at e
    rw [e]
    dsimp only
    rw [scratchA0_eq, scratchA1_eq, blk1, blk2]
    exact ⟨rfl, rfl⟩
  | succ n ih =>
    by_cases h0 : (n + 1) % 4 = 0
    · have e := outsAt0_A m c ⟨n + 1, hn⟩ h0
      dsimp only at e
      rw [e]
      dsimp only
      rw [scratchA0_eq, scratchA1_eq, blk1, blk2]
      exact ⟨rfl, rfl⟩
    · have e := outsAt0_B m c ⟨n + 1, hn⟩ h0
      have hs : (iblk m c 0 ⟨n + 1, hn⟩ : Vec Ideal S2048x512 .f32) = iblk m c 0 ⟨n, Nat.lt_of_succ_lt hn⟩ :=
        blk0_congr m c _ _ (Fin.ext (by show (n + 1) / 4 = n / 4; omega))
      dsimp only at e
      rw [e, hs]
      exact ih (Nat.lt_of_succ_lt hn)

/-- What a tile writes back. -/
theorem flushed (t : Fin cfg0.N) :
    (dats m 0 c).flushed 5 t = k0_pay6 (iblk m c 3 t) (bufP (iblk m c 0 t) (mCD m c)) (iblk m c 4 t) (bufQ (iblk m c 0 t) (mSD m c)) := by
  by_cases h0 : t.val % 4 = 0
  · rw [Value.flushed5_A m c t h0, outA_eq, blk1, blk2]
    rfl
  · have hpos : 0 < t.val := Nat.pos_of_ne_zero fun hz => h0 (by rw [hz])
    have hs : (iblk m c 0 t : Vec Ideal S2048x512 .f32) = iblk m c 0 ⟨t.val - 1, Nat.lt_of_le_of_lt (Nat.sub_le _ _) t.isLt⟩ :=
      blk0_congr m c _ _ (Fin.ext (by show t.val / 4 = (t.val - 1) / 4; omega))
    obtain ⟨ep, eq⟩ := scratch m c (t.val - 1) (Nat.lt_of_le_of_lt (Nat.sub_le _ _) t.isLt)
    rw [Value.flushed5_B m c t h0, outB_eq, ep, eq, ← hs]
    rfl

/-- The result array. -/
theorem array (s : Fin 4) (k : Fin 2048) (h : Fin 4) (e : Fin 128) :
    ((dats m 0 c).arrAt 5 cfg0.N : Vec Ideal S8192x512 .bf16) (ix2 (row s k) (col h e))
      = mixAt (fun l d => aZ m c (ix2 (src s l) (srcCol h d))) (fun d e => mCD m c (ix2 d e)) (fun d e => mSD m c (ix2 d e))
          (fun k l => mCL m c (ix2 k l)) (fun k l => mSL m c (ix2 k l)) k e := by
  obtain ⟨t, r, hs, rfl⟩ : ∃ (t : Fin cfg0.N) (r : Fin 512), s = seqOf t ∧ k = rowOf t r :=
    ⟨⟨s.val * 4 + k.val / 512, by show _ < 16; omega⟩, ⟨k.val % 512, by omega⟩,
      Fin.ext (by show s.val = (s.val * 4 + k.val / 512) / 4; omega),
      Fin.ext (by show k.val = (s.val * 4 + k.val / 512) % 4 * 512 + k.val % 512; omega)⟩
  subst hs
  have hb := congrFun (Value.blocks5 m c t (flush0_5 _)) (ix2 r (col h e))
  have hemb : ((cfg0.win 5).blk t).view.emb (ix2 r (col h e)) = (ix2 (row (seqOf t) (rowOf t r)) (col h e) : S8192x512.Idx) := by
    obtain ⟨_, _, _, _, _, ⟨e0, e1⟩⟩ := idx t
    funext a; apply Fin.ext
    match a with
    | ⟨0, _⟩ => show win0_5.index t 0 * 512 + 1 * r.val = t.val / 4 * 2048 + (t.val % 4 * 512 + r.val); omega
    | ⟨1, _⟩ => show win0_5.index t 1 * 512 + 1 * (h.val * 128 + e.val) = h.val * 128 + e.val; omega
  rw [flushed, View.read_apply, hemb] at hb
  refine hb.trans ((tile _ _ _ _ _ r h e).trans ?_)
  unfold mixAt
  simp only [blk0, blk3, blk4]

end Cert.Proof.FourierLatentKernel

end
-- ==== Proof.FourierLatentRef.lean ====
/- What the samples' plain Fourier mixing holds: `mixAt` of its rows and of its matrices of cosines and sines. -/
module

public import proofs.«01_k».proof.Proof.MixingLatent
public import proofs.«01_k».proof.Proof.Gen.FourierLatentRefIdeal.Read

@[expose] public section

set_option maxRecDepth 16384

noncomputable section

namespace Cert.Proof.FourierLatentRef

open Cert.FourierLatentRefIdeal Cert.FourierLatentRefIdeal.Read Idealize.ShloMosaic Cert.Proof.MixingLatent

variable (x0 : FVec Ideal S16384x2048 .f32)

/-- A sequence's rows at a head's columns. -/
theorem rows (s : Fin 4) (l : Fin 2048) (h : Fin 4) (d : Fin 128) :
    val_main_v6 (F := Ideal) x0 (ix4 s l h d) = x0 (ix2 ⟨8192 + (s.val * 2048 + l.val), by omega⟩ ⟨1536 + (h.val * 128 + d.val), by omega⟩) := by
  pointwise [val_main_v6, val_main_v5, val_main_v4, val_main_v3, val_main_v2, val_main_v1, val_main_v0]

/-- The result. -/
theorem array (s : Fin 4) (k : Fin 2048) (h : Fin 4) (e : Fin 128) :
    val_main_v41 (F := Ideal) x0 (ix2 (row s k) (col h e))
      = mixAt (fun l d => x0 (ix2 ⟨8192 + (s.val * 2048 + l.val), by omega⟩ ⟨1536 + (h.val * 128 + d.val), by omega⟩))
          (fun d e => val_main_v17 (F := Ideal) (ix2 d e)) (fun d e => val_main_v18 (F := Ideal) (ix2 d e))
          (fun k l => val_main_v29 (F := Ideal) (ix2 k l)) (fun k l => val_main_v30 (F := Ideal) (ix2 k l)) k e := by
  have e1 : ∀ l, val_main_v31 (F := Ideal) x0 (ix4 s l h e) = ∑ d : Fin 128, val_main_v6 (F := Ideal) x0 (ix4 s l h d) * val_main_v17 (F := Ideal) (ix2 d e) := by
    intro l
    unfold val_main_v31
    generalize val_main_v6 (F := Ideal) x0 = z
    generalize val_main_v17 (F := Ideal) = w
    pointwise
  have e2 : ∀ l, val_main_v32 (F := Ideal) x0 (ix4 s l h e) = ∑ d : Fin 128, val_main_v6 (F := Ideal) x0 (ix4 s l h d) * val_main_v18 (F := Ideal) (ix2 d e) := by
    intro l
    unfold val_main_v32
    generalize val_main_v6 (F := Ideal) x0 = z
    generalize val_main_v18 (F := Ideal) = w
    pointwise
  unfold mixAt
  simp only [← rows, ← e1, ← e2]
  simp only [mul_comm (val_main_v29 (F := Ideal) _), mul_comm (val_main_v30 (F := Ideal) _)]
  unfold row col
  unfold val_main_v41 val_main_v40 val_main_v39 val_main_v38 val_main_cst_2 val_main_v37 val_main_v36 val_main_v35 val_main_v34 val_main_v33
  generalize val_main_v31 (F := Ideal) x0 = p
  generalize val_main_v32 (F := Ideal) x0 = q
  generalize val_main_v29 (F := Ideal) = u
  generalize val_main_v30 (F := Ideal) = v
  pointwise

end Cert.Proof.FourierLatentRef

end
-- ==== Proof.FourierLatentEquation.lean ====
/- The equation of the samples' Fourier mixing: the call and the plain reference end with the same array. -/
module

public import proofs.«01_k».proof.Defs
public import proofs.«01_k».proof.Proof.FourierLatentKernel
public import proofs.«01_k».proof.Proof.FourierLatentRef
public import proofs.«01_k».proof.Proof.Gen.FourierLatent.Frame
public import Idealize.ShloMosaic.Lib.Quiescent
public import Idealize.ShloMosaic.Lib.StableHlo.ReadAt

@[expose] public section

set_option maxRecDepth 16384

noncomputable section

namespace Cert.Proof.FourierLatentEquation

open Idealize.ShloMosaic Idealize.ShloMosaic.TcCoe Idealize.SL.Sem
open Cert.FourierLatentRefIdeal.Read

variable (m : (ℓ : Loc Cert.FourierLatentIdeal.nD Cert.FourierLatentIdeal.τ Cert.FourierLatentIdeal.sig) → Buf (Elt Ideal) ℓ) (c : Dev Cert.FourierLatentIdeal.nD)

/-- The matrices of the heads' width are the reference's, -/
theorem cd (a b : Fin 128) : Cert.Proof.FourierLatentKernel.mCD m c (ix2 a b) = val_main_v17 (F := Ideal) (ix2 a b) := by
  unfold_abbrev_sides
  after_reads_at
  symm
  pointwise [val_main_v17, val_main_v16, val_main_v15, val_main_cst, val_main_v14, val_main_v13, val_main_call0_v14, val_main_call0_v13, val_main_call0_v12, val_main_call0_v11, val_main_call0_v10, val_main_call0_v9, val_main_call0_c_3, val_main_call0_v8, val_main_call0_v7, val_main_call0_c_2, val_main_call0_v6, val_main_call0_v5, val_main_call0_c_1, val_main_call0_v4, val_main_call0_v3, val_main_call0_v2, val_main_call0_c_0, val_main_call0_v1, val_main_call0_c, val_main_call0_v0, val_main_c, val_main_v12, val_main_v11, val_main_v10, val_main_v9, val_main_v8, val_main_v7]

theorem sd (a b : Fin 128) : Cert.Proof.FourierLatentKernel.mSD m c (ix2 a b) = val_main_v18 (F := Ideal) (ix2 a b) := by
  unfold_abbrev_sides
  after_reads_at
  symm
  pointwise [val_main_v18, val_main_v16, val_main_v15, val_main_cst, val_main_v14, val_main_v13, val_main_call0_v14, val_main_call0_v13, val_main_call0_v12, val_main_call0_v11, val_main_call0_v10, val_main_call0_v9, val_main_call0_c_3, val_main_call0_v8, val_main_call0_v7, val_main_call0_c_2, val_main_call0_v6, val_main_call0_v5, val_main_call0_c_1, val_main_call0_v4, val_main_call0_v3, val_main_call0_v2, val_main_call0_c_0, val_main_call0_v1, val_main_call0_c, val_main_call0_v0, val_main_c, val_main_v12, val_main_v11, val_main_v10, val_main_v9, val_main_v8, val_main_v7]

/-- and those of the sequence's length. -/
theorem cl (a b : Fin 2048) : Cert.Proof.FourierLatentKernel.mCL m c (ix2 a b) = val_main_v29 (F := Ideal) (ix2 a b) := by
  unfold_abbrev_sides
  after_reads_at
  symm
  pointwise [val_main_v29, val_main_v28, val_main_v27, val_main_cst_1, val_main_v26, val_main_v25, val_main_call1_v14, val_main_call1_v13, val_main_call1_v12, val_main_call1_v11, val_main_call1_v10, val_main_call1_v9, val_main_call1_c_3, val_main_call1_v8, val_main_call1_v7, val_main_call1_c_2, val_main_call1_v6, val_main_call1_v5, val_main_call1_c_1, val_main_call1_v4, val_main_call1_v3, val_main_call1_v2, val_main_call1_c_0, val_main_call1_v1, val_main_call1_c, val_main_call1_v0, val_main_c_0, val_main_v24, val_main_v23, val_main_v22, val_main_v21, val_main_v20, val_main_v19]

theorem sl (a b : Fin 2048) : Cert.Proof.FourierLatentKernel.mSL m c (ix2 a b) = val_main_v30 (F := Ideal) (ix2 a b) := by
  unfold_abbrev_sides
  after_reads_at
  symm
  pointwise [val_main_v30, val_main_v28, val_main_v27, val_main_cst_1, val_main_v26, val_main_v25, val_main_call1_v14, val_main_call1_v13, val_main_call1_v12, val_main_call1_v11, val_main_call1_v10, val_main_call1_v9, val_main_call1_c_3, val_main_call1_v8, val_main_call1_v7, val_main_call1_c_2, val_main_call1_v6, val_main_call1_v5, val_main_call1_c_1, val_main_call1_v4, val_main_call1_v3, val_main_call1_v2, val_main_call1_c_0, val_main_call1_v1, val_main_call1_c, val_main_call1_v0, val_main_c_0, val_main_v24, val_main_v23, val_main_v22, val_main_v21, val_main_v20, val_main_v19]

theorem mixAt_congr (z : Fin 2048 → Fin 128 → EReal) {cd cd' sd sd' : Fin 128 → Fin 128 → EReal} {cl cl' sl sl' : Fin 2048 → Fin 2048 → EReal}
    (h1 : ∀ a b, cd a b = cd' a b) (h2 : ∀ a b, sd a b = sd' a b) (h3 : ∀ a b, cl a b = cl' a b) (h4 : ∀ a b, sl a b = sl' a b)
    (k : Fin 2048) (e : Fin 128) : Cert.Proof.MixingLatent.mixAt z cd sd cl sl k e = Cert.Proof.MixingLatent.mixAt z cd' sd' cl' sl' k e := by
  obtain rfl : cd = cd' := funext fun a => funext (h1 a)
  obtain rfl : sd = sd' := funext fun a => funext (h2 a)
  obtain rfl : cl = cl' := funext fun a => funext (h3 a)
  obtain rfl : sl = sl' := funext fun a => funext (h4 a)
  rfl

/-- The reference's result of the call's argument. -/
abbrev plain : Buf (Elt Ideal) ((c.tc : Thread Cert.FourierLatentIdeal.nD Cert.FourierLatentIdeal.τ).loc Cert.FourierLatentIdeal.main_v28) :=
  val_main_v41 (F := Ideal) (m (c.tc.loc Cert.FourierLatentIdeal.main_arg0))

/-- The call's array is the reference's. -/
theorem array_eq : (Cert.FourierLatentIdeal.Gen.dats m 0 c).arrAt 5 Cert.FourierLatentIdeal.cfg0.N = plain m c := by
  funext i
  obtain ⟨a, j, rfl⟩ : ∃ a j, i = ix2 a j := ⟨i 0, i 1, eq_ix2 i⟩
  obtain ⟨s, k, rfl⟩ := Cert.Proof.MixingLatent.row_cases a
  obtain ⟨h, e, rfl⟩ := Cert.Proof.MixingLatent.col_cases j
  exact (Cert.Proof.FourierLatentKernel.array m c s k h e).trans (Eq.trans
    (mixAt_congr _ (cd m c) (sd m c) (cl m c) (sl m c) k e)
    (Cert.Proof.FourierLatentRef.array (m (c.tc.loc Cert.FourierLatentIdeal.main_arg0)) s k h e).symm)

/-- The frames of the three programs: each runs, and leaves its arguments and every semaphore as they were. -/
theorem frame_k : Cert.quiescent_FourierLatent := fun m ρ _ => Cert.FourierLatent.Gen.frame m ρ
theorem frame_ki : Cert.quiescent_FourierLatentIdeal := fun m ρ _ => Cert.FourierLatentIdeal.Gen.frame m ρ
theorem frame_ri : Cert.quiescent_FourierLatentRefIdeal := fun m ρ _ =>
  (θ_run Cert.FourierLatentRefIdeal.defs _ _).mono (fun r h => ⟨fun c => (h c).2, Idealize.ShloMosaic.sem_eq_zero_of_no_sems (by decide) r.2⟩)
    (Cert.FourierLatentRefIdeal.Value.run (F := Ideal) m ρ)

/-- From memories that agree on the arguments both run to the same array. -/
theorem algebraic : Cert.algebraic_FourierLatentIdeal_FourierLatentRefIdeal := by
  intro m ρ m' ρ' _ hag
  refine ⟨fun c => plain m c, ?_, ?_⟩
  · exact (θ_run Cert.FourierLatentIdeal.defs _ _).mono (fun r h c => ⟨(h c).1.trans (array_eq m c), (h c).2⟩) (Cert.FourierLatentIdeal.Value.run_blocks (F := Ideal) m ρ)
  · refine (θ_run Cert.FourierLatentRefIdeal.defs _ _).mono (fun r h c => ?_) (Cert.FourierLatentRefIdeal.Value.run (F := Ideal) m' ρ')
    have a0 := hag c
    refine ⟨(h c).1.trans ((val_main_v41_eq _ _).trans ?_), (h c).2⟩
    repeat rw [StableHlo.launchContents_devRef]
    simp only [a0]

end Cert.Proof.FourierLatentEquation

end
-- ==== Proof.lean ====
module

public import proofs.«01_k».proof.Defs
public import proofs.«01_k».proof.Proof.Equation
public import proofs.«01_k».proof.Proof.EvenInEquation
public import proofs.«01_k».proof.Proof.OddInEquation
public import proofs.«01_k».proof.Proof.EvenOutEquation
public import proofs.«01_k».proof.Proof.OddOutEquation
public import proofs.«01_k».proof.Proof.FinalContextEquation
public import proofs.«01_k».proof.Proof.FinalLatentEquation
public import proofs.«01_k».proof.Proof.SguEquation
public import proofs.«01_k».proof.Proof.ConvEquation
public import proofs.«01_k».proof.Proof.ConvLatentEquation
public import proofs.«01_k».proof.Proof.FourierEquation
public import proofs.«01_k».proof.Proof.EmbedEquation
public import proofs.«01_k».proof.Proof.ModEquation
public import proofs.«01_k».proof.Proof.FourierLatentEquation
public import Idealize.ShloMosaic.Adequacy
public import Idealize.ShloMosaic.Init

@[expose] public section

noncomputable section

namespace Cert.Proof

open Idealize.ShloMosaic Idealize.SL.Sem Cert.Kernel

/-- Every claim of every program: the frames, the idealizations without rewrites, and the equations. -/
theorem claim : Cert.Claim := ⟨Cert.Kernel.Gen.facts, Cert.KernelIdeal.Gen.facts, Cert.ReferenceIdeal.Gen.facts,
  Cert.EvenIn.Gen.facts, Cert.EvenInIdeal.Gen.facts, Cert.EvenInRefIdeal.Gen.facts, Cert.OddIn.Gen.facts, Cert.OddInIdeal.Gen.facts, Cert.OddInRefIdeal.Gen.facts, Cert.EvenOut.Gen.facts, Cert.EvenOutIdeal.Gen.facts, Cert.EvenOutRefIdeal.Gen.facts, Cert.OddOut.Gen.facts, Cert.OddOutIdeal.Gen.facts, Cert.OddOutRefIdeal.Gen.facts,
  Cert.FinalContext.Gen.facts, Cert.FinalContextIdeal.Gen.facts, Cert.FinalContextRefIdeal.Gen.facts, Cert.FinalLatent.Gen.facts, Cert.FinalLatentIdeal.Gen.facts, Cert.FinalLatentRefIdeal.Gen.facts, Cert.Sgu.Gen.facts, Cert.SguIdeal.Gen.facts, Cert.SguRefIdeal.Gen.facts, Cert.Conv.Gen.facts, Cert.ConvIdeal.Gen.facts, Cert.ConvRefIdeal.Gen.facts,
  Cert.ConvLatent.Gen.facts, Cert.ConvLatentIdeal.Gen.facts, Cert.ConvLatentRefIdeal.Gen.facts, Cert.Fourier.Gen.facts, Cert.FourierIdeal.Gen.facts, Cert.FourierRefIdeal.Gen.facts, Cert.Embed.Gen.facts, Cert.EmbedIdeal.Gen.facts, Cert.EmbedRefIdeal.Gen.facts, Cert.Mod.Gen.facts, Cert.ModIdeal.Gen.facts, Cert.ModRefIdeal.Gen.facts, Cert.FourierLatent.Gen.facts, Cert.FourierLatentIdeal.Gen.facts, Cert.FourierLatentRefIdeal.Gen.facts,
  Cert.Proof.Finite.facts, Cert.Proof.ModEquation.facts,
  Equation.frame_k, Equation.frame_ki, Equation.frame_kip, Equation.frame_ri, Equation.frame_rip,
  EvenInEquation.frame_k, EvenInEquation.frame_ki, EvenInEquation.frame_ri, OddInEquation.frame_k, OddInEquation.frame_ki, OddInEquation.frame_ri, EvenOutEquation.frame_k, EvenOutEquation.frame_ki, EvenOutEquation.frame_ri, OddOutEquation.frame_k, OddOutEquation.frame_ki, OddOutEquation.frame_ri,
  FinalContextEquation.frame_k, FinalContextEquation.frame_ki, FinalContextEquation.frame_ri, FinalLatentEquation.frame_k, FinalLatentEquation.frame_ki, FinalLatentEquation.frame_ri, SguEquation.frame_k, SguEquation.frame_ki, SguEquation.frame_ri, ConvEquation.frame_k, ConvEquation.frame_ki, ConvEquation.frame_ri,
  ConvLatentEquation.frame_k, ConvLatentEquation.frame_ki, ConvLatentEquation.frame_ri, FourierEquation.frame_k, FourierEquation.frame_ki, FourierEquation.frame_ri, EmbedEquation.frame_k, EmbedEquation.frame_ki, EmbedEquation.frame_ri,
  ModEquation.frame_k, ModEquation.frame_ki, ModEquation.frame_kip, ModEquation.frame_ri, ModEquation.frame_rip, FourierLatentEquation.frame_k, FourierLatentEquation.frame_ki, FourierLatentEquation.frame_ri,
  trivial, Equation.algebraic, trivial, EvenInEquation.algebraic, trivial, OddInEquation.algebraic, trivial, EvenOutEquation.algebraic, trivial, OddOutEquation.algebraic,
  trivial, FinalContextEquation.algebraic, trivial, FinalLatentEquation.algebraic, trivial, SguEquation.algebraic, trivial, ConvEquation.algebraic,
  trivial, ConvLatentEquation.algebraic, trivial, FourierEquation.algebraic, trivial, EmbedEquation.algebraic, trivial, ModEquation.algebraic, trivial, FourierLatentEquation.algebraic⟩

end Cert.Proof

end
